-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v14) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)) (v6 : (c : Dev Cert.Kernel4Ideal.nD) → Buf (Elt Ideal) ((c.tc : Thread Cert.Kernel4Ideal.nD Cert.Kernel4Ideal.τ).loc Cert.Kernel4Ideal.main_v11_6)) (v7 : (c : Dev Cert.Kernel4Ideal.nD) → Buf (Elt Ideal) ((c.tc : Thread Cert.Kernel4Ideal.nD Cert.Kernel4Ideal.τ).loc Cert.Kernel4Ideal.main_v11_7)) (v8 : (c : Dev Cert.Kernel4Ideal.nD) → Buf (Elt Ideal) ((c.tc : Thread Cert.Kernel4Ideal.nD Cert.Kernel4Ideal.τ).loc Cert.Kernel4Ideal.main_v11_8)) (v9 : (c : Dev Cert.Kernel4Ideal.nD) → Buf (Elt Ideal) ((c.tc : Thread Cert.Kernel4Ideal.nD Cert.Kernel4Ideal.τ).loc Cert.Kernel4Ideal.main_v11_9)) (v10 : (c : Dev Cert.Kernel4Ideal.nD) → Buf (Elt Ideal) ((c.tc : Thread Cert.Kernel4Ideal.nD Cert.Kernel4Ideal.τ).loc Cert.Kernel4Ideal.main_v11_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_v11_6) = v6 c
          ∧ r.2.mem ((c.tc : Thread Cert.Kernel4Ideal.nD Cert.Kernel4Ideal.τ).loc Cert.Kernel4Ideal.main_v11_7) = v7 c
          ∧ r.2.mem ((c.tc : Thread Cert.Kernel4Ideal.nD Cert.Kernel4Ideal.τ).loc Cert.Kernel4Ideal.main_v11_8) = v8 c
          ∧ r.2.mem ((c.tc : Thread Cert.Kernel4Ideal.nD Cert.Kernel4Ideal.τ).loc Cert.Kernel4Ideal.main_v11_9) = v9 c
          ∧ r.2.mem ((c.tc : Thread Cert.Kernel4Ideal.nD Cert.Kernel4Ideal.τ).loc Cert.Kernel4Ideal.main_v11_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_v40) = v5 c
          ∧ r.2.mem ((c.tc : Thread Cert.Reference4Ideal.nD Cert.Reference4Ideal.τ).loc Cert.Reference4Ideal.main_v41) = v6 c
          ∧ r.2.mem ((c.tc : Thread Cert.Reference4Ideal.nD Cert.Reference4Ideal.τ).loc Cert.Reference4Ideal.main_v42) = v7 c
          ∧ r.2.mem ((c.tc : Thread Cert.Reference4Ideal.nD Cert.Reference4Ideal.τ).loc Cert.Reference4Ideal.main_v47) = v8 c
          ∧ r.2.mem ((c.tc : Thread Cert.Reference4Ideal.nD Cert.Reference4Ideal.τ).loc Cert.Reference4Ideal.main_v48) = v9 c
          ∧ r.2.mem ((c.tc : Thread Cert.Reference4Ideal.nD Cert.Reference4Ideal.τ).loc Cert.Reference4Ideal.main_v49) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x4096x8x128 : Shape := ⟨4, ![2, 4096, 8, 128]⟩
abbrev S2x4096x16x128 : Shape := ⟨4, ![2, 4096, 16, 128]⟩
abbrev S2x4096x128 : Shape := ⟨3, ![2, 4096, 128]⟩
abbrev S2x4096x16 : Shape := ⟨3, ![2, 4096, 16]⟩
abbrev S8192x1024 : Shape := ⟨2, ![8192, 1024]⟩
abbrev S2x4096x1024 : Shape := ⟨3, ![2, 4096, 1024]⟩
abbrev S2x1024x4096 : Shape := ⟨3, ![2, 1024, 4096]⟩
abbrev S8192x16 : Shape := ⟨2, ![8192, 16]⟩
abbrev S_ : Shape := ⟨0, ![]⟩
abbrev S8192x128 : Shape := ⟨2, ![8192, 128]⟩
abbrev S8192x2048 : Shape := ⟨2, ![8192, 2048]⟩
abbrev S256x1024 : Shape := ⟨2, ![256, 1024]⟩
abbrev S256x2048 : Shape := ⟨2, ![256, 2048]⟩
abbrev S256x128 : Shape := ⟨2, ![256, 128]⟩
abbrev S4096x128 : Shape := ⟨2, ![4096, 128]⟩
abbrev S4096x1024 : Shape := ⟨2, ![4096, 1024]⟩
abbrev S1x1024x4096 : Shape := ⟨3, ![1, 1024, 4096]⟩
abbrev S4096x256 : Shape := ⟨2, ![4096, 256]⟩
abbrev S256x256 : Shape := ⟨2, ![256, 256]⟩
abbrev S64x256 : Shape := ⟨2, ![64, 256]⟩
abbrev S1024x256 : Shape := ⟨2, ![1024, 256]⟩
abbrev S128x256 : Shape := ⟨2, ![128, 256]⟩
abbrev S128x128 : Shape := ⟨2, ![128, 128]⟩
abbrev S1x256 : Shape := ⟨2, ![1, 256]⟩
abbrev S8x256 : Shape := ⟨2, ![8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S512x256 : Shape := ⟨2, ![512, 256]⟩
abbrev S1x128x256 : Shape := ⟨3, ![1, 128, 256]⟩

abbrev nBuf : Space → Nat
  | .hbm => 23
  | .vmem => 19
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x16x128, .f32⟩
  | .hbm, ⟨4, _⟩ => ⟨S2x4096x128, .f32⟩
  | .hbm, ⟨5, _⟩ => ⟨S2x4096x16, .f32⟩
  | .hbm, ⟨6, _⟩ => ⟨S8192x1024, .f32⟩
  | .hbm, ⟨7, _⟩ => ⟨S8192x1024, .bf16⟩
  | .hbm, ⟨8, _⟩ => ⟨S2x4096x1024, .bf16⟩
  | .hbm, ⟨9, _⟩ => ⟨S2x1024x4096, .bf16⟩
  | .hbm, ⟨10, _⟩ => ⟨S8192x16, .f32⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x1024, .f32⟩
  | .hbm, ⟨15, _⟩ => ⟨S8192x1024, .bf16⟩
  | .hbm, ⟨16, _⟩ => ⟨S8192x2048, .f32⟩
  | .hbm, ⟨17, _⟩ => ⟨S8192x2048, .bf16⟩
  | .hbm, ⟨18, _⟩ => ⟨S8192x128, .f32⟩
  | .hbm, ⟨19, _⟩ => ⟨S8192x128, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S4096x128, .bf16⟩
  | .local _ .vmem, ⟨7, _⟩ => ⟨S4096x128, .bf16⟩
  | .local _ .vmem, ⟨8, _⟩ => ⟨S4096x1024, .bf16⟩
  | .local _ .vmem, ⟨9, _⟩ => ⟨S4096x1024, .bf16⟩
  | .local _ .vmem, ⟨10, _⟩ => ⟨S1x1024x4096, .bf16⟩
  | .local _ .vmem, ⟨11, _⟩ => ⟨S1x1024x4096, .bf16⟩
  | .local _ .vmem, ⟨12, _⟩ => ⟨S256x1024, .bf16⟩
  | .local _ .vmem, ⟨13, _⟩ => ⟨S256x1024, .bf16⟩
  | .local _ .vmem, ⟨14, _⟩ => ⟨S4096x256, .i32⟩
  | .local _ .vmem, ⟨15, _⟩ => ⟨S256x256, .i32⟩
  | .local _ .vmem, ⟨16, _⟩ => ⟨S64x256, .f32⟩
  | .local _ .vmem, ⟨17, _⟩ => ⟨S64x256, .f32⟩
  | .local _ .vmem, ⟨18, _⟩ => ⟨S1024x256, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 16], ![false, false]⟩

@[reducible] def k0_t1_loop (i : grid0.Coords) : Scf.Loop 32 :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let c1_i32_5 : BitVec 32 := 1#32
  ⟨c0_i32_3, v15, c1_i32_5⟩
def k0_mult1 (i : grid0.Coords) (k0_t1 : Fin (k0_t1_loop i).trips) : BitVec 32 :=
  let c0_i32_3 : BitVec 32 := 0#32
  let c1_i32_5 : BitVec 32 := 1#32
  let arg14 : BitVec 32 := Scf.iv c0_i32_3 c1_i32_5 k0_t1
  let c256_i32_101 : BitVec 32 := 256#32
  let v318 : BitVec 32 := Scalar.muli arg14 c256_i32_101
  let c0_i32_102 : BitVec 32 := 0#32
  let v319 : BitVec 32 := Scalar.addi v318 c0_i32_102
  v319
def k0_off1 (i : grid0.Coords) (k0_t1 : Fin (k0_t1_loop i).trips) (c0_i32_102 : BitVec 32) : Fin 2 → Nat :=
  let c0_i32_3 : BitVec 32 := 0#32
  let c1_i32_5 : BitVec 32 := 1#32
  let arg14 : BitVec 32 := Scf.iv c0_i32_3 c1_i32_5 k0_t1
  let c256_i32_101 : BitVec 32 := 256#32
  let v318 : BitVec 32 := Scalar.muli arg14 c256_i32_101
  let v319 : BitVec 32 := Scalar.addi v318 c0_i32_102
  let v320 : BitVec 32 := v319
  let v321 : Index := Scalar.indexCast v320
  let c0_103 : Index := 0#32
  ![v321.toNat, 0]
def k0_off2 (i : grid0.Coords) (k0_t1 : Fin (k0_t1_loop i).trips) (c0_i32_102 : BitVec 32) : Fin 2 → Nat :=
  let c0_i32_3 : BitVec 32 := 0#32
  let c1_i32_5 : BitVec 32 := 1#32
  let arg14 : BitVec 32 := Scf.iv c0_i32_3 c1_i32_5 k0_t1
  let c256_i32_101 : BitVec 32 := 256#32
  let v318 : BitVec 32 := Scalar.muli arg14 c256_i32_101
  let v319 : BitVec 32 := Scalar.addi v318 c0_i32_102
  let v320 : BitVec 32 := v319
  let v484 : Index := Scalar.indexCast v320
  let c0_163 : Index := 0#32
  ![v484.toNat, 0]
def k0_mult2 (i : grid0.Coords) (k0_t1 : Fin (k0_t1_loop i).trips) : BitVec 32 :=
  let c0_i32_3 : BitVec 32 := 0#32
  let c1_i32_5 : BitVec 32 := 1#32
  let arg14 : BitVec 32 := Scf.iv c0_i32_3 c1_i32_5 k0_t1
  let c256_i32_168 : BitVec 32 := 256#32
  let v493 : BitVec 32 := Scalar.muli arg14 c256_i32_168
  let c128_i32 : BitVec 32 := 128#32
  let v494 : BitVec 32 := Scalar.addi v493 c128_i32
  v494
@[reducible] def k0_t2_loop (i : grid0.Coords) : Scf.Loop 32 :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let v12 : BitVec 32 := Scalar.addi c0_i32_3 v11
  let c1_i32_6 : BitVec 32 := 1#32
  ⟨v15, v12, c1_i32_6⟩
def k0_mult3 (i : grid0.Coords) (k0_t2 : Fin (k0_t2_loop i).trips) : BitVec 32 :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let c1_i32_6 : BitVec 32 := 1#32
  let arg14 : BitVec 32 := Scf.iv v15 c1_i32_6 k0_t2
  let c256_i32_101 : BitVec 32 := 256#32
  let v318 : BitVec 32 := Scalar.muli arg14 c256_i32_101
  let c0_i32_102 : BitVec 32 := 0#32
  let v319 : BitVec 32 := Scalar.addi v318 c0_i32_102
  v319
def k0_off3 (i : grid0.Coords) (k0_t2 : Fin (k0_t2_loop i).trips) (c0_i32_102 : BitVec 32) : Fin 2 → Nat :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let c1_i32_6 : BitVec 32 := 1#32
  let arg14 : BitVec 32 := Scf.iv v15 c1_i32_6 k0_t2
  let c256_i32_101 : BitVec 32 := 256#32
  let v318 : BitVec 32 := Scalar.muli arg14 c256_i32_101
  let v319 : BitVec 32 := Scalar.addi v318 c0_i32_102
  let v320 : BitVec 32 := v319
  let v321 : Index := Scalar.indexCast v320
  let c0_103 : Index := 0#32
  ![v321.toNat, 0]
def k0_off4 (i : grid0.Coords) (k0_t2 : Fin (k0_t2_loop i).trips) (c0_i32_102 : BitVec 32) : Fin 2 → Nat :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let c1_i32_6 : BitVec 32 := 1#32
  let arg14 : BitVec 32 := Scf.iv v15 c1_i32_6 k0_t2
  let c256_i32_101 : BitVec 32 := 256#32
  let v318 : BitVec 32 := Scalar.muli arg14 c256_i32_101
  let v319 : BitVec 32 := Scalar.addi v318 c0_i32_102
  let v320 : BitVec 32 := v319
  let v484 : Index := Scalar.indexCast v320
  let c0_163 : Index := 0#32
  ![v484.toNat, 0]
def k0_mult4 (i : grid0.Coords) (k0_t2 : Fin (k0_t2_loop i).trips) : BitVec 32 :=
  let c0_i32_3 : BitVec 32 := 0#32
  let arg1 : BitVec 32 := BitVec.ofNat 32 (i 1).val
  let c1_i32 : BitVec 32 := 1#32
  let v0 : BitVec 32 := Scalar.addi arg1 c1_i32
  let v11 : BitVec 32 := Scalar.subi v0 c0_i32_3
  let c1_i32_4 : BitVec 32 := 1#32
  let v13 : BitVec 32 := Scalar.divsi v11 c1_i32_4
  let v14 : BitVec 32 := Scalar.muli v13 c1_i32_4
  let v15 : BitVec 32 := Scalar.addi c0_i32_3 v14
  let c1_i32_6 : BitVec 32 := 1#32
  let arg14 : BitVec 32 := Scf.iv v15 c1_i32_6 k0_t2
  let c256_i32_168 : BitVec 32 := 256#32
  let v493 : BitVec 32 := Scalar.muli arg14 c256_i32_168
  let c128_i32 : BitVec 32 := 128#32
  let v494 : BitVec 32 := Scalar.addi v493 c128_i32
  v494
def k0_cond1 (i : grid0.Coords) : BitVec 1 :=
  let arg1 : BitVec 32 := BitVec.ofNat 32 (i 1).val
  let c1_i32 : BitVec 32 := 1#32
  let v0 : BitVec 32 := Scalar.addi arg1 c1_i32
  let c2_i32 : BitVec 32 := 2#32
  let c0_i32_14 : BitVec 32 := 0#32
  let v164 : BitVec 1 := Scalar.cmpi .eq c2_i32 c0_i32_14
  let c1_i32_15 : BitVec 32 := 1#32
  let v165 : BitVec 32 := Scalar.select v164 c1_i32_15 c2_i32
  let v166 : BitVec 32 := Scalar.remsi v0 v165
  let c0_i32_17 : BitVec 32 := 0#32
  let v168 : BitVec 1 := Scalar.cmpi .slt v166 c0_i32_17
  let c0_i32_18 : BitVec 32 := 0#32
  let v169 : BitVec 1 := Scalar.cmpi .slt v165 c0_i32_18
  let v170 : BitVec 1 := Scalar.xori v168 v169
  let c0_i32_16 : BitVec 32 := 0#32
  let v167 : BitVec 1 := Scalar.cmpi .ne v166 c0_i32_16
  let v171 : BitVec 1 := Scalar.andi v170 v167
  let v172 : BitVec 32 := Scalar.addi v166 v165
  let v173 : BitVec 32 := Scalar.select v171 v172 v166
  let c1_i32_19 : BitVec 32 := 1#32
  let v174 : BitVec 1 := Scalar.cmpi .eq v173 c1_i32_19
  let c16_i32 : BitVec 32 := 16#32
  let v175 : BitVec 1 := Scalar.cmpi .slt v0 c16_i32
  let v176 : BitVec 1 := Scalar.andi v174 v175
  let v177 : BitVec 32 := Scalar.extui v176
  let c0_i32_20 : BitVec 32 := 0#32
  let v178 : BitVec 1 := Scalar.cmpi .ne v177 c0_i32_20
  v178

def k0_mult5 (i : grid0.Coords) : BitVec 32 :=
  let arg1 : BitVec 32 := BitVec.ofNat 32 (i 1).val
  let c1_i32 : BitVec 32 := 1#32
  let v0 : BitVec 32 := Scalar.addi arg1 c1_i32
  let c256_i32_102 : BitVec 32 := 256#32
  let v319 : BitVec 32 := Scalar.muli v0 c256_i32_102
  v319
def k0_off5 (i : grid0.Coords) : Fin 2 → Nat :=
  let arg1 : BitVec 32 := BitVec.ofNat 32 (i 1).val
  let c1_i32 : BitVec 32 := 1#32
  let v0 : BitVec 32 := Scalar.addi arg1 c1_i32
  let c256_i32_102 : BitVec 32 := 256#32
  let v319 : BitVec 32 := Scalar.muli v0 c256_i32_102
  let v320 : BitVec 32 := v319
  let v321 : Index := Scalar.indexCast v320
  let c0_103 : Index := 0#32
  ![v321.toNat, 0]
@[reducible] def k0_t3_loop (i : grid0.Coords) : Scf.Loop 32 :=
  let c0_i32_30 : BitVec 32 := 0#32
  let arg1 : BitVec 32 := BitVec.ofNat 32 (i 1).val
  let c1_i32 : BitVec 32 := 1#32
  let v0 : BitVec 32 := Scalar.addi arg1 c1_i32
  let c1_i32_21 : BitVec 32 := 1#32
  let v181 : BitVec 32 := Scalar.addi v0 c1_i32_21
  let c0_i32_23 : BitVec 32 := 0#32
  let v183 : BitVec 1 := Scalar.cmpi .sgt v181 c0_i32_23
  let v184 : BitVec 32 := Scalar.extui v183
  let c0_i32_24 : BitVec 32 := 0#32
  let v185 : BitVec 1 := Scalar.cmpi .slt v181 c0_i32_24
  let v186 : BitVec 32 := Scalar.extui v185
  let v187 : BitVec 32 := Scalar.subi v184 v186
  let c2_i32_22 : BitVec 32 := 2#32
  let c0_i32_25 : BitVec 32 := 0#32
  let v188 : BitVec 1 := Scalar.cmpi .sgt c2_i32_22 c0_i32_25
  let v189 : BitVec 32 := Scalar.extui v188
  let c0_i32_26 : BitVec 32 := 0#32
  let v190 : BitVec 1 := Scalar.cmpi .slt c2_i32_22 c0_i32_26
  let v191 : BitVec 32 := Scalar.extui v190
  let v192 : BitVec 32 := Scalar.subi v189 v191
  let v193 : BitVec 1 := Scalar.cmpi .ne v187 v192
  let v194 : BitVec 32 := Scalar.remsi v181 c2_i32_22
  let c0_i32_27 : BitVec 32 := 0#32
  let v195 : BitVec 1 := Scalar.cmpi .ne v194 c0_i32_27
  let v196 : BitVec 1 := Scalar.andi v193 v195
  let v182 : BitVec 32 := Scalar.divsi v181 c2_i32_22
  let c1_i32_28 : BitVec 32 := 1#32
  let v197 : BitVec 32 := Scalar.subi v182 c1_i32_28
  let v198 : BitVec 32 := Scalar.select v196 v197 v182
  let v200 : BitVec 32 := Scalar.subi v198 c0_i32_30
  let c1_i32_31 : BitVec 32 := 1#32
  let v202 : BitVec 32 := Scalar.divsi v200 c1_i32_31
  let v203 : BitVec 32 := Scalar.muli v202 c1_i32_31
  let v204 : BitVec 32 := Scalar.addi c0_i32_30 v203
  let c1_i32_32 : BitVec 32 := 1#32
  ⟨c0_i32_30, v204, c1_i32_32⟩
def k0_mult6 (i : grid0.Coords) (k0_t3 : Fin (k0_t3_loop i).trips) : BitVec 32 :=
  let c0_i32_30 : BitVec 32 := 0#32
  let c1_i32_32 : BitVec 32 := 1#32
  let arg14 : BitVec 32 := Scf.iv c0_i32_30 c1_i32_32 k0_t3
  let c2_i32_101 : BitVec 32 := 2#32
  let v318 : BitVec 32 := Scalar.muli arg14 c2_i32_101
  let c256_i32_102 : BitVec 32 := 256#32
  let v319 : BitVec 32 := Scalar.muli v318 c256_i32_102
  v319
def k0_off6 (i : grid0.Coords) (k0_t3 : Fin (k0_t3_loop i).trips) : Fin 2 → Nat :=
  let c0_i32_30 : BitVec 32 := 0#32
  let c1_i32_32 : BitVec 32 := 1#32
  let arg14 : BitVec 32 := Scf.iv c0_i32_30 c1_i32_32 k0_t3
  let c2_i32_101 : BitVec 32 := 2#32
  let v318 : BitVec 32 := Scalar.muli arg14 c2_i32_101
  let c256_i32_102 : BitVec 32 := 256#32
  let v319 : BitVec 32 := Scalar.muli v318 c256_i32_102
  let v320 : BitVec 32 := v319
  let v321 : Index := Scalar.indexCast v320
  let c0_103 : Index := 0#32
  ![v321.toNat, 0]
@[reducible] def k0_t4_loop (i : grid0.Coords) : Scf.Loop 32 :=
  let c0_i32_30 : BitVec 32 := 0#32
  let arg1 : BitVec 32 := BitVec.ofNat 32 (i 1).val
  let c1_i32 : BitVec 32 := 1#32
  let v0 : BitVec 32 := Scalar.addi arg1 c1_i32
  let c1_i32_21 : BitVec 32 := 1#32
  let v181 : BitVec 32 := Scalar.addi v0 c1_i32_21
  let c0_i32_23 : BitVec 32 := 0#32
  let v183 : BitVec 1 := Scalar.cmpi .sgt v181 c0_i32_23
  let v184 : BitVec 32 := Scalar.extui v183
  let c0_i32_24 : BitVec 32 := 0#32
  let v185 : BitVec 1 := Scalar.cmpi .slt v181 c0_i32_24
  let v186 : BitVec 32 := Scalar.extui v185
  let v187 : BitVec 32 := Scalar.subi v184 v186
  let c2_i32_22 : BitVec 32 := 2#32
  let c0_i32_25 : BitVec 32 := 0#32
  let v188 : BitVec 1 := Scalar.cmpi .sgt c2_i32_22 c0_i32_25
  let v189 : BitVec 32 := Scalar.extui v188
  let c0_i32_26 : BitVec 32 := 0#32
  let v190 : BitVec 1 := Scalar.cmpi .slt c2_i32_22 c0_i32_26
  let v191 : BitVec 32 := Scalar.extui v190
  let v192 : BitVec 32 := Scalar.subi v189 v191
  let v193 : BitVec 1 := Scalar.cmpi .ne v187 v192
  let v194 : BitVec 32 := Scalar.remsi v181 c2_i32_22
  let c0_i32_27 : BitVec 32 := 0#32
  let v195 : BitVec 1 := Scalar.cmpi .ne v194 c0_i32_27
  let v196 : BitVec 1 := Scalar.andi v193 v195
  let v182 : BitVec 32 := Scalar.divsi v181 c2_i32_22
  let c1_i32_28 : BitVec 32 := 1#32
  let v197 : BitVec 32 := Scalar.subi v182 c1_i32_28
  let v198 : BitVec 32 := Scalar.select v196 v197 v182
  let v200 : BitVec 32 := Scalar.subi v198 c0_i32_30
  let c1_i32_31 : BitVec 32 := 1#32
  let v202 : BitVec 32 := Scalar.divsi v200 c1_i32_31
  let v203 : BitVec 32 := Scalar.muli v202 c1_i32_31
  let v204 : BitVec 32 := Scalar.addi c0_i32_30 v203
  let v201 : BitVec 32 := Scalar.addi c0_i32_30 v200
  let c1_i32_33 : BitVec 32 := 1#32
  ⟨v204, v201, c1_i32_33⟩
def k0_mult7 (i : grid0.Coords) (k0_t4 : Fin (k0_t4_loop i).trips) : BitVec 32 :=
  let c0_i32_30 : BitVec 32 := 0#32
  let arg1 : BitVec 32 := BitVec.ofNat 32 (i 1).val
  let c1_i32 : BitVec 32 := 1#32
  let v0 : BitVec 32 := Scalar.addi arg1 c1_i32
  let c1_i32_21 : BitVec 32 := 1#32
  let v181 : BitVec 32 := Scalar.addi v0 c1_i32_21
  let c0_i32_23 : BitVec 32 := 0#32
  let v183 : BitVec 1 := Scalar.cmpi .sgt v181 c0_i32_23
  let v184 : BitVec 32 := Scalar.extui v183
  let c0_i32_24 : BitVec 32 := 0#32
  let v185 : BitVec 1 := Scalar.cmpi .slt v181 c0_i32_24
  let v186 : BitVec 32 := Scalar.extui v185
  let v187 : BitVec 32 := Scalar.subi v184 v186
  let c2_i32_22 : BitVec 32 := 2#32
  let c0_i32_25 : BitVec 32 := 0#32
  let v188 : BitVec 1 := Scalar.cmpi .sgt c2_i32_22 c0_i32_25
  let v189 : BitVec 32 := Scalar.extui v188
  let c0_i32_26 : BitVec 32 := 0#32
  let v190 : BitVec 1 := Scalar.cmpi .slt c2_i32_22 c0_i32_26
  let v191 : BitVec 32 := Scalar.extui v190
  let v192 : BitVec 32 := Scalar.subi v189 v191
  let v193 : BitVec 1 := Scalar.cmpi .ne v187 v192
  let v194 : BitVec 32 := Scalar.remsi v181 c2_i32_22
  let c0_i32_27 : BitVec 32 := 0#32
  let v195 : BitVec 1 := Scalar.cmpi .ne v194 c0_i32_27
  let v196 : BitVec 1 := Scalar.andi v193 v195
  let v182 : BitVec 32 := Scalar.divsi v181 c2_i32_22
  let c1_i32_28 : BitVec 32 := 1#32
  let v197 : BitVec 32 := Scalar.subi v182 c1_i32_28
  let v198 : BitVec 32 := Scalar.select v196 v197 v182
  let v200 : BitVec 32 := Scalar.subi v198 c0_i32_30
  let c1_i32_31 : BitVec 32 := 1#32
  let v202 : BitVec 32 := Scalar.divsi v200 c1_i32_31
  let v203 : BitVec 32 := Scalar.muli v202 c1_i32_31
  let v204 : BitVec 32 := Scalar.addi c0_i32_30 v203
  let c1_i32_33 : BitVec 32 := 1#32
  let arg14 : BitVec 32 := Scf.iv v204 c1_i32_33 k0_t4
  let c2_i32_101 : BitVec 32 := 2#32
  let v318 : BitVec 32 := Scalar.muli arg14 c2_i32_101
  let c256_i32_102 : BitVec 32 := 256#32
  let v319 : BitVec 32 := Scalar.muli v318 c256_i32_102
  v319
def k0_off7 (i : grid0.Coords) (k0_t4 : Fin (k0_t4_loop i).trips) : Fin 2 → Nat :=
  let c0_i32_30 : BitVec 32 := 0#32
  let arg1 : BitVec 32 := BitVec.ofNat 32 (i 1).val
  let c1_i32 : BitVec 32 := 1#32
  let v0 : BitVec 32 := Scalar.addi arg1 c1_i32
  let c1_i32_21 : BitVec 32 := 1#32
  let v181 : BitVec 32 := Scalar.addi v0 c1_i32_21
  let c0_i32_23 : BitVec 32 := 0#32
  let v183 : BitVec 1 := Scalar.cmpi .sgt v181 c0_i32_23
  let v184 : BitVec 32 := Scalar.extui v183
  let c0_i32_24 : BitVec 32 := 0#32
  let v185 : BitVec 1 := Scalar.cmpi .slt v181 c0_i32_24
  let v186 : BitVec 32 := Scalar.extui v185
  let v187 : BitVec 32 := Scalar.subi v184 v186
  let c2_i32_22 : BitVec 32 := 2#32
  let c0_i32_25 : BitVec 32 := 0#32
  let v188 : BitVec 1 := Scalar.cmpi .sgt c2_i32_22 c0_i32_25
  let v189 : BitVec 32 := Scalar.extui v188
  let c0_i32_26 : BitVec 32 := 0#32
  let v190 : BitVec 1 := Scalar.cmpi .slt c2_i32_22 c0_i32_26
  let v191 : BitVec 32 := Scalar.extui v190
  let v192 : BitVec 32 := Scalar.subi v189 v191
  let v193 : BitVec 1 := Scalar.cmpi .ne v187 v192
  let v194 : BitVec 32 := Scalar.remsi v181 c2_i32_22
  let c0_i32_27 : BitVec 32 := 0#32
  let v195 : BitVec 1 := Scalar.cmpi .ne v194 c0_i32_27
  let v196 : BitVec 1 := Scalar.andi v193 v195
  let v182 : BitVec 32 := Scalar.divsi v181 c2_i32_22
  let c1_i32_28 : BitVec 32 := 1#32
  let v197 : BitVec 32 := Scalar.subi v182 c1_i32_28
  let v198 : BitVec 32 := Scalar.select v196 v197 v182
  let v200 : BitVec 32 := Scalar.subi v198 c0_i32_30
  let c1_i32_31 : BitVec 32 := 1#32
  let v202 : BitVec 32 := Scalar.divsi v200 c1_i32_31
  let v203 : BitVec 32 := Scalar.muli v202 c1_i32_31
  let v204 : BitVec 32 := Scalar.addi c0_i32_30 v203
  let c1_i32_33 : BitVec 32 := 1#32
  let arg14 : BitVec 32 := Scf.iv v204 c1_i32_33 k0_t4
  let c2_i32_101 : BitVec 32 := 2#32
  let v318 : BitVec 32 := Scalar.muli arg14 c2_i32_101
  let c256_i32_102 : BitVec 32 := 256#32
  let v319 : BitVec 32 := Scalar.muli v318 c256_i32_102
  let v320 : BitVec 32 := v319
  let v321 : Index := Scalar.indexCast v320
  let c0_103 : Index := 0#32
  ![v321.toNat, 0]
@[reducible] def k0_t5_loop (i : grid0.Coords) : Scf.Loop 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_102 : BitVec 32 := 1#32
  let v321 : BitVec 32 := Scalar.addi v0 c1_i32_102
  let c0_i32_104 : BitVec 32 := 0#32
  let v323 : BitVec 1 := Scalar.cmpi .sgt v321 c0_i32_104
  let v324 : BitVec 32 := Scalar.extui v323
  let c0_i32_105 : BitVec 32 := 0#32
  let v325 : BitVec 1 := Scalar.cmpi .slt v321 c0_i32_105
  let v326 : BitVec 32 := Scalar.extui v325
  let v327 : BitVec 32 := Scalar.subi v324 v326
  let c2_i32_103 : BitVec 32 := 2#32
  let c0_i32_106 : BitVec 32 := 0#32
  let v328 : BitVec 1 := Scalar.cmpi .sgt c2_i32_103 c0_i32_106
  let v329 : BitVec 32 := Scalar.extui v328
  let c0_i32_107 : BitVec 32 := 0#32
  let v330 : BitVec 1 := Scalar.cmpi .slt c2_i32_103 c0_i32_107
  let v331 : BitVec 32 := Scalar.extui v330
  let v332 : BitVec 32 := Scalar.subi v329 v331
  let v333 : BitVec 1 := Scalar.cmpi .ne v327 v332
  let v334 : BitVec 32 := Scalar.remsi v321 c2_i32_103
  let c0_i32_108 : BitVec 32 := 0#32
  let v335 : BitVec 1 := Scalar.cmpi .ne v334 c0_i32_108
  let v336 : BitVec 1 := Scalar.andi v333 v335
  let v322 : BitVec 32 := Scalar.divsi v321 c2_i32_103
  let c1_i32_109 : BitVec 32 := 1#32
  let v337 : BitVec 32 := Scalar.subi v322 c1_i32_109
  let v338 : BitVec 32 := Scalar.select v336 v337 v322
  let v340 : BitVec 32 := Scalar.subi v338 c0_i32_111
  let c1_i32_112 : BitVec 32 := 1#32
  let v342 : BitVec 32 := Scalar.divsi v340 c1_i32_112
  let v343 : BitVec 32 := Scalar.muli v342 c1_i32_112
  let v344 : BitVec 32 := Scalar.addi c0_i32_111 v343
  let c1_i32_113 : BitVec 32 := 1#32
  ⟨c0_i32_111, v344, c1_i32_113⟩
def k0_mult8 (i : grid0.Coords) (k0_t5 : Fin (k0_t5_loop i).trips) : BitVec 32 :=
  let c0_i32_111 : BitVec 32 := 0#32
  let c1_i32_113 : BitVec 32 := 1#32
  let arg17 : BitVec 32 := Scf.iv c0_i32_111 c1_i32_113 k0_t5
  let c2_i32_118 : BitVec 32 := 2#32
  let v354 : BitVec 32 := Scalar.muli arg17 c2_i32_118
  let c256_i32_119 : BitVec 32 := 256#32
  let v355 : BitVec 32 := Scalar.muli v354 c256_i32_119
  v355
def k0_off8 (i : grid0.Coords) (k0_t5 : Fin (k0_t5_loop i).trips) : Fin 2 → Nat :=
  let c0_i32_111 : BitVec 32 := 0#32
  let c1_i32_113 : BitVec 32 := 1#32
  let arg17 : BitVec 32 := Scf.iv c0_i32_111 c1_i32_113 k0_t5
  let c2_i32_118 : BitVec 32 := 2#32
  let v354 : BitVec 32 := Scalar.muli arg17 c2_i32_118
  let c256_i32_119 : BitVec 32 := 256#32
  let v355 : BitVec 32 := Scalar.muli v354 c256_i32_119
  let v356 : BitVec 32 := v355
  let v357 : Index := Scalar.indexCast v356
  let c0_120 : Index := 0#32
  ![v357.toNat, 0]
@[reducible] def k0_t6_loop (i : grid0.Coords) : Scf.Loop 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_102 : BitVec 32 := 1#32
  let v321 : BitVec 32 := Scalar.addi v0 c1_i32_102
  let c0_i32_104 : BitVec 32 := 0#32
  let v323 : BitVec 1 := Scalar.cmpi .sgt v321 c0_i32_104
  let v324 : BitVec 32 := Scalar.extui v323
  let c0_i32_105 : BitVec 32 := 0#32
  let v325 : BitVec 1 := Scalar.cmpi .slt v321 c0_i32_105
  let v326 : BitVec 32 := Scalar.extui v325
  let v327 : BitVec 32 := Scalar.subi v324 v326
  let c2_i32_103 : BitVec 32 := 2#32
  let c0_i32_106 : BitVec 32 := 0#32
  let v328 : BitVec 1 := Scalar.cmpi .sgt c2_i32_103 c0_i32_106
  let v329 : BitVec 32 := Scalar.extui v328
  let c0_i32_107 : BitVec 32 := 0#32
  let v330 : BitVec 1 := Scalar.cmpi .slt c2_i32_103 c0_i32_107
  let v331 : BitVec 32 := Scalar.extui v330
  let v332 : BitVec 32 := Scalar.subi v329 v331
  let v333 : BitVec 1 := Scalar.cmpi .ne v327 v332
  let v334 : BitVec 32 := Scalar.remsi v321 c2_i32_103
  let c0_i32_108 : BitVec 32 := 0#32
  let v335 : BitVec 1 := Scalar.cmpi .ne v334 c0_i32_108
  let v336 : BitVec 1 := Scalar.andi v333 v335
  let v322 : BitVec 32 := Scalar.divsi v321 c2_i32_103
  let c1_i32_109 : BitVec 32 := 1#32
  let v337 : BitVec 32 := Scalar.subi v322 c1_i32_109
  let v338 : BitVec 32 := Scalar.select v336 v337 v322
  let v340 : BitVec 32 := Scalar.subi v338 c0_i32_111
  let c1_i32_112 : BitVec 32 := 1#32
  let v342 : BitVec 32 := Scalar.divsi v340 c1_i32_112
  let v343 : BitVec 32 := Scalar.muli v342 c1_i32_112
  let v344 : BitVec 32 := Scalar.addi c0_i32_111 v343
  let v341 : BitVec 32 := Scalar.addi c0_i32_111 v340
  let c1_i32_114 : BitVec 32 := 1#32
  ⟨v344, v341, c1_i32_114⟩
def k0_mult9 (i : grid0.Coords) (k0_t6 : Fin (k0_t6_loop i).trips) : BitVec 32 :=
  let c0_i32_111 : BitVec 32 := 0#32
  let arg1 : BitVec 32 := BitVec.ofNat 32 (i 1).val
  let c1_i32 : BitVec 32 := 1#32
  let v0 : BitVec 32 := Scalar.addi arg1 c1_i32
  let c1_i32_102 : BitVec 32 := 1#32
  let v321 : BitVec 32 := Scalar.addi v0 c1_i32_102
  let c0_i32_104 : BitVec 32 := 0#32
  let v323 : BitVec 1 := Scalar.cmpi .sgt v321 c0_i32_104
  let v324 : BitVec 32 := Scalar.extui v323
  let c0_i32_105 : BitVec 32 := 0#32
  let v325 : BitVec 1 := Scalar.cmpi .slt v321 c0_i32_105
  let v326 : BitVec 32 := Scalar.extui v325
  let v327 : BitVec 32 := Scalar.subi v324 v326
  let c2_i32_103 : BitVec 32 := 2#32
  let c0_i32_106 : BitVec 32 := 0#32
  let v328 : BitVec 1 := Scalar.cmpi .sgt c2_i32_103 c0_i32_106
  let v329 : BitVec 32 := Scalar.extui v328
  let c0_i32_107 : BitVec 32 := 0#32
  let v330 : BitVec 1 := Scalar.cmpi .slt c2_i32_103 c0_i32_107
  let v331 : BitVec 32 := Scalar.extui v330
  let v332 : BitVec 32 := Scalar.subi v329 v331
  let v333 : BitVec 1 := Scalar.cmpi .ne v327 v332
  let v334 : BitVec 32 := Scalar.remsi v321 c2_i32_103
  let c0_i32_108 : BitVec 32 := 0#32
  let v335 : BitVec 1 := Scalar.cmpi .ne v334 c0_i32_108
  let v336 : BitVec 1 := Scalar.andi v333 v335
  let v322 : BitVec 32 := Scalar.divsi v321 c2_i32_103
  let c1_i32_109 : BitVec 32 := 1#32
  let v337 : BitVec 32 := Scalar.subi v322 c1_i32_109
  let v338 : BitVec 32 := Scalar.select v336 v337 v322
  let v340 : BitVec 32 := Scalar.subi v338 c0_i32_111
  let c1_i32_112 : BitVec 32 := 1#32
  let v342 : BitVec 32 := Scalar.divsi v340 c1_i32_112
  let v343 : BitVec 32 := Scalar.muli v342 c1_i32_112
  let v344 : BitVec 32 := Scalar.addi c0_i32_111 v343
  let c1_i32_114 : BitVec 32 := 1#32
  let arg17 : BitVec 32 := Scf.iv v344 c1_i32_114 k0_t6
  let c2_i32_118 : BitVec 32 := 2#32
  let v354 : BitVec 32 := Scalar.muli arg17 c2_i32_118
  let c256_i32_119 : BitVec 32 := 256#32
  let v355 : BitVec 32 := Scalar.muli v354 c256_i32_119
  v355
def k0_off9 (i : grid0.Coords) (k0_t6 : Fin (k0_t6_loop i).trips) : Fin 2 → Nat :=
  let c0_i32_111 : BitVec 32 := 0#32
  let arg1 : BitVec 32 := BitVec.ofNat 32 (i 1).val
  let c1_i32 : BitVec 32 := 1#32
  let v0 : BitVec 32 := Scalar.addi arg1 c1_i32
  let c1_i32_102 : BitVec 32 := 1#32
  let v321 : BitVec 32 := Scalar.addi v0 c1_i32_102
  let c0_i32_104 : BitVec 32 := 0#32
  let v323 : BitVec 1 := Scalar.cmpi .sgt v321 c0_i32_104
  let v324 : BitVec 32 := Scalar.extui v323
  let c0_i32_105 : BitVec 32 := 0#32
  let v325 : BitVec 1 := Scalar.cmpi .slt v321 c0_i32_105
  let v326 : BitVec 32 := Scalar.extui v325
  let v327 : BitVec 32 := Scalar.subi v324 v326
  let c2_i32_103 : BitVec 32 := 2#32
  let c0_i32_106 : BitVec 32 := 0#32
  let v328 : BitVec 1 := Scalar.cmpi .sgt c2_i32_103 c0_i32_106
  let v329 : BitVec 32 := Scalar.extui v328
  let c0_i32_107 : BitVec 32 := 0#32
  let v330 : BitVec 1 := Scalar.cmpi .slt c2_i32_103 c0_i32_107
  let v331 : BitVec 32 := Scalar.extui v330
  let v332 : BitVec 32 := Scalar.subi v329 v331
  let v333 : BitVec 1 := Scalar.cmpi .ne v327 v332
  let v334 : BitVec 32 := Scalar.remsi v321 c2_i32_103
  let c0_i32_108 : BitVec 32 := 0#32
  let v335 : BitVec 1 := Scalar.cmpi .ne v334 c0_i32_108
  let v336 : BitVec 1 := Scalar.andi v333 v335
  let v322 : BitVec 32 := Scalar.divsi v321 c2_i32_103
  let c1_i32_109 : BitVec 32 := 1#32
  let v337 : BitVec 32 := Scalar.subi v322 c1_i32_109
  let v338 : BitVec 32 := Scalar.select v336 v337 v322
  let v340 : BitVec 32 := Scalar.subi v338 c0_i32_111
  let c1_i32_112 : BitVec 32 := 1#32
  let v342 : BitVec 32 := Scalar.divsi v340 c1_i32_112
  let v343 : BitVec 32 := Scalar.muli v342 c1_i32_112
  let v344 : BitVec 32 := Scalar.addi c0_i32_111 v343
  let c1_i32_114 : BitVec 32 := 1#32
  let arg17 : BitVec 32 := Scf.iv v344 c1_i32_114 k0_t6
  let c2_i32_118 : BitVec 32 := 2#32
  let v354 : BitVec 32 := Scalar.muli arg17 c2_i32_118
  let c256_i32_119 : BitVec 32 := 256#32
  let v355 : BitVec 32 := Scalar.muli v354 c256_i32_119
  let v356 : BitVec 32 := v355
  let v357 : Index := Scalar.indexCast v356
  let c0_120 : Index := 0#32
  ![v357.toNat, 0]
@[reducible] def k0_t7_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_49 : BitVec 32 := 1#32
  ⟨c0_i32_47, v229, c1_i32_49⟩
def k0_mult10 (i : grid0.Coords) (k0_t7 : Fin (k0_t7_loop i).trips) : BitVec 32 :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  v318
def k0_off10 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v320 : Index := Scalar.indexCast v319
  let c0_102 : Index := 0#32
  ![v320.toNat, 0]
def k0_off11 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v324 : Index := Scalar.indexCast v319
  let c0_103 : Index := 0#32
  ![v324.toNat, 0]
def k0_off12 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v330 : Index := Scalar.indexCast v319
  let c128_107 : Index := 128#32
  ![v330.toNat, 128]
def k0_off13 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v336 : Index := Scalar.indexCast v319
  let c256_111 : Index := 256#32
  ![v336.toNat, 256]
def k0_off14 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v342 : Index := Scalar.indexCast v319
  let c384_115 : Index := 384#32
  ![v342.toNat, 384]
def k0_off15 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v348 : Index := Scalar.indexCast v319
  let c512_119 : Index := 512#32
  ![v348.toNat, 512]
def k0_off16 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v354 : Index := Scalar.indexCast v319
  let c640_123 : Index := 640#32
  ![v354.toNat, 640]
def k0_off17 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v360 : Index := Scalar.indexCast v319
  let c768_127 : Index := 768#32
  ![v360.toNat, 768]
def k0_off18 (i : grid0.Coords) (k0_t7 : Fin (k0_t7_loop i).trips) : Fin 2 → Nat :=
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v366 : Index := Scalar.indexCast v319
  let c896_131 : Index := 896#32
  ![v366.toNat, 896]
def k0_off19 (i : grid0.Coords) (k0_t7 : Fin (k0_t7_loop i).trips) : Fin 3 → Nat :=
  let c0_239 : Index := 0#32
  let c0_240 : Index := 0#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1620 : Index := Scalar.indexCast v319
  ![0, 0, v1620.toNat]
def k0_off20 (i : grid0.Coords) (k0_t7 : Fin (k0_t7_loop i).trips) : Fin 3 → Nat :=
  let c0_246 : Index := 0#32
  let c128_247 : Index := 128#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1631 : Index := Scalar.indexCast v319
  ![0, 128, v1631.toNat]
def k0_off21 (i : grid0.Coords) (k0_t7 : Fin (k0_t7_loop i).trips) : Fin 3 → Nat :=
  let c0_253 : Index := 0#32
  let c256_254 : Index := 256#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1642 : Index := Scalar.indexCast v319
  ![0, 256, v1642.toNat]
def k0_off22 (i : grid0.Coords) (k0_t7 : Fin (k0_t7_loop i).trips) : Fin 3 → Nat :=
  let c0_260 : Index := 0#32
  let c384_261 : Index := 384#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1653 : Index := Scalar.indexCast v319
  ![0, 384, v1653.toNat]
def k0_off23 (i : grid0.Coords) (k0_t7 : Fin (k0_t7_loop i).trips) : Fin 3 → Nat :=
  let c0_267 : Index := 0#32
  let c512_268 : Index := 512#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1664 : Index := Scalar.indexCast v319
  ![0, 512, v1664.toNat]
def k0_off24 (i : grid0.Coords) (k0_t7 : Fin (k0_t7_loop i).trips) : Fin 3 → Nat :=
  let c0_274 : Index := 0#32
  let c640_275 : Index := 640#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1675 : Index := Scalar.indexCast v319
  ![0, 640, v1675.toNat]
def k0_off25 (i : grid0.Coords) (k0_t7 : Fin (k0_t7_loop i).trips) : Fin 3 → Nat :=
  let c0_281 : Index := 0#32
  let c768_282 : Index := 768#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1686 : Index := Scalar.indexCast v319
  ![0, 768, v1686.toNat]
def k0_off26 (i : grid0.Coords) (k0_t7 : Fin (k0_t7_loop i).trips) : Fin 3 → Nat :=
  let c0_288 : Index := 0#32
  let c896_289 : Index := 896#32
  let c0_i32_47 : BitVec 32 := 0#32
  let c1_i32_49 : BitVec 32 := 1#32
  let arg14 : BitVec 32 := Scf.iv c0_i32_47 c1_i32_49 k0_t7
  let c256_i32_101 : BitVec 32 := 256#32
  let v318 : BitVec 32 := Scalar.muli arg14 c256_i32_101
  let v319 : BitVec 32 := v318
  let v1697 : Index := Scalar.indexCast v319
  ![0, 896, v1697.toNat]
@[reducible] def k0_t8_loop (i : grid0.Coords) : Scf.Loop 32 :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let v226 : BitVec 32 := Scalar.addi c0_i32_47 v225
  let c1_i32_50 : BitVec 32 := 1#32
  ⟨v229, v226, c1_i32_50⟩
def k0_mult11 (i : grid0.Coords) (k0_t8 : Fin (k0_t8_loop i).trips) : BitVec 32 :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  v318
def k0_off27 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v320 : Index := Scalar.indexCast v319
  let c0_102 : Index := 0#32
  ![v320.toNat, 0]
def k0_off28 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v324 : Index := Scalar.indexCast v319
  let c0_103 : Index := 0#32
  ![v324.toNat, 0]
def k0_off29 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v330 : Index := Scalar.indexCast v319
  let c128_107 : Index := 128#32
  ![v330.toNat, 128]
def k0_off30 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v336 : Index := Scalar.indexCast v319
  let c256_111 : Index := 256#32
  ![v336.toNat, 256]
def k0_off31 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v342 : Index := Scalar.indexCast v319
  let c384_115 : Index := 384#32
  ![v342.toNat, 384]
def k0_off32 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v348 : Index := Scalar.indexCast v319
  let c512_119 : Index := 512#32
  ![v348.toNat, 512]
def k0_off33 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v354 : Index := Scalar.indexCast v319
  let c640_123 : Index := 640#32
  ![v354.toNat, 640]
def k0_off34 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v360 : Index := Scalar.indexCast v319
  let c768_127 : Index := 768#32
  ![v360.toNat, 768]
def k0_off35 (i : grid0.Coords) (k0_t8 : Fin (k0_t8_loop i).trips) : Fin 2 → Nat :=
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v366 : Index := Scalar.indexCast v319
  let c896_131 : Index := 896#32
  ![v366.toNat, 896]
def k0_off36 (i : grid0.Coords) (k0_t8 : Fin (k0_t8_loop i).trips) : Fin 3 → Nat :=
  let c0_239 : Index := 0#32
  let c0_240 : Index := 0#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1620 : Index := Scalar.indexCast v319
  ![0, 0, v1620.toNat]
def k0_off37 (i : grid0.Coords) (k0_t8 : Fin (k0_t8_loop i).trips) : Fin 3 → Nat :=
  let c0_246 : Index := 0#32
  let c128_247 : Index := 128#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1631 : Index := Scalar.indexCast v319
  ![0, 128, v1631.toNat]
def k0_off38 (i : grid0.Coords) (k0_t8 : Fin (k0_t8_loop i).trips) : Fin 3 → Nat :=
  let c0_253 : Index := 0#32
  let c256_254 : Index := 256#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1642 : Index := Scalar.indexCast v319
  ![0, 256, v1642.toNat]
def k0_off39 (i : grid0.Coords) (k0_t8 : Fin (k0_t8_loop i).trips) : Fin 3 → Nat :=
  let c0_260 : Index := 0#32
  let c384_261 : Index := 384#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1653 : Index := Scalar.indexCast v319
  ![0, 384, v1653.toNat]
def k0_off40 (i : grid0.Coords) (k0_t8 : Fin (k0_t8_loop i).trips) : Fin 3 → Nat :=
  let c0_267 : Index := 0#32
  let c512_268 : Index := 512#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1664 : Index := Scalar.indexCast v319
  ![0, 512, v1664.toNat]
def k0_off41 (i : grid0.Coords) (k0_t8 : Fin (k0_t8_loop i).trips) : Fin 3 → Nat :=
  let c0_274 : Index := 0#32
  let c640_275 : Index := 640#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1675 : Index := Scalar.indexCast v319
  ![0, 640, v1675.toNat]
def k0_off42 (i : grid0.Coords) (k0_t8 : Fin (k0_t8_loop i).trips) : Fin 3 → Nat :=
  let c0_281 : Index := 0#32
  let c768_282 : Index := 768#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1686 : Index := Scalar.indexCast v319
  ![0, 768, v1686.toNat]
def k0_off43 (i : grid0.Coords) (k0_t8 : Fin (k0_t8_loop i).trips) : Fin 3 → Nat :=
  let c0_288 : Index := 0#32
  let c896_289 : Index := 896#32
  let c0_i32_47 : BitVec 32 := 0#32
  let arg1 : BitVec 32 := BitVec.ofNat 32 (i 1).val
  let c1_i32 : BitVec 32 := 1#32
  let v0 : BitVec 32 := Scalar.addi arg1 c1_i32
  let v225 : BitVec 32 := Scalar.subi v0 c0_i32_47
  let c1_i32_48 : BitVec 32 := 1#32
  let v227 : BitVec 32 := Scalar.divsi v225 c1_i32_48
  let v228 : BitVec 32 := Scalar.muli v227 c1_i32_48
  let v229 : BitVec 32 := Scalar.addi c0_i32_47 v228
  let c1_i32_50 : BitVec 32 := 1#32
  let arg14 : BitVec 32 := Scf.iv v229 c1_i32_50 k0_t8
  let c256_i32_101 : BitVec 32 := 256#32
  let v318 : BitVec 32 := Scalar.muli arg14 c256_i32_101
  let v319 : BitVec 32 := v318
  let v1697 : Index := Scalar.indexCast v319
  ![0, 896, v1697.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference.lean ====
abbrev S2x4096x8x128 : Shape := ⟨4, ![2, 4096, 8, 128]⟩
abbrev S2x4096x16x128 : Shape := ⟨4, ![2, 4096, 16, 128]⟩
abbrev S2x4096x128 : Shape := ⟨3, ![2, 4096, 128]⟩
abbrev S2x4096x16 : Shape := ⟨3, ![2, 4096, 16]⟩
abbrev S2x4096x1024 : Shape := ⟨3, ![2, 4096, 1024]⟩
abbrev S2x1024x4096 : Shape := ⟨3, ![2, 1024, 4096]⟩
abbrev S8192x1024 : Shape := ⟨2, ![8192, 1024]⟩
abbrev S8192x2048 : Shape := ⟨2, ![8192, 2048]⟩
abbrev S8192x16 : Shape := ⟨2, ![8192, 16]⟩
abbrev S16x256 : Shape := ⟨2, ![16, 256]⟩
abbrev S4096x256 : Shape := ⟨2, ![4096, 256]⟩
abbrev S256x16 : Shape := ⟨2, ![256, 16]⟩
abbrev S1x128x128 : Shape := ⟨3, ![1, 128, 128]⟩
abbrev S128x128 : Shape := ⟨2, ![128, 128]⟩
abbrev S128x256 : Shape := ⟨2, ![128, 256]⟩
abbrev S256x128 : Shape := ⟨2, ![256, 128]⟩
abbrev S1x256 : Shape := ⟨2, ![1, 256]⟩
abbrev S256x256 : Shape := ⟨2, ![256, 256]⟩
abbrev S8x256 : Shape := ⟨2, ![8, 256]⟩
abbrev S1x256x128 : Shape := ⟨3, ![1, 256, 128]⟩
abbrev S256 : Shape := ⟨1, ![256]⟩
abbrev S1x128x256 : Shape := ⟨3, ![1, 128, 256]⟩

abbrev nBuf : Space → Nat
  | .hbm => 18
  | .vmem => 10
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x128, .f32⟩
  | .hbm, ⟨2, _⟩ => ⟨S2x4096x8x128, .f32⟩
  | .hbm, ⟨3, _⟩ => ⟨S2x4096x16x128, .f32⟩
  | .hbm, ⟨4, _⟩ => ⟨S2x4096x128, .f32⟩
  | .hbm, ⟨5, _⟩ => ⟨S2x4096x16, .f32⟩
  | .hbm, ⟨6, _⟩ => ⟨S2x4096x1024, .f32⟩
  | .hbm, ⟨7, _⟩ => ⟨S2x4096x1024, .bf16⟩
  | .hbm, ⟨8, _⟩ => ⟨S2x1024x4096, .bf16⟩
  | .hbm, ⟨9, _⟩ => ⟨S8192x1024, .f32⟩
  | .hbm, ⟨10, _⟩ => ⟨S8192x1024, .bf16⟩
  | .hbm, ⟨11, _⟩ => ⟨S2x4096x1024, .f32⟩
  | .hbm, ⟨12, _⟩ => ⟨S2x4096x1024, .bf16⟩
  | .hbm, ⟨13, _⟩ => ⟨S8192x2048, .f32⟩
  | .hbm, ⟨14, _⟩ => ⟨S8192x2048, .bf16⟩
  | .hbm, ⟨15, _⟩ => ⟨S2x4096x128, .bf16⟩
  | .hbm, ⟨16, _⟩ => ⟨S8192x16, .f32⟩
  | .hbm, ⟨17, _⟩ => ⟨S8192x1024, .bf16⟩
  | .local _ .vmem, ⟨0, _⟩ => ⟨S8192x1024, .bf16⟩
  | .local _ .vmem, ⟨1, _⟩ => ⟨S2x4096x1024, .bf16⟩
  | .local _ .vmem, ⟨2, _⟩ => ⟨S2x1024x4096, .bf16⟩
  | .local _ .vmem, ⟨3, _⟩ => ⟨S8192x2048, .bf16⟩
  | .local _ .vmem, ⟨4, _⟩ => ⟨S2x4096x128, .bf16⟩
  | .local _ .vmem, ⟨5, _⟩ => ⟨S8192x16, .f32⟩
  | .local _ .vmem, ⟨6, _⟩ => ⟨S8192x1024, .bf16⟩
  | .local _ .vmem, ⟨7, _⟩ => ⟨S16x256, .f32⟩
  | .local _ .vmem, ⟨8, _⟩ => ⟨S4096x256, .i32⟩
  | .local _ .vmem, ⟨9, _⟩ => ⟨S4096x256, .i32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v8 : Index := Scalar.indexCast v2
  let c0 : Index := 0#32
  ![v8.toNat, 0]
@[reducible] def k0_t2_loop : Scf.Loop 32 :=
  let c0_i32_7 : BitVec 32 := 0#32
  let c32_i32_8 : BitVec 32 := 32#32
  let v17 : BitVec 32 := Scalar.addi c0_i32_7 c32_i32_8
  let c1_i32_9 : BitVec 32 := 1#32
  ⟨c0_i32_7, v17, c1_i32_9⟩
def k0_mult2 (k0_t2 : Fin k0_t2_loop.trips) : BitVec 32 :=
  let c0_i32_7 : BitVec 32 := 0#32
  let c1_i32_9 : BitVec 32 := 1#32
  let arg11 : BitVec 32 := Scf.iv c0_i32_7 c1_i32_9 k0_t2
  let c128_i32 : BitVec 32 := 128#32
  let v20 : BitVec 32 := Scalar.muli arg11 c128_i32
  v20
def k0_off2 (k0_t1 : Fin k0_t1_loop.trips) (k0_t2 : Fin k0_t2_loop.trips) : Fin 3 → Nat :=
  let c0_i32 : BitVec 32 := 0#32
  let c1_i32 : BitVec 32 := 1#32
  let arg10 : BitVec 32 := Scf.iv c0_i32 c1_i32 k0_t1
  let c16_i32 : BitVec 32 := 16#32
  let v3 : BitVec 32 := Scalar.divsi arg10 c16_i32
  let v22 : Index := Scalar.indexCast v3
  let c0_i32_7 : BitVec 32 := 0#32
  let c1_i32_9 : BitVec 32 := 1#32
  let arg11 : BitVec 32 := Scf.iv c0_i32_7 c1_i32_9 k0_t2
  let c128_i32 : BitVec 32 := 128#32
  let v20 : BitVec 32 := Scalar.muli arg11 c128_i32
  let v21 : BitVec 32 := v20
  let v23 : Index := Scalar.indexCast v21
  let c0_18 : Index := 0#32
  ![v22.toNat, v23.toNat, 0]
@[reducible] def k0_t3_loop : Scf.Loop 32 :=
  let c0_i32_20 : BitVec 32 := 0#32
  let c16_i32_21 : BitVec 32 := 16#32
  let v27 : BitVec 32 := Scalar.addi c0_i32_20 c16_i32_21
  let c1_i32_22 : BitVec 32 := 1#32
  ⟨c0_i32_20, v27, c1_i32_22⟩
def k0_mult3 (k0_t3 : Fin k0_t3_loop.trips) : BitVec 32 :=
  let c0_i32_20 : BitVec 32 := 0#32
  let c1_i32_22 : BitVec 32 := 1#32
  let arg12 : BitVec 32 := Scf.iv c0_i32_20 c1_i32_22 k0_t3
  let c128_i32_26 : BitVec 32 := 128#32
  let v48 : BitVec 32 := Scalar.muli arg12 c128_i32_26
  v48
def k0_off3 (k0_t1 : Fin k0_t1_loop.trips) (k0_t3 : Fin k0_t3_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v50 : Index := Scalar.indexCast v2
  let c0_i32_20 : BitVec 32 := 0#32
  let c1_i32_22 : BitVec 32 := 1#32
  let arg12 : BitVec 32 := Scf.iv c0_i32_20 c1_i32_22 k0_t3
  let c128_i32_26 : BitVec 32 := 128#32
  let v48 : BitVec 32 := Scalar.muli arg12 c128_i32_26
  let v49 : BitVec 32 := v48
  let v51 : Index := Scalar.indexCast v49
  ![v50.toNat, v51.toNat]
def k0_off4 (k0_t3 : Fin k0_t3_loop.trips) : Fin 2 → Nat :=
  let c0_i32_20 : BitVec 32 := 0#32
  let c1_i32_22 : BitVec 32 := 1#32
  let arg12 : BitVec 32 := Scf.iv c0_i32_20 c1_i32_22 k0_t3
  let v57 : Index := Scalar.indexCast arg12
  let c0_29 : Index := 0#32
  ![v57.toNat, 0]
def k0_off5 (k0_t2 : Fin k0_t2_loop.trips) : Fin 2 → Nat :=
  let c0_i32_7 : BitVec 32 := 0#32
  let c1_i32_9 : BitVec 32 := 1#32
  let arg11 : BitVec 32 := Scf.iv c0_i32_7 c1_i32_9 k0_t2
  let c128_i32 : BitVec 32 := 128#32
  let v20 : BitVec 32 := Scalar.muli arg11 c128_i32
  let v21 : BitVec 32 := v20
  let v44 : Index := Scalar.indexCast v21
  let c0_25 : Index := 0#32
  ![v44.toNat, 0]
@[reducible] def k0_t4_loop : Scf.Loop 32 :=
  let c0_i32_11 : BitVec 32 := 0#32
  let c16_i32_12 : BitVec 32 := 16#32
  let v18 : BitVec 32 := Scalar.addi c0_i32_11 c16_i32_12
  let c1_i32_13 : BitVec 32 := 1#32
  ⟨c0_i32_11, v18, c1_i32_13⟩
def k0_mult4 (k0_t4 : Fin k0_t4_loop.trips) : BitVec 32 :=
  let c0_i32_11 : BitVec 32 := 0#32
  let c1_i32_13 : BitVec 32 := 1#32
  let arg11 : BitVec 32 := Scf.iv c0_i32_11 c1_i32_13 k0_t4
  let c256_i32_18 : BitVec 32 := 256#32
  let v20 : BitVec 32 := Scalar.muli arg11 c256_i32_18
  v20
def k0_off6 (k0_t4 : Fin k0_t4_loop.trips) : Fin 2 → Nat :=
  let c0_i32_11 : BitVec 32 := 0#32
  let c1_i32_13 : BitVec 32 := 1#32
  let arg11 : BitVec 32 := Scf.iv c0_i32_11 c1_i32_13 k0_t4
  let c256_i32_18 : BitVec 32 := 256#32
  let v20 : BitVec 32 := Scalar.muli arg11 c256_i32_18
  let v21 : BitVec 32 := v20
  let v22 : Index := Scalar.indexCast v21
  let c0_19 : Index := 0#32
  ![v22.toNat, 0]
@[reducible] def k0_t5_loop : Scf.Loop 32 :=
  let c0_i32_21 : BitVec 32 := 0#32
  let c4096_i32 : BitVec 32 := 4096#32
  let v25 : BitVec 32 := Scalar.addi c0_i32_21 c4096_i32
  let c1_i32_22 : BitVec 32 := 1#32
  ⟨c0_i32_21, v25, c1_i32_22⟩
def k0_off7 (k0_t5 : Fin k0_t5_loop.trips) : Fin 2 → Nat :=
  let c0_i32_21 : BitVec 32 := 0#32
  let c1_i32_22 : BitVec 32 := 1#32
  let arg12 : BitVec 32 := Scf.iv c0_i32_21 c1_i32_22 k0_t5
  let v39 : Index := Scalar.indexCast arg12
  let c0_28 : Index := 0#32
  ![v39.toNat, 0]
@[reducible] def k0_t6_loop : Scf.Loop 32 :=
  let c0_i32_15 : BitVec 32 := 0#32
  let c8_i32 : BitVec 32 := 8#32
  let v19 : BitVec 32 := Scalar.addi c0_i32_15 c8_i32
  let c1_i32_16 : BitVec 32 := 1#32
  ⟨c0_i32_15, v19, c1_i32_16⟩
def k0_mult5 (k0_t6 : Fin k0_t6_loop.trips) : BitVec 32 :=
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  v20
@[reducible] def k0_t7_loop (k0_t1 : Fin k0_t1_loop.trips) : Scf.Loop 32 :=
  let c0_i32_21 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let c1_i32_23 : BitVec 32 := 1#32
  ⟨c0_i32_21, v29, c1_i32_23⟩
def k0_mult6 (k0_t1 : Fin k0_t1_loop.trips) (k0_t7 : Fin (k0_t7_loop k0_t1).trips) : BitVec 32 :=
  let c0_i32_21 : BitVec 32 := 0#32
  let c1_i32_23 : BitVec 32 := 1#32
  let arg12 : BitVec 32 := Scf.iv c0_i32_21 c1_i32_23 k0_t7
  let c256_i32_27 : BitVec 32 := 256#32
  let v43 : BitVec 32 := Scalar.muli arg12 c256_i32_27
  v43
def k0_off8 (k0_t1 : Fin k0_t1_loop.trips) (k0_t6 : Fin k0_t6_loop.trips) (k0_t7 : Fin (k0_t7_loop k0_t1).trips) : Fin 3 → Nat :=
  let c0_i32 : BitVec 32 := 0#32
  let c1_i32 : BitVec 32 := 1#32
  let arg10 : BitVec 32 := Scf.iv c0_i32 c1_i32 k0_t1
  let c16_i32 : BitVec 32 := 16#32
  let v3 : BitVec 32 := Scalar.divsi arg10 c16_i32
  let v45 : Index := Scalar.indexCast v3
  let c0_i32_21 : BitVec 32 := 0#32
  let c1_i32_23 : BitVec 32 := 1#32
  let arg12 : BitVec 32 := Scf.iv c0_i32_21 c1_i32_23 k0_t7
  let c256_i32_27 : BitVec 32 := 256#32
  let v43 : BitVec 32 := Scalar.muli arg12 c256_i32_27
  let v44 : BitVec 32 := v43
  let v46 : Index := Scalar.indexCast v44
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v47 : Index := Scalar.indexCast v21
  ![v45.toNat, v46.toNat, v47.toNat]
def k0_off9 (k0_t1 : Fin k0_t1_loop.trips) (k0_t6 : Fin k0_t6_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v50 : Index := Scalar.indexCast v2
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v51 : Index := Scalar.indexCast v21
  ![v50.toNat, v51.toNat]
def k0_off10 (k0_t1 : Fin k0_t1_loop.trips) (k0_t7 : Fin (k0_t7_loop k0_t1).trips) : Fin 2 → Nat :=
  let c0_i32_21 : BitVec 32 := 0#32
  let c1_i32_23 : BitVec 32 := 1#32
  let arg12 : BitVec 32 := Scf.iv c0_i32_21 c1_i32_23 k0_t7
  let c256_i32_27 : BitVec 32 := 256#32
  let v43 : BitVec 32 := Scalar.muli arg12 c256_i32_27
  let v44 : BitVec 32 := v43
  let v55 : Index := Scalar.indexCast v44
  let c0_29 : Index := 0#32
  ![v55.toNat, 0]
def k0_off11 (k0_t1 : Fin k0_t1_loop.trips) (k0_t6 : Fin k0_t6_loop.trips) (k0_t7 : Fin (k0_t7_loop k0_t1).trips) : Fin 3 → Nat :=
  let c0_i32 : BitVec 32 := 0#32
  let c1_i32 : BitVec 32 := 1#32
  let arg10 : BitVec 32 := Scf.iv c0_i32 c1_i32 k0_t1
  let c16_i32 : BitVec 32 := 16#32
  let v3 : BitVec 32 := Scalar.divsi arg10 c16_i32
  let v138 : Index := Scalar.indexCast v3
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v139 : Index := Scalar.indexCast v21
  let c0_i32_21 : BitVec 32 := 0#32
  let c1_i32_23 : BitVec 32 := 1#32
  let arg12 : BitVec 32 := Scf.iv c0_i32_21 c1_i32_23 k0_t7
  let c256_i32_27 : BitVec 32 := 256#32
  let v43 : BitVec 32 := Scalar.muli arg12 c256_i32_27
  let v44 : BitVec 32 := v43
  let v140 : Index := Scalar.indexCast v44
  ![v138.toNat, v139.toNat, v140.toNat]
@[reducible] def k0_t8_loop (k0_t1 : Fin k0_t1_loop.trips) : Scf.Loop 32 :=
  let c0_i32_21 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let v26 : BitVec 32 := Scalar.addi c0_i32_21 v25
  let c1_i32_24 : BitVec 32 := 1#32
  ⟨v29, v26, c1_i32_24⟩
def k0_mult7 (k0_t1 : Fin k0_t1_loop.trips) (k0_t8 : Fin (k0_t8_loop k0_t1).trips) : BitVec 32 :=
  let c0_i32_21 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let c1_i32_24 : BitVec 32 := 1#32
  let arg12 : BitVec 32 := Scf.iv v29 c1_i32_24 k0_t8
  let c256_i32_27 : BitVec 32 := 256#32
  let v43 : BitVec 32 := Scalar.muli arg12 c256_i32_27
  v43
def k0_off12 (k0_t1 : Fin k0_t1_loop.trips) (k0_t6 : Fin k0_t6_loop.trips) (k0_t8 : Fin (k0_t8_loop k0_t1).trips) : Fin 3 → Nat :=
  let c0_i32 : BitVec 32 := 0#32
  let c1_i32 : BitVec 32 := 1#32
  let arg10 : BitVec 32 := Scf.iv c0_i32 c1_i32 k0_t1
  let c16_i32 : BitVec 32 := 16#32
  let v3 : BitVec 32 := Scalar.divsi arg10 c16_i32
  let v45 : Index := Scalar.indexCast v3
  let c0_i32_21 : BitVec 32 := 0#32
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let c1_i32_24 : BitVec 32 := 1#32
  let arg12 : BitVec 32 := Scf.iv v29 c1_i32_24 k0_t8
  let c256_i32_27 : BitVec 32 := 256#32
  let v43 : BitVec 32 := Scalar.muli arg12 c256_i32_27
  let v44 : BitVec 32 := v43
  let v46 : Index := Scalar.indexCast v44
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v47 : Index := Scalar.indexCast v21
  ![v45.toNat, v46.toNat, v47.toNat]
def k0_off13 (k0_t1 : Fin k0_t1_loop.trips) (k0_t6 : Fin k0_t6_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v50 : Index := Scalar.indexCast v2
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v51 : Index := Scalar.indexCast v21
  ![v50.toNat, v51.toNat]
def k0_off14 (k0_t1 : Fin k0_t1_loop.trips) (k0_t8 : Fin (k0_t8_loop k0_t1).trips) : Fin 2 → Nat :=
  let c0_i32_21 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let c1_i32_24 : BitVec 32 := 1#32
  let arg12 : BitVec 32 := Scf.iv v29 c1_i32_24 k0_t8
  let c256_i32_27 : BitVec 32 := 256#32
  let v43 : BitVec 32 := Scalar.muli arg12 c256_i32_27
  let v44 : BitVec 32 := v43
  let v55 : Index := Scalar.indexCast v44
  let c0_29 : Index := 0#32
  ![v55.toNat, 0]
def k0_off15 (k0_t1 : Fin k0_t1_loop.trips) (k0_t6 : Fin k0_t6_loop.trips) (k0_t8 : Fin (k0_t8_loop k0_t1).trips) : Fin 3 → Nat :=
  let c0_i32 : BitVec 32 := 0#32
  let c1_i32 : BitVec 32 := 1#32
  let arg10 : BitVec 32 := Scf.iv c0_i32 c1_i32 k0_t1
  let c16_i32 : BitVec 32 := 16#32
  let v3 : BitVec 32 := Scalar.divsi arg10 c16_i32
  let v138 : Index := Scalar.indexCast v3
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v139 : Index := Scalar.indexCast v21
  let c0_i32_21 : BitVec 32 := 0#32
  let c16_i32_1 : BitVec 32 := 16#32
  let v4 : BitVec 32 := Scalar.remsi arg10 c16_i32_1
  let c1_i32_2 : BitVec 32 := 1#32
  let v5 : BitVec 32 := Scalar.addi v4 c1_i32_2
  let v25 : BitVec 32 := Scalar.subi v5 c0_i32_21
  let c1_i32_22 : BitVec 32 := 1#32
  let v27 : BitVec 32 := Scalar.divsi v25 c1_i32_22
  let v28 : BitVec 32 := Scalar.muli v27 c1_i32_22
  let v29 : BitVec 32 := Scalar.addi c0_i32_21 v28
  let c1_i32_24 : BitVec 32 := 1#32
  let arg12 : BitVec 32 := Scf.iv v29 c1_i32_24 k0_t8
  let c256_i32_27 : BitVec 32 := 256#32
  let v43 : BitVec 32 := Scalar.muli arg12 c256_i32_27
  let v44 : BitVec 32 := v43
  let v140 : Index := Scalar.indexCast v44
  ![v138.toNat, v139.toNat, v140.toNat]
def k0_off16 (k0_t1 : Fin k0_t1_loop.trips) (k0_t6 : Fin k0_t6_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v1 : BitVec 32 := Scalar.muli arg10 c256_i32
  let v2 : BitVec 32 := v1
  let v40 : Index := Scalar.indexCast v2
  let c0_i32_15 : BitVec 32 := 0#32
  let c1_i32_16 : BitVec 32 := 1#32
  let arg11 : BitVec 32 := Scf.iv c0_i32_15 c1_i32_16 k0_t6
  let c128_i32 : BitVec 32 := 128#32
  let v20 : BitVec 32 := Scalar.muli arg11 c128_i32
  let v21 : BitVec 32 := v20
  let v41 : Index := Scalar.indexCast v21
  ![v40.toNat, v41.toNat]
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S2x4096x2048 : Shape := ⟨3, ![2, 4096, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S2x2048x8192, .bf16⟩
  | .hbm, ⟨9, _⟩ => ⟨S2x8192x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x2048 : Shape := ⟨3, ![2, 4096, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x8192, .f32⟩
  | .hbm, ⟨25, _⟩ => ⟨S2048x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S1x8192x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x4096x4096 : Shape := ⟨3, ![2, 4096, 4096]⟩
abbrev S2x4096x2048 : Shape := ⟨3, ![2, 4096, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S8192x1024 : Shape := ⟨2, ![8192, 1024]⟩
abbrev S8192x4096 : Shape := ⟨2, ![8192, 4096]⟩
abbrev S8192x2048 : Shape := ⟨2, ![8192, 2048]⟩
abbrev S1x2048 : Shape := ⟨2, ![1, 2048]⟩
abbrev S2048 : Shape := ⟨1, ![2048]⟩
abbrev S256x1024 : Shape := ⟨2, ![256, 1024]⟩
abbrev S256x4096 : Shape := ⟨2, ![256, 4096]⟩
abbrev S256x2048 : Shape := ⟨2, ![256, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 22
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x4096, .f32⟩
  | .hbm, ⟨3, _⟩ => ⟨S2x4096x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x4096, .f32⟩
  | .hbm, ⟨13, _⟩ => ⟨S8192x4096, .bf16⟩
  | .hbm, ⟨14, _⟩ => ⟨S8192x2048, .f32⟩
  | .hbm, ⟨15, _⟩ => ⟨S2x1024x2048, .bf16⟩
  | .hbm, ⟨16, _⟩ => ⟨S2x1024x2048, .bf16⟩
  | .hbm, ⟨17, _⟩ => ⟨S2x2048x2048, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1x2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x4096x1024 : Shape := ⟨3, ![2, 4096, 1024]⟩
abbrev S2x4096x4096 : Shape := ⟨3, ![2, 4096, 4096]⟩
abbrev S2x4096x2048 : Shape := ⟨3, ![2, 4096, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S8192x1024 : Shape := ⟨2, ![8192, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1024x2048 : Shape := ⟨2, ![1024, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x4096, .f32⟩
  | .hbm, ⟨3, _⟩ => ⟨S2x4096x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048, .f32⟩
  | .hbm, ⟨8, _⟩ => ⟨S8192x1024, .f32⟩
  | .hbm, ⟨9, _⟩ => ⟨S8192x1024, .f32⟩
  | .hbm, ⟨10, _⟩ => ⟨S8192x4096, .f32⟩
  | .hbm, ⟨11, _⟩ => ⟨S8192x2048, .f32⟩
  | .hbm, ⟨12, _⟩ => ⟨S1x1024x2048, .f32⟩
  | .hbm, ⟨13, _⟩ => ⟨S1024x2048, .f32⟩
  | .hbm, ⟨14, _⟩ => ⟨S8192x2048, .f32⟩
  | .hbm, ⟨15, _⟩ => ⟨S1x1024x2048, .f32⟩
  | .hbm, ⟨16, _⟩ => ⟨S1024x2048, .f32⟩
  | .hbm, ⟨17, _⟩ => ⟨S8192x2048, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048x2048, .f32⟩
  | .hbm, ⟨32, _⟩ => ⟨S2048x2048, .f32⟩
  | .hbm, ⟨33, _⟩ => ⟨S8192x2048, .f32⟩
  | .hbm, ⟨34, _⟩ => ⟨S1x2048, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S2x4096x2048 : Shape := ⟨3, ![2, 4096, 2048]⟩
abbrev S2x2048x11408 : Shape := ⟨3, ![2, 2048, 11408]⟩
abbrev S2x2048 : Shape := ⟨2, ![2, 2048]⟩
abbrev S2x8192x1024 : Shape := ⟨3, ![2, 8192, 1024]⟩
abbrev S2x8192x128 : Shape := ⟨3, ![2, 8192, 128]⟩
abbrev S8192x2048 : Shape := ⟨2, ![8192, 2048]⟩
abbrev S1x2048 : Shape := ⟨2, ![1, 2048]⟩
abbrev S2048 : Shape := ⟨1, ![2048]⟩
abbrev S2x2048x5248 : Shape := ⟨3, ![2, 2048, 5248]⟩
abbrev S2x2048x6144 : Shape := ⟨3, ![2, 2048, 6144]⟩
abbrev S2x2048x16 : Shape := ⟨3, ![2, 2048, 16]⟩
abbrev S_ : Shape := ⟨0, ![]⟩
abbrev S2x2048x128 : Shape := ⟨3, ![2, 2048, 128]⟩
abbrev S8192x1024 : Shape := ⟨2, ![8192, 1024]⟩
abbrev S8192x4096 : Shape := ⟨2, ![8192, 4096]⟩
abbrev S8192x128 : Shape := ⟨2, ![8192, 128]⟩
abbrev S1024x2048 : Shape := ⟨2, ![1024, 2048]⟩
abbrev S1x2048x512 : Shape := ⟨3, ![1, 2048, 512]⟩
abbrev S1x2048x128 : Shape := ⟨3, ![1, 2048, 128]⟩
abbrev S1024x512 : Shape := ⟨2, ![1024, 512]⟩
abbrev S1x1024x512 : Shape := ⟨3, ![1, 1024, 512]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S2048x512 : Shape := ⟨2, ![2048, 512]⟩
abbrev S2048x128 : Shape := ⟨2, ![2048, 128]⟩

abbrev nBuf : Space → Nat
  | .hbm => 30
  | .vmem => 31
  | .smem => 0
  | _ => 0

abbrev bufTy : (tb : Table) → Fin (tcTables nBuf tb) → BufTy
  | .hbm, ⟨0, _⟩ => ⟨S2x4096x2048, .f32⟩
  | .hbm, ⟨1, _⟩ => ⟨S2x2048x11408, .f32⟩
  | .hbm, ⟨2, _⟩ => ⟨S2x2048, .f32⟩
  | .hbm, ⟨3, _⟩ => ⟨S2x8192x1024, .f32⟩
  | .hbm, ⟨4, _⟩ => ⟨S2x8192x1024, .f32⟩
  | .hbm, ⟨5, _⟩ => ⟨S2x8192x128, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S2x2048x5248, .f32⟩
  | .hbm, ⟨10, _⟩ => ⟨S2x2048x5248, .bf16⟩
  | .hbm, ⟨11, _⟩ => ⟨S2x2048x6144, .f32⟩
  | .hbm, ⟨12, _⟩ => ⟨S2x2048x6144, .bf16⟩
  | .hbm, ⟨13, _⟩ => ⟨S2x2048x16, .f32⟩
  | .hbm, ⟨14, _⟩ => ⟨S_, .i32⟩
  | .hbm, ⟨15, _⟩ => ⟨S_, .f32⟩
  | .hbm, ⟨16, _⟩ => ⟨S2x2048x128, .f32⟩
  | .hbm, ⟨17, _⟩ => ⟨S2x2048x128, .bf16⟩
  | .hbm, ⟨18, _⟩ => ⟨S1x2048, .f32⟩
  | .hbm, ⟨19, _⟩ => ⟨S8192x1024, .bf16⟩
  | .hbm, ⟨20, _⟩ => ⟨S2x8192x1024, .f32⟩
  | .hbm, ⟨21, _⟩ => ⟨S8192x1024, .bf16⟩
  | .hbm, ⟨22, _⟩ => ⟨S2x8192x1024, .f32⟩
  | .hbm, ⟨23, _⟩ => ⟨S8192x1024, .bf16⟩
  | .hbm, ⟨24, _⟩ => ⟨S8192x2048, .bf16⟩
  | .hbm, ⟨25, _⟩ => ⟨S8192x2048, .bf16⟩
  | .hbm, ⟨26, _⟩ => ⟨S8192x4096, .bf16⟩
  | .hbm, ⟨27, _⟩ => ⟨S2x8192x128, .f32⟩
  | .hbm, ⟨28, _⟩ => ⟨S8192x128, .bf16⟩
  | .hbm, ⟨29, _⟩ => ⟨S8192x128, .f32⟩
  | .local _ .vmem, ⟨0, _⟩ => ⟨S1x2048, .f32⟩
  | .local _ .vmem, ⟨1, _⟩ => ⟨S1024x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x128, .bf16⟩
  | .local _ .vmem, ⟨8, _⟩ => ⟨S1024x512, .bf16⟩
  | .local _ .vmem, ⟨9, _⟩ => ⟨S1024x512, .bf16⟩
  | .local _ .vmem, ⟨10, _⟩ => ⟨S1x1024x512, .f32⟩
  | .local _ .vmem, ⟨11, _⟩ => ⟨S1x1024x512, .f32⟩
  | .local _ .vmem, ⟨12, _⟩ => ⟨S1024x512, .bf16⟩
  | .local _ .vmem, ⟨13, _⟩ => ⟨S1024x512, .bf16⟩
  | .local _ .vmem, ⟨14, _⟩ => ⟨S1x1024x512, .f32⟩
  | .local _ .vmem, ⟨15, _⟩ => ⟨S1x1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1x1024x128, .f32⟩
  | .local _ .vmem, ⟨25, _⟩ => ⟨S1x1024x128, .f32⟩
  | .local _ .vmem, ⟨26, _⟩ => ⟨S1024x128, .bf16⟩
  | .local _ .vmem, ⟨27, _⟩ => ⟨S1024x128, .bf16⟩
  | .local _ .vmem, ⟨28, _⟩ => ⟨S1024x128, .f32⟩
  | .local _ .vmem, ⟨29, _⟩ => ⟨S1024x128, .f32⟩
  | .local _ .vmem, ⟨30, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev main_v11_8 : Ref sig .tc := ⟨.hbm, 27, rfl⟩
abbrev main_v11_9 : Ref sig .tc := ⟨.hbm, 28, rfl⟩
abbrev main_v11_10 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 23], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c4_i32 : BitVec 32 := 4#32
  let v9 : BitVec 1 := Scalar.cmpi .slt arg1 c4_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c4_i32_5 : BitVec 32 := 4#32
  let v13 : BitVec 1 := Scalar.cmpi .sge arg1 c4_i32_5
  let c6_i32 : BitVec 32 := 6#32
  let v14 : BitVec 1 := Scalar.cmpi .slt arg1 c6_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c6_i32_7 : BitVec 32 := 6#32
  let v18 : BitVec 1 := Scalar.cmpi .sge arg1 c6_i32_7
  let c10_i32 : BitVec 32 := 10#32
  let v19 : BitVec 1 := Scalar.cmpi .slt arg1 c10_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c10_i32_9 : BitVec 32 := 10#32
  let v23 : BitVec 1 := Scalar.cmpi .sge arg1 c10_i32_9
  let c14_i32 : BitVec 32 := 14#32
  let v24 : BitVec 1 := Scalar.cmpi .slt arg1 c14_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg1 : BitVec 32 := BitVec.ofNat 32 (i 1).val
  let c14_i32_11 : BitVec 32 := 14#32
  let v28 : BitVec 1 := Scalar.cmpi .sge arg1 c14_i32_11
  let c22_i32 : BitVec 32 := 22#32
  let v29 : BitVec 1 := Scalar.cmpi .slt arg1 c22_i32
  let v30 : BitVec 1 := Scalar.andi v28 v29
  let v31 : BitVec 32 := Scalar.extui v30
  let c0_i32_12 : BitVec 32 := 0#32
  let v32 : BitVec 1 := Scalar.cmpi .ne v31 c0_i32_12
  v32

def k0_cond8 (i : grid0.Coords) : BitVec 1 :=
  let arg1 : BitVec 32 := BitVec.ofNat 32 (i 1).val
  let c22_i32_13 : BitVec 32 := 22#32
  let v33 : BitVec 1 := Scalar.cmpi .sge arg1 c22_i32_13
  let c23_i32 : BitVec 32 := 23#32
  let v34 : BitVec 1 := Scalar.cmpi .slt arg1 c23_i32
  let v35 : BitVec 1 := Scalar.andi v33 v34
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c9_i32 : BitVec 32 := 9#32
  let v0 : BitVec 32 := Scalar.maxsi c0_i32 arg1
  let v1 : BitVec 32 := Scalar.minsi c9_i32 v0
  let c1_i32 : BitVec 32 := 1#32
  let c0_i32_0 : BitVec 32 := 0#32
  let c0_i32_1 : BitVec 32 := 0#32
  ![c1_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c40_i32 : BitVec 32 := 40#32
  let c0_i32_0 : BitVec 32 := 0#32
  ![c1_i32.toNat, c0_i32.toNat, c40_i32.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c11_i32 : BitVec 32 := 11#32
  let v1 : BitVec 32 := Scalar.maxsi c0_i32 v0
  let v2 : BitVec 32 := Scalar.minsi c11_i32 v1
  let c1_i32 : BitVec 32 := 1#32
  let c0_i32_0 : BitVec 32 := 0#32
  let c0_i32_1 : BitVec 32 := 0#32
  ![c1_i32.toNat, c0_i32_0.toNat, v2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c1_i32_0 : BitVec 32 := 1#32
  let c0_i32_1 : BitVec 32 := 0#32
  ![c1_i32_0.toNat, arg0.toNat, v2.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c1_i32_0 : BitVec 32 := 1#32
  let c0_i32_1 : BitVec 32 := 0#32
  ![c1_i32_0.toNat, arg0.toNat, v2.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_15 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_16 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_17 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c1_i32 : BitVec 32 := 1#32
  let c0_i32_1 : BitVec 32 := 0#32
  ![c1_i32.toNat, arg0.toNat, v2.toNat]

def cc0_transform_18 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_19 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S2x4096x2048 : Shape := ⟨3, ![2, 4096, 2048]⟩
abbrev S2x2048x11408 : Shape := ⟨3, ![2, 2048, 11408]⟩
abbrev S2x2048 : Shape := ⟨2, ![2, 2048]⟩
abbrev S2x8192x1024 : Shape := ⟨3, ![2, 8192, 1024]⟩
abbrev S2x8192x128 : Shape := ⟨3, ![2, 8192, 128]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x11408 : Shape := ⟨3, ![1, 2048, 11408]⟩
abbrev S2048x11408 : Shape := ⟨2, ![2048, 11408]⟩
abbrev S8192x11408 : Shape := ⟨2, ![8192, 11408]⟩
abbrev S8192x1024 : Shape := ⟨2, ![8192, 1024]⟩
abbrev S8192x128 : Shape := ⟨2, ![8192, 128]⟩
abbrev S8192x16 : Shape := ⟨2, ![8192, 16]⟩
abbrev S8192x4096 : Shape := ⟨2, ![8192, 4096]⟩
abbrev S1x8192x1024 : Shape := ⟨3, ![1, 8192, 1024]⟩
abbrev S1x8192x128 : Shape := ⟨3, ![1, 8192, 128]⟩

abbrev nBuf : Space → Nat
  | .hbm => 61
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x11408, .f32⟩
  | .hbm, ⟨2, _⟩ => ⟨S2x2048, .f32⟩
  | .hbm, ⟨3, _⟩ => ⟨S2x8192x1024, .f32⟩
  | .hbm, ⟨4, _⟩ => ⟨S2x8192x1024, .f32⟩
  | .hbm, ⟨5, _⟩ => ⟨S2x8192x128, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S1x2048x11408, .f32⟩
  | .hbm, ⟨26, _⟩ => ⟨S2048x11408, .f32⟩
  | .hbm, ⟨27, _⟩ => ⟨S8192x11408, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S8192x128, .f32⟩
  | .hbm, ⟨33, _⟩ => ⟨S8192x16, .f32⟩
  | .hbm, ⟨34, _⟩ => ⟨S8192x2048, .f32⟩
  | .hbm, ⟨35, _⟩ => ⟨S8192x4096, .f32⟩
  | .hbm, ⟨36, _⟩ => ⟨S8192x1024, .bf16⟩
  | .hbm, ⟨37, _⟩ => ⟨S1x8192x1024, .f32⟩
  | .hbm, ⟨38, _⟩ => ⟨S8192x1024, .f32⟩
  | .hbm, ⟨39, _⟩ => ⟨S1x8192x1024, .f32⟩
  | .hbm, ⟨40, _⟩ => ⟨S1x8192x1024, .f32⟩
  | .hbm, ⟨41, _⟩ => ⟨S2x8192x1024, .f32⟩
  | .hbm, ⟨42, _⟩ => ⟨S8192x1024, .bf16⟩
  | .hbm, ⟨43, _⟩ => ⟨S1x8192x1024, .f32⟩
  | .hbm, ⟨44, _⟩ => ⟨S8192x1024, .f32⟩
  | .hbm, ⟨45, _⟩ => ⟨S1x8192x1024, .f32⟩
  | .hbm, ⟨46, _⟩ => ⟨S1x8192x1024, .f32⟩
  | .hbm, ⟨47, _⟩ => ⟨S2x8192x1024, .f32⟩
  | .hbm, ⟨48, _⟩ => ⟨S8192x1024, .bf16⟩
  | .hbm, ⟨49, _⟩ => ⟨S8192x2048, .bf16⟩
  | .hbm, ⟨50, _⟩ => ⟨S8192x2048, .bf16⟩
  | .hbm, ⟨51, _⟩ => ⟨S8192x4096, .bf16⟩
  | .hbm, ⟨52, _⟩ => ⟨S1x8192x128, .f32⟩
  | .hbm, ⟨53, _⟩ => ⟨S8192x128, .f32⟩
  | .hbm, ⟨54, _⟩ => ⟨S1x8192x128, .f32⟩
  | .hbm, ⟨55, _⟩ => ⟨S1x8192x128, .f32⟩
  | .hbm, ⟨56, _⟩ => ⟨S2x8192x128, .f32⟩
  | .hbm, ⟨57, _⟩ => ⟨S8192x128, .bf16⟩
  | .hbm, ⟨58, _⟩ => ⟨S_, .i32⟩
  | .hbm, ⟨59, _⟩ => ⟨S_, .f32⟩
  | .hbm, ⟨60, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c : Ref sig .tc := ⟨.hbm, 58, rfl⟩
abbrev main_call0_v0 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Proof.K.Common.lean ====
/-
  What the modules about the kernel share: its names, the resource algebra of its runs, and how a rectangle of a
  memref is read.
-/
module

public import proofs.«01_k».proof.Proof.Gen.Kernel.Skeleton
public import Idealize.ShloMosaic.Lib.Exec
public import Idealize.ShloMosaic.Lib.Tactic
public import Idealize.ShloMosaic.Lib.LoopRemainder
public import Idealize.ShloMosaic.Lib.Pipeline.Kit

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A whole memref held with contents `f` by core `c`. -/
abbrev held (c : Dev nD) {sp : Space} {s : Shape} {e : EltTy} (m : Memref sig .tc sp s e)
    (f : BufTy.Contents (Elt F) m.view.ty) : sProp (MT nD τ sig Unit (Elt F) ℕ (UR sig nD τ) ℕ) :=
  m.view.loc (c : Thread nD τ) ↦[m.view.set]{fullShare} f

end Cert.Proof.K
-- ==== Proof.Spec.lean ====
/-
  WHAT BOTH PROGRAMS COMPUTE, as functions of a block's arrays: the selection scores and their order keys, which keys a
  query keeps, one head's online softmax over the key chunks, and a head's block of the result. Every definition is over
  any float instance; float operations appear in the order in which the programs apply them.
-/
module

public import Idealize.ShloMosaic.PureOps
public import Idealize.ShloMosaic.Lib.ValueLayout

@[expose] public section

noncomputable section

namespace Cert.Proof

open Idealize.ShloMosaic Idealize.ShloMosaic.ValueIdx

variable {F : FTy → Type} [BitOps F] {α : Type}

/-- The shape of a matrix. -/
abbrev M (a b : ℕ) : Shape := ⟨2, ![a, b]⟩

/-- The block of shape `[m, n]` of a matrix at row `r`, column `c` (its indices taken modulo the matrix's sizes, so that
    it is a total function of `r` and `c`). -/
def blk {R C : ℕ} [NeZero R] [NeZero C] (x : (M R C).Idx → α) (r c m n : ℕ) : (M m n).Idx → α :=
  fun j => x (ix2 (Fin.ofNat R (r + (j 0).val)) (Fin.ofNat C (c + (j 1).val)))

/-- Eight rows of a 256-column matrix. -/
def sl8 {R : ℕ} (x : (M R 256).Idx → α) (o : ℕ) (h : (M R 256).Slices ![o, 0] (M 8 256) := by decide) : (M 8 256).Idx → α :=
  extractStridedSlice (M 8 256) ![o, 0] x h

/-- The rows of a 256-row matrix combined down to eight, four running results at a time. -/
def fold256 (op : ((M 8 256).Idx → α) → ((M 8 256).Idx → α) → (M 8 256).Idx → α) (x : (M 256 256).Idx → α) : (M 8 256).Idx → α :=
  op (op (op (op (op (op (op (op (op (sl8 x 0) (sl8 x 32)) (sl8 x 64)) (sl8 x 96)) (sl8 x 128)) (sl8 x 160)) (sl8 x 192)) (sl8 x 224)) (op (op (op (op (op (op (op (sl8 x 8) (sl8 x 40)) (sl8 x 72)) (sl8 x 104)) (sl8 x 136)) (sl8 x 168)) (sl8 x 200)) (sl8 x 232)))
    (op (op (op (op (op (op (op (op (sl8 x 16) (sl8 x 48)) (sl8 x 80)) (sl8 x 112)) (sl8 x 144)) (sl8 x 176)) (sl8 x 208)) (sl8 x 240)) (op (op (op (op (op (op (op (sl8 x 24) (sl8 x 56)) (sl8 x 88)) (sl8 x 120)) (sl8 x 152)) (sl8 x 184)) (sl8 x 216)) (sl8 x 248)))

/-- The rows of a 512-row matrix combined down to eight, four running results at a time. -/
def fold512 (op : ((M 8 256).Idx → α) → ((M 8 256).Idx → α) → (M 8 256).Idx → α) (x : (M 512 256).Idx → α) : (M 8 256).Idx → α :=
  op (op (op (op (op (op (op (op (op (op (op (op (op (op (op (op (op (sl8 x 0) (sl8 x 32)) (sl8 x 64)) (sl8 x 96)) (sl8 x 128)) (sl8 x 160)) (sl8 x 192)) (sl8 x 224)) (sl8 x 256)) (sl8 x 288)) (sl8 x 320)) (sl8 x 352)) (sl8 x 384)) (sl8 x 416)) (sl8 x 448)) (sl8 x 480)) (op (op (op (op (op (op (op (op (op (op (op (op (op (op (op (sl8 x 8) (sl8 x 40)) (sl8 x 72)) (sl8 x 104)) (sl8 x 136)) (sl8 x 168)) (sl8 x 200)) (sl8 x 232)) (sl8 x 264)) (sl8 x 296)) (sl8 x 328)) (sl8 x 360)) (sl8 x 392)) (sl8 x 424)) (sl8 x 456)) (sl8 x 488)))
    (op (op (op (op (op (op (op (op (op (op (op (op (op (op (op (op (sl8 x 16) (sl8 x 48)) (sl8 x 80)) (sl8 x 112)) (sl8 x 144)) (sl8 x 176)) (sl8 x 208)) (sl8 x 240)) (sl8 x 272)) (sl8 x 304)) (sl8 x 336)) (sl8 x 368)) (sl8 x 400)) (sl8 x 432)) (sl8 x 464)) (sl8 x 496)) (op (op (op (op (op (op (op (op (op (op (op (op (op (op (op (sl8 x 24) (sl8 x 56)) (sl8 x 88)) (sl8 x 120)) (sl8 x 152)) (sl8 x 184)) (sl8 x 216)) (sl8 x 248)) (sl8 x 280)) (sl8 x 312)) (sl8 x 344)) (sl8 x 376)) (sl8 x 408)) (sl8 x 440)) (sl8 x 472)) (sl8 x 504)))

/-! ## The selection scores -/

/-- The dimension numbers of a tile's selection scores for one head. -/
def dotScore : DotDims (M 128 128) (M 256 128) (M 128 256) where
  lhsContracting := [1]
  rhsContracting := [1]
  lhsNonContracting := [0]
  rhsNonContracting := [0]
  lhsBatch := []
  rhsBatch := []
  wf := by decide

/-- A head's weighted, rectified scores of 128 keys for 256 queries, added to `t`. -/
def addHead (ik : FVec F (M 128 128) .bf16) (iq : FVec F (M 256 128) .bf16) (w : FVec F (M 1 256) .f32)
    (t : FVec F (M 128 256) .f32) : FVec F (M 128 256) .f32 :=
  addf t (mulf (maximumf (matmul dotScore none ik iq (constant (M 128 256) .f32 0x00000000#32))
    (broadcast (M 128 256) (Scalar.ofBits .f32 0x00000000#32))) (broadcastTo (M 128 256) w))

/-- The scores summed over the first `n` heads. -/
def scores (ik : FVec F (M 128 128) .bf16) (iq : ℕ → FVec F (M 256 128) .bf16) (w : ℕ → FVec F (M 1 256) .f32) :
    ℕ → FVec F (M 128 256) .f32
  | 0 => broadcast (M 128 256) (Scalar.ofBits .f32 0x00000000#32)
  | n + 1 => addHead ik (iq n) (w n) (scores ik iq w n)

/-- The scaled weights of head `h`, one per query, from the weights `g`. -/
def wRow (g : Fin 256 → ℕ → F .f32) (h : ℕ) : FVec F (M 1 256) .f32 :=
  fun j => FloatOps.mulf (g (j 1) h) (Scalar.ofBits .f32 0x3CB504F3#32)

/-- The least key, which stands for a key that may not be kept. -/
abbrev lowest : BitVec 32 := 2147483648#32

/-- A float word's place among all float words, as a signed word. -/
def ordWord (b : BitVec 32) : BitVec 32 := if (0#32).sle b then b else b ^^^ 2147483647#32

/-- The order key of key row `r` for query `q` of the block whose first query is `first`: the place of its score, or the
    least word if the row comes after the query. -/
def keyAt (ik : FVec F (M 4096 128) .bf16) (iq : ℕ → FVec F (M 256 128) .bf16) (w : ℕ → FVec F (M 1 256) .f32)
    (first : ℕ) (r : ℕ) (q : Fin 256) : BitVec 32 :=
  if r ≤ first + q.val then
    ordWord (BitOps.toBits (scores (blk ik (128 * (r / 128)) 0 128 128) iq w 16 (ix2 (Fin.ofNat 128 r) q)))
  else lowest

/-! ## Which keys are kept -/

/-- How many keys of query `q` are above `x`. -/
def above (K : ℕ → Fin 256 → BitVec 32) (q : Fin 256) (x : BitVec 32) : ℕ :=
  ((Finset.range 4096).filter fun r => x.slt (K r q) = true).card

/-- Key row `r` is kept for query `q`: it comes before the query, and fewer than 256 keys are above it. -/
def Kept (K : ℕ → Fin 256 → BitVec 32) (r : ℕ) (q : Fin 256) : Prop :=
  lowest.slt (K r q) = true ∧ above K q (K r q) < 256

instance (K : ℕ → Fin 256 → BitVec 32) (r : ℕ) (q : Fin 256) : Decidable (Kept K r q) := by unfold Kept; infer_instance

/-- Whether key row `r` is kept for query `q`, as a bit. -/
def keptBit (K : ℕ → Fin 256 → BitVec 32) (r : ℕ) (q : Fin 256) : BitVec 1 := if Kept K r q then 1#1 else 0#1

/-- The mask of the kept keys in chunk `c` of 256 keys. -/
def keptMask (K : ℕ → Fin 256 → BitVec 32) (c : ℕ) : IVec (M 256 256) 1 :=
  fun j => keptBit K (256 * c + (j 0).val) (j 1)

/-! ## One head's attention -/

/-- The dimension numbers of a chunk's attention logits. -/
def dotLogits : DotDims (M 256 128) (M 256 128) (M 256 256) where
  lhsContracting := [1]
  rhsContracting := [1]
  lhsNonContracting := [0]
  rhsNonContracting := [0]
  lhsBatch := []
  rhsBatch := []
  wf := by decide

/-- The dimension numbers of a chunk's weighted values. -/
def dotValues : DotDims (M 128 256) (M 256 256) (M 128 256) where
  lhsContracting := [1]
  rhsContracting := [0]
  lhsNonContracting := [0]
  rhsNonContracting := [1]
  lhsBatch := []
  rhsBatch := []
  wf := by decide

/-- A head's running maximum per query, its running sums and its running weighted values. -/
structure St (F : FTy → Type) where
  /-- the maximum -/
  top : FVec F (M 1 256) .f32
  /-- the sums, eight per query -/
  tot : FVec F (M 8 256) .f32
  /-- the weighted values -/
  out : FVec F (M 128 256) .f32

/-- The state before the first chunk. -/
def st0 : St F where
  top := broadcast (M 1 256) (Scalar.ofBits .f32 0xFF800000#32)
  tot := broadcast (M 8 256) (Scalar.ofBits .f32 0x00000000#32)
  out := broadcast (M 128 256) (Scalar.ofBits .f32 0x00000000#32)

/-- A chunk's scaled logits, minus infinity where the mask is not set. -/
def logits (sel : IVec (M 256 256) 1) (k q : FVec F (M 256 128) .bf16) : FVec F (M 256 256) .f32 :=
  select sel (mulf (matmul dotLogits none k q (constant (M 256 256) .f32 0x00000000#32))
    (broadcast (M 256 256) (Scalar.ofBits .f32 0x3E0293EE#32))) (broadcast (M 256 256) (Scalar.ofBits .f32 0xFF800000#32))

/-- The greatest logit of a chunk per query. -/
def chunkTop (lg : FVec F (M 256 256) .f32) : FVec F (M 1 256) .f32 :=
  shapeCast (M 1 256) (multiReduction .maximumf [0] ⟨1, ![256]⟩ (fold256 maximumf lg) 0xFF800000#32 (by decide) (.inl rfl) rfl)

/-- A maximum with minus infinity replaced by zero. -/
def safe {s : Shape} (x : FVec F s .f32) : FVec F s .f32 :=
  select (cmpf .oeq x (broadcast s (Scalar.ofBits .f32 0xFF800000#32))) (broadcast s (Scalar.ofBits .f32 0x00000000#32)) x

/-- The weights of a chunk's logits under the new maximum `new`. -/
def weights (lg : FVec F (M 256 256) .f32) (new : FVec F (M 1 256) .f32) : FVec F (M 256 256) .f32 :=
  exp2 (subf lg (broadcastTo (M 256 256) (safe new)))

/-- One chunk of the online softmax, from its logits and its values (transposed). -/
def step (lg : FVec F (M 256 256) .f32) (vt : FVec F (M 128 256) .bf16) (s : St F) : St F where
  top := maximumf s.top (chunkTop lg)
  tot := addf (mulf (broadcastTo (M 8 256) (exp2 (subf s.top (safe (maximumf s.top (chunkTop lg)))))) s.tot)
    (fold256 addf (weights lg (maximumf s.top (chunkTop lg))))
  out := addf (mulf (broadcastTo (M 128 256) (exp2 (subf s.top (safe (maximumf s.top (chunkTop lg)))))) s.out)
    (matmul dotValues none vt (truncf .bf16 (weights lg (maximumf s.top (chunkTop lg))) (by decide))
      (constant (M 128 256) .f32 0x00000000#32))

/-- The state after the first `n` chunks, whose logits and values are `lg` and `vt`. -/
def states (lg : ℕ → FVec F (M 256 256) .f32) (vt : ℕ → FVec F (M 128 256) .bf16) : ℕ → St F
  | 0 => st0
  | n + 1 => step (lg n) (vt n) (states lg vt n)

/-- A head's block of the result, from its final state. -/
def result (s : St F) : FVec F (M 256 128) .bf16 :=
  truncf .bf16 (transpose (M 256 128) [1, 0] (mulf s.out (broadcastTo (M 128 256)
    (divf (broadcast (M 1 256) (Scalar.ofBits .f32 0x3F800000#32))
      (shapeCast (M 1 256) (multiReduction .add [0] ⟨1, ![256]⟩ s.tot 0x00000000#32 (by decide) (.inl rfl) rfl)))))
    (by decide)) (by decide)

/-- A block's result at query `q` and column `col`: head `col / 128` of the attention over the kept keys, of the block
    whose first query is `256 * n`, from the block's queries and its sequence's keys and values. -/
def attention (n : ℕ) (ik : FVec F (M 4096 128) .bf16) (iq : FVec F (M 256 2048) .bf16) (g : Fin 256 → ℕ → F .f32)
    (qs : FVec F (M 256 1024) .bf16) (ks : FVec F (M 4096 1024) .bf16) (vt : FVec F (M 1024 4096) .bf16) (h : ℕ) :
    FVec F (M 256 128) .bf16 :=
  result (states
    (fun c => logits (keptMask (keyAt ik (fun h => blk iq 0 (128 * h) 256 128) (wRow g) (256 * n)) c)
      (blk ks (256 * c) (128 * h) 256 128) (blk qs 0 (128 * h) 256 128))
    (fun c => blk vt (128 * h) (256 * c) 128 256) (n + 1))

end Cert.Proof
-- ==== Proof.Blocks.lean ====
/-
  READING AND WRITING BLOCKS OF A MATRIX through a view: a load at a unit-stride rectangle reads a block (`blk`), a block
  disjoint from a stored rectangle is left, a block that is the stored rectangle reads what was stored.
-/
module

public import proofs.«01_k».proof.Proof.Spec
public import Idealize.ShloMosaic.Lib.WritesUnit

@[expose] public section

namespace Cert.Proof

open Idealize.ShloMosaic Idealize.ShloMosaic.ValueIdx

variable {sig : RefSig} {κ : Kind} {sp : Space} {e : EltTy} {Val : EltTy → Type}

/-- A matrix index from its two coordinates. -/
theorem ix2_eq {a b : ℕ} (y : (M a b).Idx) (p : Fin a) (q : Fin b) (h0 : (y 0).val = p.val) (h1 : (y 1).val = q.val) :
    y = ix2 p q := by
  funext x
  match x with
  | 0 => exact Fin.ext h0
  | 1 => exact Fin.ext h1

/-- A block's element, when the block lies in the matrix. -/
theorem blk_apply {α : Type} {R C : ℕ} [NeZero R] [NeZero C] (x : (M R C).Idx → α) (r c m n : ℕ) (j : (M m n).Idx)
    (p : Fin R) (q : Fin C) (h0 : p.val = r + (j 0).val) (h1 : q.val = c + (j 1).val) : blk x r c m n j = x (ix2 p q) := by
  unfold blk
  congr 2
  · exact Fin.ext (by simp [Fin.ofNat, ← h0, Nat.mod_eq_of_lt p.isLt])
  · exact Fin.ext (by simp [Fin.ofNat, ← h1, Nat.mod_eq_of_lt q.isLt])

/-- A load at a rectangle of a matrix reads a block. -/
theorem readAt_blk' {R C : ℕ} [NeZero R] [NeZero C] (v : View sig κ sp (M R C) e) (f : v.ty.Contents Val)
    (off : Fin 2 → ℕ) (r c m n : ℕ) (inb : ∀ a : Fin 2, off a + (![m, n] : Fin 2 → ℕ) a ≤ (![R, C] : Fin 2 → ℕ) a)
    (h : off = ![r, c]) :
    v.readAt Val (Rect.unit (s := M R C) off ![m, n] inb).toLoadRect f = blk (v.read Val f) r c m n := by
  subst h
  funext j
  have i0 : r + m ≤ R := inb 0
  have i1 : c + n ≤ C := inb 1
  have j0 : (j 0).val < m := (j 0).isLt
  have j1 : (j 1).val < n := (j 1).isLt
  refine Eq.symm ((blk_apply (v.read Val f) r c m n j ⟨r + (j 0).val, by omega⟩ ⟨c + (j 1).val, by omega⟩ rfl rfl).trans ?_)
  rw [View.readAt_apply]
  congr 1
  exact (ix2_eq _ _ _ (by show r + 1 * (j 0).val = r + (j 0).val; omega) (by show c + 1 * (j 1).val = c + (j 1).val; omega)).symm

/-- `readAt_blk'` at literal offsets. -/
theorem readAt_blk {R C : ℕ} [NeZero R] [NeZero C] (v : View sig κ sp (M R C) e) (f : v.ty.Contents Val)
    (r c m n : ℕ) (inb : ∀ a : Fin 2, (![r, c] : Fin 2 → ℕ) a + (![m, n] : Fin 2 → ℕ) a ≤ (![R, C] : Fin 2 → ℕ) a) :
    v.readAt Val (Rect.unit (s := M R C) ![r, c] ![m, n] inb).toLoadRect f = blk (v.read Val f) r c m n :=
  readAt_blk' v f _ r c m n inb rfl

/-- The whole matrix as its one block. -/
theorem blk_whole {α : Type} {R C : ℕ} [NeZero R] [NeZero C] (x : (M R C).Idx → α) : blk x 0 0 R C = x := by
  funext j
  have h := ix2_eq j (j 0) (j 1) rfl rfl
  rw [blk_apply x 0 0 R C j (j 0) (j 1) (by simp) (by simp), ← h]

/-- An index in the newest stored block reads that block. -/
theorem read_writes_hit {R C : ℕ} (v : View sig κ sp (M R C) e) (f : v.ty.Contents Val)
    {off : Fin 2 → ℕ} {m n : ℕ} (inb : ∀ a : Fin 2, off a + (![m, n] : Fin 2 → ℕ) a ≤ (![R, C] : Fin 2 → ℕ) a)
    (w : (M m n).Idx → Val e) (L : List (View.Piece Val (M R C) e)) (r c : ℕ) (h : off = ![r, c])
    (p : Fin R) (q : Fin C) (x : Fin m) (y : Fin n) (hx : p.val = r + x.val) (hy : q.val = c + y.val) :
    v.read Val (v.writes Val f ((⟨Rect.unit (s := M R C) off ![m, n] inb, w⟩ : View.Piece Val (M R C) e) :: L)) (ix2 p q)
      = w (ix2 x y) :=
  View.read_writes_cons_unit_of_mem v f (s := M R C) inb w L (ix2 p q) (ix2 x y) h
    (Fin.forall_fin_two.mpr ⟨hx, hy⟩)

/-- An index outside the newest stored block reads what was there before. -/
theorem read_writes_miss {R C : ℕ} (v : View sig κ sp (M R C) e) (f : v.ty.Contents Val)
    {off : Fin 2 → ℕ} {m n : ℕ} (inb : ∀ a : Fin 2, off a + (![m, n] : Fin 2 → ℕ) a ≤ (![R, C] : Fin 2 → ℕ) a)
    (w : (M m n).Idx → Val e) (L : List (View.Piece Val (M R C) e)) (r c : ℕ) (h : off = ![r, c])
    (p : Fin R) (q : Fin C) (hm : (p.val < r ∨ r + m ≤ p.val) ∨ (q.val < c ∨ c + n ≤ q.val)) :
    v.read Val (v.writes Val f ((⟨Rect.unit (s := M R C) off ![m, n] inb, w⟩ : View.Piece Val (M R C) e) :: L)) (ix2 p q)
      = v.read Val (v.writes Val f L) (ix2 p q) := by
  cases hm with
  | inl h0 => exact View.read_writes_cons_unit_of_not_mem v f (s := M R C) inb w L (ix2 p q) h (0 : Fin 2) h0
  | inr h1 => exact View.read_writes_cons_unit_of_not_mem v f (s := M R C) inb w L (ix2 p q) h (1 : Fin 2) h1

/-- The block that was stored last reads back. -/
theorem blk_hit {R C : ℕ} [NeZero R] [NeZero C] (v : View sig κ sp (M R C) e) (f : v.ty.Contents Val)
    {off : Fin 2 → ℕ} {m n : ℕ} (inb : ∀ a : Fin 2, off a + (![m, n] : Fin 2 → ℕ) a ≤ (![R, C] : Fin 2 → ℕ) a)
    (w : (M m n).Idx → Val e) (L : List (View.Piece Val (M R C) e)) (r c : ℕ) (h : off = ![r, c]) :
    blk (v.read Val (v.writes Val f ((⟨Rect.unit (s := M R C) off ![m, n] inb, w⟩ : View.Piece Val (M R C) e) :: L))) r c m n
      = w := by
  funext j
  have i0 : r + m ≤ R := by have := inb 0; rw [h] at this; exact this
  have i1 : c + n ≤ C := by have := inb 1; rw [h] at this; exact this
  have j0 : (j 0).val < m := (j 0).isLt
  have j1 : (j 1).val < n := (j 1).isLt
  rw [blk_apply _ r c m n j ⟨r + (j 0).val, by omega⟩ ⟨c + (j 1).val, by omega⟩ rfl rfl,
    read_writes_hit v f inb w L r c h _ _ (j 0) (j 1) rfl rfl]
  exact congrArg w (ix2_eq j (j 0) (j 1) rfl rfl).symm

/-- A block that lies outside the newest stored rectangle is what it was. -/
theorem blk_miss {R C : ℕ} [NeZero R] [NeZero C] (v : View sig κ sp (M R C) e) (f : v.ty.Contents Val)
    {off : Fin 2 → ℕ} {m n : ℕ} (inb : ∀ a : Fin 2, off a + (![m, n] : Fin 2 → ℕ) a ≤ (![R, C] : Fin 2 → ℕ) a)
    (w : (M m n).Idx → Val e) (L : List (View.Piece Val (M R C) e)) (r c : ℕ) (h : off = ![r, c])
    (r' c' m' n' : ℕ) (b0 : r' + m' ≤ R) (b1 : c' + n' ≤ C)
    (hm : (r' + m' ≤ r ∨ r + m ≤ r') ∨ (c' + n' ≤ c ∨ c + n ≤ c')) :
    blk (v.read Val (v.writes Val f ((⟨Rect.unit (s := M R C) off ![m, n] inb, w⟩ : View.Piece Val (M R C) e) :: L)))
      r' c' m' n' = blk (v.read Val (v.writes Val f L)) r' c' m' n' := by
  funext j
  have j0 : (j 0).val < m' := (j 0).isLt
  have j1 : (j 1).val < n' := (j 1).isLt
  rw [blk_apply _ r' c' m' n' j ⟨r' + (j 0).val, by omega⟩ ⟨c' + (j 1).val, by omega⟩ rfl rfl,
    blk_apply _ r' c' m' n' j ⟨r' + (j 0).val, by omega⟩ ⟨c' + (j 1).val, by omega⟩ rfl rfl,
    read_writes_miss v f inb w L r c h _ _ (by
      show ((r' + (j 0).val < r ∨ r + m ≤ r' + (j 0).val) ∨ (c' + (j 1).val < c ∨ c + n ≤ c' + (j 1).val)); omega)]

/-- Two matrices agree on a block when they agree at its elements. -/
theorem blk_congr {α : Type} {R C : ℕ} [NeZero R] [NeZero C] (x y : (M R C).Idx → α) (r c m n : ℕ) (b0 : r + m ≤ R)
    (b1 : c + n ≤ C) (h : ∀ (p : Fin R) (q : Fin C), r ≤ p.val → p.val < r + m → c ≤ q.val → q.val < c + n → x (ix2 p q) = y (ix2 p q)) :
    blk x r c m n = blk y r c m n := by
  funext j
  have j0 : (j 0).val < m := (j 0).isLt
  have j1 : (j 1).val < n := (j 1).isLt
  rw [blk_apply x r c m n j ⟨r + (j 0).val, by omega⟩ ⟨c + (j 1).val, by omega⟩ rfl rfl,
    blk_apply y r c m n j ⟨r + (j 0).val, by omega⟩ ⟨c + (j 1).val, by omega⟩ rfl rfl]
  exact h _ _ (by simp) (by simpa using j0) (by simp) (by simpa using j1)

end Cert.Proof
-- ==== Proof.Words.lean ====
/-
  INTEGER WORDS: how the programs turn a float word into its order key, and how they test that a key row comes before a
  query.
-/
module

public import proofs.«01_k».proof.Proof.Blocks

@[expose] public section

namespace Cert.Proof

open Idealize.ShloMosaic Idealize.ShloMosaic.ValueIdx

/-- A negative word's arithmetic shift by 31 is all ones, any other's is zero. -/
theorem sshiftRight31 (b : BitVec 32) : b.sshiftRight 31 = if (0#32).sle b then 0#32 else 4294967295#32 := by
  have hm : (0#32).sle b = !b.msb := by
    rw [BitVec.sle_eq_decide, BitVec.msb_eq_toInt, ← decide_not]
    simp
  rw [hm]
  cases h : b.msb
  · simp only [Bool.not_false, if_true]
    apply BitVec.eq_of_getLsbD_eq
    intro i hi
    have hb : b.getLsbD 31 = false := by
      rw [← h, BitVec.msb_eq_getLsbD_last]
    rw [BitVec.getLsbD_sshiftRight]
    by_cases h0 : i = 0
    · subst h0; rw [if_pos (by decide)]; simpa using hb
    · have : ¬ 31 + i < 32 := by omega
      simp [this, h]
  · simp only [Bool.not_true]
    apply BitVec.eq_of_getLsbD_eq
    intro i hi
    have hb : b.getLsbD 31 = true := by
      rw [← h, BitVec.msb_eq_getLsbD_last]
    have h1 : (4294967295#32 : BitVec 32).getLsbD i = true := by
      have : (4294967295#32 : BitVec 32) = BitVec.allOnes 32 := by decide
      rw [this, BitVec.getLsbD_allOnes]; simpa using hi
    rw [BitVec.getLsbD_sshiftRight]
    simp only [Bool.false_eq_true, if_false, h1]
    by_cases h0 : i = 0
    · subst h0; rw [if_pos (by decide)]; simpa using hb
    · have : ¬ 31 + i < 32 := by omega
      simp [this, h, hi]

/-- The order key by a shift, a mask and an exclusive or. -/
theorem ordWord_eq (b : BitVec 32) : b ^^^ (IntOp.shrsi .vector b 31#32 &&& 2147483647#32) = ordWord b := by
  have hs : IntOp.shrsi .vector b 31#32 = b.sshiftRight 31 := by
    show (if (31#32).toNat < 32 then b.sshiftRight' 31#32 else _) = _
    rw [if_pos (by decide)]; rfl
  rw [hs, sshiftRight31]
  unfold ordWord
  split
  · simp
  · have : (4294967295#32 &&& 2147483647#32 : BitVec 32) = 2147483647#32 := by decide
    rw [this]

/-- The order key by a test. -/
theorem ordWord_eq' (b : BitVec 32) :
    (if IntOp.cmpi .sge b 0#32 = 1#1 then b else b ^^^ 2147483647#32) = ordWord b := by
  unfold ordWord
  show (if BitVec.ofBool ((0#32).sle b) = 1#1 then _ else _) = _
  cases (0#32).sle b <;> rfl

/-- A signed comparison of two small numbers. -/
theorem sle_small (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide]
  have h1 : (BitVec.ofNat 32 a).toInt = a := by
    rw [BitVec.toInt_eq_toNat_of_lt] <;> simp [BitVec.toNat_ofNat] <;> omega
  have h2 : (BitVec.ofNat 32 b).toInt = b := by
    rw [BitVec.toInt_eq_toNat_of_lt] <;> simp [BitVec.toNat_ofNat] <;> omega
  rw [h1, h2]
  simp

variable {F : FTy → Type} [BitOps F]

/-- A tile of 128 key rows' order keys for 256 queries, the rows counted from word `a` and the queries from word `b`. -/
def tileKeys (a b : BitVec 32) (s : FVec F (M 128 256) .f32) : IVec (M 128 256) 32 :=
  fun j => if IntOp.cmpi .sle (a + BitVec.ofNat 32 (j 0).val) (b + BitVec.ofNat 32 (j 1).val) = 1#1 then
    ordWord (BitOps.toBits (s j)) else lowest

/-- A tile's order keys are those of its rows. -/
theorem tileKeys_apply (ik : FVec F (M 4096 128) .bf16) (iq : ℕ → FVec F (M 256 128) .bf16) (w : ℕ → FVec F (M 1 256) .f32)
    (first t : ℕ) (a b : BitVec 32) (ha : a = BitVec.ofNat 32 (128 * t)) (hb : b = BitVec.ofNat 32 first) (ht : t < 32)
    (hf : first < 4096) (x : Fin 128) (q : Fin 256) (r : ℕ) (hr : r = 128 * t + x.val) :
    tileKeys a b (scores (blk ik (128 * t) 0 128 128) iq w 16) (ix2 x q) = keyAt ik iq w first r q := by
  have hx := x.isLt
  have hq := q.isLt
  subst ha hb hr
  unfold tileKeys keyAt
  have e1 : (128 * t + x.val) / 128 = t := by omega
  have e2 : Fin.ofNat 128 (128 * t + x.val) = x := Fin.ext (by simp [Fin.ofNat])
  rw [e1, e2]
  show (if IntOp.cmpi .sle (BitVec.ofNat 32 (128 * t) + BitVec.ofNat 32 x.val) (BitVec.ofNat 32 first + BitVec.ofNat 32 q.val) = 1#1
    then _ else _) = _
  rw [← BitVec.ofNat_add, ← BitVec.ofNat_add, sle_small _ _ (by omega) (by omega)]
  by_cases h : 128 * t + x.val ≤ first + q.val
  · rw [if_pos h, if_pos (by simp [h])]
  · rw [if_neg h, if_neg (by simp [h])]

/-- The signed maximum, as an integer. -/
theorem toInt_maxsi (x y : BitVec 32) : (IntOp.maxsi x y).toInt = max x.toInt y.toInt := by
  unfold IntOp.maxsi
  rw [BitVec.slt_eq_decide]
  by_cases h : y.toInt < x.toInt
  · simp [h, max_eq_left h.le]
  · simp [h, max_eq_right (not_lt.mp h)]

/-- The signed minimum, as an integer. -/
theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

/-- The rows below `n` of a matrix are the keys. -/
def Keyed (K : ℕ → Fin 256 → BitVec 32) (n : ℕ) (x : (M 4096 256).Idx → BitVec 32) : Prop :=
  ∀ (p : Fin 4096) (q : Fin 256), p.val < n → x (ix2 p q) = K p.val q

/-- Row `ρ` of a matrix is the greatest, over the first `k` chunks of 256, of the chunk's key row `ρ` (the least word when
    there is none). -/
def Grouped (K : ℕ → Fin 256 → BitVec 32) (k : ℕ) (x : (M 256 256).Idx → BitVec 32) : Prop :=
  ∀ (ρ q : Fin 256), (∀ c < k, (K (256 * c + ρ.val) q).toInt ≤ (x (ix2 ρ q)).toInt) ∧
    (x (ix2 ρ q) = lowest ∨ ∃ c < k, x (ix2 ρ q) = K (256 * c + ρ.val) q)

/-- A row of the running maxima goes one chunk on. -/
theorem grouped_step (K : ℕ → Fin 256 → BitVec 32) (k : ℕ) (x x' : (M 256 256).Idx → BitVec 32) (h : Grouped K k x)
    (e : ∀ ρ q : Fin 256, x' (ix2 ρ q) = IntOp.maxsi (x (ix2 ρ q)) (K (256 * k + ρ.val) q)) : Grouped K (k + 1) x' := by
  intro ρ q
  obtain ⟨h1, h2⟩ := h ρ q
  constructor
  · intro c hc
    rw [e, toInt_maxsi]
    rcases Nat.lt_succ_iff_lt_or_eq.mp hc with hc | hc
    · exact le_max_of_le_left (h1 c hc)
    · subst hc; exact le_max_right _ _
  · rw [e]
    unfold IntOp.maxsi
    split
    · rcases h2 with h2 | ⟨c, hc, h2⟩
      · exact .inl h2
      · exact .inr ⟨c, by omega, h2⟩
    · exact .inr ⟨k, by omega, rfl⟩

end Cert.Proof
-- ==== Proof.Select.lean ====
/-
  THE SELECTION BY A THRESHOLD. A word is ordered by its number above the least signed word (`U`). A bit-by-bit search for
  the greatest threshold that at least 256 keys reach ends with a threshold that exactly the kept keys reach.
-/
module

public import proofs.«01_k».proof.Proof.Words

@[expose] public section

set_option maxRecDepth 4096

namespace Cert.Proof

open Idealize.ShloMosaic Idealize.ShloMosaic.ValueIdx

/-- A word's number above the least signed word. -/
def U (x : BitVec 32) : ℕ := (x + 2147483648#32).toNat

theorem U_lt (x : BitVec 32) : U x < 2 ^ 32 := (x + 2147483648#32).isLt

theorem U_int (x : BitVec 32) : (U x : ℤ) = x.toInt + 2 ^ 31 := by
  have h := x.isLt
  unfold U
  rw [BitVec.toNat_add, BitVec.toInt_eq_toNat_cond]
  simp only [BitVec.toNat_ofNat]
  split <;> omega

theorem U_lowest : U lowest = 0 := by decide

theorem slt_iff (x y : BitVec 32) : x.slt y = true ↔ U x < U y := by
  rw [BitVec.slt_eq_decide, decide_eq_true_iff]
  have := U_int x
  have := U_int y
  omega

theorem sle_iff (x y : BitVec 32) : x.sle y = true ↔ U x ≤ U y := by
  rw [BitVec.sle_eq_decide, decide_eq_true_iff]
  have := U_int x
  have := U_int y
  omega

theorem toInt_le_iff (x y : BitVec 32) : x.toInt ≤ y.toInt ↔ U x ≤ U y := by
  have := U_int x
  have := U_int y
  omega

theorem U_inj (x y : BitVec 32) (h : U x = U y) : x = y := by
  apply BitVec.eq_of_toInt_eq
  have := U_int x
  have := U_int y
  omega

/-- How many keys reach the number `m`. -/
def reach (k : ℕ → BitVec 32) (m : ℕ) : ℕ := ((Finset.range 4096).filter fun p => m ≤ U (k p)).card

theorem reach_anti (k : ℕ → BitVec 32) {m n : ℕ} (h : m ≤ n) : reach k n ≤ reach k m :=
  Finset.card_le_card fun p hp => by
    simp only [Finset.mem_filter] at hp ⊢
    exact ⟨hp.1, h.trans hp.2⟩

theorem reach_le (k : ℕ → BitVec 32) (m : ℕ) : reach k m ≤ 4096 :=
  (Finset.card_filter_le _ _).trans (by simp)

theorem above_eq (K : ℕ → Fin 256 → BitVec 32) (q : Fin 256) (x : BitVec 32) :
    above K q x = reach (fun p => K p q) (U x + 1) := by
  unfold above reach
  refine congrArg Finset.card (Finset.filter_congr fun p _ => ?_)
  rw [slt_iff]
  exact Iff.rfl

/-- The search's state for one query: `n` bits are still open below the threshold `T`, which at least 256 keys reach and
    `T + 2 ^ n` of which fewer do. -/
structure Search (k : ℕ → BitVec 32) (n T : ℕ) : Prop where
  /-- the open bits are zero -/
  dvd : 2 ^ n ∣ T
  /-- the threshold is a word's number -/
  lt : T < 2 ^ 32
  /-- enough keys reach it -/
  enough : 256 ≤ reach k T
  /-- too few reach the next -/
  few : reach k (T + 2 ^ n) < 256

/-- One step of the search. -/
theorem Search.step {k : ℕ → BitVec 32} {n T : ℕ} (h : Search k (n + 1) T) (hn : n + 1 ≤ 32) :
    T + 2 ^ n < 2 ^ 32 ∧ Search k n (if 256 ≤ reach k (T + 2 ^ n) then T + 2 ^ n else T) := by
  obtain ⟨m, hm⟩ := h.dvd
  have hb : T + 2 ^ n < 2 ^ 32 := by
    have e : (2 : ℕ) ^ 32 = 2 ^ (n + 1) * 2 ^ (32 - (n + 1)) := by rw [← pow_add]; congr 1; omega
    have hlt := h.lt
    rw [hm, e] at hlt
    have hm' : m < 2 ^ (32 - (n + 1)) := lt_of_mul_lt_mul_left hlt (Nat.zero_le _)
    have : 2 ^ (n + 1) * (m + 1) ≤ 2 ^ (n + 1) * 2 ^ (32 - (n + 1)) := Nat.mul_le_mul_left _ hm'
    have hp : 2 ^ n < 2 ^ (n + 1) := Nat.pow_lt_pow_right (by decide) (Nat.lt_succ_self n)
    rw [e, hm]
    rw [Nat.mul_add, Nat.mul_one] at this
    omega
  refine ⟨hb, ?_⟩
  have e2 : (2 : ℕ) ^ (n + 1) = 2 ^ n * 2 := pow_succ 2 n
  have hd : 2 ^ n ∣ T := ⟨2 * m, by rw [hm, e2, Nat.mul_assoc]⟩
  by_cases hc : 256 ≤ reach k (T + 2 ^ n)
  · rw [if_pos hc]
    refine ⟨(Nat.dvd_add_right hd).mpr dvd_rfl, hb, hc, ?_⟩
    have := h.few
    rw [e2] at this
    rw [show T + 2 ^ n + 2 ^ n = T + 2 ^ n * 2 by omega]
    exact this
  · rw [if_neg hc]
    exact ⟨hd, h.lt, h.enough, by omega⟩

/-- At the end of the search, or when no more than 256 keys reach the threshold, exactly the kept keys reach it. -/
theorem kept_iff (K : ℕ → Fin 256 → BitVec 32) (q : Fin 256) (n T : ℕ) (h : Search (fun p => K p q) n T)
    (hend : n = 0 ∨ reach (fun p => K p q) (max T 1) ≤ 256) (p : ℕ) (hp : p < 4096) :
    Kept K p q ↔ max T 1 ≤ U (K p q) := by
  unfold Kept
  rw [slt_iff, U_lowest, above_eq]
  constructor
  · rintro ⟨h0, h1⟩
    refine max_le ?_ h0
    by_contra hc
    have := reach_anti (fun p => K p q) (show U (K p q) + 1 ≤ T by omega)
    have := h.enough
    omega
  · intro hc
    have h1 : 1 ≤ U (K p q) := (le_max_right _ _).trans hc
    have hT : T ≤ U (K p q) := (le_max_left _ _).trans hc
    refine ⟨h1, ?_⟩
    rcases hend with hend | hend
    · subst hend
      have := reach_anti (fun p => K p q) (show T + 2 ^ 0 ≤ U (K p q) + 1 by simpa using hT)
      have := h.few
      omega
    · refine lt_of_lt_of_le (Finset.card_lt_card (t := (Finset.range 4096).filter fun p => max T 1 ≤ U (K p q)) ?_) hend
      refine Finset.ssubset_iff_of_subset ?_ |>.mpr ⟨p, ?_, ?_⟩
      · intro x hx
        simp only [Finset.mem_filter] at hx ⊢
        exact ⟨hx.1, by omega⟩
      · simp only [Finset.mem_filter, Finset.mem_range]
        exact ⟨hp, hc⟩
      · simp only [Finset.mem_filter, Finset.mem_range]
        omega

/-- The running maxima bound the keys, and the least of them is reached by 256 keys. -/
theorem enough_of_grouped (K : ℕ → Fin 256 → BitVec 32) (n : ℕ) (hn : n ≤ 16) (x : (M 256 256).Idx → BitVec 32)
    (h : Grouped K n x) (q : Fin 256) (T : ℕ) (hT : ∀ ρ : Fin 256, T ≤ U (x (ix2 ρ q))) :
    256 ≤ reach (fun p => K p q) T := by
  by_cases h0 : T = 0
  · subst h0
    unfold reach
    simp
  · have hx : ∀ ρ : Fin 256, ∃ c < n, x (ix2 ρ q) = K (256 * c + ρ.val) q := fun ρ => by
      rcases (h ρ q).2 with h1 | h1
      · have := hT ρ
        rw [h1, U_lowest] at this
        omega
      · exact h1
    choose f hf hK using hx
    have := Finset.card_le_card_of_injOn (s := (Finset.univ : Finset (Fin 256)))
      (t := (Finset.range 4096).filter fun p => T ≤ U (K p q)) (fun ρ => 256 * f ρ + ρ.val)
      (fun ρ _ => by
        simp only [Finset.coe_filter, Finset.mem_range, Set.mem_setOf_eq]
        have := hf ρ
        have := ρ.isLt
        exact ⟨by omega, by rw [← hK]; exact hT ρ⟩)
      (fun a _ b _ e => by
        apply Fin.ext
        have := a.isLt
        have := b.isLt
        simp only at e
        omega)
    rw [Finset.card_univ, Fintype.card_fin] at this
    exact this

/-- No key is above a bound of the running maxima, once every row with a key has been taken in. -/
theorem none_above (K : ℕ → Fin 256 → BitVec 32) (n : ℕ) (x : (M 256 256).Idx → BitVec 32)
    (h : Grouped K n x) (q : Fin 256) (hlow : ∀ p, 256 * n ≤ p → K p q = lowest) (T : ℕ)
    (hT : ∀ ρ : Fin 256, U (x (ix2 ρ q)) < T) : reach (fun p => K p q) T = 0 := by
  unfold reach
  rw [Finset.card_eq_zero, Finset.filter_eq_empty_iff]
  intro p _ hc
  replace hc : T ≤ U (K p q) := hc
  have hpos := hT 0
  by_cases hp : 256 * n ≤ p
  · rw [hlow p hp, U_lowest] at hc
    omega
  · have h1 := (h ⟨p % 256, Nat.mod_lt _ (by decide)⟩ q).1 (p / 256) (by omega)
    rw [show 256 * (p / 256) + (⟨p % 256, Nat.mod_lt _ (by decide)⟩ : Fin 256).val = p from Nat.div_add_mod p 256, toInt_le_iff] at h1
    have := hT ⟨p % 256, Nat.mod_lt _ (by decide)⟩
    omega

end Cert.Proof
-- ==== Proof.Count.lean ====
/-
  COUNTING AND BOUNDING BY TREES: the rows of a matrix that reach a threshold are counted 512 rows at a time, by a tree of
  eight-row sums and a sum of the eight rows; the least and the greatest of 256 rows are found by the same trees.
-/
module

public import proofs.«01_k».proof.Proof.Select
public import Idealize.ShloMosaic.PureOps.Reduce

@[expose] public section

set_option maxRecDepth 4096

noncomputable section

namespace Cert.Proof

open Idealize.ShloMosaic Idealize.ShloMosaic.ValueIdx

theorem sl8_apply {α : Type} {R : ℕ} (x : (M R 256).Idx → α) (o : ℕ) (h : (M R 256).Slices ![o, 0] (M 8 256)) (s : Fin 8) (q : Fin 256)
    (hb : o + s.val < R) : sl8 x o h (ix2 s q) = x (ix2 ⟨o + s.val, hb⟩ q) := by
  unfold sl8
  show x _ = x _
  congr 1
  exact ix2_eq _ _ _ rfl (by show 0 + q.val = q.val; omega)

/-- A reduction of eight rows of words, as a row. -/
theorem row_fold (kind : IKind) (x : IVec (M 8 256) 32) (acc : BitVec 32) (h : (M 8 256).Reduces [0] ⟨1, ![256]⟩)
    (hacc : acc = kind.neutral) (hc : (⟨1, ![256]⟩ : Shape).ShapeCasts (M 1 256)) (q : Fin 256) :
    shapeCast (M 1 256) (multiReductionI kind [0] ⟨1, ![256]⟩ x acc h hacc) hc (ix2 0 q)
      = (List.finRange 8).foldl (fun a r => kind.op a (x (ix2 r q))) acc := by
  rw [shapeCast_a_1a_apply, multiReductionI_eq_reduceFold, reduceFold_rows]
  refine congrArg (fun f => (List.finRange 8).foldl f acc) ?_
  funext a r
  congr 2
  exact ix2_eq _ _ _ rfl rfl

/-! ## Counts -/

/-- One for each row that reaches the threshold, zero for each other. -/
def reached (t : IVec (M 1 256) 32) (x : IVec (M 512 256) 32) : IVec (M 512 256) 32 :=
  select (cmpi .sge x (broadcastTo (M 512 256) t (by decide))) (broadcast (M 512 256) 1#32) (broadcast (M 512 256) 0#32)

/-- The counts over the first `n` blocks of 512 rows, eight per query. -/
def counts (t : IVec (M 1 256) 32) (x : (M 4096 256).Idx → BitVec 32) : ℕ → IVec (M 8 256) 32
  | 0 => broadcast (M 8 256) 0#32
  | n + 1 => addi (counts t x n) (fold512 addi (reached t (blk x (512 * n) 0 512 256)))

/-- One when row `p` reaches the threshold. -/
def hit (t : IVec (M 1 256) 32) (x : (M 4096 256).Idx → BitVec 32) (q : Fin 256) (p : ℕ) : ℕ :=
  if U (t (ix2 0 q)) ≤ U (x (ix2 (Fin.ofNat 4096 p) q)) then 1 else 0

theorem reached_apply (t : IVec (M 1 256) 32) (x : (M 4096 256).Idx → BitVec 32) (n : ℕ) (r : Fin 512) (q : Fin 256) :
    reached t (blk x (512 * n) 0 512 256) (ix2 r q) = BitVec.ofNat 32 (hit t x q (512 * n + r.val)) := by
  have e : broadcastTo (M 512 256) t (by decide) (ix2 r q) = t (ix2 0 q) := by
    rw [broadcastTo_1b_ab_apply]
  have e2 : blk x (512 * n) 0 512 256 (ix2 r q) = x (ix2 (Fin.ofNat 4096 (512 * n + r.val)) q) := by
    unfold blk
    congr 2
    exact Fin.ext (by simp [Fin.ofNat])
  unfold reached hit
  show Scalar.select (IntOp.cmpi .sge (blk x (512 * n) 0 512 256 (ix2 r q)) ((broadcastTo (M 512 256) t (by decide)) (ix2 r q))) 1#32 0#32 = _
  rw [e, e2]
  show (if BitVec.ofBool ((t (ix2 0 q)).sle _) = 1#1 then 1#32 else 0#32) = _
  by_cases h : U (t (ix2 0 q)) ≤ U (x (ix2 (Fin.ofNat 4096 (512 * n + r.val)) q))
  · rw [if_pos h, (sle_iff _ _).mpr h]; rfl
  · have : (t (ix2 0 q)).sle (x (ix2 (Fin.ofNat 4096 (512 * n + r.val)) q)) = false := by
      rw [Bool.eq_false_iff]; exact fun hc => h ((sle_iff _ _).mp hc)
    rw [if_neg h, this]; rfl

set_option maxHeartbeats 1000000 in
theorem fold512_add (x : IVec (M 512 256) 32) (f : ℕ → ℕ) (q : Fin 256)
    (h : ∀ r : Fin 512, x (ix2 r q) = BitVec.ofNat 32 (f r.val)) (s : Fin 8) :
    fold512 addi x (ix2 s q) = BitVec.ofNat 32 (∑ k ∈ Finset.range 64, f (8 * k + s.val)) := by
  have hs := s.isLt
  have e : ∀ (o : ℕ) (ho : (M 512 256).Slices ![o, 0] (M 8 256)) (_ : o + 8 ≤ 512),
      sl8 x o ho (ix2 s q) = BitVec.ofNat 32 (f (o + s.val)) := fun o ho hb => by
    rw [sl8_apply x o ho s q (by omega), h]
  have a : ∀ (u v : IVec (M 8 256) 32) (j : (M 8 256).Idx), addi u v j = u j + v j := fun _ _ _ => rfl
  unfold fold512
  simp (discharger := decide) only [a, e, ← BitVec.ofNat_add]
  refine congrArg (BitVec.ofNat 32) ?_
  simp only [Finset.sum_range_succ, Finset.sum_range_zero, Nat.reduceMul]
  omega

theorem sum_rows (g : ℕ → ℕ) (m : ℕ) :
    ∑ t ∈ Finset.range (8 * m), g t = ∑ s ∈ Finset.range 8, ∑ k ∈ Finset.range m, g (8 * k + s) := by
  induction m with
  | zero => simp
  | succ m ih =>
    rw [Nat.mul_succ, Finset.sum_range_add, ih, ← Finset.sum_add_distrib]
    exact Finset.sum_congr rfl fun s _ => (Finset.sum_range_succ _ _).symm

theorem counts_apply (t : IVec (M 1 256) 32) (x : (M 4096 256).Idx → BitVec 32) (n : ℕ) (s : Fin 8) (q : Fin 256) :
    counts t x n (ix2 s q)
      = BitVec.ofNat 32 (∑ c ∈ Finset.range n, ∑ k ∈ Finset.range 64, hit t x q (512 * c + (8 * k + s.val))) := by
  induction n with
  | zero => rfl
  | succ n ih =>
    show counts t x n (ix2 s q) + fold512 addi (reached t (blk x (512 * n) 0 512 256)) (ix2 s q) = _
    rw [ih, fold512_add _ (fun r => hit t x q (512 * n + r)) q (fun r => reached_apply t x n r q) s, ← BitVec.ofNat_add]
    exact congrArg (BitVec.ofNat 32) (Finset.sum_range_succ (fun c => ∑ k ∈ Finset.range 64, hit t x q (512 * c + (8 * k + s.val))) n).symm

/-- The rows' counts summed: how many of the first `512 * n` rows reach the threshold. -/
theorem total_apply (t : IVec (M 1 256) 32) (x : (M 4096 256).Idx → BitVec 32) (n : ℕ) (q : Fin 256)
    (h : (M 8 256).Reduces [0] ⟨1, ![256]⟩) (hacc : 0#32 = IKind.add.neutral) (hc : (⟨1, ![256]⟩ : Shape).ShapeCasts (M 1 256)) :
    shapeCast (M 1 256) (multiReductionI .add [0] ⟨1, ![256]⟩ (counts t x n) 0#32 h hacc) hc (ix2 0 q)
      = BitVec.ofNat 32 (∑ p ∈ Finset.range (512 * n), hit t x q p) := by
  rw [row_fold]
  simp only [counts_apply]
  have e : ∀ f : ℕ → ℕ, (List.finRange 8).foldl (fun (a : BitVec 32) (r : Fin 8) => IKind.add.op a (BitVec.ofNat 32 (f r.val))) 0#32
      = BitVec.ofNat 32 (∑ s ∈ Finset.range 8, f s) := fun f => by
    simp only [Finset.sum_range_succ, Finset.sum_range_zero, BitVec.ofNat_add]
    rfl
  rw [e fun s => ∑ c ∈ Finset.range n, ∑ k ∈ Finset.range 64, hit t x q (512 * c + (8 * k + s)), Finset.sum_comm]
  refine congrArg (BitVec.ofNat 32) ?_
  induction n with
  | zero => simp
  | succ n ih =>
    rw [Finset.sum_range_succ, ih, Nat.mul_succ, Finset.sum_range_add, show 512 = 8 * 64 from rfl,
      sum_rows (fun t' => hit t x q (8 * 64 * n + t'))]

/-- Over keyed rows beyond which every key is least, a threshold above the least word counts the keys that reach it. -/
theorem hits_eq (K : ℕ → Fin 256 → BitVec 32) (t : IVec (M 1 256) 32) (x : (M 4096 256).Idx → BitVec 32) (n : ℕ) (hn : n ≤ 8)
    (q : Fin 256) (hx : Keyed K (512 * n) x) (hlow : ∀ p, 512 * n ≤ p → K p q = lowest) (ht : 0 < U (t (ix2 0 q))) :
    ∑ p ∈ Finset.range (512 * n), hit t x q p = reach (fun p => K p q) (U (t (ix2 0 q))) := by
  have h1 : ∑ p ∈ Finset.range (512 * n), hit t x q p
      = ((Finset.range (512 * n)).filter fun p => U (t (ix2 0 q)) ≤ U (K p q)).card := by
    rw [Finset.card_filter]
    refine Finset.sum_congr rfl fun p hp => ?_
    have hp' := Finset.mem_range.mp hp
    have hv : (Fin.ofNat 4096 p).val = p := by
      show p % 4096 = p
      omega
    unfold hit
    rw [hx (Fin.ofNat 4096 p) q (by rw [hv]; exact hp'), hv]
  rw [h1]
  unfold reach
  refine congrArg Finset.card (Finset.ext fun p => ?_)
  simp only [Finset.mem_filter, Finset.mem_range]
  constructor
  · rintro ⟨a, b⟩
    exact ⟨by omega, b⟩
  · rintro ⟨a, b⟩
    refine ⟨?_, b⟩
    by_contra hc
    rw [hlow p (by omega), U_lowest] at b
    omega

/-! ## Bounds -/

theorem U_minsi (x y : BitVec 32) : U (IntOp.minsi x y) = min (U x) (U y) := by
  have h := toInt_minsi x y
  have := U_int x
  have := U_int y
  have := U_int (IntOp.minsi x y)
  omega

theorem U_maxsi (x y : BitVec 32) : U (IntOp.maxsi x y) = max (U x) (U y) := by
  have h := toInt_maxsi x y
  have := U_int x
  have := U_int y
  have := U_int (IntOp.maxsi x y)
  omega

/-- The least of 256 rows, as a row. -/
def leastRow (x : IVec (M 256 256) 32) (h : (M 8 256).Reduces [0] ⟨1, ![256]⟩) (hc : (⟨1, ![256]⟩ : Shape).ShapeCasts (M 1 256)) :
    IVec (M 1 256) 32 :=
  shapeCast (M 1 256) (multiReductionI .minsi [0] ⟨1, ![256]⟩ (fold256 minsi x) 2147483647#32 h rfl) hc

/-- The greatest of 256 rows, as a row. -/
def greatestRow (x : IVec (M 256 256) 32) (h : (M 8 256).Reduces [0] ⟨1, ![256]⟩) (hc : (⟨1, ![256]⟩ : Shape).ShapeCasts (M 1 256)) :
    IVec (M 1 256) 32 :=
  shapeCast (M 1 256) (multiReductionI .maxsi [0] ⟨1, ![256]⟩ (fold256 maxsi x) 2147483648#32 h rfl) hc

set_option maxHeartbeats 2000000 in
theorem fold256_min (x : IVec (M 256 256) 32) (q : Fin 256) (s : Fin 8) (k : ℕ) (hk : k < 32) :
    U (fold256 minsi x (ix2 s q)) ≤ U (x (ix2 ⟨8 * k + s.val, by omega⟩ q)) := by
  have hs := s.isLt
  have e : ∀ (o : ℕ) (ho : (M 256 256).Slices ![o, 0] (M 8 256)) (hb : o + 8 ≤ 256),
      U (sl8 x o ho (ix2 s q)) = U (x (ix2 ⟨o + s.val, by omega⟩ q)) := fun o ho hb => by
    rw [sl8_apply x o ho s q (by omega)]
  have a : ∀ (u v : IVec (M 8 256) 32) (j : (M 8 256).Idx), U (minsi u v j) = min (U (u j)) (U (v j)) := fun _ _ _ => U_minsi _ _
  unfold fold256
  simp (discharger := decide) only [a, e]
  interval_cases k <;> simp only [Nat.reduceMul, min_le_iff, le_refl, true_or, or_true]

set_option maxHeartbeats 2000000 in
theorem fold256_max (x : IVec (M 256 256) 32) (q : Fin 256) (s : Fin 8) (k : ℕ) (hk : k < 32) :
    U (x (ix2 ⟨8 * k + s.val, by omega⟩ q)) ≤ U (fold256 maxsi x (ix2 s q)) := by
  have hs := s.isLt
  have e : ∀ (o : ℕ) (ho : (M 256 256).Slices ![o, 0] (M 8 256)) (hb : o + 8 ≤ 256),
      U (sl8 x o ho (ix2 s q)) = U (x (ix2 ⟨o + s.val, by omega⟩ q)) := fun o ho hb => by
    rw [sl8_apply x o ho s q (by omega)]
  have a : ∀ (u v : IVec (M 8 256) 32) (j : (M 8 256).Idx), U (maxsi u v j) = max (U (u j)) (U (v j)) := fun _ _ _ => U_maxsi _ _
  unfold fold256
  simp (discharger := decide) only [a, e]
  interval_cases k <;> simp only [Nat.reduceMul, le_max_iff, le_refl, true_or, or_true]

set_option maxHeartbeats 2000000 in
theorem leastRow_le (x : IVec (M 256 256) 32) (h) (hc) (q ρ : Fin 256) : U (leastRow x h hc (ix2 0 q)) ≤ U (x (ix2 ρ q)) := by
  have h1 := fold256_min x q ⟨ρ.val % 8, Nat.mod_lt _ (by decide)⟩ (ρ.val / 8) (by omega)
  have e : (⟨8 * (ρ.val / 8) + ρ.val % 8, by omega⟩ : Fin 256) = ρ := Fin.ext (Nat.div_add_mod _ _)
  rw [e] at h1
  refine le_trans ?_ h1
  rw [show leastRow x h hc (ix2 0 q) = _ from row_fold .minsi (fold256 minsi x) 2147483647#32 h rfl hc q]
  generalize (⟨ρ.val % 8, Nat.mod_lt _ (by decide)⟩ : Fin 8) = s
  generalize fold256 minsi x = y
  have b : ∀ u v : BitVec 32, U (IKind.minsi.op u v) = min (U u) (U v) := U_minsi
  have e8 : List.finRange 8 = [0, 1, 2, 3, 4, 5, 6, 7] := by decide
  rw [e8]
  simp only [List.foldl_cons, List.foldl_nil, b]
  fin_cases s <;> simp [min_le_iff]

set_option maxHeartbeats 2000000 in
theorem le_greatestRow (x : IVec (M 256 256) 32) (h) (hc) (q ρ : Fin 256) : U (x (ix2 ρ q)) ≤ U (greatestRow x h hc (ix2 0 q)) := by
  have h1 := fold256_max x q ⟨ρ.val % 8, Nat.mod_lt _ (by decide)⟩ (ρ.val / 8) (by omega)
  have e : (⟨8 * (ρ.val / 8) + ρ.val % 8, by omega⟩ : Fin 256) = ρ := Fin.ext (Nat.div_add_mod _ _)
  rw [e] at h1
  refine le_trans h1 ?_
  rw [show greatestRow x h hc (ix2 0 q) = _ from row_fold .maxsi (fold256 maxsi x) 2147483648#32 h rfl hc q]
  generalize (⟨ρ.val % 8, Nat.mod_lt _ (by decide)⟩ : Fin 8) = s
  generalize fold256 maxsi x = y
  have b : ∀ u v : BitVec 32, U (IKind.maxsi.op u v) = max (U u) (U v) := U_maxsi
  have e8 : List.finRange 8 = [0, 1, 2, 3, 4, 5, 6, 7] := by decide
  rw [e8]
  simp only [List.foldl_cons, List.foldl_nil, b]
  fin_cases s <;> simp [le_max_iff]

end Cert.Proof
-- ==== Proof.Threshold.lean ====
/-
  THE BITWISE SEARCH OF 256 QUERIES AT ONCE: its state between two steps, one step, where it starts, and the mask of the
  kept keys at its end.
-/
module

public import proofs.«01_k».proof.Proof.Count

@[expose] public section

set_option maxRecDepth 4096

noncomputable section

namespace Cert.Proof

open Idealize.ShloMosaic Idealize.ShloMosaic.ValueIdx

/-- Before the step of bit `n - 1`: every query's threshold `r` is in search, and its count is of the keys that reach the
    threshold and are above the least word. -/
structure At (K : ℕ → Fin 256 → BitVec 32) (n : ℕ) (r cnt : IVec (M 1 256) 32) : Prop where
  search : ∀ q, Search (fun p => K p q) n (U (r (ix2 0 q)))
  count : ∀ q, cnt (ix2 0 q) = BitVec.ofNat 32 (reach (fun p => K p q) (max (U (r (ix2 0 q))) 1))

/-- The threshold raised above the least word. -/
def raised (r : IVec (M 1 256) 32) : IVec (M 1 256) 32 := maxsi r (broadcast (M 1 256) 2147483649#32)

theorem U_raised (r : IVec (M 1 256) 32) (q : Fin 256) : U (raised r (ix2 0 q)) = max (U (r (ix2 0 q))) 1 := by
  show U (IntOp.maxsi (r (ix2 0 q)) 2147483649#32) = _
  rw [U_maxsi]
  congr 1

/-- The trial threshold of bit `n`. -/
def trial (n : ℕ) (r : IVec (M 1 256) 32) : IVec (M 1 256) 32 := addi r (broadcast (M 1 256) (Scalar.shli 1#32 (BitVec.ofNat 32 n)))

theorem shl_one (n : ℕ) (h : n < 32) : Scalar.shli 1#32 (BitVec.ofNat 32 n) = BitVec.ofNat 32 (2 ^ n) := by
  interval_cases n <;> decide

theorem U_add (x : BitVec 32) (k : ℕ) (h : U x + k < 2 ^ 32) : U (x + BitVec.ofNat 32 k) = U x + k := by
  unfold U at *
  rw [show x + BitVec.ofNat 32 k + 2147483648#32 = (x + 2147483648#32) + BitVec.ofNat 32 k by
    rw [BitVec.add_assoc, BitVec.add_comm (BitVec.ofNat 32 k), ← BitVec.add_assoc], BitVec.toNat_add, BitVec.toNat_ofNat,
    Nat.mod_eq_of_lt (a := k) (by omega), Nat.mod_eq_of_lt h]

theorem At.trial_eq {K : ℕ → Fin 256 → BitVec 32} {n : ℕ} {r cnt : IVec (M 1 256) 32} (h : At K (n + 1) r cnt) (hn : n + 1 ≤ 32)
    (q : Fin 256) : U (trial n r (ix2 0 q)) = U (r (ix2 0 q)) + 2 ^ n := by
  show U (r (ix2 0 q) + Scalar.shli 1#32 (BitVec.ofNat 32 n)) = _
  rw [shl_one n (by omega), U_add _ _ ((h.search q).step hn).1]

/-- Whether a count is of at least 256 keys. -/
theorem enough_bit (m : ℕ) (hm : m ≤ 4096) : IntOp.cmpi .sge (BitVec.ofNat 32 m) 256#32 = BitVec.ofBool (decide (256 ≤ m)) :=
  sle_small 256 m (by omega) (by omega)

/-- One step: the trial counted, and taken where it is reached by enough keys. -/
theorem At.step {K : ℕ → Fin 256 → BitVec 32} {n : ℕ} {r cnt tot : IVec (M 1 256) 32} (h : At K (n + 1) r cnt) (hn : n + 1 ≤ 32)
    (ht : ∀ q, tot (ix2 0 q) = BitVec.ofNat 32 (reach (fun p => K p q) (U (trial n r (ix2 0 q))))) :
    At K n (select (cmpi .sge tot (broadcast (M 1 256) 256#32)) (trial n r) r)
      (select (cmpi .sge tot (broadcast (M 1 256) 256#32)) tot cnt) := by
  have e : ∀ (a b : IVec (M 1 256) 32) (q : Fin 256),
      select (cmpi .sge tot (broadcast (M 1 256) 256#32)) a b (ix2 0 q)
        = if 256 ≤ reach (fun p => K p q) (U (r (ix2 0 q)) + 2 ^ n) then a (ix2 0 q) else b (ix2 0 q) := fun a b q => by
    show Scalar.select (IntOp.cmpi .sge (tot (ix2 0 q)) 256#32) (a (ix2 0 q)) (b (ix2 0 q)) = _
    rw [ht, h.trial_eq hn, enough_bit _ (reach_le _ _)]
    by_cases c : 256 ≤ reach (fun p => K p q) (U (r (ix2 0 q)) + 2 ^ n)
    · rw [if_pos c, decide_eq_true c]; rfl
    · rw [if_neg c, decide_eq_false c]; rfl
  refine ⟨fun q => ?_, fun q => ?_⟩
  · have := ((h.search q).step hn).2
    rw [e]
    by_cases c : 256 ≤ reach (fun p => K p q) (U (r (ix2 0 q)) + 2 ^ n)
    · rw [if_pos c] at this ⊢; rwa [h.trial_eq hn]
    · rw [if_neg c] at this ⊢; exact this
  · rw [e, e]
    by_cases c : 256 ≤ reach (fun p => K p q) (U (r (ix2 0 q)) + 2 ^ n)
    · rw [if_pos c, if_pos c, ht, h.trial_eq hn]
      congr 2
      have := Nat.two_pow_pos n
      omega
    · rw [if_neg c, if_neg c]; exact h.count q

/-- At the end the keys that reach the raised threshold are the kept ones. -/
theorem At.kept {K : ℕ → Fin 256 → BitVec 32} {n : ℕ} {r cnt : IVec (M 1 256) 32} (h : At K n r cnt)
    (hend : n = 0 ∨ ∀ q, (cnt (ix2 0 q)).toNat ≤ 256) (x : (M 4096 256).Idx → BitVec 32) (N c : ℕ) (hx : Keyed K N x)
    (hN : 256 * c + 256 ≤ N) (h4 : N ≤ 4096) (hb) :
    cmpi .sge (blk x (256 * c) 0 256 256) (broadcastTo (M 256 256) (raised r) hb) = keptMask K c := by
  funext j
  obtain ⟨p, q, rfl⟩ : ∃ p q : Fin 256, j = ix2 p q := ⟨j 0, j 1, ix2_eq j _ _ rfl rfl⟩
  have hpl := p.isLt
  have e : broadcastTo (M 256 256) (raised r) hb (ix2 p q) = raised r (ix2 0 q) := by
    rw [broadcastTo_1b_ab_apply]
  have e2 : blk x (256 * c) 0 256 256 (ix2 p q) = K (256 * c + p.val) q := by
    rw [blk_apply x (256 * c) 0 256 256 _ ⟨256 * c + p.val, by omega⟩ q (by simp) (by simp)]
    exact hx _ _ (by simp only []; omega)
  show IntOp.cmpi .sge (blk x (256 * c) 0 256 256 (ix2 p q)) (broadcastTo (M 256 256) (raised r) hb (ix2 p q)) = keptBit K (256 * c + p.val) q
  rw [e, e2]
  have hk := kept_iff K q n _ (h.search q) (hend.imp id fun hc => by
    have := hc q
    rw [h.count, BitVec.toNat_ofNat, Nat.mod_eq_of_lt (lt_of_le_of_lt (reach_le _ _) (by omega))] at this
    exact this) (256 * c + p.val) (by omega)
  rw [← U_raised, ← sle_iff] at hk
  show BitVec.ofBool ((raised r (ix2 0 q)).sle (K (256 * c + p.val) q)) = if Kept K (256 * c + p.val) q then 1#1 else 0#1
  by_cases hc : Kept K (256 * c + p.val) q
  · rw [if_pos hc, hk.mp hc]; rfl
  · rw [if_neg hc, Bool.eq_false_iff.mpr fun hh => hc (hk.mpr hh)]; rfl

/-! ## The start -/

/-- A word with its low bits cleared. -/
theorem U_cleared (x : BitVec 32) (n : ℕ) (hn : n < 32) :
    U ((x.sshiftRight n) <<< n) = U x - U x % 2 ^ n := by
  have h1 := U_int x
  have h2 := U_lt x
  have h3 : ((x.sshiftRight n).toInt : ℤ) = x.toInt / 2 ^ n := by
    rw [BitVec.toInt_sshiftRight, Int.shiftRight_eq_div_pow, Nat.cast_pow, Nat.cast_ofNat]
  have h4 : (U ((x.sshiftRight n) <<< n)) = ((x.sshiftRight n).toNat * 2 ^ n + 2147483648) % 2 ^ 32 := by
    unfold U
    rw [BitVec.toNat_add, BitVec.toNat_shiftLeft, Nat.shiftLeft_eq, Nat.mod_add_mod,
      show (2147483648#32 : BitVec 32).toNat = 2147483648 by decide]
  have h5 := BitVec.toInt_eq_toNat_cond (x.sshiftRight n)
  have h6 := (x.sshiftRight n).isLt
  rw [h4]
  generalize (x.sshiftRight n).toNat = a at *
  generalize (x.sshiftRight n).toInt = b at *
  generalize x.toInt = y at *
  generalize U x = u at *
  clear h4
  subst h3
  interval_cases n <;> simp only [Nat.reducePow, Int.reducePow, Nat.reduceMul] at * <;> split at h5 <;> omega

/-- Two words that differ only in their low bits agree above them. -/
theorem U_div_eq (x y : BitVec 32) (n : ℕ) (h : (x ^^^ y).toNat < 2 ^ n) : U x / 2 ^ n = U y / 2 ^ n := by
  rw [BitVec.toNat_xor] at h
  have hd : x.toNat / 2 ^ n = y.toNat / 2 ^ n := by
    rw [← Nat.shiftRight_eq_div_pow, ← Nat.shiftRight_eq_div_pow]
    have e : (x.toNat ^^^ y.toNat) >>> n = 0 := by
      rw [Nat.shiftRight_eq_div_pow]; exact Nat.div_eq_of_lt h
    rw [Nat.shiftRight_xor_distrib] at e
    have e' := congrArg ((x.toNat >>> n) ^^^ ·) e
    simp only [← Nat.xor_assoc, Nat.xor_self, Nat.zero_xor, Nat.xor_zero] at e'
    exact e'.symm
  have ux : U x = (x.toNat + 2147483648) % 4294967296 := BitVec.toNat_add _ _
  have uy : U y = (y.toNat + 2147483648) % 4294967296 := BitVec.toNat_add _ _
  have hx := x.isLt
  have hy := y.isLt
  by_cases hn : n < 32
  · rw [ux, uy]
    generalize x.toNat = a at *
    generalize y.toNat = b at *
    clear ux uy h
    interval_cases n <;> simp only [Nat.reducePow] at * <;> omega
  · have hp : 2 ^ 32 ≤ 2 ^ n := Nat.pow_le_pow_right (by omega) (by omega)
    rw [Nat.div_eq_of_lt (lt_of_lt_of_le (U_lt x) hp), Nat.div_eq_of_lt (lt_of_lt_of_le (U_lt y) hp)]

/-- The start of a query's search, from the bounds of its running maxima. -/
theorem search_start (K : ℕ → Fin 256 → BitVec 32) (k : ℕ) (hk : k ≤ 16) (x : (M 256 256).Idx → BitVec 32) (hg : Grouped K k x)
    (q : Fin 256) (hlow : ∀ p, 256 * k ≤ p → K p q = lowest) (lo hi : BitVec 32) (hlo : ∀ ρ, U lo ≤ U (x (ix2 ρ q)))
    (hhi : ∀ ρ, U (x (ix2 ρ q)) ≤ U hi) (n : ℕ) (hn : (lo ^^^ hi).toNat < 2 ^ n) :
    Search (fun p => K p q) n (U lo - U lo % 2 ^ n) := by
  have hd := Nat.div_add_mod (U lo) (2 ^ n)
  have hr := Nat.mod_lt (U lo) (Nat.two_pow_pos n)
  have hT : U lo - U lo % 2 ^ n = 2 ^ n * (U lo / 2 ^ n) := by omega
  have hlt := U_lt lo
  refine ⟨⟨_, hT⟩, by omega, enough_of_grouped K k hk x hg q _ fun ρ => (Nat.sub_le _ _).trans (hlo ρ), ?_⟩
  rw [none_above K k x hg q hlow _ fun ρ => ?_]
  · omega
  · have := hhi ρ
    have hd2 := Nat.div_add_mod (U hi) (2 ^ n)
    have hr2 := Nat.mod_lt (U hi) (Nat.two_pow_pos n)
    rw [← U_div_eq lo hi n hn] at hd2
    omega

end Cert.Proof
-- ==== Proof.K.While.lean ====
/-
  THE SEARCH, as the label the program calls for it: each entry tries one more bit of the threshold, by counting the keys
  that reach it; the entries end with the last bit, or once no query's count passes 256.
-/
module

public import proofs.«01_k».proof.Proof.K.Common
public import proofs.«01_k».proof.Proof.Blocks
public import proofs.«01_k».proof.Proof.Threshold

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- What the search takes of the float operations: a maximum of counts, read as floats, that does not pass 256 says that
    none of them does. -/
abbrev MaxFact (F : FTy → Type) [BitOps F] : Prop :=
  ∀ n : IVec S1x256 32, (∀ q, (n (ix2 0 q)).toNat ≤ 4096) →
    Scalar.cmpf .ogt (k0_pay3 (F := F) n) (Scalar.ofBits .f32 0x43800000#32) ≠ 1#1 → ∀ q, (n (ix2 0 q)).toNat ≤ 256

/-- The trip of the counting loop of one entry. -/
@[reducible] def body5 (i : grid0.Coords) (arg9 : Memref sig .tc .vmem S4096x256 .i32) (harg9 : arg9.IsWhole) (arg14 : BitVec 32)
    (arg15 arg16 : IVec S1x256 32) :
    Fin (k0_t5_loop i).trips → IVec S8x256 32 → Prog (TpuEff nD τ sig (Elt F) (Λ₀ F) .tc) (IVec S8x256 32) :=
  fun k0_t5 arg18 => do
    let ⟨v363, v364, v365, v366, v367, v368, v369, v370, v371, v372, v373, v374, v375, v376, v377, v378, v379, v380, v381, v382, v383, v384, v385, v386, v387, v388, v389, v390, v391, v392, v393, v394, v395, v396, v397, v398, v399, v400, v401, v402, v403, v404, v405, v406, v407⟩ : Σ' (v363 : IVec S512x256 32) (v364 : IVec S8x256 32) (v365 : IVec S8x256 32) (v366 : IVec S8x256 32) (v367 : IVec S8x256 32) (v368 : IVec S8x256 32) (v369 : IVec S8x256 32) (v370 : IVec S8x256 32) (v371 : IVec S8x256 32) (v372 : IVec S8x256 32) (v373 : IVec S8x256 32) (v374 : IVec S8x256 32) (v375 : IVec S8x256 32) (v376 : IVec S8x256 32) (v377 : IVec S8x256 32) (v378 : IVec S8x256 32) (v379 : IVec S8x256 32) (v380 : IVec S8x256 32) (v381 : IVec S8x256 32) (v382 : IVec S8x256 32) (v383 : IVec S8x256 32) (v384 : IVec S8x256 32) (v385 : IVec S8x256 32) (v386 : IVec S8x256 32) (v387 : IVec S8x256 32) (v388 : IVec S8x256 32) (v389 : IVec S8x256 32) (v390 : IVec S8x256 32) (v391 : IVec S8x256 32) (v392 : IVec S8x256 32) (v393 : IVec S8x256 32) (v394 : IVec S8x256 32) (v395 : IVec S8x256 32) (v396 : IVec S8x256 32) (v397 : IVec S8x256 32) (v398 : IVec S8x256 32) (v399 : IVec S8x256 32) (v400 : IVec S8x256 32) (v401 : IVec S8x256 32) (v402 : IVec S8x256 32) (v403 : IVec S8x256 32) (v404 : IVec S8x256 32) (v405 : IVec S8x256 32) (v406 : IVec S8x256 32), IVec S8x256 32 ← k0_part82 i arg9 harg9 arg14 arg15 arg16 (k0_pay4 arg14 arg15) 0#32 1#32 k0_t5
    let ⟨v408, v409, v410, v411, v412, v413, v414, v415, v416, v417, v418, v419, v420, v421, v422, v423, v424, v425, v426, v427, v464, v465, v466, v467⟩ : Σ' (v408 : IVec S8x256 32) (v409 : IVec S8x256 32) (v410 : IVec S8x256 32) (v411 : IVec S8x256 32) (v412 : IVec S8x256 32) (v413 : IVec S8x256 32) (v414 : IVec S8x256 32) (v415 : IVec S8x256 32) (v416 : IVec S8x256 32) (v417 : IVec S8x256 32) (v418 : IVec S8x256 32) (v419 : IVec S8x256 32) (v420 : IVec S8x256 32) (v421 : IVec S8x256 32) (v422 : IVec S8x256 32) (v423 : IVec S8x256 32) (v424 : IVec S8x256 32) (v425 : IVec S8x256 32) (v426 : IVec S8x256 32) (v427 : IVec S8x256 32) (v464 : IVec S8x256 32) (v465 : IVec S8x256 32) (v466 : IVec S8x256 32), IVec S8x256 32 ← k0_part83 i arg9 harg9 arg14 arg15 arg16 v363 v364 v365 v366 v367 v368 v369 v370 v371 v372 v373 v374 v375 v376 v377 v378 v379 v380 v381 v382 v383 v384 v385 v386 v387 v388 v389 v390 v391 v392 v393 v394 v395 v396 v397 v398 v399 v400 v401 v402 v403 v404 v405 v406 v407
    have v488 : IVec S8x256 32 := k0_pay6 v408 v409 v412 v413 v416 v417 v420 v421 v424 v425 v464 v465
    pure (k0_pay7 arg18 v410 v411 v414 v415 v418 v419 v422 v423 v426 v427 v466 v467 v488)

theorem trip5 (𝒱 : Variants) (c : Dev nD) (bd : Option 𝒱.V) (E : Set ℕ) (i : grid0.Coords)
    (arg9 : Memref sig .tc .vmem S4096x256 .i32) (harg9 : arg9.IsWhole) (arg14 : BitVec 32) (arg15 arg16 : IVec S1x256 32)
    (X9 : BufTy.Contents (Elt F) arg9.view.ty) (k : Fin (k0_t5_loop i).trips) (acc : IVec S8x256 32)
    (hacc : acc = counts (k0_pay4 arg14 arg15) (arg9.view.read (Elt F) X9) k.val) :
    held c arg9 X9
    ⊢ wp frame (wpE (defs₀ (F := F)) 𝒱 (c : Thread nD τ) bd) E
        (body5 (F := F) i arg9 harg9 arg14 arg15 arg16 k acc)
        (fun r => iprop(held c arg9 X9 ∗ ⌜r = counts (k0_pay4 arg14 arg15) (arg9.view.read (Elt F) X9) (k.val + 1)⌝)) := by
  unfold body5
  iintro H9
  sl_exec
  sl_step
  isplitl [H9]; · iexact H9
  ipureintro
  have hd := readAt_blk' arg9.view X9 (k0_off8 i k) (512 * k.val) 0 512 256 (k0_off8_inb i k) (k0_off8_eq i k)
  subst hacc
  show _ = addi (counts (k0_pay4 arg14 arg15) (arg9.view.read (Elt F) X9) k.val) (fold512 addi (reached (k0_pay4 arg14 arg15) (blk (arg9.view.read (Elt F) X9) (512 * k.val) 0 512 256)))
  rw [← hd]
  rfl

/-- Before trip `k`: the counts are those of the first `k` blocks of 512 rows. -/
def inv5 (c : Dev nD) (arg9 : Memref sig .tc .vmem S4096x256 .i32) (t : IVec S1x256 32) (X9 : BufTy.Contents (Elt F) arg9.view.ty)
    (k : ℕ) (acc : IVec S8x256 32) : sProp (MT nD τ sig Unit (Elt F) ℕ (UR sig nD τ) ℕ) :=
  iprop(held c arg9 X9 ∗ ⌜acc = counts t (arg9.view.read (Elt F) X9) k⌝)

set_option warn.classDefReducibility false in
@[sl_loop] def loop5 (𝒱 : Variants) (c : Dev nD) (bd : Option 𝒱.V) (E : Set ℕ) (i : grid0.Coords)
    (arg9 : Memref sig .tc .vmem S4096x256 .i32) (harg9 : arg9.IsWhole) (arg14 : BitVec 32) (arg15 arg16 : IVec S1x256 32)
    (X9 : BufTy.Contents (Elt F) arg9.view.ty) :
    Idealize.ShloMosaic.LoopInv (M := MT nD τ sig Unit (Elt F) ℕ (UR sig nD τ) ℕ) Idealize.ShloMosaic.frame
      (wpE (defs₀ (F := F)) 𝒱 (c : Thread nD τ) bd) E (k0_t5_loop i).lb (k0_t5_loop i).ub (k0_t5_loop i).st (k0_t5_ok i) k0_pay5
      (body5 (F := F) i arg9 harg9 arg14 arg15 arg16) where
  inv := inv5 (F := F) c arg9 (k0_pay4 arg14 arg15) X9
  step k acc := by
    unfold inv5
    iintro ⟨H9, %h⟩
    iapply (trip5 (F := F) 𝒱 c bd E i arg9 harg9 arg14 arg15 arg16 X9 k acc h)
    iexact H9

/-- The variant of the search: the bits left to try. -/
abbrev 𝒱₀ : Variants := Variants.nat

/-- What a search returns: thresholds whose search is over. -/
def Done (K : ℕ → Fin 256 → BitVec 32) (r : IVec S1x256 32) : Prop :=
  ∃ n cnt, At K n r cnt ∧ (n = 0 ∨ ∀ q, (cnt (ix2 0 q)).toNat ≤ 256)

/-- The label: holding the keyed rows, it returns thresholds whose search is over. -/
def spec (c : Dev nD) (arg9 : Memref sig .tc .vmem S4096x256 .i32) (X9 : BufTy.Contents (Elt F) arg9.view.ty)
    (K : ℕ → Fin 256 → BitVec 32) : sWPT (MT nD τ sig Unit (Elt F) ℕ (UR sig nD τ) ℕ) (BitVec 32 × IVec S1x256 32 × IVec S1x256 32) := do
  sWPT.consume (held c arg9 X9)
  let r ← sWPT.arbitrary
  sWPT.assume (Done K r.2.1)
  sWPT.produce (held c arg9 X9)
  pure r

theorem spec_apply (c : Dev nD) (arg9 : Memref sig .tc .vmem S4096x256 .i32) (X9 : BufTy.Contents (Elt F) arg9.view.ty)
    (K : ℕ → Fin 256 → BitVec 32) (Q : BitVec 32 × IVec S1x256 32 × IVec S1x256 32 → sProp (MT nD τ sig Unit (Elt F) ℕ (UR sig nD τ) ℕ)) :
    spec c arg9 X9 K Q
      = iprop(held c arg9 X9 ∗ ∀ r : BitVec 32 × IVec S1x256 32 × IVec S1x256 32, ⌜Done K r.2.1⌝ -∗ (held c arg9 X9 -∗ Q r)) := rfl

theorem bit_sge (n : ℕ) (h : n ≤ 32) : Scalar.cmpi .sge (BitVec.ofNat 32 n - 1#32) 0#32 = BitVec.ofBool (decide (0 < n)) := by
  interval_cases n <;> decide

theorem bit_pred (n : ℕ) : Scalar.subi (BitVec.ofNat 32 (n + 1) - 1#32) 1#32 = BitVec.ofNat 32 n - 1#32 := by
  show BitVec.ofNat 32 (n + 1) - 1#32 - 1#32 = _
  rw [BitVec.ofNat_add, BitVec.add_sub_cancel]

theorem trips5 (i : grid0.Coords) : (k0_t5_loop i).trips = ((i 1).val + 2) / 2 := by
  unfold Scf.Loop.trips k0_t5_loop
  generalize (i 1) = x
  change Fin 16 at x
  revert x
  decide

/-- The row sum of the counts over the keyed rows: how many keys reach a threshold above the least word. -/
theorem row_total (K : ℕ → Fin 256 → BitVec 32) (x : (M 4096 256).Idx → BitVec 32) (n : ℕ) (hn : n ≤ 8) (t : IVec S1x256 32)
    (hx : Keyed K (512 * n) x) (hlow : ∀ q p, 512 * n ≤ p → K p q = lowest) (q : Fin 256) (ht : 0 < U (t (ix2 0 q))) :
    k0_pay10 (counts t x n) (ix2 0 q) = BitVec.ofNat 32 (reach (fun p => K p q) (U (t (ix2 0 q)))) := by
  refine (total_apply t x n q reduces_S8x256_S256 rfl shapeCasts_S256_S1x256).trans ?_
  rw [hits_eq K t x n hn q hx (hlow q) ht]

theorem pay4_eq (n : ℕ) (r : IVec S1x256 32) : k0_pay4 (BitVec.ofNat 32 (n + 1) - 1#32) r = trial n r := by
  have e : BitVec.ofNat 32 (n + 1) - 1#32 = BitVec.ofNat 32 n := by
    rw [BitVec.ofNat_add, BitVec.add_sub_cancel]
  rw [e]
  rfl

/-- The label's body meets its specification, by induction on the bits left to try. -/
theorem spec_le (hF : MaxFact F) (c : Dev nD) (E : Set ℕ) (i : grid0.Coords) (arg9 : Memref sig .tc .vmem S4096x256 .i32)
    (harg9 : arg9.IsWhole) (X9 : BufTy.Contents (Elt F) arg9.view.ty) (K : ℕ → Fin 256 → BitVec 32)
    (hx : Keyed K (512 * (((i 1).val + 2) / 2)) (arg9.view.read (Elt F) X9))
    (hlow : ∀ q p, 512 * (((i 1).val + 2) / 2) ≤ p → K p q = lowest) :
    ∀ n, n ≤ 32 → ∀ r cnt, At K n r cnt → ∀ Q, spec c arg9 X9 K Q
      ⊢ wp frame (wpE (defs₀ (F := F)) 𝒱₀ (c : Thread nD τ) (some n)) E
          (defs₀ (F := F) .tc 1 ⟨i, arg9, harg9, BitVec.ofNat 32 n - 1#32, r, cnt⟩) Q := by
  have hi : (i 1).val < 16 := (i 1).isLt
  intro n
  induction n with
  | zero =>
    intro _ r cnt hat Q
    rw [spec_apply]
    show _ ⊢ wp frame (wpE (defs₀ (F := F)) 𝒱₀ (c : Thread nD τ) (some 0)) E
      (cc0_while1 (F := F) i arg9 harg9 (BitVec.ofNat 32 0 - 1#32) r cnt) Q
    simp only [cc0_while1_eq_skeleton]; unfold cc0_while1_skel
    have htest : ¬ Scalar.andi (Scalar.cmpi .sge (BitVec.ofNat 32 0 - 1#32) 0#32)
        (Scalar.cmpf .ogt (k0_pay3 (F := F) cnt) (Scalar.ofBits .f32 0x43800000#32)) = 1#1 := by
      rw [bit_sge 0 (by omega)]
      generalize Scalar.cmpf .ogt (k0_pay3 (F := F) cnt) (Scalar.ofBits .f32 0x43800000#32) = b
      revert b; decide
    simp only [htest, ↓reduceIte, Prog.pure_eq_ret]
    iintro ⟨H, Hk⟩
    rw [wp_ret]; imodintro
    iapply Hk
    · ipureintro; exact ⟨0, cnt, hat, .inl rfl⟩
    · iexact H
  | succ n ih =>
    intro hn r cnt hat Q
    rw [spec_apply]
    show _ ⊢ wp frame (wpE (defs₀ (F := F)) 𝒱₀ (c : Thread nD τ) (some (n + 1))) E
      (cc0_while1 (F := F) i arg9 harg9 (BitVec.ofNat 32 (n + 1) - 1#32) r cnt) Q
    simp only [cc0_while1_eq_skeleton]; unfold cc0_while1_skel
    have e1 : Scalar.cmpi .sge (BitVec.ofNat 32 (n + 1) - 1#32) 0#32 = 1#1 := by
      rw [bit_sge (n + 1) hn, decide_eq_true (by omega)]; rfl
    by_cases htest : Scalar.cmpf .ogt (k0_pay3 (F := F) cnt) (Scalar.ofBits .f32 0x43800000#32) = 1#1
    · have ht2 : Scalar.andi 1#1 1#1 = 1#1 := by decide
      simp only [e1, htest, ht2, ↓reduceIte, bit_pred]
      iintro ⟨H, Hk⟩
      sl_exec
      have hT : Scf.trips (k0_t5_loop i).lb (k0_t5_loop i).ub (k0_t5_loop i).st = ((i 1).val + 2) / 2 := trips5 i
      rw [hT, pay4_eq]
      have hnext := hat.step hn (tot := k0_pay10 (counts (trial n r) (arg9.view.read (Elt F) X9) (((i 1).val + 2) / 2))) fun q =>
        row_total K _ _ (by omega) (trial n r) hx hlow q (by
          rw [hat.trial_eq hn]
          have := Nat.two_pow_pos n
          omega)
      have hr : k0_pay12 (BitVec.ofNat 32 (n + 1) - 1#32) r (counts (trial n r) (arg9.view.read (Elt F) X9) (((i 1).val + 2) / 2))
          = select (cmpi .sge (k0_pay10 (counts (trial n r) (arg9.view.read (Elt F) X9) (((i 1).val + 2) / 2))) (broadcast (M 1 256) 256#32))
              (trial n r) r := by
        rw [← pay4_eq n r]
        rfl
      rw [hr]
      iapply (wp_call_spec 𝒱₀ (c : Thread nD τ) (some (n + 1)) E (spec (F := F) c arg9 X9 K) n
        (fun u hu => by cases hu; exact Nat.lt_succ_self n) (ih (by omega) _ _ hnext))
      rw [spec_apply]
      isplitl [H]; · iexact H
      iintro %o %ho H
      rw [wp_ret]; imodintro
      iapply Hk
      · ipureintro; exact ho
      · iexact H
    · have ht2 : ¬ Scalar.andi 1#1 (Scalar.cmpf .ogt (k0_pay3 (F := F) cnt) (Scalar.ofBits .f32 0x43800000#32)) = 1#1 := by
        revert htest
        generalize Scalar.cmpf .ogt (k0_pay3 (F := F) cnt) (Scalar.ofBits .f32 0x43800000#32) = b
        revert b; decide
      simp only [e1, ht2, ↓reduceIte, Prog.pure_eq_ret]
      iintro ⟨H, Hk⟩
      rw [wp_ret]; imodintro
      iapply Hk
      · ipureintro
        refine ⟨n + 1, cnt, hat, .inr (hF cnt (fun q => ?_) htest)⟩
        rw [hat.count, BitVec.toNat_ofNat, Nat.mod_eq_of_lt (lt_of_le_of_lt (reach_le _ _) (by omega))]
        exact reach_le _ _
      · iexact H

end Cert.Proof.K
-- ==== Proof.K.Start.lean ====
/-
  THE START OF THE SEARCH: from the running maxima of the score chunks the kernel takes, per query, the least and the
  greatest. The bits in which the two agree, in every query, are settled; the others are left to the search. That number is
  read off through the float unit, as a minimum of leading-zero counts.
-/
module

public import proofs.«01_k».proof.Proof.K.While

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The least and the greatest of the running maxima, per query. -/
def lowRow (F : FTy → Type) [BitOps F] (v16 : IVec S256x256 32) : IVec S1x256 32 :=
  k0_pay961 (F := F) v16 (k0_pay938 (F := F) v16) (k0_pay939 (F := F) v16) (k0_pay940 (F := F) v16) (k0_pay941 (F := F) v16) (k0_pay942 (F := F) v16) (k0_pay943 (F := F) v16) (k0_pay944 (F := F) v16) (k0_pay945 (F := F) v16) (k0_pay946 (F := F) v16) (k0_pay947 (F := F) v16) (k0_pay948 (F := F) v16) (k0_pay949 (F := F) v16) (k0_pay950 (F := F) v16) (k0_pay951 (F := F) v16) (k0_pay952 (F := F) v16) (k0_pay953 (F := F) v16) (k0_pay954 (F := F) v16) (k0_pay955 (F := F) v16) (k0_pay956 (F := F) v16) (k0_pay957 (F := F) v16) (k0_pay958 (F := F) v16) (k0_pay959 (F := F) v16) (k0_pay960 (F := F) v16)
theorem lowRow_eq (F : FTy → Type) [BitOps F] (v16 : IVec S256x256 32) : lowRow F v16 = leastRow v16 reduces_S8x256_S256 shapeCasts_S256_S1x256 := rfl
def topRow (v16 : IVec S256x256 32) : IVec S1x256 32 := greatestRow v16 reduces_S8x256_S256 shapeCasts_S256_S1x256

/-- The least of a row's leading-zero counts, as the kernel takes it: read as floats. -/
def clzLeast (v147 : IVec S1x256 32) : F .f32 :=
  have v148 : IVec S1x256 32 := ctlz v147
  have v149 : FVec F S1x256 .f32 := sitofp .f32 v148
  have v150 : FVec F S1x1x256 .f32 := shapeCast S1x1x256 v149 shapeCasts_S1x256_S1x1x256
  have v151 : FVec F S1 .f32 := multiReduction .minimumf [1, 2] S1 v150 0x7F800000#32 reduces_S1x1x256_S1 (.inl rfl) rfl
  have v152 : FVec F S1x1x1 .f32 := shapeCast S1x1x1 v151 shapeCasts_S1_S1x1x1
  extractAt ![0, 0, 0] v152 inpos_S1x1x1_p0_0_0

/-- What the start takes of the float operations: the count comes back as a number that no word of the row falls below. -/
abbrev ClzFact (F : FTy → Type) [BitOps F] : Prop :=
  ∀ v : IVec S1x256 32, ∃ m : ℕ, m ≤ 32 ∧ Scalar.fptosi 32 (clzLeast (F := F) v) = BitVec.ofNat 32 m
    ∧ ∀ q, (v (ix2 0 q)).toNat < 2 ^ (32 - m)

/-- The number of bits left open, as the kernel's word. -/
def openBits (F : FTy → Type) [BitOps F] (v16 : IVec S256x256 32) : BitVec 32 :=
  Scalar.subi 32#32 (Scalar.fptosi 32 (k0_pay979 (F := F) v16 (lowRow F v16) (k0_pay962 (F := F) v16) (k0_pay963 (F := F) v16) (k0_pay964 (F := F) v16) (k0_pay965 (F := F) v16) (k0_pay966 (F := F) v16) (k0_pay967 (F := F) v16) (k0_pay968 (F := F) v16) (k0_pay969 (F := F) v16) (k0_pay970 (F := F) v16) (k0_pay971 (F := F) v16) (k0_pay972 (F := F) v16) (k0_pay973 (F := F) v16) (k0_pay974 (F := F) v16) (k0_pay975 (F := F) v16) (k0_pay976 (F := F) v16) (k0_pay977 (F := F) v16) (k0_pay978 (F := F) v16)))

theorem openBits_clz (v16 : IVec S256x256 32) :
    openBits F v16 = Scalar.subi 32#32 (Scalar.fptosi 32 (clzLeast (F := F) (xori (lowRow F v16) (topRow v16)))) := rfl

theorem openBits_eq (hC : ClzFact F) (v16 : IVec S256x256 32) :
    ∃ n : ℕ, n ≤ 32 ∧ openBits F v16 = BitVec.ofNat 32 n ∧ ∀ q, (lowRow F v16 (ix2 0 q) ^^^ topRow v16 (ix2 0 q)).toNat < 2 ^ n := by
  obtain ⟨m, hm, e, h⟩ := hC (xori (lowRow F v16) (topRow v16))
  refine ⟨32 - m, Nat.sub_le _ _, ?_, fun q => h q⟩
  rw [openBits_clz, e]
  interval_cases m <;> decide

theorem start_apply (v81 : IVec S1x256 32) (n : ℕ) (hn : n ≤ 32) (q : Fin 256) :
    U (k0_pay980 v81 (BitVec.ofNat 32 n) (ix2 0 q)) = U (v81 (ix2 0 q)) - U (v81 (ix2 0 q)) % 2 ^ n := by
  by_cases h : n < 32
  · have e1 : Scalar.cmpi .sge (BitVec.ofNat 32 n) 32#32 = 0#1 := by interval_cases n <;> decide
    have e2 : Scalar.minsi (BitVec.ofNat 32 n) 31#32 = BitVec.ofNat 32 n := by interval_cases n <;> decide
    have e3 : (BitVec.ofNat 32 n).toNat = n := by rw [BitVec.toNat_ofNat]; exact Nat.mod_eq_of_lt (by omega)
    have e4 : k0_pay980 v81 (BitVec.ofNat 32 n) (ix2 0 q)
        = IntOp.shli .vector (IntOp.shrsi .vector (v81 (ix2 0 q)) (BitVec.ofNat 32 n)) (BitVec.ofNat 32 n) := by
      unfold k0_pay980
      simp only [e1, e2]
      rfl
    rw [e4]
    unfold IntOp.shli IntOp.shrsi
    rw [if_pos (by rw [e3]; exact h), if_pos (by rw [e3]; exact h)]
    show U ((v81 (ix2 0 q)).sshiftRight (BitVec.ofNat 32 n).toNat <<< (BitVec.ofNat 32 n).toNat) = _
    rw [e3]
    exact U_cleared _ n h
  · obtain rfl : n = 32 := by omega
    have := U_lt (v81 (ix2 0 q))
    have e1 : Scalar.cmpi .sge (BitVec.ofNat 32 32) 32#32 = 1#1 := by decide
    have e2 : k0_pay980 v81 (BitVec.ofNat 32 32) (ix2 0 q) = 2147483648#32 := by
      unfold k0_pay980
      simp only [e1]
      rfl
    rw [e2, Nat.mod_eq_of_lt this, Nat.sub_self]
    decide

/-- What the search is started from. -/
theorem at_start (hC : ClzFact F) (i : grid0.Coords) (K : ℕ → Fin 256 → BitVec 32) (v16 : IVec S256x256 32)
    (x9 : (M 4096 256).Idx → BitVec 32) (hg : Grouped K ((i 1).val + 1) v16) (hx : Keyed K (512 * (((i 1).val + 2) / 2)) x9)
    (hlow : ∀ q p, 256 * ((i 1).val + 1) ≤ p → K p q = lowest) :
    ∃ n : ℕ, n ≤ 32 ∧ openBits F v16 = BitVec.ofNat 32 n ∧
      At K n (k0_pay980 (lowRow F v16) (openBits F v16))
        (k0_pay988 (counts (k0_pay982 (lowRow F v16) (openBits F v16)) x9 (((i 1).val + 2) / 2))) := by
  obtain ⟨n, hn, e, h⟩ := openBits_eq hC v16
  refine ⟨n, hn, e, ?_⟩
  rw [e]
  have hi : (i 1).val < 16 := (i 1).isLt
  refine ⟨fun q => ?_, fun q => ?_⟩
  · rw [start_apply _ n hn q]
    exact search_start K ((i 1).val + 1) (by omega) v16 hg q (hlow q) _ (topRow v16 (ix2 0 q))
      (fun ρ => by rw [lowRow_eq]; exact leastRow_le v16 _ _ q ρ) (le_greatestRow v16 _ _ q) n (h q)
  · have hU : U (k0_pay982 (lowRow F v16) (BitVec.ofNat 32 n) (ix2 0 q)) = max (U (k0_pay980 (lowRow F v16) (BitVec.ofNat 32 n) (ix2 0 q))) 1 :=
      U_raised _ q
    have hr := row_total K x9 (((i 1).val + 2) / 2) (by omega) (k0_pay982 (lowRow F v16) (BitVec.ofNat 32 n)) hx
      (fun q p hp => hlow q p (by omega)) q (by rw [hU]; omega)
    rw [hU] at hr
    exact hr

end Cert.Proof.K
-- ==== Proof.K.FloatFacts.lean ====
/-
  TWO FACTS OF FLOATS at the hardware's bits, which the search takes: the greatest of counts and the least of leading-zero
  counts, both read as floats, are those of the naturals.
-/
module

public import proofs.«01_k».proof.Proof.K.Start
public import Idealize.ShloMosaic.Lib.NatWords
public import Idealize.ShloMosaic.Lib.NatWordsOrder
public import Idealize.ShloMosaic.PureOps.Reduce
public import Idealize.ShloMosaic.PureOps.BitExact

@[expose] public section

set_option maxRecDepth 8192

noncomputable section

namespace Cert.Proof.K

open Cert.Kernel Cert.Kernel.Gen
open Idealize.ShloMosaic Idealize.ShloMosaic.TcCoe Idealize.ShloMosaic.ValueIdx Idealize.ShloMosaic.Bits

/-- Every position of the cast row is in the one result's fiber. -/
theorem fiber_univ (j : S1.Idx) : (Finset.univ.filter fun i => (reduces_S1x1x256_S1).drop i = j) = Finset.univ :=
  Finset.filter_true_of_mem fun i _ => funext fun d => Fin.ext (by
    have h1 := ((reduces_S1x1x256_S1).drop i d).isLt
    have h2 := (j d).isLt
    have h3 : S1.size d = 1 := by fin_cases d; rfl
    omega)

/-- The position of the row behind a position of the cast row. -/
abbrev under (i : S1x1x256.Idx) : S1x256.Idx := Shape.reshapeEquiv shapeCasts_S1x256_S1x1x256 i

theorem under_eq (i : S1x1x256.Idx) : under i = ix2 0 (under i 1) :=
  ix2_eq (under i) (0 : Fin 1) (under i 1) (show (under i 0).val = 0 by have := (under i 0).isLt; have h : S1x256.size 0 = 1 := rfl; omega) rfl

/-- Every position of the row is behind one of the cast row. -/
theorem under_surj (q : Fin 256) : ∃ i, under i = ix2 0 q := (Shape.reshapeEquiv shapeCasts_S1x256_S1x1x256).surjective _

theorem count_word (x : BitVec 32) (h : x.toNat ≤ 4096) : sitofp32 x = f32OfNat x.toNat :=
  sitofp32_eq_f32OfNat x (le_refl 32) (by omega)

theorem bits256 : (Scalar.ofBits .f32 0x43800000#32 : Bits .f32) = f32OfNat 256 := by
  rw [f32OfNat_eq 256 (by decide)]; decide

theorem maxFact : MaxFact Bits := by
  intro n hn hc q
  have e : k0_pay3 (F := Bits) n = (Finset.univ : Finset S1x1x256.Idx).fold (FloatOps.maximumf (F := Bits) (φ := .f32)) (0xFF800000#32 : Bits .f32)
      (fun i => f32OfNat (n (under i)).toNat) := by
    unfold k0_pay3
    refine (multiReduction_maximumf_eq_fold (F := Bits) (φ := .f32) (s := S1x1x256) (axes := [1, 2]) (t := S1)
      (shapeCast S1x1x256 (sitofp .f32 n) shapeCasts_S1x256_S1x1x256) 0xFF800000#32 reduces_S1x1x256_S1 (.inl rfl) rfl _).trans ?_
    rw [fiber_univ]
    refine Finset.fold_congr fun i _ => ?_
    exact count_word (n (under i)) (by rw [under_eq i]; exact hn _)
  have hb : ∀ i ∈ (Finset.univ : Finset S1x1x256.Idx), (n (under i)).toNat ≤ 2 ^ 24 := fun i _ => by
    have h : (n (under i)).toNat ≤ 4096 := by rw [under_eq i]; exact hn _
    omega
  rw [fold_maximumf_negativeInfinity_nat _ ⟨ix3 0 0 0, Finset.mem_univ _⟩ _ hb] at e
  obtain ⟨-, h2, h3⟩ := fold_max_spec (Finset.univ : Finset S1x1x256.Idx) (fun i => (n (under i)).toNat) 0
  generalize hw : (Finset.univ : Finset S1x1x256.Idx).fold max 0 (fun i => (n (under i)).toNat) = w at e h2 h3
  have hw4 : w ≤ 4096 := by
    rcases h3 with h3 | ⟨i, _, h3⟩
    · omega
    · rw [h3, under_eq i]; exact hn _
  rw [e, bits256] at hc
  have hc' : cmpf32 .ogt (f32OfNat w) (f32OfNat 256) ≠ 1#1 := hc
  rw [cmpf32_ogt_nat (by omega) (by decide)] at hc'
  have hle : w ≤ 256 := by
    by_contra h
    exact hc' (by rw [decide_eq_true (by omega : 256 < w)]; rfl)
  obtain ⟨i, hi⟩ := under_surj q
  have := h2 i (Finset.mem_univ _)
  simp only [hi] at this
  omega

theorem ctlz_le (x : BitVec 32) : (IntOp.ctlz x).toNat ≤ 32 ∧ x.toNat < 2 ^ (32 - (IntOp.ctlz x).toNat) := by
  by_cases h : x = 0
  · subst h; exact ⟨by decide, by decide⟩
  · have hx : x.toNat ≠ 0 := fun e => h (BitVec.eq_of_toNat_eq (by simpa using e))
    have hl : Nat.log2 x.toNat < 32 := (Nat.log2_lt hx).mpr x.isLt
    have e : (IntOp.ctlz x).toNat = 31 - Nat.log2 x.toNat := by
      unfold IntOp.ctlz
      rw [if_neg h, BitVec.toNat_ofNat, Nat.mod_eq_of_lt (by omega)]
    rw [e]
    refine ⟨by omega, ?_⟩
    rw [show 32 - (31 - Nat.log2 x.toNat) = Nat.log2 x.toNat + 1 from by omega]
    exact Nat.lt_log2_self

theorem clzFact : ClzFact Bits := by
  intro v
  have e : clzLeast (F := Bits) v = (Finset.univ : Finset S1x1x256.Idx).fold (FloatOps.minimumf (F := Bits) (φ := .f32)) (0x7F800000#32 : Bits .f32)
      (fun i => f32OfNat (IntOp.ctlz (v (under i))).toNat) := by
    unfold clzLeast
    refine (multiReduction_minimumf_eq_fold (F := Bits) (φ := .f32) (s := S1x1x256) (axes := [1, 2]) (t := S1)
      (shapeCast S1x1x256 (sitofp .f32 (ctlz v)) shapeCasts_S1x256_S1x1x256) 0x7F800000#32 reduces_S1x1x256_S1 (.inl rfl) rfl _).trans ?_
    rw [fiber_univ]
    refine Finset.fold_congr fun i _ => ?_
    exact count_word (IntOp.ctlz (v (under i))) (by have := (ctlz_le (v (under i))).1; omega)
  have hb : ∀ i ∈ (Finset.univ : Finset S1x1x256.Idx), (IntOp.ctlz (v (under i))).toNat ≤ 2 ^ 24 := fun i _ => by
    have := (ctlz_le (v (under i))).1; omega
  rw [fold_minimumf_positiveInfinity_nat _ ⟨ix3 0 0 0, Finset.mem_univ _⟩ _ hb] at e
  obtain ⟨-, h2, h3⟩ := fold_min_spec (Finset.univ : Finset S1x1x256.Idx) (fun i => (IntOp.ctlz (v (under i))).toNat) (2 ^ 24)
  generalize hw : (Finset.univ : Finset S1x1x256.Idx).fold min (2 ^ 24) (fun i => (IntOp.ctlz (v (under i))).toNat) = w at e h2 h3
  have hw4 : w ≤ 32 := le_trans (h2 (ix3 0 0 0) (Finset.mem_univ _)) (ctlz_le _).1
  refine ⟨w, hw4, ?_, fun q => ?_⟩
  · rw [e]; exact fptosi32_nat w (by omega)
  obtain ⟨i, hi⟩ := under_surj q
  have h := h2 i (Finset.mem_univ _)
  simp only [hi] at h
  exact lt_of_lt_of_le (ctlz_le _).2 (Nat.pow_le_pow_right (by decide) (by omega))

end Cert.Proof.K
-- ==== Proof.K.Loop3.lean ====
/-
  The counting loop at the search's starting point: each trip counts, for every query and in eight strands, the keys of 512 more rows
  that reach a threshold.
-/
module

public import proofs.«01_k».proof.Proof.K.Common
public import proofs.«01_k».proof.Proof.Blocks
public import proofs.«01_k».proof.Proof.Count

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

theorem trip3 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v0 v155 : BitVec 32) (v163 v180 : IVec S1x256 32) (v182 : BitVec 32) (v193 : BitVec 1) (v194 c0 : BitVec 32)
    (X9 : BufTy.Contents (Elt F) arg9.view.ty) (k : Fin (k0_t3_loop i).trips) (acc : IVec S8x256 32)
    (hacc : acc = counts v180 (arg9.view.read (Elt F) X9) k.val) :
    held c arg9 X9
    ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 v0 v155 v163 v180 v182 v193 v194 c0 k acc)
        (fun r => iprop(held c arg9 X9 ∗ ⌜r = counts v180 (arg9.view.read (Elt F) X9) (k.val + 1)⌝)) := by
  unfold k0_t3_body
  iintro H9
  sl_exec
  sl_step
  isplitl [H9]; · iexact H9
  ipureintro
  have hd := readAt_blk' arg9.view X9 (k0_off6 i k) (512 * k.val) 0 512 256 (k0_off6_inb i k) (k0_off6_eq i k)
  subst hacc
  show _ = addi (counts v180 (arg9.view.read (Elt F) X9) k.val) (fold512 addi (reached v180 (blk (arg9.view.read (Elt F) X9) (512 * k.val) 0 512 256)))
  rw [← hd]
  rfl

/-- Before trip `k` of the counting loop: the counts are those of the first `k` blocks of 512 rows. -/
def inv3 (c : Dev nD) (arg9 : Memref sig .tc .vmem S4096x256 .i32) (v180 : IVec S1x256 32) (X9 : BufTy.Contents (Elt F) arg9.view.ty)
    (k : ℕ) (acc : IVec S8x256 32) : sProp (MT nD τ sig Unit (Elt F) ℕ (UR sig nD τ) ℕ) :=
  iprop(held c arg9 X9 ∗ ⌜acc = counts v180 (arg9.view.read (Elt F) X9) k⌝)

set_option warn.classDefReducibility false in
@[sl_loop] def loop3 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v0 v155 : BitVec 32) (v163 v180 : IVec S1x256 32) (v182 : BitVec 32) (v193 : BitVec 1) (v194 c0 : BitVec 32)
    (X9 : BufTy.Contents (Elt F) arg9.view.ty) :
    Idealize.ShloMosaic.LoopInv (M := MT nD τ sig Unit (Elt F) ℕ (UR sig nD τ) ℕ) Idealize.ShloMosaic.frame
      (wpE (defs₀ (F := F)) 𝒱 (c : Thread nD τ) bd) E (k0_t3_loop i).lb (k0_t3_loop i).ub (k0_t3_loop i).st (k0_t3_ok i) k0_pay983
      (k0_t3_body (F := F) i arg2 harg2 arg3 harg3 arg4 harg4 arg5 harg5 arg6 harg6 arg7 harg7 arg8 harg8 arg9 harg9 arg10 harg10 arg11 harg11 arg12 harg12 arg13 harg13 v0 v155 v163 v180 v182 v193 v194 c0) where
  inv := inv3 (F := F) c arg9 v180 X9
  step k acc := by
    unfold inv3
    iintro ⟨H9, %h⟩
    iapply (trip3 (F := F) 𝒱 c bd E i arg2 harg2 arg3 harg3 arg4 harg4 arg5 harg5 arg6 harg6 arg7 harg7 arg8 harg8 arg9 harg9 arg10 harg10 arg11 harg11 arg12 harg12 arg13 harg13 v0 v155 v163 v180 v182 v193 v194 c0 X9 k acc h)
    iexact H9

end Cert.Proof.K
-- ==== Proof.K.T1.lean ====
module

public import proofs.«01_k».proof.Proof.K.Common
public import proofs.«01_k».proof.Proof.Blocks
public import proofs.«01_k».proof.Proof.Words
public import Idealize.ShloMosaic.Lib.Pipeline.Value

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The scoring queries of head `h` in a block's array of them. -/
abbrev iqOf (x : (M 256 2048).Idx → F .bf16) (h : ℕ) : FVec F (M 256 128) .bf16 := blk x 0 (128 * h) 256 128

/-- The head weights of a block, from its (padded) array of them. -/
abbrev gOf (x : (M 256 128).Idx → F .f32) (q : Fin 256) (h : ℕ) : F .f32 := x (ix2 q (Fin.ofNat 128 h))

theorem wslice (v2 : Vec F S256x128 .f32) (h : ℕ) (hh : h < 128) (hs : S128x256.Slices ![h, 0] S1x256) :
    extractStridedSlice S1x256 ![h, 0] (k0_pay930 v2) hs = wRow (gOf v2) h := by
  funext j
  have j0 : (j 0).val < 1 := (j 0).isLt
  simp only [k0_pay930, shapeCast_self]
  show FloatOps.mulf (transpose S128x256 [1, 0] v2 _ _) _ = FloatOps.mulf _ _
  congr 1
  show v2 _ = v2 _
  congr 1
  refine ix2_eq _ _ _ ?_ ?_
  · show 0 + (j 1).val = (j 1).val
    omega
  · show h + (j 0).val = h % 128
    rw [Nat.mod_eq_of_lt hh]; omega

/-- The first row's word of a trip's tile. -/
theorem row_word (k o : ℕ) (n : ℕ) (h : 256 * k + o = n) :
    Scalar.addi (Scalar.muli (Scf.iv 0#32 1#32 k) 256#32) (BitVec.ofNat 32 o) = BitVec.ofNat 32 n := by
  subst h
  show (0#32 + BitVec.ofNat 32 k * 1#32) * 256#32 + BitVec.ofNat 32 o = _
  apply BitVec.eq_of_toNat_eq
  simp [BitVec.toNat_add, BitVec.toNat_mul, BitVec.toNat_ofNat, Nat.mul_comm]

/-- Keys by the mask, the shift and the exclusive or. -/
theorem keyVec (a b : BitVec 32) (s : FVec F S128x256 .f32) :
    select (cmpi .sle (addi (broadcast S128x256 a) (iota .tc S128x256 32 [0] iota_S128x256_d0_w32))
        (addi (broadcast S128x256 b) (iota .tc S128x256 32 [1] iota_S128x256_d1_w32)))
      (xori (bitcastToInt s) (andi (shrsi (bitcastToInt s) (broadcast S128x256 31#32)) (broadcast S128x256 2147483647#32)))
      (broadcast S128x256 2147483648#32) = tileKeys a b s := by
  funext j
  unfold tileKeys
  rw [← ordWord_eq, ← Nat.zero_add (j 0).val, ← Nat.zero_add (j 1).val]
  rfl

/-- The scores of a tile, over the sixteen heads, as the first half of a trip computes its keys from them. -/
theorem scoreA (a b : BitVec 32) (v2 : Vec F S256x128 .f32) (ik : FVec F S128x128 .bf16) (iq : ℕ → FVec F S256x128 .bf16) :
    k0_pay21 b (k0_pay930 v2) a (k0_pay14 ik)
      (k0_pay19 (k0_pay930 v2) (k0_pay14 ik)
        (k0_pay17 (k0_pay930 v2) (k0_pay14 ik) (k0_pay15 (k0_pay930 v2) ik (iq 0) (iq 1) (iq 2)) (k0_pay16 ik (iq 3))
          (iq 4) (iq 5) (iq 6) (iq 7)) (k0_pay18 (iq 8)) (iq 9) (iq 10) (iq 11))
      (k0_pay20 (k0_pay930 v2) (k0_pay14 ik) (iq 12)) (iq 13) (iq 14) (iq 15)
      = tileKeys a b (scores ik iq (wRow (gOf v2)) 16) := by
  simp (discharger := decide) only [k0_pay14, k0_pay15, k0_pay16, k0_pay17, k0_pay18, k0_pay19, k0_pay20, k0_pay21, shapeCast_self, wslice]
  refine (keyVec a b _).trans (congrArg (tileKeys a b) ?_)
  rfl

/-- The same of the second half of a trip. -/
theorem scoreB (a b : BitVec 32) (v2 : Vec F S256x128 .f32) (ik : FVec F S128x128 .bf16) (iq : ℕ → FVec F S256x128 .bf16) :
    k0_pay932
      (k0_pay31 (k0_pay930 v2) (k0_pay24 ik)
        (k0_pay29 (k0_pay930 v2) (k0_pay24 ik)
          (k0_pay27 (k0_pay930 v2) (k0_pay24 ik) (k0_pay25 (k0_pay930 v2) ik (iq 0) (iq 1)) (k0_pay26 ik (iq 2))
            (iq 3) (iq 4) (iq 5) (iq 6)) (k0_pay28 (iq 7)) (iq 8) (iq 9) (iq 10))
        (k0_pay30 (k0_pay930 v2) (k0_pay24 ik) (iq 11)) (iq 12) (iq 13) (iq 14) (iq 15))
      (k0_pay32 b a)
      = tileKeys a b (scores ik iq (wRow (gOf v2)) 16) := by
  simp (discharger := decide) only [k0_pay24, k0_pay25, k0_pay26, k0_pay27, k0_pay28, k0_pay29, k0_pay30, k0_pay31, k0_pay32, k0_pay932,
    shapeCast_self, wslice]
  refine (keyVec a b _).trans (congrArg (tileKeys a b) ?_)
  rfl

/-- A tile's keys as a trip stores them: rows `256 * k + 128 * h` on, from the arrays read. -/
abbrev tileOf (b : BitVec 32) (v2 : Vec F S256x128 .f32) (x3 : (M 256 2048).Idx → F .bf16) (x5 : (M 4096 128).Idx → F .bf16) (t : ℕ) :
    IVec (M 128 256) 32 :=
  tileKeys (BitVec.ofNat 32 (128 * t)) b (scores (blk x5 (128 * t) 0 128 128) (iqOf x3) (wRow (gOf v2)) 16)

theorem trip1 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v1 : BitVec 32) (v2 : Vec F S256x128 .f32) (X3 : BufTy.Contents (Elt F) arg3.view.ty) (X5 : BufTy.Contents (Elt F) arg5.view.ty)
    (f9 : BufTy.Contents (Elt F) arg9.view.ty) (f10 : BufTy.Contents (Elt F) arg10.view.ty) (k : Fin (k0_t1_loop i).trips) :
    iprop(held c arg3 X3 ∗ held c arg5 X5 ∗ held c arg9 f9 ∗ held c arg10 f10)
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 v1 v2 k PUnit.unit)
        (fun _ => iprop(held c arg3 X3 ∗ held c arg5 X5 ∗ ∃ g9, ∃ g10, held c arg9 g9 ∗ held c arg10 g10 ∗
          ⌜g9 = arg9.view.writes (Elt F) f9
              [⟨Rect.unit (s := S4096x256) (k0_off2 i k 128#32) S128x256.size (k0_off2_inb i k 1),
                tileOf v1 v2 (arg3.view.read (Elt F) X3) (arg5.view.read (Elt F) X5) (2 * k.val + 1)⟩,
               ⟨Rect.unit (s := S4096x256) (k0_off2 i k 0#32) S128x256.size (k0_off2_inb i k 0),
                tileOf v1 v2 (arg3.view.read (Elt F) X3) (arg5.view.read (Elt F) X5) (2 * k.val)⟩]
            ∧ g10 = arg10.view.writes (Elt F) f10
              [⟨Rect.unit (s := S256x256) ![128, 0] S128x256.size inb_S256x256_S128x256_128_0,
                maxsi (blk (arg10.view.read (Elt F) f10) 128 0 128 256)
                  (tileOf v1 v2 (arg3.view.read (Elt F) X3) (arg5.view.read (Elt F) X5) (2 * k.val + 1))⟩,
               ⟨Rect.unit (s := S256x256) ![0, 0] S128x256.size inb_S256x256_S128x256_0_0,
                maxsi (blk (arg10.view.read (Elt F) f10) 0 0 128 256)
                  (tileOf v1 v2 (arg3.view.read (Elt F) X3) (arg5.view.read (Elt F) X5) (2 * k.val))⟩]⌝)) := by
  unfold k0_t1_body
  iintro ⟨H3, H5, H9, H10⟩
  sl_exec
  sl_step
  isplitl [H3]; · iexact H3
  isplitl [H5]; · iexact H5
  iexists _
  iexists _
  isplitl [H9]; · iexact H9
  isplitl [H10]; · iexact H10
  ipureintro
  have hk : k.val < 16 := Nat.lt_of_lt_of_le k.isLt (k0_t1_abs i).2.1
  have e7 : trip1.sl.r_7 i arg3 arg5 v1 v2 X3 X5 k
      = tileOf v1 v2 (arg3.view.read (Elt F) X3) (arg5.view.read (Elt F) X5) (2 * k.val) := by
    have ha : trip1.sl.v319 i k = BitVec.ofNat 32 (128 * (2 * k.val)) := by
      delta trip1.sl.v319
      exact row_word k.val 0 _ (by omega)
    have hd := readAt_blk' arg5.view X5 (k0_off1 i k 0#32) (128 * (2 * k.val)) 0 128 128 (k0_off1_inb i k 0)
      ((k0_off1_eq i k 0).trans (by congr 1; simp; omega))
    delta trip1.sl.r_7 trip1.sl.r_6 trip1.sl.r_5 trip1.sl.r_4 trip1.sl.r_3 trip1.sl.r_2 trip1.sl.r_1 trip1.sl.r
    refine Eq.trans ?_ (scoreA _ _ _ _ _)
    simp only [readAt_blk, ha, hd]
  have e15 : k0_pay932 (trip1.sl.r_15 i arg3 arg5 v2 X3 X5 k) (trip1.sl.r_16 i v1 k)
      = tileOf v1 v2 (arg3.view.read (Elt F) X3) (arg5.view.read (Elt F) X5) (2 * k.val + 1) := by
    have hd := readAt_blk' arg5.view X5 (k0_off1 i k 128#32) (128 * (2 * k.val + 1)) 0 128 128 (k0_off1_inb i k 1)
      ((k0_off1_eq i k 1).trans (by congr 1; simp; omega))
    delta trip1.sl.r_16 trip1.sl.r_15 trip1.sl.r_14 trip1.sl.r_13 trip1.sl.r_12 trip1.sl.r_11 trip1.sl.r_10 trip1.sl.r_9 trip1.sl.r_8
    refine Eq.trans ?_ (scoreB _ _ _ _ _)
    have ha : trip1.sl.v494 i k = BitVec.ofNat 32 (128 * (2 * k.val + 1)) := by
      delta trip1.sl.v494
      exact row_word k.val 128 _ (by omega)
    simp only [readAt_blk, ha, hd]
  have e663 : trip1.sl.v663 arg10 f10 = blk (arg10.view.read (Elt F) f10) 128 0 128 256 := by
    delta trip1.sl.v663
    exact readAt_blk _ _ _ _ _ _ _
  have e488 := readAt_blk arg10.view f10 0 0 128 256 inb_S256x256_S128x256_0_0
  constructor
  · simp only [k0_pay933, k0_pay22, shapeCast_self, e7, e15]
  · simp only [k0_pay934, k0_pay23, shapeCast_self, e7, e15, e663, e488]

end Cert.Proof.K
-- ==== Proof.K.Loop1.lean ====
module

public import proofs.«01_k».proof.Proof.K.T1

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The order keys of a point's block, from the arrays it holds. -/
abbrev KK (i : grid0.Coords) (x3 : (M 256 2048).Idx → F .bf16) (x4 : (M 256 128).Idx → F .f32)
    (x5 : (M 4096 128).Idx → F .bf16) : ℕ → Fin 256 → BitVec 32 :=
  keyAt x5 (iqOf x3) (wRow (gOf x4)) (256 * (i 1).val)

theorem tileOf_apply (i : grid0.Coords) (v1 : BitVec 32) (hv : v1 = BitVec.ofNat 32 (256 * (i 1).val))
    (x3 : (M 256 2048).Idx → F .bf16) (x4 : (M 256 128).Idx → F .f32)
    (x5 : (M 4096 128).Idx → F .bf16) (t : ℕ) (ht : t < 32) (x : Fin 128) (q : Fin 256) (r : ℕ) (hr : r = 128 * t + x.val) :
    tileOf v1 x4 x3 x5 t (ix2 x q) = KK i x3 x4 x5 r q := by
  have hi : (i 1).val < 16 := (i 1).isLt
  exact tileKeys_apply x5 (iqOf x3) (wRow (gOf x4)) (256 * (i 1).val) t _ v1 rfl hv ht (by omega) x q r hr

/-- A trip extends the keyed rows by its chunk. -/
theorem keyed_step (m : Memref sig .tc .vmem S4096x256 .i32) (f : BufTy.Contents (Elt F) m.view.ty) (K : ℕ → Fin 256 → BitVec 32)
    (k : ℕ) (hk : k < 16) {o1 o2 : Fin 2 → ℕ}
    (i1 : ∀ a : Fin 2, o1 a + (![128, 256] : Fin 2 → ℕ) a ≤ (![4096, 256] : Fin 2 → ℕ) a)
    (i2 : ∀ a : Fin 2, o2 a + (![128, 256] : Fin 2 → ℕ) a ≤ (![4096, 256] : Fin 2 → ℕ) a)
    (e1 : o1 = ![128 * (2 * k + 1), 0]) (e2 : o2 = ![128 * (2 * k), 0]) (w1 w2 : IVec (M 128 256) 32)
    (h1 : ∀ (x : Fin 128) (q : Fin 256), w1 (ix2 x q) = K (128 * (2 * k + 1) + x.val) q)
    (h2 : ∀ (x : Fin 128) (q : Fin 256), w2 (ix2 x q) = K (128 * (2 * k) + x.val) q)
    (h : Keyed K (256 * k) (m.view.read (Elt F) f)) :
    Keyed K (256 * (k + 1)) (m.view.read (Elt F) (m.view.writes (Elt F) f
      [⟨Rect.unit (s := S4096x256) o1 S128x256.size i1, w1⟩, ⟨Rect.unit (s := S4096x256) o2 S128x256.size i2, w2⟩])) := by
  intro p q hp
  by_cases c1 : 128 * (2 * k + 1) ≤ p.val
  · rw [read_writes_hit (R := 4096) (C := 256) m.view f i1 w1 _ (128 * (2 * k + 1)) 0 e1 p q
      ⟨p.val - 128 * (2 * k + 1), by omega⟩ q (by simp; omega) (by simp), h1]
    congr 1; simp; omega
  · rw [read_writes_miss (R := 4096) (C := 256) m.view f i1 w1 _ (128 * (2 * k + 1)) 0 e1 p q (.inl (.inl (by omega)))]
    by_cases c2 : 128 * (2 * k) ≤ p.val
    · rw [read_writes_hit (R := 4096) (C := 256) m.view f i2 w2 _ (128 * (2 * k)) 0 e2 p q
        ⟨p.val - 128 * (2 * k), by omega⟩ q (by simp; omega) (by simp), h2]
      congr 1; simp; omega
    · rw [read_writes_miss (R := 4096) (C := 256) m.view f i2 w2 _ (128 * (2 * k)) 0 e2 p q (.inl (.inl (by omega)))]
      exact h p q (by omega)

/-- A trip takes its chunk into the running maxima. -/
theorem maxima_step (m : Memref sig .tc .vmem S256x256 .i32) (f : BufTy.Contents (Elt F) m.view.ty) (K : ℕ → Fin 256 → BitVec 32)
    (k : ℕ) (w1 w2 : IVec (M 128 256) 32)
    (h1 : ∀ (x : Fin 128) (q : Fin 256), w1 (ix2 x q) = K (128 * (2 * k + 1) + x.val) q)
    (h2 : ∀ (x : Fin 128) (q : Fin 256), w2 (ix2 x q) = K (128 * (2 * k) + x.val) q)
    (h : Grouped K k (m.view.read (Elt F) f)) :
    Grouped K (k + 1) (m.view.read (Elt F) (m.view.writes (Elt F) f
      [⟨Rect.unit (s := S256x256) ![128, 0] S128x256.size inb_S256x256_S128x256_128_0,
          maxsi (blk (m.view.read (Elt F) f) 128 0 128 256) w1⟩,
       ⟨Rect.unit (s := S256x256) ![0, 0] S128x256.size inb_S256x256_S128x256_0_0,
          maxsi (blk (m.view.read (Elt F) f) 0 0 128 256) w2⟩])) := by
  refine grouped_step K k _ _ h ?_
  intro ρ q
  by_cases c1 : 128 ≤ ρ.val
  · rw [read_writes_hit (R := 256) (C := 256) m.view f inb_S256x256_S128x256_128_0 _ _ 128 0 rfl ρ q
      ⟨ρ.val - 128, by omega⟩ q (by simp; omega) (by simp)]
    show IntOp.maxsi (blk _ 128 0 128 256 _) (w1 _) = _
    rw [blk_apply _ 128 0 128 256 _ ρ q (by simp; omega) (by simp), h1]
    congr 2; simp; omega
  · rw [read_writes_miss (R := 256) (C := 256) m.view f inb_S256x256_S128x256_128_0 _ _ 128 0 rfl ρ q (.inl (.inl (by omega))),
      read_writes_hit (R := 256) (C := 256) m.view f inb_S256x256_S128x256_0_0 _ _ 0 0 rfl ρ q
      ⟨ρ.val, by omega⟩ q (by simp) (by simp)]
    show IntOp.maxsi (blk _ 0 0 128 256 _) (w2 _) = _
    rw [blk_apply _ 0 0 128 256 _ ρ q (by simp) (by simp), h2]
    congr 2; simp; omega

/-- Before trip `k` of the scoring loop: the first `256 * k` rows of the key buffer are keyed, and the running maxima are
    those of the first `k` chunks. -/
def inv1 (c : Dev nD) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v1 : BitVec 32) (v2 : Vec F S256x128 .f32) (X3 : BufTy.Contents (Elt F) arg3.view.ty) (X5 : BufTy.Contents (Elt F) arg5.view.ty)
    (k : ℕ) (_u : PUnit) : sProp (MT nD τ sig Unit (Elt F) ℕ (UR sig nD τ) ℕ) :=
  iprop(held c arg3 X3 ∗ held c arg5 X5 ∗
    (∃ f9, held c arg9 f9 ∗ ⌜v1 = BitVec.ofNat 32 (256 * (i 1).val) ∧
      Keyed (KK i (arg3.view.read (Elt F) X3) v2 (arg5.view.read (Elt F) X5)) (256 * k) (arg9.view.read (Elt F) f9)⌝) ∗
    (∃ f10, held c arg10 f10 ∗
      ⌜Grouped (KK i (arg3.view.read (Elt F) X3) v2 (arg5.view.read (Elt F) X5)) k (arg10.view.read (Elt F) f10)⌝))

set_option warn.classDefReducibility false in
def loop1 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v1 : BitVec 32) (v2 : Vec F S256x128 .f32) (X3 : BufTy.Contents (Elt F) arg3.view.ty) (X5 : BufTy.Contents (Elt F) arg5.view.ty) :
    Idealize.ShloMosaic.LoopInv (M := MT nD τ sig Unit (Elt F) ℕ (UR sig nD τ) ℕ) Idealize.ShloMosaic.frame
      (wpE (defs₀ (F := F)) 𝒱 (c : Thread nD τ) bd) E (k0_t1_loop i).lb (k0_t1_loop i).ub (k0_t1_loop i).st (k0_t1_ok i) ()
      (k0_t1_body (F := F) i arg2 harg2 arg3 harg3 arg4 harg4 arg5 harg5 arg6 harg6 arg7 harg7 arg8 harg8 arg9 harg9 arg10 harg10 arg11 harg11 arg12 harg12 arg13 harg13 v1 v2) where
  inv := inv1 (F := F) c i arg2 harg2 arg3 harg3 arg4 harg4 arg5 harg5 arg6 harg6 arg7 harg7 arg8 harg8 arg9 harg9 arg10 harg10 arg11 harg11 arg12 harg12 arg13 harg13 v1 v2 X3 X5
  step k acc := by
    unfold inv1
    iintro ⟨H3, H5, ⟨%f9, H9, %h9⟩, ⟨%f10, H10, %h10⟩⟩
    iapply (wp_wand_r Idealize.ShloMosaic.frame (wpE (defs₀ (F := F)) 𝒱 (c : Thread nD τ) bd) E)
    isplitl [H3 H5 H9 H10]
    · iapply (trip1 (F := F) 𝒱 c bd E i arg2 harg2 arg3 harg3 arg4 harg4 arg5 harg5 arg6 harg6 arg7 harg7 arg8 harg8 arg9 harg9 arg10 harg10 arg11 harg11 arg12 harg12 arg13 harg13 v1 v2 X3 X5 f9 f10 k)
      isplitl [H3]; · iexact H3
      isplitl [H5]; · iexact H5
      isplitl [H9]; · iexact H9
      iexact H10
    · iintro %_ ⟨H3, H5, ⟨%g9, %g10, H9, H10, %hg⟩⟩
      have hk : k.val < 16 := Nat.lt_of_lt_of_le k.isLt (k0_t1_abs i).2.1
      have w1 : ∀ (x : Fin 128) (q : Fin 256), tileOf v1 v2 (arg3.view.read (Elt F) X3) (arg5.view.read (Elt F) X5) (2 * k.val + 1) (ix2 x q)
          = KK i (arg3.view.read (Elt F) X3) v2 (arg5.view.read (Elt F) X5) (128 * (2 * k.val + 1) + x.val) q :=
        fun x q => tileOf_apply i v1 h9.1 _ _ _ _ (by omega) x q _ rfl
      have w2 : ∀ (x : Fin 128) (q : Fin 256), tileOf v1 v2 (arg3.view.read (Elt F) X3) (arg5.view.read (Elt F) X5) (2 * k.val) (ix2 x q)
          = KK i (arg3.view.read (Elt F) X3) v2 (arg5.view.read (Elt F) X5) (128 * (2 * k.val) + x.val) q :=
        fun x q => tileOf_apply i v1 h9.1 _ _ _ _ (by omega) x q _ rfl
      have K9 := keyed_step arg9 f9 _ k.val hk (k0_off2_inb i k 1) (k0_off2_inb i k 0)
        ((k0_off2_eq i k 1).trans (by congr 1; simp; omega)) ((k0_off2_eq i k 0).trans (by congr 1; simp; omega)) _ _ w1 w2 h9.2
      have K10 := maxima_step arg10 f10 _ k.val _ _ w1 w2 h10
      isplitl [H3]; · iexact H3
      isplitl [H5]; · iexact H5
      isplitl [H9]
      · iexists g9
        isplitl [H9]; · iexact H9
        ipureintro
        exact ⟨h9.1, hg.1 ▸ K9⟩
      · iexists g10
        isplitl [H10]; · iexact H10
        ipureintro
        exact hg.2 ▸ K10

end Cert.Proof.K
-- ==== Proof.Heads.lean ====
/-
  THE ATTENTION'S HEADS SIDE BY SIDE: eight heads' states kept in three matrices, the maxima eight equal rows a head; one
  chunk's step in that layout is each head's step.
-/
module

public import proofs.«01_k».proof.Proof.Blocks

@[expose] public section

set_option maxRecDepth 4096

noncomputable section

namespace Cert.Proof

open Idealize.ShloMosaic Idealize.ShloMosaic.ValueIdx

variable {F : FTy → Type} [BitOps F]

/-- The first of eight rows. -/
def row0 (x : FVec F (M 8 256) .f32) (h : (M 8 256).Slices ![0, 0] (M 1 256) := by decide) : FVec F (M 1 256) .f32 :=
  extractStridedSlice (M 1 256) ![0, 0] x h

theorem row0_broadcast (t : FVec F (M 1 256) .f32) : row0 (broadcastTo (M 8 256) t) = t := by
  funext j
  have e := ix2_eq j (0 : Fin 1) (j 1) (by have : (j 0).val < 1 := (j 0).isLt; show (j 0).val = 0; omega) rfl
  rw [e]
  generalize (j 1 : Fin 256) = q
  unfold row0
  refine (congrArg (broadcastTo (M 8 256) t (by decide)) (ix2_eq _ (0 : Fin 8) q rfl (by show 0 + q.val = q.val; omega))).trans ?_
  exact broadcastTo_1b_ab_apply t (by decide) (0 : Fin 8) q

/-- The logits of a head's chunk, from loads of its mask, keys and queries. -/
def kLogits (sel : IVec (M 256 256) 1) (k q : FVec F (M 256 128) .bf16) (hk : (M 256 128).ShapeCasts (M 256 128) := by decide) :
    FVec F (M 256 256) .f32 :=
  logits sel (shapeCast (M 256 128) k hk) (shapeCast (M 256 128) q hk)

/-- The new maxima. -/
def kTop (m : FVec F (M 8 256) .f32) (lg : FVec F (M 256 256) .f32) : FVec F (M 8 256) .f32 :=
  maximumf m (broadcastTo (M 8 256) (chunkTop lg))

/-- What the new maxima shrink the sums by. -/
def kShrink (m : FVec F (M 8 256) .f32) (lg : FVec F (M 256 256) .f32) : FVec F (M 8 256) .f32 :=
  exp2 (subf m (safe (kTop m lg)))

/-- The chunk's weights. -/
def kWeights (m : FVec F (M 8 256) .f32) (lg : FVec F (M 256 256) .f32) : FVec F (M 256 256) .f32 :=
  exp2 (subf lg (broadcastTo (M 256 256) (row0 (safe (kTop m lg)))))

/-- The new sums. -/
def kTot (m l : FVec F (M 8 256) .f32) (lg : FVec F (M 256 256) .f32) : FVec F (M 8 256) .f32 :=
  addf (mulf (kShrink m lg) l) (fold256 addf (kWeights m lg))

/-- The new weighted values. -/
def kOut (m : FVec F (M 8 256) .f32) (a : FVec F (M 128 256) .f32) (lg : FVec F (M 256 256) .f32) (vt : FVec F (M 128 256) .bf16) :
    FVec F (M 128 256) .f32 :=
  addf (mulf (broadcastTo (M 128 256) (row0 (kShrink m lg))) a)
    (matmul dotValues none vt (truncf .bf16 (kWeights m lg) (by decide)) (constant (M 128 256) .f32 0x00000000#32))

theorem kTop_eq (s : St F) (lg : FVec F (M 256 256) .f32) (vt : FVec F (M 128 256) .bf16) :
    kTop (broadcastTo (M 8 256) s.top) lg = broadcastTo (M 8 256) (step lg vt s).top := rfl

theorem kShrink_eq (s : St F) (lg : FVec F (M 256 256) .f32) :
    kShrink (broadcastTo (M 8 256) s.top) lg
      = broadcastTo (M 8 256) (exp2 (subf s.top (safe (maximumf s.top (chunkTop lg))))) := rfl

theorem kWeights_eq (s : St F) (lg : FVec F (M 256 256) .f32) :
    kWeights (broadcastTo (M 8 256) s.top) lg = weights lg (maximumf s.top (chunkTop lg)) := by
  unfold kWeights weights
  rw [show safe (kTop (broadcastTo (M 8 256) s.top) lg) = broadcastTo (M 8 256) (safe (maximumf s.top (chunkTop lg))) from rfl,
    row0_broadcast]

theorem kTot_eq (s : St F) (lg : FVec F (M 256 256) .f32) (vt : FVec F (M 128 256) .bf16) :
    kTot (broadcastTo (M 8 256) s.top) s.tot lg = (step lg vt s).tot := by
  unfold kTot
  rw [kShrink_eq, kWeights_eq]
  rfl

theorem kOut_eq (s : St F) (lg : FVec F (M 256 256) .f32) (vt : FVec F (M 128 256) .bf16) :
    kOut (broadcastTo (M 8 256) s.top) s.out lg vt = (step lg vt s).out := by
  unfold kOut
  rw [kShrink_eq, kWeights_eq, row0_broadcast]
  rfl

/-- A three-dimensional array of one matrix, as the matrix. -/
def slab {α : Type} {a b : ℕ} (x : (⟨3, ![1, a, b]⟩ : Shape).Idx → α) : (M a b).Idx → α := fun j => x (ix3 (0 : Fin 1) (j 0) (j 1))

/-- A load at a rectangle of the one matrix of an array reads a block. -/
theorem readAt_slab {sig : RefSig} {κ : Kind} {sp : Space} {e : EltTy} {Val : EltTy → Type} {R C : ℕ} [NeZero R] [NeZero C]
    (v : View sig κ sp (⟨3, ![1, R, C]⟩ : Shape) e) (f : v.ty.Contents Val)
    (off : Fin 3 → ℕ) (r c m n : ℕ) (inb : ∀ a : Fin 3, off a + (![1, m, n] : Fin 3 → ℕ) a ≤ (![1, R, C] : Fin 3 → ℕ) a)
    (h : off = ![0, r, c]) (hc : (⟨3, ![1, m, n]⟩ : Shape).ShapeCasts (M m n)) :
    shapeCast (M m n) (v.readAt Val (Rect.unit (s := (⟨3, ![1, R, C]⟩ : Shape)) off ![1, m, n] inb).toLoadRect f) hc
      = blk (slab (v.read Val f)) r c m n := by
  subst h
  funext j
  obtain ⟨p, q, rfl⟩ : ∃ (p : Fin m) (q : Fin n), j = ix2 p q := ⟨j 0, j 1, ix2_eq j _ _ rfl rfl⟩
  have i0 : r + m ≤ R := inb 1
  have i1 : c + n ≤ C := inb 2
  have hp := p.isLt
  have hq := q.isLt
  rw [blk_apply (slab (v.read Val f)) r c m n (ix2 p q) ⟨r + p.val, by omega⟩ ⟨c + q.val, by omega⟩ rfl rfl]
  refine (shapeCast_1ab_ab_apply (a := m) (b := n) _ hc p q).trans ?_
  rw [View.readAt_apply]
  unfold slab
  congr 1
  funext a
  match a with
  | ⟨0, _⟩ => exact Fin.ext rfl
  | ⟨1, _⟩ => exact Fin.ext (by show r + 1 * p.val = r + p.val; omega)
  | ⟨2, _⟩ => exact Fin.ext (by show c + 1 * q.val = c + q.val; omega)

/-- Eight heads' states in three matrices. -/
structure Heads (s : ℕ → St F) (x11 x12 : (M 64 256).Idx → F .f32) (x13 : (M 1024 256).Idx → F .f32) : Prop where
  top : ∀ h < 8, blk x11 (8 * h) 0 8 256 = broadcastTo (M 8 256) (s h).top
  tot : ∀ h < 8, blk x12 (8 * h) 0 8 256 = (s h).tot
  out : ∀ h < 8, blk x13 (128 * h) 0 128 256 = (s h).out

/-- The eight blocks of 8 rows stored, read back. -/
theorem rows8 {sig : RefSig} {κ : Kind} {sp : Space} {e : EltTy} {Val : EltTy → Type} (v : View sig κ sp (M 64 256) e)
    (f : v.ty.Contents Val) (W : ℕ → (M 8 256).Idx → Val e)
    (i0 : ∀ a : Fin 2, (![0, 0] : Fin 2 → ℕ) a + (![8, 256] : Fin 2 → ℕ) a ≤ (![64, 256] : Fin 2 → ℕ) a)
    (i1 : ∀ a : Fin 2, (![8, 0] : Fin 2 → ℕ) a + (![8, 256] : Fin 2 → ℕ) a ≤ (![64, 256] : Fin 2 → ℕ) a)
    (i2 : ∀ a : Fin 2, (![16, 0] : Fin 2 → ℕ) a + (![8, 256] : Fin 2 → ℕ) a ≤ (![64, 256] : Fin 2 → ℕ) a)
    (i3 : ∀ a : Fin 2, (![24, 0] : Fin 2 → ℕ) a + (![8, 256] : Fin 2 → ℕ) a ≤ (![64, 256] : Fin 2 → ℕ) a)
    (i4 : ∀ a : Fin 2, (![32, 0] : Fin 2 → ℕ) a + (![8, 256] : Fin 2 → ℕ) a ≤ (![64, 256] : Fin 2 → ℕ) a)
    (i5 : ∀ a : Fin 2, (![40, 0] : Fin 2 → ℕ) a + (![8, 256] : Fin 2 → ℕ) a ≤ (![64, 256] : Fin 2 → ℕ) a)
    (i6 : ∀ a : Fin 2, (![48, 0] : Fin 2 → ℕ) a + (![8, 256] : Fin 2 → ℕ) a ≤ (![64, 256] : Fin 2 → ℕ) a)
    (i7 : ∀ a : Fin 2, (![56, 0] : Fin 2 → ℕ) a + (![8, 256] : Fin 2 → ℕ) a ≤ (![64, 256] : Fin 2 → ℕ) a)
    (h : ℕ) (hh : h < 8) :
    blk (v.read Val (v.writes Val f [⟨Rect.unit (s := M 64 256) ![56, 0] ![8, 256] i7, W 7⟩, ⟨Rect.unit (s := M 64 256) ![48, 0] ![8, 256] i6, W 6⟩, ⟨Rect.unit (s := M 64 256) ![40, 0] ![8, 256] i5, W 5⟩, ⟨Rect.unit (s := M 64 256) ![32, 0] ![8, 256] i4, W 4⟩, ⟨Rect.unit (s := M 64 256) ![24, 0] ![8, 256] i3, W 3⟩, ⟨Rect.unit (s := M 64 256) ![16, 0] ![8, 256] i2, W 2⟩, ⟨Rect.unit (s := M 64 256) ![8, 0] ![8, 256] i1, W 1⟩, ⟨Rect.unit (s := M 64 256) ![0, 0] ![8, 256] i0, W 0⟩])) (8 * h) 0 8 256 = W h := by
  interval_cases h
  · refine (blk_miss v f i7 (W 7) _ 56 0 rfl 0 0 8 256 (by omega) (by omega) (.inl (.inl (by omega)))).trans ?_
    refine (blk_miss v f i6 (W 6) _ 48 0 rfl 0 0 8 256 (by omega) (by omega) (.inl (.inl (by omega)))).trans ?_
    refine (blk_miss v f i5 (W 5) _ 40 0 rfl 0 0 8 256 (by omega) (by omega) (.inl (.inl (by omega)))).trans ?_
    refine (blk_miss v f i4 (W 4) _ 32 0 rfl 0 0 8 256 (by omega) (by omega) (.inl (.inl (by omega)))).trans ?_
    refine (blk_miss v f i3 (W 3) _ 24 0 rfl 0 0 8 256 (by omega) (by omega) (.inl (.inl (by omega)))).trans ?_
    refine (blk_miss v f i2 (W 2) _ 16 0 rfl 0 0 8 256 (by omega) (by omega) (.inl (.inl (by omega)))).trans ?_
    refine (blk_miss v f i1 (W 1) _ 8 0 rfl 0 0 8 256 (by omega) (by omega) (.inl (.inl (by omega)))).trans ?_
    exact blk_hit v f i0 (W 0) _ 0 0 rfl
  · refine (blk_miss v f i7 (W 7) _ 56 0 rfl 8 0 8 256 (by omega) (by omega) (.inl (.inl (by omega)))).trans ?_
    refine (blk_miss v f i6 (W 6) _ 48 0 rfl 8 0 8 256 (by omega) (by omega) (.inl (.inl (by omega)))).trans ?_
    refine (blk_miss v f i5 (W 5) _ 40 0 rfl 8 0 8 256 (by omega) (by omega) (.inl (.inl (by omega)))).trans ?_
    refine (blk_miss v f i4 (W 4) _ 32 0 rfl 8 0 8 256 (by omega) (by omega) (.inl (.inl (by omega)))).trans ?_
    refine (blk_miss v f i3 (W 3) _ 24 0 rfl 8 0 8 256 (by omega) (by omega) (.inl (.inl (by omega)))).trans ?_
    refine (blk_miss v f i2 (W 2) _ 16 0 rfl 8 0 8 256 (by omega) (by omega) (.inl (.inl (by omega)))).trans ?_
    exact blk_hit v f i1 (W 1) _ 8 0 rfl
  · refine (blk_miss v f i7 (W 7) _ 56 0 rfl 16 0 8 256 (by omega) (by omega) (.inl (.inl (by omega)))).trans ?_
    refine (blk_miss v f i6 (W 6) _ 48 0 rfl 16 0 8 256 (by omega) (by omega) (.inl (.inl (by omega)))).trans ?_
    refine (blk_miss v f i5 (W 5) _ 40 0 rfl 16 0 8 256 (by omega) (by omega) (.inl (.inl (by omega)))).trans ?_
    refine (blk_miss v f i4 (W 4) _ 32 0 rfl 16 0 8 256 (by omega) (by omega) (.inl (.inl (by omega)))).trans ?_
    refine (blk_miss v f i3 (W 3) _ 24 0 rfl 16 0 8 256 (by omega) (by omega) (.inl (.inl (by omega)))).trans ?_
    exact blk_hit v f i2 (W 2) _ 16 0 rfl
  · refine (blk_miss v f i7 (W 7) _ 56 0 rfl 24 0 8 256 (by omega) (by omega) (.inl (.inl (by omega)))).trans ?_
    refine (blk_miss v f i6 (W 6) _ 48 0 rfl 24 0 8 256 (by omega) (by omega) (.inl (.inl (by omega)))).trans ?_
    refine (blk_miss v f i5 (W 5) _ 40 0 rfl 24 0 8 256 (by omega) (by omega) (.inl (.inl (by omega)))).trans ?_
    refine (blk_miss v f i4 (W 4) _ 32 0 rfl 24 0 8 256 (by omega) (by omega) (.inl (.inl (by omega)))).trans ?_
    exact blk_hit v f i3 (W 3) _ 24 0 rfl
  · refine (blk_miss v f i7 (W 7) _ 56 0 rfl 32 0 8 256 (by omega) (by omega) (.inl (.inl (by omega)))).trans ?_
    refine (blk_miss v f i6 (W 6) _ 48 0 rfl 32 0 8 256 (by omega) (by omega) (.inl (.inl (by omega)))).trans ?_
    refine (blk_miss v f i5 (W 5) _ 40 0 rfl 32 0 8 256 (by omega) (by omega) (.inl (.inl (by omega)))).trans ?_
    exact blk_hit v f i4 (W 4) _ 32 0 rfl
  · refine (blk_miss v f i7 (W 7) _ 56 0 rfl 40 0 8 256 (by omega) (by omega) (.inl (.inl (by omega)))).trans ?_
    refine (blk_miss v f i6 (W 6) _ 48 0 rfl 40 0 8 256 (by omega) (by omega) (.inl (.inl (by omega)))).trans ?_
    exact blk_hit v f i5 (W 5) _ 40 0 rfl
  · refine (blk_miss v f i7 (W 7) _ 56 0 rfl 48 0 8 256 (by omega) (by omega) (.inl (.inl (by omega)))).trans ?_
    exact blk_hit v f i6 (W 6) _ 48 0 rfl
  · exact blk_hit v f i7 (W 7) _ 56 0 rfl

/-- The eight blocks of 128 rows stored, read back. -/
theorem rows128 {sig : RefSig} {κ : Kind} {sp : Space} {e : EltTy} {Val : EltTy → Type} (v : View sig κ sp (M 1024 256) e)
    (f : v.ty.Contents Val) (W : ℕ → (M 128 256).Idx → Val e)
    (i0 : ∀ a : Fin 2, (![0, 0] : Fin 2 → ℕ) a + (![128, 256] : Fin 2 → ℕ) a ≤ (![1024, 256] : Fin 2 → ℕ) a)
    (i1 : ∀ a : Fin 2, (![128, 0] : Fin 2 → ℕ) a + (![128, 256] : Fin 2 → ℕ) a ≤ (![1024, 256] : Fin 2 → ℕ) a)
    (i2 : ∀ a : Fin 2, (![256, 0] : Fin 2 → ℕ) a + (![128, 256] : Fin 2 → ℕ) a ≤ (![1024, 256] : Fin 2 → ℕ) a)
    (i3 : ∀ a : Fin 2, (![384, 0] : Fin 2 → ℕ) a + (![128, 256] : Fin 2 → ℕ) a ≤ (![1024, 256] : Fin 2 → ℕ) a)
    (i4 : ∀ a : Fin 2, (![512, 0] : Fin 2 → ℕ) a + (![128, 256] : Fin 2 → ℕ) a ≤ (![1024, 256] : Fin 2 → ℕ) a)
    (i5 : ∀ a : Fin 2, (![640, 0] : Fin 2 → ℕ) a + (![128, 256] : Fin 2 → ℕ) a ≤ (![1024, 256] : Fin 2 → ℕ) a)
    (i6 : ∀ a : Fin 2, (![768, 0] : Fin 2 → ℕ) a + (![128, 256] : Fin 2 → ℕ) a ≤ (![1024, 256] : Fin 2 → ℕ) a)
    (i7 : ∀ a : Fin 2, (![896, 0] : Fin 2 → ℕ) a + (![128, 256] : Fin 2 → ℕ) a ≤ (![1024, 256] : Fin 2 → ℕ) a)
    (h : ℕ) (hh : h < 8) :
    blk (v.read Val (v.writes Val f [⟨Rect.unit (s := M 1024 256) ![896, 0] ![128, 256] i7, W 7⟩, ⟨Rect.unit (s := M 1024 256) ![768, 0] ![128, 256] i6, W 6⟩, ⟨Rect.unit (s := M 1024 256) ![640, 0] ![128, 256] i5, W 5⟩, ⟨Rect.unit (s := M 1024 256) ![512, 0] ![128, 256] i4, W 4⟩, ⟨Rect.unit (s := M 1024 256) ![384, 0] ![128, 256] i3, W 3⟩, ⟨Rect.unit (s := M 1024 256) ![256, 0] ![128, 256] i2, W 2⟩, ⟨Rect.unit (s := M 1024 256) ![128, 0] ![128, 256] i1, W 1⟩, ⟨Rect.unit (s := M 1024 256) ![0, 0] ![128, 256] i0, W 0⟩])) (128 * h) 0 128 256 = W h := by
  interval_cases h
  · refine (blk_miss v f i7 (W 7) _ 896 0 rfl 0 0 128 256 (by omega) (by omega) (.inl (.inl (by omega)))).trans ?_
    refine (blk_miss v f i6 (W 6) _ 768 0 rfl 0 0 128 256 (by omega) (by omega) (.inl (.inl (by omega)))).trans ?_
    refine (blk_miss v f i5 (W 5) _ 640 0 rfl 0 0 128 256 (by omega) (by omega) (.inl (.inl (by omega)))).trans ?_
    refine (blk_miss v f i4 (W 4) _ 512 0 rfl 0 0 128 256 (by omega) (by omega) (.inl (.inl (by omega)))).trans ?_
    refine (blk_miss v f i3 (W 3) _ 384 0 rfl 0 0 128 256 (by omega) (by omega) (.inl (.inl (by omega)))).trans ?_
    refine (blk_miss v f i2 (W 2) _ 256 0 rfl 0 0 128 256 (by omega) (by omega) (.inl (.inl (by omega)))).trans ?_
    refine (blk_miss v f i1 (W 1) _ 128 0 rfl 0 0 128 256 (by omega) (by omega) (.inl (.inl (by omega)))).trans ?_
    exact blk_hit v f i0 (W 0) _ 0 0 rfl
  · refine (blk_miss v f i7 (W 7) _ 896 0 rfl 128 0 128 256 (by omega) (by omega) (.inl (.inl (by omega)))).trans ?_
    refine (blk_miss v f i6 (W 6) _ 768 0 rfl 128 0 128 256 (by omega) (by omega) (.inl (.inl (by omega)))).trans ?_
    refine (blk_miss v f i5 (W 5) _ 640 0 rfl 128 0 128 256 (by omega) (by omega) (.inl (.inl (by omega)))).trans ?_
    refine (blk_miss v f i4 (W 4) _ 512 0 rfl 128 0 128 256 (by omega) (by omega) (.inl (.inl (by omega)))).trans ?_
    refine (blk_miss v f i3 (W 3) _ 384 0 rfl 128 0 128 256 (by omega) (by omega) (.inl (.inl (by omega)))).trans ?_
    refine (blk_miss v f i2 (W 2) _ 256 0 rfl 128 0 128 256 (by omega) (by omega) (.inl (.inl (by omega)))).trans ?_
    exact blk_hit v f i1 (W 1) _ 128 0 rfl
  · refine (blk_miss v f i7 (W 7) _ 896 0 rfl 256 0 128 256 (by omega) (by omega) (.inl (.inl (by omega)))).trans ?_
    refine (blk_miss v f i6 (W 6) _ 768 0 rfl 256 0 128 256 (by omega) (by omega) (.inl (.inl (by omega)))).trans ?_
    refine (blk_miss v f i5 (W 5) _ 640 0 rfl 256 0 128 256 (by omega) (by omega) (.inl (.inl (by omega)))).trans ?_
    refine (blk_miss v f i4 (W 4) _ 512 0 rfl 256 0 128 256 (by omega) (by omega) (.inl (.inl (by omega)))).trans ?_
    refine (blk_miss v f i3 (W 3) _ 384 0 rfl 256 0 128 256 (by omega) (by omega) (.inl (.inl (by omega)))).trans ?_
    exact blk_hit v f i2 (W 2) _ 256 0 rfl
  · refine (blk_miss v f i7 (W 7) _ 896 0 rfl 384 0 128 256 (by omega) (by omega) (.inl (.inl (by omega)))).trans ?_
    refine (blk_miss v f i6 (W 6) _ 768 0 rfl 384 0 128 256 (by omega) (by omega) (.inl (.inl (by omega)))).trans ?_
    refine (blk_miss v f i5 (W 5) _ 640 0 rfl 384 0 128 256 (by omega) (by omega) (.inl (.inl (by omega)))).trans ?_
    refine (blk_miss v f i4 (W 4) _ 512 0 rfl 384 0 128 256 (by omega) (by omega) (.inl (.inl (by omega)))).trans ?_
    exact blk_hit v f i3 (W 3) _ 384 0 rfl
  · refine (blk_miss v f i7 (W 7) _ 896 0 rfl 512 0 128 256 (by omega) (by omega) (.inl (.inl (by omega)))).trans ?_
    refine (blk_miss v f i6 (W 6) _ 768 0 rfl 512 0 128 256 (by omega) (by omega) (.inl (.inl (by omega)))).trans ?_
    refine (blk_miss v f i5 (W 5) _ 640 0 rfl 512 0 128 256 (by omega) (by omega) (.inl (.inl (by omega)))).trans ?_
    exact blk_hit v f i4 (W 4) _ 512 0 rfl
  · refine (blk_miss v f i7 (W 7) _ 896 0 rfl 640 0 128 256 (by omega) (by omega) (.inl (.inl (by omega)))).trans ?_
    refine (blk_miss v f i6 (W 6) _ 768 0 rfl 640 0 128 256 (by omega) (by omega) (.inl (.inl (by omega)))).trans ?_
    exact blk_hit v f i5 (W 5) _ 640 0 rfl
  · refine (blk_miss v f i7 (W 7) _ 896 0 rfl 768 0 128 256 (by omega) (by omega) (.inl (.inl (by omega)))).trans ?_
    exact blk_hit v f i6 (W 6) _ 768 0 rfl
  · exact blk_hit v f i7 (W 7) _ 896 0 rfl

/-- A chunk taken by the eight heads at once is a step of each. -/
theorem Heads.step {s : ℕ → St F} {x11 x12 y11 y12 : (M 64 256).Idx → F .f32} {x13 y13 : (M 1024 256).Idx → F .f32}
    (hs : Heads s x11 x12 x13) (lg : ℕ → FVec F (M 256 256) .f32) (vt : ℕ → FVec F (M 128 256) .bf16)
    (h11 : ∀ h < 8, blk y11 (8 * h) 0 8 256 = kTop (blk x11 (8 * h) 0 8 256) (lg h))
    (h12 : ∀ h < 8, blk y12 (8 * h) 0 8 256 = kTot (blk x11 (8 * h) 0 8 256) (blk x12 (8 * h) 0 8 256) (lg h))
    (h13 : ∀ h < 8, blk y13 (128 * h) 0 128 256
      = kOut (blk x11 (8 * h) 0 8 256) (blk x13 (128 * h) 0 128 256) (lg h) (vt h)) :
    Heads (fun h => Cert.Proof.step (lg h) (vt h) (s h)) y11 y12 y13 where
  top h hh := by rw [h11 h hh, hs.top h hh]; exact kTop_eq (s h) (lg h) (vt h)
  tot h hh := by rw [h12 h hh, hs.top h hh, hs.tot h hh]; exact kTot_eq (s h) (lg h) (vt h)
  out h hh := by rw [h13 h hh, hs.top h hh, hs.out h hh]; exact kOut_eq (s h) (lg h) (vt h)

end Cert.Proof
-- ==== Proof.K.T7.lean ====
/-
  One trip of the attention's loop: all eight heads take one more chunk of 256 keys, in the layout the program keeps them.
-/
module

public import proofs.«01_k».proof.Proof.K.Common
public import proofs.«01_k».proof.Proof.Heads

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

theorem trip7 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v212 : IVec S1x256 32) (c0 v229 c1 : BitVec 32)
    (X2 : BufTy.Contents (Elt F) arg2.view.ty) (X6 : BufTy.Contents (Elt F) arg6.view.ty) (X7 : BufTy.Contents (Elt F) arg7.view.ty)
    (X9 : BufTy.Contents (Elt F) arg9.view.ty) (f11 : BufTy.Contents (Elt F) arg11.view.ty) (f12 : BufTy.Contents (Elt F) arg12.view.ty)
    (f13 : BufTy.Contents (Elt F) arg13.view.ty) (k : Fin (k0_t7_loop i).trips) :
    iprop(held c arg2 X2 ∗ held c arg6 X6 ∗ held c arg7 X7 ∗ held c arg9 X9 ∗ held c arg11 f11 ∗ held c arg12 f12 ∗ held c arg13 f13)
    ⊢ wp frame (wpE (defs₀ (F := F)) 𝒱 (c : Thread nD τ) bd) E
        (k0_t7_body (F := F) i arg2 harg2 arg3 harg3 arg4 harg4 arg5 harg5 arg6 harg6 arg7 harg7 arg8 harg8 arg9 harg9 arg10 harg10 arg11 harg11 arg12 harg12 arg13 harg13 v212 c0 v229 c1 k ())
        (fun _ => iprop(held c arg2 X2 ∗ held c arg6 X6 ∗ held c arg7 X7 ∗ held c arg9 X9 ∗ ∃ g11, ∃ g12, ∃ g13,
          held c arg11 g11 ∗ held c arg12 g12 ∗ held c arg13 g13 ∗
          ⌜g11 = arg11.view.writes (Elt F) f11
              [⟨Rect.unit (s := S64x256) ![56, 0] S8x256.size inb_S64x256_S8x256_56_0, shapeCast S8x256 (kTop (View.readAt (Elt F) arg11.view (Rect.unit (s := S64x256) ![56, 0] S8x256.size inb_S64x256_S8x256_56_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off18 i k) S256x128.size (k0_off18_inb i k)).toLoadRect X6) (View.readAt (Elt F) arg2.view (Rect.unit (s := S256x1024) ![0, 896] S256x128.size inb_S256x1024_S256x128_0_896).toLoadRect X2) shapeCasts_S256x128_S256x128)) shapeCasts_S8x256_S8x256⟩,
              ⟨Rect.unit (s := S64x256) ![48, 0] S8x256.size inb_S64x256_S8x256_48_0, shapeCast S8x256 (kTop (View.readAt (Elt F) arg11.view (Rect.unit (s := S64x256) ![48, 0] S8x256.size inb_S64x256_S8x256_48_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off17 i k) S256x128.size (k0_off17_inb i k)).toLoadRect X6) (View.readAt (Elt F) arg2.view (Rect.unit (s := S256x1024) ![0, 768] S256x128.size inb_S256x1024_S256x128_0_768).toLoadRect X2) shapeCasts_S256x128_S256x128)) shapeCasts_S8x256_S8x256⟩,
              ⟨Rect.unit (s := S64x256) ![40, 0] S8x256.size inb_S64x256_S8x256_40_0, shapeCast S8x256 (kTop (View.readAt (Elt F) arg11.view (Rect.unit (s := S64x256) ![40, 0] S8x256.size inb_S64x256_S8x256_40_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off16 i k) S256x128.size (k0_off16_inb i k)).toLoadRect X6) (View.readAt (Elt F) arg2.view (Rect.unit (s := S256x1024) ![0, 640] S256x128.size inb_S256x1024_S256x128_0_640).toLoadRect X2) shapeCasts_S256x128_S256x128)) shapeCasts_S8x256_S8x256⟩,
              ⟨Rect.unit (s := S64x256) ![32, 0] S8x256.size inb_S64x256_S8x256_32_0, shapeCast S8x256 (kTop (View.readAt (Elt F) arg11.view (Rect.unit (s := S64x256) ![32, 0] S8x256.size inb_S64x256_S8x256_32_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off15 i k) S256x128.size (k0_off15_inb i k)).toLoadRect X6) (View.readAt (Elt F) arg2.view (Rect.unit (s := S256x1024) ![0, 512] S256x128.size inb_S256x1024_S256x128_0_512).toLoadRect X2) shapeCasts_S256x128_S256x128)) shapeCasts_S8x256_S8x256⟩,
              ⟨Rect.unit (s := S64x256) ![24, 0] S8x256.size inb_S64x256_S8x256_24_0, shapeCast S8x256 (kTop (View.readAt (Elt F) arg11.view (Rect.unit (s := S64x256) ![24, 0] S8x256.size inb_S64x256_S8x256_24_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off14 i k) S256x128.size (k0_off14_inb i k)).toLoadRect X6) (View.readAt (Elt F) arg2.view (Rect.unit (s := S256x1024) ![0, 384] S256x128.size inb_S256x1024_S256x128_0_384).toLoadRect X2) shapeCasts_S256x128_S256x128)) shapeCasts_S8x256_S8x256⟩,
              ⟨Rect.unit (s := S64x256) ![16, 0] S8x256.size inb_S64x256_S8x256_16_0, shapeCast S8x256 (kTop (View.readAt (Elt F) arg11.view (Rect.unit (s := S64x256) ![16, 0] S8x256.size inb_S64x256_S8x256_16_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off13 i k) S256x128.size (k0_off13_inb i k)).toLoadRect X6) (View.readAt (Elt F) arg2.view (Rect.unit (s := S256x1024) ![0, 256] S256x128.size inb_S256x1024_S256x128_0_256).toLoadRect X2) shapeCasts_S256x128_S256x128)) shapeCasts_S8x256_S8x256⟩,
              ⟨Rect.unit (s := S64x256) ![8, 0] S8x256.size inb_S64x256_S8x256_8_0, shapeCast S8x256 (kTop (View.readAt (Elt F) arg11.view (Rect.unit (s := S64x256) ![8, 0] S8x256.size inb_S64x256_S8x256_8_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off12 i k) S256x128.size (k0_off12_inb i k)).toLoadRect X6) (View.readAt (Elt F) arg2.view (Rect.unit (s := S256x1024) ![0, 128] S256x128.size inb_S256x1024_S256x128_0_128).toLoadRect X2) shapeCasts_S256x128_S256x128)) shapeCasts_S8x256_S8x256⟩,
              ⟨Rect.unit (s := S64x256) ![0, 0] S8x256.size inb_S64x256_S8x256_0_0, shapeCast S8x256 (kTop (View.readAt (Elt F) arg11.view (Rect.unit (s := S64x256) ![0, 0] S8x256.size inb_S64x256_S8x256_0_0).toLoadRect f11) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off11 i k) S256x128.size (k0_off11_inb i k)).toLoadRect X6) (View.readAt (Elt F) arg2.view (Rect.unit (s := S256x1024) ![0, 0] S256x128.size inb_S256x1024_S256x128_0_0).toLoadRect X2) shapeCasts_S256x128_S256x128)) shapeCasts_S8x256_S8x256⟩]
            ∧ g12 = arg12.view.writes (Elt F) f12
              [⟨Rect.unit (s := S64x256) ![56, 0] S8x256.size inb_S64x256_S8x256_56_0, shapeCast S8x256 (kTot (View.readAt (Elt F) arg11.view (Rect.unit (s := S64x256) ![56, 0] S8x256.size inb_S64x256_S8x256_56_0).toLoadRect f11) (View.readAt (Elt F) arg12.view (Rect.unit (s := S64x256) ![56, 0] S8x256.size inb_S64x256_S8x256_56_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off18 i k) S256x128.size (k0_off18_inb i k)).toLoadRect X6) (View.readAt (Elt F) arg2.view (Rect.unit (s := S256x1024) ![0, 896] S256x128.size inb_S256x1024_S256x128_0_896).toLoadRect X2) shapeCasts_S256x128_S256x128)) shapeCasts_S8x256_S8x256⟩,
              ⟨Rect.unit (s := S64x256) ![48, 0] S8x256.size inb_S64x256_S8x256_48_0, shapeCast S8x256 (kTot (View.readAt (Elt F) arg11.view (Rect.unit (s := S64x256) ![48, 0] S8x256.size inb_S64x256_S8x256_48_0).toLoadRect f11) (View.readAt (Elt F) arg12.view (Rect.unit (s := S64x256) ![48, 0] S8x256.size inb_S64x256_S8x256_48_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off17 i k) S256x128.size (k0_off17_inb i k)).toLoadRect X6) (View.readAt (Elt F) arg2.view (Rect.unit (s := S256x1024) ![0, 768] S256x128.size inb_S256x1024_S256x128_0_768).toLoadRect X2) shapeCasts_S256x128_S256x128)) shapeCasts_S8x256_S8x256⟩,
              ⟨Rect.unit (s := S64x256) ![40, 0] S8x256.size inb_S64x256_S8x256_40_0, shapeCast S8x256 (kTot (View.readAt (Elt F) arg11.view (Rect.unit (s := S64x256) ![40, 0] S8x256.size inb_S64x256_S8x256_40_0).toLoadRect f11) (View.readAt (Elt F) arg12.view (Rect.unit (s := S64x256) ![40, 0] S8x256.size inb_S64x256_S8x256_40_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off16 i k) S256x128.size (k0_off16_inb i k)).toLoadRect X6) (View.readAt (Elt F) arg2.view (Rect.unit (s := S256x1024) ![0, 640] S256x128.size inb_S256x1024_S256x128_0_640).toLoadRect X2) shapeCasts_S256x128_S256x128)) shapeCasts_S8x256_S8x256⟩,
              ⟨Rect.unit (s := S64x256) ![32, 0] S8x256.size inb_S64x256_S8x256_32_0, shapeCast S8x256 (kTot (View.readAt (Elt F) arg11.view (Rect.unit (s := S64x256) ![32, 0] S8x256.size inb_S64x256_S8x256_32_0).toLoadRect f11) (View.readAt (Elt F) arg12.view (Rect.unit (s := S64x256) ![32, 0] S8x256.size inb_S64x256_S8x256_32_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off15 i k) S256x128.size (k0_off15_inb i k)).toLoadRect X6) (View.readAt (Elt F) arg2.view (Rect.unit (s := S256x1024) ![0, 512] S256x128.size inb_S256x1024_S256x128_0_512).toLoadRect X2) shapeCasts_S256x128_S256x128)) shapeCasts_S8x256_S8x256⟩,
              ⟨Rect.unit (s := S64x256) ![24, 0] S8x256.size inb_S64x256_S8x256_24_0, shapeCast S8x256 (kTot (View.readAt (Elt F) arg11.view (Rect.unit (s := S64x256) ![24, 0] S8x256.size inb_S64x256_S8x256_24_0).toLoadRect f11) (View.readAt (Elt F) arg12.view (Rect.unit (s := S64x256) ![24, 0] S8x256.size inb_S64x256_S8x256_24_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off14 i k) S256x128.size (k0_off14_inb i k)).toLoadRect X6) (View.readAt (Elt F) arg2.view (Rect.unit (s := S256x1024) ![0, 384] S256x128.size inb_S256x1024_S256x128_0_384).toLoadRect X2) shapeCasts_S256x128_S256x128)) shapeCasts_S8x256_S8x256⟩,
              ⟨Rect.unit (s := S64x256) ![16, 0] S8x256.size inb_S64x256_S8x256_16_0, shapeCast S8x256 (kTot (View.readAt (Elt F) arg11.view (Rect.unit (s := S64x256) ![16, 0] S8x256.size inb_S64x256_S8x256_16_0).toLoadRect f11) (View.readAt (Elt F) arg12.view (Rect.unit (s := S64x256) ![16, 0] S8x256.size inb_S64x256_S8x256_16_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off13 i k) S256x128.size (k0_off13_inb i k)).toLoadRect X6) (View.readAt (Elt F) arg2.view (Rect.unit (s := S256x1024) ![0, 256] S256x128.size inb_S256x1024_S256x128_0_256).toLoadRect X2) shapeCasts_S256x128_S256x128)) shapeCasts_S8x256_S8x256⟩,
              ⟨Rect.unit (s := S64x256) ![8, 0] S8x256.size inb_S64x256_S8x256_8_0, shapeCast S8x256 (kTot (View.readAt (Elt F) arg11.view (Rect.unit (s := S64x256) ![8, 0] S8x256.size inb_S64x256_S8x256_8_0).toLoadRect f11) (View.readAt (Elt F) arg12.view (Rect.unit (s := S64x256) ![8, 0] S8x256.size inb_S64x256_S8x256_8_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off12 i k) S256x128.size (k0_off12_inb i k)).toLoadRect X6) (View.readAt (Elt F) arg2.view (Rect.unit (s := S256x1024) ![0, 128] S256x128.size inb_S256x1024_S256x128_0_128).toLoadRect X2) shapeCasts_S256x128_S256x128)) shapeCasts_S8x256_S8x256⟩,
              ⟨Rect.unit (s := S64x256) ![0, 0] S8x256.size inb_S64x256_S8x256_0_0, shapeCast S8x256 (kTot (View.readAt (Elt F) arg11.view (Rect.unit (s := S64x256) ![0, 0] S8x256.size inb_S64x256_S8x256_0_0).toLoadRect f11) (View.readAt (Elt F) arg12.view (Rect.unit (s := S64x256) ![0, 0] S8x256.size inb_S64x256_S8x256_0_0).toLoadRect f12) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off11 i k) S256x128.size (k0_off11_inb i k)).toLoadRect X6) (View.readAt (Elt F) arg2.view (Rect.unit (s := S256x1024) ![0, 0] S256x128.size inb_S256x1024_S256x128_0_0).toLoadRect X2) shapeCasts_S256x128_S256x128)) shapeCasts_S8x256_S8x256⟩]
            ∧ g13 = arg13.view.writes (Elt F) f13
              [⟨Rect.unit (s := S1024x256) ![896, 0] S128x256.size inb_S1024x256_S128x256_896_0, shapeCast S128x256 (kOut (View.readAt (Elt F) arg11.view (Rect.unit (s := S64x256) ![56, 0] S8x256.size inb_S64x256_S8x256_56_0).toLoadRect f11) (View.readAt (Elt F) arg13.view (Rect.unit (s := S1024x256) ![896, 0] S128x256.size inb_S1024x256_S128x256_896_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off18 i k) S256x128.size (k0_off18_inb i k)).toLoadRect X6) (View.readAt (Elt F) arg2.view (Rect.unit (s := S256x1024) ![0, 896] S256x128.size inb_S256x1024_S256x128_0_896).toLoadRect X2) shapeCasts_S256x128_S256x128) (shapeCast S128x256 (View.readAt (Elt F) arg7.view (Rect.unit (s := S1x1024x4096) (k0_off26 i k) S1x128x256.size (k0_off26_inb i k)).toLoadRect X7) shapeCasts_S1x128x256_S128x256)) shapeCasts_S128x256_S128x256⟩,
              ⟨Rect.unit (s := S1024x256) ![768, 0] S128x256.size inb_S1024x256_S128x256_768_0, shapeCast S128x256 (kOut (View.readAt (Elt F) arg11.view (Rect.unit (s := S64x256) ![48, 0] S8x256.size inb_S64x256_S8x256_48_0).toLoadRect f11) (View.readAt (Elt F) arg13.view (Rect.unit (s := S1024x256) ![768, 0] S128x256.size inb_S1024x256_S128x256_768_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off17 i k) S256x128.size (k0_off17_inb i k)).toLoadRect X6) (View.readAt (Elt F) arg2.view (Rect.unit (s := S256x1024) ![0, 768] S256x128.size inb_S256x1024_S256x128_0_768).toLoadRect X2) shapeCasts_S256x128_S256x128) (shapeCast S128x256 (View.readAt (Elt F) arg7.view (Rect.unit (s := S1x1024x4096) (k0_off25 i k) S1x128x256.size (k0_off25_inb i k)).toLoadRect X7) shapeCasts_S1x128x256_S128x256)) shapeCasts_S128x256_S128x256⟩,
              ⟨Rect.unit (s := S1024x256) ![640, 0] S128x256.size inb_S1024x256_S128x256_640_0, shapeCast S128x256 (kOut (View.readAt (Elt F) arg11.view (Rect.unit (s := S64x256) ![40, 0] S8x256.size inb_S64x256_S8x256_40_0).toLoadRect f11) (View.readAt (Elt F) arg13.view (Rect.unit (s := S1024x256) ![640, 0] S128x256.size inb_S1024x256_S128x256_640_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off16 i k) S256x128.size (k0_off16_inb i k)).toLoadRect X6) (View.readAt (Elt F) arg2.view (Rect.unit (s := S256x1024) ![0, 640] S256x128.size inb_S256x1024_S256x128_0_640).toLoadRect X2) shapeCasts_S256x128_S256x128) (shapeCast S128x256 (View.readAt (Elt F) arg7.view (Rect.unit (s := S1x1024x4096) (k0_off24 i k) S1x128x256.size (k0_off24_inb i k)).toLoadRect X7) shapeCasts_S1x128x256_S128x256)) shapeCasts_S128x256_S128x256⟩,
              ⟨Rect.unit (s := S1024x256) ![512, 0] S128x256.size inb_S1024x256_S128x256_512_0, shapeCast S128x256 (kOut (View.readAt (Elt F) arg11.view (Rect.unit (s := S64x256) ![32, 0] S8x256.size inb_S64x256_S8x256_32_0).toLoadRect f11) (View.readAt (Elt F) arg13.view (Rect.unit (s := S1024x256) ![512, 0] S128x256.size inb_S1024x256_S128x256_512_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off15 i k) S256x128.size (k0_off15_inb i k)).toLoadRect X6) (View.readAt (Elt F) arg2.view (Rect.unit (s := S256x1024) ![0, 512] S256x128.size inb_S256x1024_S256x128_0_512).toLoadRect X2) shapeCasts_S256x128_S256x128) (shapeCast S128x256 (View.readAt (Elt F) arg7.view (Rect.unit (s := S1x1024x4096) (k0_off23 i k) S1x128x256.size (k0_off23_inb i k)).toLoadRect X7) shapeCasts_S1x128x256_S128x256)) shapeCasts_S128x256_S128x256⟩,
              ⟨Rect.unit (s := S1024x256) ![384, 0] S128x256.size inb_S1024x256_S128x256_384_0, shapeCast S128x256 (kOut (View.readAt (Elt F) arg11.view (Rect.unit (s := S64x256) ![24, 0] S8x256.size inb_S64x256_S8x256_24_0).toLoadRect f11) (View.readAt (Elt F) arg13.view (Rect.unit (s := S1024x256) ![384, 0] S128x256.size inb_S1024x256_S128x256_384_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off14 i k) S256x128.size (k0_off14_inb i k)).toLoadRect X6) (View.readAt (Elt F) arg2.view (Rect.unit (s := S256x1024) ![0, 384] S256x128.size inb_S256x1024_S256x128_0_384).toLoadRect X2) shapeCasts_S256x128_S256x128) (shapeCast S128x256 (View.readAt (Elt F) arg7.view (Rect.unit (s := S1x1024x4096) (k0_off22 i k) S1x128x256.size (k0_off22_inb i k)).toLoadRect X7) shapeCasts_S1x128x256_S128x256)) shapeCasts_S128x256_S128x256⟩,
              ⟨Rect.unit (s := S1024x256) ![256, 0] S128x256.size inb_S1024x256_S128x256_256_0, shapeCast S128x256 (kOut (View.readAt (Elt F) arg11.view (Rect.unit (s := S64x256) ![16, 0] S8x256.size inb_S64x256_S8x256_16_0).toLoadRect f11) (View.readAt (Elt F) arg13.view (Rect.unit (s := S1024x256) ![256, 0] S128x256.size inb_S1024x256_S128x256_256_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off13 i k) S256x128.size (k0_off13_inb i k)).toLoadRect X6) (View.readAt (Elt F) arg2.view (Rect.unit (s := S256x1024) ![0, 256] S256x128.size inb_S256x1024_S256x128_0_256).toLoadRect X2) shapeCasts_S256x128_S256x128) (shapeCast S128x256 (View.readAt (Elt F) arg7.view (Rect.unit (s := S1x1024x4096) (k0_off21 i k) S1x128x256.size (k0_off21_inb i k)).toLoadRect X7) shapeCasts_S1x128x256_S128x256)) shapeCasts_S128x256_S128x256⟩,
              ⟨Rect.unit (s := S1024x256) ![128, 0] S128x256.size inb_S1024x256_S128x256_128_0, shapeCast S128x256 (kOut (View.readAt (Elt F) arg11.view (Rect.unit (s := S64x256) ![8, 0] S8x256.size inb_S64x256_S8x256_8_0).toLoadRect f11) (View.readAt (Elt F) arg13.view (Rect.unit (s := S1024x256) ![128, 0] S128x256.size inb_S1024x256_S128x256_128_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off12 i k) S256x128.size (k0_off12_inb i k)).toLoadRect X6) (View.readAt (Elt F) arg2.view (Rect.unit (s := S256x1024) ![0, 128] S256x128.size inb_S256x1024_S256x128_0_128).toLoadRect X2) shapeCasts_S256x128_S256x128) (shapeCast S128x256 (View.readAt (Elt F) arg7.view (Rect.unit (s := S1x1024x4096) (k0_off20 i k) S1x128x256.size (k0_off20_inb i k)).toLoadRect X7) shapeCasts_S1x128x256_S128x256)) shapeCasts_S128x256_S128x256⟩,
              ⟨Rect.unit (s := S1024x256) ![0, 0] S128x256.size inb_S1024x256_S128x256_0_0, shapeCast S128x256 (kOut (View.readAt (Elt F) arg11.view (Rect.unit (s := S64x256) ![0, 0] S8x256.size inb_S64x256_S8x256_0_0).toLoadRect f11) (View.readAt (Elt F) arg13.view (Rect.unit (s := S1024x256) ![0, 0] S128x256.size inb_S1024x256_S128x256_0_0).toLoadRect f13) (kLogits (cmpi .sge (View.readAt (Elt F) arg9.view (Rect.unit (s := S4096x256) (k0_off10 i k) S256x256.size (k0_off10_inb i k)).toLoadRect X9) (broadcastTo S256x256 v212 broadcasts_S1x256_S256x256)) (View.readAt (Elt F) arg6.view (Rect.unit (s := S4096x1024) (k0_off11 i k) S256x128.size (k0_off11_inb i k)).toLoadRect X6) (View.readAt (Elt F) arg2.view (Rect.unit (s := S256x1024) ![0, 0] S256x128.size inb_S256x1024_S256x128_0_0).toLoadRect X2) shapeCasts_S256x128_S256x128) (shapeCast S128x256 (View.readAt (Elt F) arg7.view (Rect.unit (s := S1x1024x4096) (k0_off19 i k) S1x128x256.size (k0_off19_inb i k)).toLoadRect X7) shapeCasts_S1x128x256_S128x256)) shapeCasts_S128x256_S128x256⟩]⌝)) := by
  unfold k0_t7_body
  iintro ⟨H2, H6, H7, H9, H11, H12, H13⟩
  sl_exec
  sl_step
  isplitl [H2]; · iexact H2
  isplitl [H6]; · iexact H6
  isplitl [H7]; · iexact H7
  isplitl [H9]; · iexact H9
  iexists _
  iexists _
  iexists _
  isplitl [H11]; · iexact H11
  isplitl [H12]; · iexact H12
  isplitl [H13]; · iexact H13
  ipureintro
  refine ⟨?_, ?_, ?_⟩
  · rfl
  · rfl
  · rfl

end Cert.Proof.K
-- ==== Proof.K.Loop7.lean ====
/-
  The attention's loop: before trip `k` the eight heads' states are those after `k` chunks.
-/
module

public import proofs.«01_k».proof.Proof.K.T7

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The logits of head `h`'s chunk `c`, under the mask the threshold makes. -/
def lgs (v212 : IVec S1x256 32) (x2 : (M 256 1024).Idx → F .bf16) (x6 : (M 4096 1024).Idx → F .bf16) (x9 : (M 4096 256).Idx → BitVec 32)
    (h c : ℕ) : FVec F (M 256 256) .f32 :=
  logits (cmpi .sge (blk x9 (256 * c) 0 256 256) (broadcastTo S256x256 v212 broadcasts_S1x256_S256x256))
    (blk x6 (256 * c) (128 * h) 256 128) (blk x2 0 (128 * h) 256 128)

/-- The values of head `h`'s chunk `c`, transposed. -/
def vts (x7 : (M 1024 4096).Idx → F .bf16) (h c : ℕ) : FVec F (M 128 256) .bf16 := blk x7 (128 * h) (256 * c) 128 256

/-- Before trip `k`. -/
def inv7 (c : Dev nD) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v212 : IVec S1x256 32)
    (X2 : BufTy.Contents (Elt F) arg2.view.ty) (X6 : BufTy.Contents (Elt F) arg6.view.ty) (X7 : BufTy.Contents (Elt F) arg7.view.ty)
    (X9 : BufTy.Contents (Elt F) arg9.view.ty) (k : ℕ) (_u : PUnit) : sProp (MT nD τ sig Unit (Elt F) ℕ (UR sig nD τ) ℕ) :=
  iprop(held c arg2 X2 ∗ held c arg6 X6 ∗ held c arg7 X7 ∗ held c arg9 X9 ∗ ∃ f11, ∃ f12, ∃ f13,
    held c arg11 f11 ∗ held c arg12 f12 ∗ held c arg13 f13 ∗
    ⌜Heads (fun h => states (lgs v212 (arg2.view.read (Elt F) X2) (arg6.view.read (Elt F) X6) (arg9.view.read (Elt F) X9) h)
        (vts (slab (arg7.view.read (Elt F) X7)) h) k)
      (arg11.view.read (Elt F) f11) (arg12.view.read (Elt F) f12) (arg13.view.read (Elt F) f13)⌝)

set_option warn.classDefReducibility false in
def loop7 (𝒱 : Variants) (c : Dev nD) (bd : Option 𝒱.V) (E : Set ℕ) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v212 : IVec S1x256 32) (c0 v229 c1 : BitVec 32)
    (X2 : BufTy.Contents (Elt F) arg2.view.ty) (X6 : BufTy.Contents (Elt F) arg6.view.ty) (X7 : BufTy.Contents (Elt F) arg7.view.ty)
    (X9 : BufTy.Contents (Elt F) arg9.view.ty) :
    Idealize.ShloMosaic.LoopInv (M := MT nD τ sig Unit (Elt F) ℕ (UR sig nD τ) ℕ) Idealize.ShloMosaic.frame
      (wpE (defs₀ (F := F)) 𝒱 (c : Thread nD τ) bd) E (k0_t7_loop i).lb (k0_t7_loop i).ub (k0_t7_loop i).st (k0_t7_ok i) ()
      (k0_t7_body (F := F) i arg2 harg2 arg3 harg3 arg4 harg4 arg5 harg5 arg6 harg6 arg7 harg7 arg8 harg8 arg9 harg9 arg10 harg10 arg11 harg11 arg12 harg12 arg13 harg13 v212 c0 v229 c1) where
  inv := inv7 (F := F) c arg2 harg2 arg3 harg3 arg4 harg4 arg5 harg5 arg6 harg6 arg7 harg7 arg8 harg8 arg9 harg9 arg10 harg10 arg11 harg11 arg12 harg12 arg13 harg13 v212 X2 X6 X7 X9
  step k acc := by
    unfold inv7
    iintro ⟨H2, H6, H7, H9, ⟨%f11, %f12, %f13, H11, H12, H13, %hs⟩⟩
    iapply (wp_wand_r Idealize.ShloMosaic.frame (wpE (defs₀ (F := F)) 𝒱 (c : Thread nD τ) bd) E)
    isplitl [H2 H6 H7 H9 H11 H12 H13]
    · iapply (trip7 (F := F) 𝒱 c bd E i arg2 harg2 arg3 harg3 arg4 harg4 arg5 harg5 arg6 harg6 arg7 harg7 arg8 harg8 arg9 harg9 arg10 harg10 arg11 harg11 arg12 harg12 arg13 harg13 v212 c0 v229 c1 X2 X6 X7 X9 f11 f12 f13 k)
      isplitl [H2]; · iexact H2
      isplitl [H6]; · iexact H6
      isplitl [H7]; · iexact H7
      isplitl [H9]; · iexact H9
      isplitl [H11]; · iexact H11
      isplitl [H12]; · iexact H12
      iexact H13
    · iintro %_ ⟨H2, H6, H7, H9, ⟨%g11, %g12, %g13, H11, H12, H13, %hg⟩⟩
      isplitl [H2]; · iexact H2
      isplitl [H6]; · iexact H6
      isplitl [H7]; · iexact H7
      isplitl [H9]; · iexact H9
      iexists g11
      iexists g12
      iexists g13
      isplitl [H11]; · iexact H11
      isplitl [H12]; · iexact H12
      isplitl [H13]; · iexact H13
      ipureintro
      obtain ⟨e11, e12, e13⟩ := hg
      have s9 := readAt_blk' arg9.view X9 (k0_off10 i k) (256 * k.val) 0 256 256 (k0_off10_inb i k) (k0_off10_eq i k)
      have k0 := readAt_blk' arg6.view X6 (k0_off11 i k) (256 * k.val) 0 256 128 (k0_off11_inb i k) (k0_off11_eq i k)
      have v0 := readAt_slab arg7.view X7 (k0_off19 i k) 0 (256 * k.val) 128 256 (k0_off19_inb i k) (k0_off19_eq i k) shapeCasts_S1x128x256_S128x256
      have k1 := readAt_blk' arg6.view X6 (k0_off12 i k) (256 * k.val) 128 256 128 (k0_off12_inb i k) (k0_off12_eq i k)
      have v1 := readAt_slab arg7.view X7 (k0_off20 i k) 128 (256 * k.val) 128 256 (k0_off20_inb i k) (k0_off20_eq i k) shapeCasts_S1x128x256_S128x256
      have k2 := readAt_blk' arg6.view X6 (k0_off13 i k) (256 * k.val) 256 256 128 (k0_off13_inb i k) (k0_off13_eq i k)
      have v2 := readAt_slab arg7.view X7 (k0_off21 i k) 256 (256 * k.val) 128 256 (k0_off21_inb i k) (k0_off21_eq i k) shapeCasts_S1x128x256_S128x256
      have k3 := readAt_blk' arg6.view X6 (k0_off14 i k) (256 * k.val) 384 256 128 (k0_off14_inb i k) (k0_off14_eq i k)
      have v3 := readAt_slab arg7.view X7 (k0_off22 i k) 384 (256 * k.val) 128 256 (k0_off22_inb i k) (k0_off22_eq i k) shapeCasts_S1x128x256_S128x256
      have k4 := readAt_blk' arg6.view X6 (k0_off15 i k) (256 * k.val) 512 256 128 (k0_off15_inb i k) (k0_off15_eq i k)
      have v4 := readAt_slab arg7.view X7 (k0_off23 i k) 512 (256 * k.val) 128 256 (k0_off23_inb i k) (k0_off23_eq i k) shapeCasts_S1x128x256_S128x256
      have k5 := readAt_blk' arg6.view X6 (k0_off16 i k) (256 * k.val) 640 256 128 (k0_off16_inb i k) (k0_off16_eq i k)
      have v5 := readAt_slab arg7.view X7 (k0_off24 i k) 640 (256 * k.val) 128 256 (k0_off24_inb i k) (k0_off24_eq i k) shapeCasts_S1x128x256_S128x256
      have k6 := readAt_blk' arg6.view X6 (k0_off17 i k) (256 * k.val) 768 256 128 (k0_off17_inb i k) (k0_off17_eq i k)
      have v6 := readAt_slab arg7.view X7 (k0_off25 i k) 768 (256 * k.val) 128 256 (k0_off25_inb i k) (k0_off25_eq i k) shapeCasts_S1x128x256_S128x256
      have k7 := readAt_blk' arg6.view X6 (k0_off18 i k) (256 * k.val) 896 256 128 (k0_off18_inb i k) (k0_off18_eq i k)
      have v7 := readAt_slab arg7.view X7 (k0_off26 i k) 896 (256 * k.val) 128 256 (k0_off26_inb i k) (k0_off26_eq i k) shapeCasts_S1x128x256_S128x256
      simp only [readAt_blk, shapeCast_self, kLogits, s9, k0, v0, k1, v1, k2, v2, k3, v3, k4, v4, k5, v5, k6, v6, k7, v7] at e11 e12 e13
      subst e11 e12 e13
      refine hs.step (fun h => lgs v212 (arg2.view.read (Elt F) X2) (arg6.view.read (Elt F) X6) (arg9.view.read (Elt F) X9) h k.val)
        (fun h => vts (slab (arg7.view.read (Elt F) X7)) h k.val) ?_ ?_ ?_
      · exact rows8 arg11.view f11 (fun h => kTop (blk (arg11.view.read (Elt F) f11) (8 * h) 0 8 256)
          (lgs v212 (arg2.view.read (Elt F) X2) (arg6.view.read (Elt F) X6) (arg9.view.read (Elt F) X9) h k.val)) _ _ _ _ _ _ _ _
      · exact rows8 arg12.view f12 (fun h => kTot (blk (arg11.view.read (Elt F) f11) (8 * h) 0 8 256) (blk (arg12.view.read (Elt F) f12) (8 * h) 0 8 256)
          (lgs v212 (arg2.view.read (Elt F) X2) (arg6.view.read (Elt F) X6) (arg9.view.read (Elt F) X9) h k.val)) _ _ _ _ _ _ _ _
      · exact rows128 arg13.view f13 (fun h => kOut (blk (arg11.view.read (Elt F) f11) (8 * h) 0 8 256) (blk (arg13.view.read (Elt F) f13) (128 * h) 0 128 256)
          (lgs v212 (arg2.view.read (Elt F) X2) (arg6.view.read (Elt F) X6) (arg9.view.read (Elt F) X9) h k.val)
          (vts (slab (arg7.view.read (Elt F) X7)) h k.val)) _ _ _ _ _ _ _ _

end Cert.Proof.K
-- ==== Proof.K.Enter.lean ====
/-
  THE SCORING LOOP AND THE ATTENTION LOOP, run from their first trip to the end: what they leave, for the program after them.
-/
module

public import proofs.«01_k».proof.Proof.K.Loop1
public import proofs.«01_k».proof.Proof.K.While
public import proofs.«01_k».proof.Proof.K.Loop7

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The first row of queries' position, as the program's word. -/
theorem word_base (i : grid0.Coords) :
    Scalar.muli (BitVec.ofNat 32 (i 1).val) 256#32 = BitVec.ofNat 32 (256 * (i 1).val) := by
  generalize (i 1) = x
  change Fin 16 at x
  revert x; decide

theorem trips1 (i : grid0.Coords) : (k0_t1_loop i).trips = (i 1).val + 1 := by
  unfold Scf.Loop.trips k0_t1_loop
  generalize (i 1) = x
  change Fin 16 at x
  revert x; decide

theorem trips3 (i : grid0.Coords) : (k0_t3_loop i).trips = ((i 1).val + 2) / 2 := by
  unfold Scf.Loop.trips k0_t3_loop
  generalize (i 1) = x
  change Fin 16 at x
  revert x; decide

theorem trips7 (i : grid0.Coords) : (k0_t7_loop i).trips = (i 1).val + 1 := by
  unfold Scf.Loop.trips k0_t7_loop
  generalize (i 1) = x
  change Fin 16 at x
  revert x; decide

/-- The running maxima before the first chunk. -/
theorem grouped_zero (m : Memref sig .tc .vmem S256x256 .i32) (f : BufTy.Contents (Elt F) m.view.ty) (K : ℕ → Fin 256 → BitVec 32) :
    Grouped K 0 (m.view.read (Elt F) (m.view.writes (Elt F) f
      [⟨Rect.unit (s := S256x256) ![0, 0] S256x256.size inb_S256x256_S256x256_0_0, k0_pay931⟩])) := by
  intro ρ q
  refine ⟨fun c hc => absurd hc (by omega), .inl ?_⟩
  rw [read_writes_hit (R := 256) (C := 256) m.view f inb_S256x256_S256x256_0_0 _ _ 0 0 rfl ρ q ρ q (by simp) (by simp)]
  rfl

/-- The scoring loop as a whole. -/
theorem enter1 (c : Dev nD) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v1 : BitVec 32) (v2 : Vec F S256x128 .f32) (X3 : BufTy.Contents (Elt F) arg3.view.ty) (X5 : BufTy.Contents (Elt F) arg5.view.ty)
    (f9 : BufTy.Contents (Elt F) arg9.view.ty) (f10 : BufTy.Contents (Elt F) arg10.view.ty)
    {β : Type} (kk : PUnit → Prog (TpuEff nD τ sig (Elt F) (Λ₀ F) .tc) β) (Q : β → sProp (MT nD τ sig Unit (Elt F) ℕ (UR sig nD τ) ℕ))
    (hv : v1 = BitVec.ofNat 32 (256 * (i 1).val)) :
    iprop(held c arg3 X3 ∗ held c arg5 X5 ∗ held c arg9 f9
      ∗ held c arg10 (arg10.view.writes (Elt F) f10 [⟨Rect.unit (s := S256x256) ![0, 0] S256x256.size inb_S256x256_S256x256_0_0, k0_pay931⟩])
      ∗ (∀ g9, ∀ g10, ⌜Keyed (KK i (arg3.view.read (Elt F) X3) v2 (arg5.view.read (Elt F) X5)) (256 * ((i 1).val + 1)) (arg9.view.read (Elt F) g9)
            ∧ Grouped (KK i (arg3.view.read (Elt F) X3) v2 (arg5.view.read (Elt F) X5)) ((i 1).val + 1) (arg10.view.read (Elt F) g10)⌝
          -∗ (held c arg3 X3 ∗ held c arg5 X5 ∗ held c arg9 g9 ∗ held c arg10 g10)
          -∗ wp frame (wpE (defs₀ (F := F)) 𝒱₀ (c : Thread nD τ) none) Set.univ (kk ⟨⟩) Q))
    ⊢ wp frame (wpE (defs₀ (F := F)) 𝒱₀ (c : Thread nD τ) none) Set.univ (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 arg13 harg13 v1 v2) >>= kk) Q := by
  iintro ⟨H3, H5, H9, H10, HK⟩
  rw [wp_bind]
  iapply (Scf.wp_for frame (wpE (defs₀ (F := F)) 𝒱₀ (c : Thread nD τ) none) Set.univ (k0_t1_loop i).lb (k0_t1_loop i).ub (k0_t1_loop i).st (k0_t1_ok i) ()
    (k0_t1_body (F := F) i arg2 harg2 arg3 harg3 arg4 harg4 arg5 harg5 arg6 harg6 arg7 harg7 arg8 harg8 arg9 harg9 arg10 harg10 arg11 harg11 arg12 harg12 arg13 harg13 v1 v2) (inv1 (F := F) c i arg2 harg2 arg3 harg3 arg4 harg4 arg5 harg5 arg6 harg6 arg7 harg7 arg8 harg8 arg9 harg9 arg10 harg10 arg11 harg11 arg12 harg12 arg13 harg13 v1 v2 X3 X5) (loop1 (F := F) 𝒱₀ c none Set.univ i arg2 harg2 arg3 harg3 arg4 harg4 arg5 harg5 arg6 harg6 arg7 harg7 arg8 harg8 arg9 harg9 arg10 harg10 arg11 harg11 arg12 harg12 arg13 harg13 v1 v2 X3 X5).step)
  isplitl [H3 H5 H9 H10]
  · unfold inv1
    isplitl [H3]; · iexact H3
    isplitl [H5]; · iexact H5
    isplitl [H9]
    · iexists f9
      isplitl [H9]; · iexact H9
      ipureintro
      exact ⟨hv, fun p q hp => absurd hp (by omega)⟩
    · iexists _
      isplitl [H10]; · iexact H10
      ipureintro
      exact grouped_zero arg10 f10 _
  · iintro %acc HI
    have hT : Scf.trips (k0_t1_loop i).lb (k0_t1_loop i).ub (k0_t1_loop i).st = (i 1).val + 1 := trips1 i
    rw [hT]
    unfold inv1
    icases HI with ⟨H3, H5, ⟨%g9, H9, %h9⟩, ⟨%g10, H10, %h10⟩⟩
    iapply HK
    · ipureintro
      exact ⟨h9.2, h10⟩
    · isplitl [H3]; · iexact H3
      isplitl [H5]; · iexact H5
      isplitl [H9]; · iexact H9
      iexact H10

/-- The three accumulators of every head before the first chunk. -/
theorem heads_zero (m11 m12 : Memref sig .tc .vmem S64x256 .f32) (m13 : Memref sig .tc .vmem S1024x256 .f32)
    (f11 : BufTy.Contents (Elt F) m11.view.ty) (f12 : BufTy.Contents (Elt F) m12.view.ty) (f13 : BufTy.Contents (Elt F) m13.view.ty)
    (lg : ℕ → ℕ → FVec F (M 256 256) .f32) (vt : ℕ → ℕ → (M 128 256).Idx → F .bf16) :
    Heads (fun h => states (lg h) (vt h) 0)
      (m11.view.read (Elt F) (m11.view.writes (Elt F) f11 [⟨Rect.unit (s := S64x256) ![0, 0] S64x256.size inb_S64x256_S64x256_0_0, k0_pay990⟩]))
      (m12.view.read (Elt F) (m12.view.writes (Elt F) f12 [⟨Rect.unit (s := S64x256) ![0, 0] S64x256.size inb_S64x256_S64x256_0_0, k0_pay991⟩]))
      (m13.view.read (Elt F) (m13.view.writes (Elt F) f13 [⟨Rect.unit (s := S1024x256) ![0, 0] S1024x256.size inb_S1024x256_S1024x256_0_0, k0_pay992⟩])) := by
  refine ⟨fun h hh => ?_, fun h hh => ?_, fun h hh => ?_⟩
  · funext j
    obtain ⟨p, q, rfl⟩ : ∃ (p : Fin 8) (q : Fin 256), j = ix2 p q := ⟨j 0, j 1, ix2_eq j _ _ rfl rfl⟩
    rw [blk_apply _ (8 * h) 0 8 256 _ ⟨8 * h + p.val, by omega⟩ q rfl (Nat.zero_add _).symm,
      read_writes_hit (R := 64) (C := 256) m11.view f11 inb_S64x256_S64x256_0_0 _ _ 0 0 rfl ⟨8 * h + p.val, by omega⟩ q
        ⟨8 * h + p.val, by omega⟩ q (Nat.zero_add _).symm (Nat.zero_add _).symm]
    rfl
  · funext j
    obtain ⟨p, q, rfl⟩ : ∃ (p : Fin 8) (q : Fin 256), j = ix2 p q := ⟨j 0, j 1, ix2_eq j _ _ rfl rfl⟩
    rw [blk_apply _ (8 * h) 0 8 256 _ ⟨8 * h + p.val, by omega⟩ q rfl (Nat.zero_add _).symm,
      read_writes_hit (R := 64) (C := 256) m12.view f12 inb_S64x256_S64x256_0_0 _ _ 0 0 rfl ⟨8 * h + p.val, by omega⟩ q
        ⟨8 * h + p.val, by omega⟩ q (Nat.zero_add _).symm (Nat.zero_add _).symm]
    rfl
  · funext j
    obtain ⟨p, q, rfl⟩ : ∃ (p : Fin 128) (q : Fin 256), j = ix2 p q := ⟨j 0, j 1, ix2_eq j _ _ rfl rfl⟩
    rw [blk_apply _ (128 * h) 0 128 256 _ ⟨128 * h + p.val, by omega⟩ q rfl (Nat.zero_add _).symm,
      read_writes_hit (R := 1024) (C := 256) m13.view f13 inb_S1024x256_S1024x256_0_0 _ _ 0 0 rfl ⟨128 * h + p.val, by omega⟩ q
        ⟨128 * h + p.val, by omega⟩ q (Nat.zero_add _).symm (Nat.zero_add _).symm]
    rfl

/-- The attention loop as a whole. -/
theorem enter7 (c : Dev nD) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (v212 : IVec S1x256 32) (c0 v229 c1 : BitVec 32)
    (X2 : BufTy.Contents (Elt F) arg2.view.ty) (X6 : BufTy.Contents (Elt F) arg6.view.ty) (X7 : BufTy.Contents (Elt F) arg7.view.ty)
    (X9 : BufTy.Contents (Elt F) arg9.view.ty) (f11 : BufTy.Contents (Elt F) arg11.view.ty) (f12 : BufTy.Contents (Elt F) arg12.view.ty)
    (f13 : BufTy.Contents (Elt F) arg13.view.ty)
    {β : Type} (kk : PUnit → Prog (TpuEff nD τ sig (Elt F) (Λ₀ F) .tc) β) (Q : β → sProp (MT nD τ sig Unit (Elt F) ℕ (UR sig nD τ) ℕ)) :
    iprop(held c arg2 X2 ∗ held c arg6 X6 ∗ held c arg7 X7 ∗ held c arg9 X9
      ∗ held c arg11 (arg11.view.writes (Elt F) f11 [⟨Rect.unit (s := S64x256) ![0, 0] S64x256.size inb_S64x256_S64x256_0_0, k0_pay990⟩])
      ∗ held c arg12 (arg12.view.writes (Elt F) f12 [⟨Rect.unit (s := S64x256) ![0, 0] S64x256.size inb_S64x256_S64x256_0_0, k0_pay991⟩])
      ∗ held c arg13 (arg13.view.writes (Elt F) f13 [⟨Rect.unit (s := S1024x256) ![0, 0] S1024x256.size inb_S1024x256_S1024x256_0_0, k0_pay992⟩])
      ∗ (∀ g11, ∀ g12, ∀ g13, ⌜Heads (fun h => states (lgs v212 (arg2.view.read (Elt F) X2) (arg6.view.read (Elt F) X6) (arg9.view.read (Elt F) X9) h)
              (vts (slab (arg7.view.read (Elt F) X7)) h) ((i 1).val + 1))
            (arg11.view.read (Elt F) g11) (arg12.view.read (Elt F) g12) (arg13.view.read (Elt F) g13)⌝
          -∗ (held c arg2 X2 ∗ held c arg6 X6 ∗ held c arg7 X7 ∗ held c arg9 X9 ∗ held c arg11 g11 ∗ held c arg12 g12 ∗ held c arg13 g13)
          -∗ wp frame (wpE (defs₀ (F := F)) 𝒱₀ (c : Thread nD τ) none) Set.univ (kk ⟨⟩) Q))
    ⊢ wp frame (wpE (defs₀ (F := F)) 𝒱₀ (c : Thread nD τ) none) Set.univ (Scf.Loop.for (k0_t7_loop i) (k0_t7_ok i) ⟨⟩ (k0_t7_body (F := F) i arg2 harg2 arg3 harg3 arg4 harg4 arg5 harg5 arg6 harg6 arg7 harg7 arg8 harg8 arg9 harg9 arg10 harg10 arg11 harg11 arg12 harg12 arg13 harg13 v212 c0 v229 c1) >>= kk) Q := by
  iintro ⟨H2, H6, H7, H9, H11, H12, H13, HK⟩
  rw [wp_bind]
  iapply (Scf.wp_for frame (wpE (defs₀ (F := F)) 𝒱₀ (c : Thread nD τ) none) Set.univ (k0_t7_loop i).lb (k0_t7_loop i).ub (k0_t7_loop i).st (k0_t7_ok i) ()
    (k0_t7_body (F := F) i arg2 harg2 arg3 harg3 arg4 harg4 arg5 harg5 arg6 harg6 arg7 harg7 arg8 harg8 arg9 harg9 arg10 harg10 arg11 harg11 arg12 harg12 arg13 harg13 v212 c0 v229 c1) (inv7 (F := F) c arg2 harg2 arg3 harg3 arg4 harg4 arg5 harg5 arg6 harg6 arg7 harg7 arg8 harg8 arg9 harg9 arg10 harg10 arg11 harg11 arg12 harg12 arg13 harg13 v212 X2 X6 X7 X9) (loop7 (F := F) 𝒱₀ c none Set.univ i arg2 harg2 arg3 harg3 arg4 harg4 arg5 harg5 arg6 harg6 arg7 harg7 arg8 harg8 arg9 harg9 arg10 harg10 arg11 harg11 arg12 harg12 arg13 harg13 v212 c0 v229 c1 X2 X6 X7 X9).step)
  isplitl [H2 H6 H7 H9 H11 H12 H13]
  · unfold inv7
    isplitl [H2]; · iexact H2
    isplitl [H6]; · iexact H6
    isplitl [H7]; · iexact H7
    isplitl [H9]; · iexact H9
    iexists _, _, _
    isplitl [H11]; · iexact H11
    isplitl [H12]; · iexact H12
    isplitl [H13]; · iexact H13
    ipureintro
    exact heads_zero arg11 arg12 arg13 f11 f12 f13 _ _
  · iintro %acc HI
    have hT : Scf.trips (k0_t7_loop i).lb (k0_t7_loop i).ub (k0_t7_loop i).st = (i 1).val + 1 := trips7 i
    rw [hT]
    unfold inv7
    icases HI with ⟨H2, H6, H7, H9, ⟨%g11, %g12, %g13, H11, H12, H13, %hs⟩⟩
    iapply HK
    · ipureintro
      exact hs
    · isplitl [H2]; · iexact H2
      isplitl [H6]; · iexact H6
      isplitl [H7]; · iexact H7
      isplitl [H9]; · iexact H9
      isplitl [H11]; · iexact H11
      isplitl [H12]; · iexact H12
      iexact H13

end Cert.Proof.K
-- ==== Proof.K.Answer.lean ====
/-
  THE RESULT OF A BLOCK: eight heads' columns side by side, each the attention of its head over the kept keys.
-/
module

public import proofs.«01_k».proof.Proof.K.Loop1
public import proofs.«01_k».proof.Proof.K.While
public import proofs.«01_k».proof.Proof.K.Loop7

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- Eight heads' columns, side by side. -/
def headsOf {α : Type} (w : ℕ → (M 256 128).Idx → α) : (M 256 1024).Idx → α :=
  fun j => w ((j 1).val / 128) (ix2 (j 0) (Fin.ofNat 128 (j 1).val))

theorem headsOf_apply {α : Type} (w : ℕ → (M 256 128).Idx → α) (p : Fin 256) (q : Fin 1024) (k : ℕ) (x : Fin 128)
    (hk : q.val / 128 = k) (hx : q.val = 128 * k + x.val) : headsOf w (ix2 p q) = w k (ix2 p x) := by
  show w (q.val / 128) (ix2 p (Fin.ofNat 128 q.val)) = _
  have e : Fin.ofNat 128 q.val = x := Fin.ext (by show q.val % 128 = x.val; have := x.isLt; omega)
  rw [hk, e]

/-- The eight blocks of 128 columns stored, read back. -/
theorem cols8 {sig : RefSig} {κ : Kind} {sp : Space} {e : EltTy} {Val : EltTy → Type} (v : View sig κ sp (M 256 1024) e)
    (f : v.ty.Contents Val) (W : ℕ → (M 256 128).Idx → Val e)
    (i0 : ∀ a : Fin 2, (![0, 0] : Fin 2 → ℕ) a + (![256, 128] : Fin 2 → ℕ) a ≤ (![256, 1024] : Fin 2 → ℕ) a)
    (i1 : ∀ a : Fin 2, (![0, 128] : Fin 2 → ℕ) a + (![256, 128] : Fin 2 → ℕ) a ≤ (![256, 1024] : Fin 2 → ℕ) a)
    (i2 : ∀ a : Fin 2, (![0, 256] : Fin 2 → ℕ) a + (![256, 128] : Fin 2 → ℕ) a ≤ (![256, 1024] : Fin 2 → ℕ) a)
    (i3 : ∀ a : Fin 2, (![0, 384] : Fin 2 → ℕ) a + (![256, 128] : Fin 2 → ℕ) a ≤ (![256, 1024] : Fin 2 → ℕ) a)
    (i4 : ∀ a : Fin 2, (![0, 512] : Fin 2 → ℕ) a + (![256, 128] : Fin 2 → ℕ) a ≤ (![256, 1024] : Fin 2 → ℕ) a)
    (i5 : ∀ a : Fin 2, (![0, 640] : Fin 2 → ℕ) a + (![256, 128] : Fin 2 → ℕ) a ≤ (![256, 1024] : Fin 2 → ℕ) a)
    (i6 : ∀ a : Fin 2, (![0, 768] : Fin 2 → ℕ) a + (![256, 128] : Fin 2 → ℕ) a ≤ (![256, 1024] : Fin 2 → ℕ) a)
    (i7 : ∀ a : Fin 2, (![0, 896] : Fin 2 → ℕ) a + (![256, 128] : Fin 2 → ℕ) a ≤ (![256, 1024] : Fin 2 → ℕ) a) :
    v.read Val (v.writes Val f
      [⟨Rect.unit (s := M 256 1024) ![0, 896] ![256, 128] i7, W 7⟩,
       ⟨Rect.unit (s := M 256 1024) ![0, 768] ![256, 128] i6, W 6⟩,
       ⟨Rect.unit (s := M 256 1024) ![0, 640] ![256, 128] i5, W 5⟩,
       ⟨Rect.unit (s := M 256 1024) ![0, 512] ![256, 128] i4, W 4⟩,
       ⟨Rect.unit (s := M 256 1024) ![0, 384] ![256, 128] i3, W 3⟩,
       ⟨Rect.unit (s := M 256 1024) ![0, 256] ![256, 128] i2, W 2⟩,
       ⟨Rect.unit (s := M 256 1024) ![0, 128] ![256, 128] i1, W 1⟩,
       ⟨Rect.unit (s := M 256 1024) ![0, 0] ![256, 128] i0, W 0⟩]) = headsOf W := by
  funext j
  obtain ⟨p, q, rfl⟩ : ∃ (p : Fin 256) (q : Fin 1024), j = ix2 p q := ⟨j 0, j 1, ix2_eq j _ _ rfl rfl⟩
  have hq := q.isLt
  by_cases c7 : 896 ≤ q.val
  · rw [read_writes_hit (R := 256) (C := 1024) v f i7 (W 7) _ 0 896 rfl p q p ⟨q.val - 896, by omega⟩ (Nat.zero_add _).symm (by show q.val = 896 + (q.val - 896); omega)]
    exact (headsOf_apply W p q 7 _ (by omega) (by show q.val = 896 + (q.val - 896); omega)).symm
  rw [read_writes_miss (R := 256) (C := 1024) v f i7 (W 7) _ 0 896 rfl p q (.inr (.inl (by omega)))]
  by_cases c6 : 768 ≤ q.val
  · rw [read_writes_hit (R := 256) (C := 1024) v f i6 (W 6) _ 0 768 rfl p q p ⟨q.val - 768, by omega⟩ (Nat.zero_add _).symm (by show q.val = 768 + (q.val - 768); omega)]
    exact (headsOf_apply W p q 6 _ (by omega) (by show q.val = 768 + (q.val - 768); omega)).symm
  rw [read_writes_miss (R := 256) (C := 1024) v f i6 (W 6) _ 0 768 rfl p q (.inr (.inl (by omega)))]
  by_cases c5 : 640 ≤ q.val
  · rw [read_writes_hit (R := 256) (C := 1024) v f i5 (W 5) _ 0 640 rfl p q p ⟨q.val - 640, by omega⟩ (Nat.zero_add _).symm (by show q.val = 640 + (q.val - 640); omega)]
    exact (headsOf_apply W p q 5 _ (by omega) (by show q.val = 640 + (q.val - 640); omega)).symm
  rw [read_writes_miss (R := 256) (C := 1024) v f i5 (W 5) _ 0 640 rfl p q (.inr (.inl (by omega)))]
  by_cases c4 : 512 ≤ q.val
  · rw [read_writes_hit (R := 256) (C := 1024) v f i4 (W 4) _ 0 512 rfl p q p ⟨q.val - 512, by omega⟩ (Nat.zero_add _).symm (by show q.val = 512 + (q.val - 512); omega)]
    exact (headsOf_apply W p q 4 _ (by omega) (by show q.val = 512 + (q.val - 512); omega)).symm
  rw [read_writes_miss (R := 256) (C := 1024) v f i4 (W 4) _ 0 512 rfl p q (.inr (.inl (by omega)))]
  by_cases c3 : 384 ≤ q.val
  · rw [read_writes_hit (R := 256) (C := 1024) v f i3 (W 3) _ 0 384 rfl p q p ⟨q.val - 384, by omega⟩ (Nat.zero_add _).symm (by show q.val = 384 + (q.val - 384); omega)]
    exact (headsOf_apply W p q 3 _ (by omega) (by show q.val = 384 + (q.val - 384); omega)).symm
  rw [read_writes_miss (R := 256) (C := 1024) v f i3 (W 3) _ 0 384 rfl p q (.inr (.inl (by omega)))]
  by_cases c2 : 256 ≤ q.val
  · rw [read_writes_hit (R := 256) (C := 1024) v f i2 (W 2) _ 0 256 rfl p q p ⟨q.val - 256, by omega⟩ (Nat.zero_add _).symm (by show q.val = 256 + (q.val - 256); omega)]
    exact (headsOf_apply W p q 2 _ (by omega) (by show q.val = 256 + (q.val - 256); omega)).symm
  rw [read_writes_miss (R := 256) (C := 1024) v f i2 (W 2) _ 0 256 rfl p q (.inr (.inl (by omega)))]
  by_cases c1 : 128 ≤ q.val
  · rw [read_writes_hit (R := 256) (C := 1024) v f i1 (W 1) _ 0 128 rfl p q p ⟨q.val - 128, by omega⟩ (Nat.zero_add _).symm (by show q.val = 128 + (q.val - 128); omega)]
    exact (headsOf_apply W p q 1 _ (by omega) (by show q.val = 128 + (q.val - 128); omega)).symm
  rw [read_writes_miss (R := 256) (C := 1024) v f i1 (W 1) _ 0 128 rfl p q (.inr (.inl (by omega)))]
  rw [read_writes_hit (R := 256) (C := 1024) v f i0 (W 0) _ 0 0 rfl p q p ⟨q.val, by omega⟩ (Nat.zero_add _).symm (Nat.zero_add _).symm]
  exact (headsOf_apply W p q 0 _ (by omega) (Nat.zero_add _).symm).symm

/-- A block's result, from its queries' and its sequence's arrays. -/
def blockOut (n : ℕ) (x2 : FVec F (M 256 1024) .bf16) (x3 : FVec F (M 256 2048) .bf16) (x4 : FVec F (M 256 128) .f32)
    (x5 : FVec F (M 4096 128) .bf16) (x6 : FVec F (M 4096 1024) .bf16) (x7 : FVec F (⟨3, ![1, 1024, 4096]⟩ : Shape) .bf16) :
    FVec F (M 256 1024) .bf16 :=
  headsOf (attention n x5 x3 (gOf x4) x2 x6 (slab x7))

/-- States over chunks that agree are the same. -/
theorem states_congr (lg lg' : ℕ → FVec F (M 256 256) .f32) (v : ℕ → FVec F (M 128 256) .bf16) (n : ℕ)
    (h : ∀ c < n, lg c = lg' c) : states lg v n = states lg' v n := by
  induction n with
  | zero => rfl
  | succ n ih =>
    show step (lg n) (v n) (states lg v n) = step (lg' n) (v n) (states lg' v n)
    rw [ih fun c hc => h c (by omega), h n (by omega)]

/-- The search done, the threshold's mask is the mask of the kept keys: the block's result is the attention over them. -/
theorem block_eq (i : grid0.Coords) (x2 : FVec F (M 256 1024) .bf16) (x3 : FVec F (M 256 2048) .bf16) (x4 : FVec F (M 256 128) .f32)
    (x5 : FVec F (M 4096 128) .bf16) (x6 : FVec F (M 4096 1024) .bf16) (x7 : FVec F (⟨3, ![1, 1024, 4096]⟩ : Shape) .bf16)
    (x9 : (M 4096 256).Idx → BitVec 32) (r : IVec S1x256 32) (hx : Keyed (KK i x3 x4 x5) (256 * ((i 1).val + 1)) x9)
    (hd : Done (KK i x3 x4 x5) r) :
    headsOf (fun h => result (states (lgs (k0_pay989 r) x2 x6 x9 h) (vts (slab x7) h) ((i 1).val + 1)))
      = blockOut (i 1).val x2 x3 x4 x5 x6 x7 := by
  obtain ⟨n, cnt, hA, hend⟩ := hd
  have hi : (i 1).val < 16 := (i 1).isLt
  unfold blockOut
  congr 1
  funext h
  unfold attention
  congr 1
  refine states_congr _ _ _ _ fun c hc => ?_
  unfold lgs
  have hm := hA.kept hend x9 (256 * ((i 1).val + 1)) c hx (by omega) (by omega) broadcasts_S1x256_S256x256
  exact congrArg (fun m => logits m (blk x6 (256 * c) (128 * h) 256 128) (blk x2 0 (128 * h) 256 128)) hm

theorem off5_even : ∀ i : grid0.Coords, k0_cond1 i = 1#1 → k0_off5 i = ![256 * (i 1).val + 256, 0] ∧ (i 1).val % 2 = 0 := by decide +kernel
theorem off5_odd : ∀ i : grid0.Coords, ¬ k0_cond1 i = 1#1 → (i 1).val % 2 = 1 := by decide +kernel

/-- No key is above the block's own queries. -/
theorem KK_low (i : grid0.Coords) (x3 : (M 256 2048).Idx → F .bf16) (x4 : (M 256 128).Idx → F .f32)
    (x5 : (M 4096 128).Idx → F .bf16) (q : Fin 256) (p : ℕ) (h : 256 * ((i 1).val + 1) ≤ p) : KK i x3 x4 x5 p q = lowest := by
  show keyAt _ _ _ _ _ _ = _
  unfold keyAt
  rw [if_neg (by have := q.isLt; omega)]

/-- The rows the count reads beyond the keyed ones, once cleared, are keyed too. -/
theorem keyed_cleared (i : grid0.Coords) (hc : k0_cond1 i = 1#1) (m : Memref sig .tc .vmem S4096x256 .i32) (f : BufTy.Contents (Elt F) m.view.ty)
    (K : ℕ → Fin 256 → BitVec 32) (hlow : ∀ q p, 256 * ((i 1).val + 1) ≤ p → K p q = lowest)
    (h : Keyed K (256 * ((i 1).val + 1)) (m.view.read (Elt F) f)) :
    Keyed K (512 * (((i 1).val + 2) / 2)) (m.view.read (Elt F) (m.view.writes (Elt F) f
      [⟨Rect.unit (s := S4096x256) (k0_off5 i) S256x256.size (k0_off5_inb i hc), k0_pay981⟩])) := by
  obtain ⟨ho, he⟩ := off5_even i hc
  intro p q hp
  by_cases c1 : 256 * ((i 1).val + 1) ≤ p.val
  · rw [read_writes_hit (R := 4096) (C := 256) m.view f (k0_off5_inb i hc) k0_pay981 _ (256 * (i 1).val + 256) 0 ho p q
      ⟨p.val - (256 * (i 1).val + 256), by omega⟩ q (by show p.val = _ + (p.val - _); omega) (Nat.zero_add _).symm, hlow q p.val c1]
    rfl
  · rw [read_writes_miss (R := 4096) (C := 256) m.view f (k0_off5_inb i hc) k0_pay981 _ (256 * (i 1).val + 256) 0 ho p q (.inl (.inl (by omega)))]
    exact h p q (by omega)

end Cert.Proof.K
-- ==== Proof.K.Body.lean ====
/-
  THE WHOLE KERNEL BODY at one grid point: from the blocks it holds it leaves, in the output block, the attention of every
  head over the kept keys.
-/
module

public import proofs.«01_k».proof.Proof.K.Loop3
public import proofs.«01_k».proof.Proof.K.Enter
public import proofs.«01_k».proof.Proof.K.Start
public import proofs.«01_k».proof.Proof.K.Answer

@[expose] public section

set_option maxRecDepth 8192
set_option maxHeartbeats 4000000

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The eight stores of the result, read back. -/
theorem final_read (i : grid0.Coords) (arg2 : Memref sig .tc .vmem S256x1024 .bf16) (arg3 : Memref sig .tc .vmem S256x2048 .bf16) (arg4 : Memref sig .tc .vmem S256x128 .f32) (arg5 : Memref sig .tc .vmem S4096x128 .bf16) (arg6 : Memref sig .tc .vmem S4096x1024 .bf16) (arg7 : Memref sig .tc .vmem S1x1024x4096 .bf16) (arg8 : Memref sig .tc .vmem S256x1024 .bf16) (arg9 : Memref sig .tc .vmem S4096x256 .i32) (arg12 : Memref sig .tc .vmem S64x256 .f32) (arg13 : Memref sig .tc .vmem S1024x256 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty) (X9 : BufTy.Contents (Elt F) arg9.view.ty)
    (g12 : BufTy.Contents (Elt F) arg12.view.ty) (g13 : BufTy.Contents (Elt F) arg13.view.ty) (r : IVec S1x256 32)
    (hx : Keyed (KK i (arg3.view.read (Elt F) X3) (arg4.view.read (Elt F) X4) (arg5.view.read (Elt F) X5)) (256 * ((i 1).val + 1)) (arg9.view.read (Elt F) X9))
    (hd : Done (KK i (arg3.view.read (Elt F) X3) (arg4.view.read (Elt F) X4) (arg5.view.read (Elt F) X5)) r)
    (htot : ∀ h < 8, blk (arg12.view.read (Elt F) g12) (8 * h) 0 8 256
      = (states (lgs (k0_pay989 r) (arg2.view.read (Elt F) X2) (arg6.view.read (Elt F) X6) (arg9.view.read (Elt F) X9) h) (vts (slab (arg7.view.read (Elt F) X7)) h) ((i 1).val + 1)).tot)
    (hout : ∀ h < 8, blk (arg13.view.read (Elt F) g13) (128 * h) 0 128 256
      = (states (lgs (k0_pay989 r) (arg2.view.read (Elt F) X2) (arg6.view.read (Elt F) X6) (arg9.view.read (Elt F) X9) h) (vts (slab (arg7.view.read (Elt F) X7)) h) ((i 1).val + 1)).out) :
    arg8.view.read (Elt F) (arg8.view.writes (Elt F) f8
      [⟨Rect.unit (s := S256x1024) ![0, 896] S256x128.size inb_S256x1024_S256x128_0_896, k0_pay2 (View.readAt (Elt F) arg12.view (Rect.unit (s := S64x256) ![56, 0] S8x256.size inb_S64x256_S8x256_56_0).toLoadRect g12) (View.readAt (Elt F) arg13.view (Rect.unit (s := S1024x256) ![896, 0] S128x256.size inb_S1024x256_S128x256_896_0).toLoadRect g13)⟩,
       ⟨Rect.unit (s := S256x1024) ![0, 768] S256x128.size inb_S256x1024_S256x128_0_768, k0_pay1 (View.readAt (Elt F) arg12.view (Rect.unit (s := S64x256) ![48, 0] S8x256.size inb_S64x256_S8x256_48_0).toLoadRect g12) (View.readAt (Elt F) arg13.view (Rect.unit (s := S1024x256) ![768, 0] S128x256.size inb_S1024x256_S128x256_768_0).toLoadRect g13)⟩,
       ⟨Rect.unit (s := S256x1024) ![0, 640] S256x128.size inb_S256x1024_S256x128_0_640, k0_pay1000 (View.readAt (Elt F) arg12.view (Rect.unit (s := S64x256) ![40, 0] S8x256.size inb_S64x256_S8x256_40_0).toLoadRect g12) (View.readAt (Elt F) arg13.view (Rect.unit (s := S1024x256) ![640, 0] S128x256.size inb_S1024x256_S128x256_640_0).toLoadRect g13)⟩,
       ⟨Rect.unit (s := S256x1024) ![0, 512] S256x128.size inb_S256x1024_S256x128_0_512, k0_pay999 (View.readAt (Elt F) arg12.view (Rect.unit (s := S64x256) ![32, 0] S8x256.size inb_S64x256_S8x256_32_0).toLoadRect g12) (View.readAt (Elt F) arg13.view (Rect.unit (s := S1024x256) ![512, 0] S128x256.size inb_S1024x256_S128x256_512_0).toLoadRect g13)⟩,
       ⟨Rect.unit (s := S256x1024) ![0, 384] S256x128.size inb_S256x1024_S256x128_0_384, k0_pay998 (View.readAt (Elt F) arg12.view (Rect.unit (s := S64x256) ![24, 0] S8x256.size inb_S64x256_S8x256_24_0).toLoadRect g12) (View.readAt (Elt F) arg13.view (Rect.unit (s := S1024x256) ![384, 0] S128x256.size inb_S1024x256_S128x256_384_0).toLoadRect g13)⟩,
       ⟨Rect.unit (s := S256x1024) ![0, 256] S256x128.size inb_S256x1024_S256x128_0_256, k0_pay997 (View.readAt (Elt F) arg12.view (Rect.unit (s := S64x256) ![16, 0] S8x256.size inb_S64x256_S8x256_16_0).toLoadRect g12) (View.readAt (Elt F) arg13.view (Rect.unit (s := S1024x256) ![256, 0] S128x256.size inb_S1024x256_S128x256_256_0).toLoadRect g13)⟩,
       ⟨Rect.unit (s := S256x1024) ![0, 128] S256x128.size inb_S256x1024_S256x128_0_128, k0_pay996 (View.readAt (Elt F) arg12.view (Rect.unit (s := S64x256) ![8, 0] S8x256.size inb_S64x256_S8x256_8_0).toLoadRect g12) (View.readAt (Elt F) arg13.view (Rect.unit (s := S1024x256) ![128, 0] S128x256.size inb_S1024x256_S128x256_128_0).toLoadRect g13)⟩,
       ⟨Rect.unit (s := S256x1024) ![0, 0] S256x128.size inb_S256x1024_S256x128_0_0, k0_pay995 (View.readAt (Elt F) arg12.view (Rect.unit (s := S64x256) ![0, 0] S8x256.size inb_S64x256_S8x256_0_0).toLoadRect g12) (View.readAt (Elt F) arg13.view (Rect.unit (s := S1024x256) ![0, 0] S128x256.size inb_S1024x256_S128x256_0_0).toLoadRect g13)⟩])
      = blockOut (i 1).val (arg2.view.read (Elt F) X2) (arg3.view.read (Elt F) X3) (arg4.view.read (Elt F) X4) (arg5.view.read (Elt F) X5)
          (arg6.view.read (Elt F) X6) (arg7.view.read (Elt F) X7) := by
  rw [← block_eq i _ _ _ _ _ _ (arg9.view.read (Elt F) X9) r hx hd]
  have hw : ∀ h < 8, result (⟨broadcast (M 1 256) (Scalar.ofBits .f32 0#32), blk (arg12.view.read (Elt F) g12) (8 * h) 0 8 256, blk (arg13.view.read (Elt F) g13) (128 * h) 0 128 256⟩ : St F)
      = result (states (lgs (k0_pay989 r) (arg2.view.read (Elt F) X2) (arg6.view.read (Elt F) X6) (arg9.view.read (Elt F) X9) h) (vts (slab (arg7.view.read (Elt F) X7)) h) ((i 1).val + 1)) := by
    intro h hh
    unfold result
    rw [htot h hh, hout h hh]
  simp only [readAt_blk' arg12.view g12 _ _ _ _ _ _ rfl, readAt_blk' arg13.view g13 _ _ _ _ _ _ rfl]
  have h8 := cols8 arg8.view f8 (fun h => result (states (lgs (k0_pay989 r) (arg2.view.read (Elt F) X2) (arg6.view.read (Elt F) X6) (arg9.view.read (Elt F) X9) h) (vts (slab (arg7.view.read (Elt F) X7)) h) ((i 1).val + 1)))
    inb_S256x1024_S256x128_0_0 inb_S256x1024_S256x128_0_128 inb_S256x1024_S256x128_0_256 inb_S256x1024_S256x128_0_384 inb_S256x1024_S256x128_0_512 inb_S256x1024_S256x128_0_640 inb_S256x1024_S256x128_0_768 inb_S256x1024_S256x128_0_896
  simp only [← hw 0 (by decide), ← hw 1 (by decide), ← hw 2 (by decide), ← hw 3 (by decide), ← hw 4 (by decide), ← hw 5 (by decide), ← hw 6 (by decide), ← hw 7 (by decide)] at h8
  exact h8

/-- The body at a point whose number of key tiles is odd: the last pair's missing half is cleared first. -/
theorem run_even (hF : MaxFact F) (hC : ClzFact F) (c : Dev nD) (i : grid0.Coords) (hc : k0_cond1 i = 1#1) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty)
    (f9 : BufTy.Contents (Elt F) arg9.view.ty) (f10 : BufTy.Contents (Elt F) arg10.view.ty) (f11 : BufTy.Contents (Elt F) arg11.view.ty) (f12 : BufTy.Contents (Elt F) arg12.view.ty)
    (f13 : BufTy.Contents (Elt F) arg13.view.ty) :
    iprop(held c arg2 X2 ∗ held c arg3 X3 ∗ held c arg4 X4 ∗ held c arg5 X5 ∗ held c arg6 X6 ∗ held c arg7 X7 ∗ held c arg8 f8
      ∗ held c arg9 f9 ∗ held c arg10 f10 ∗ held c arg11 f11 ∗ held c arg12 f12 ∗ held c arg13 f13)
    ⊢ wp frame (wpE (defs₀ (F := F)) 𝒱₀ (c : Thread nD τ) none) Set.univ
        (cc0_dsa_prompt (F := F) i arg2 harg2 arg3 harg3 arg4 harg4 arg5 harg5 arg6 harg6 arg7 harg7 arg8 harg8 arg9 harg9 arg10 harg10 arg11 harg11 arg12 harg12 arg13 harg13)
        (fun _ => iprop(held c arg2 X2 ∗ held c arg3 X3 ∗ held c arg4 X4 ∗ held c arg5 X5 ∗ held c arg6 X6 ∗ held c arg7 X7
          ∗ (∃ g8, held c arg8 g8 ∗ ⌜arg8.view.read (Elt F) g8 = blockOut (i 1).val (arg2.view.read (Elt F) X2) (arg3.view.read (Elt F) X3)
              (arg4.view.read (Elt F) X4) (arg5.view.read (Elt F) X5) (arg6.view.read (Elt F) X6) (arg7.view.read (Elt F) X7)⌝)
          ∗ (∃ g9, held c arg9 g9) ∗ (∃ g10, held c arg10 g10) ∗ (∃ g11, held c arg11 g11) ∗ (∃ g12, held c arg12 g12) ∗ (∃ g13, held c arg13 g13))) := by
  simp only [cc0_dsa_prompt_eq_skeleton]
  unfold cc0_dsa_prompt_skel
  iintro ⟨H2, H3, H4, H5, H6, H7, H8, H9, H10, H11, H12, H13⟩
  sl_exec
  iapply (enter1 (F := F) c i arg2 harg2 arg3 harg3 arg4 harg4 arg5 harg5 arg6 harg6 arg7 harg7 arg8 harg8 arg9 harg9 arg10 harg10 arg11 harg11 arg12 harg12 arg13 harg13 _ _ X3 X5 f9 _ _ _ (word_base i))
  isplitl [H3]; · iexact H3
  isplitl [H5]; · iexact H5
  isplitl [H9]; · iexact H9
  isplitl [H10]; · iexact H10
  iintro %g9 %g10 %h1 ⟨H3, H5, H9, H10⟩
  have h4 : View.readAt (Elt F) arg4.view (Rect.unit (s := S256x128) ![0, 0] S256x128.size inb_S256x128_S256x128_0_0).toLoadRect X4 = arg4.view.read (Elt F) X4 :=
    (readAt_blk arg4.view X4 0 0 256 128 _).trans (blk_whole _)
  have h10 : View.readAt (Elt F) arg10.view (Rect.unit (s := S256x256) ![0, 0] S256x256.size inb_S256x256_S256x256_0_0).toLoadRect g10 = arg10.view.read (Elt F) g10 :=
    (readAt_blk arg10.view g10 0 0 256 256 _).trans (blk_whole _)
  obtain ⟨hk, hg⟩ := h1
  rw [h4] at hk hg
  have hx := keyed_cleared i hc arg9 g9 _ (KK_low i _ _ _) hk
  have hk9 : Keyed (KK i (arg3.view.read (Elt F) X3) (arg4.view.read (Elt F) X4) (arg5.view.read (Elt F) X5)) (256 * ((i 1).val + 1)) (arg9.view.read (Elt F) (arg9.view.writes (Elt F) g9
    [⟨Rect.unit (s := S4096x256) (k0_off5 i) S256x256.size (k0_off5_inb i hc), k0_pay981⟩])) :=
    fun p q hp => hx p q (by omega)
  sl_exec
  obtain ⟨n, hn, e, hA⟩ := at_start (F := F) hC i (KK i (arg3.view.read (Elt F) X3) (arg4.view.read (Elt F) X4) (arg5.view.read (Elt F) X5)) (arg10.view.read (Elt F) g10)
    (arg9.view.read (Elt F) (arg9.view.writes (Elt F) g9 [⟨Rect.unit (s := S4096x256) (k0_off5 i) S256x256.size (k0_off5_inb i hc), k0_pay981⟩])) hg hx (KK_low i _ _ _)
  have hT : Scf.trips (k0_t3_loop i).lb (k0_t3_loop i).ub (k0_t3_loop i).st = ((i 1).val + 2) / 2 := trips3 i
  rw [hT]
  have hcall := fun Q => spec_le hF c Set.univ i arg9 harg9 (arg9.view.writes (Elt F) g9 [⟨Rect.unit (s := S4096x256) (k0_off5 i) S256x256.size (k0_off5_inb i hc), k0_pay981⟩]) (KK i (arg3.view.read (Elt F) X3) (arg4.view.read (Elt F) X4) (arg5.view.read (Elt F) X5)) hx (fun q p hp => KK_low i _ _ _ q p (by omega)) n hn _ _ hA Q
  rw [show BitVec.ofNat 32 n - 1#32 = Scalar.subi (openBits F (arg10.view.read (Elt F) g10)) 1#32 by rw [e]; rfl] at hcall
  have er : _root_.Cert.Proof.K.run_even.sl.r arg10 g10 = arg10.view.read (Elt F) g10 := rfl
  have e9 : _root_.Cert.Proof.K.run_even.sl.v209 arg10 g10 = Scalar.subi (openBits F (_root_.Cert.Proof.K.run_even.sl.r arg10 g10)) 1#32 := rfl
  have e1 : _root_.Cert.Proof.K.run_even.sl.v163 arg10 g10 = k0_pay980 (lowRow F (_root_.Cert.Proof.K.run_even.sl.r arg10 g10)) (openBits F (_root_.Cert.Proof.K.run_even.sl.r arg10 g10)) := rfl
  have e2 : _root_.Cert.Proof.K.run_even.sl.v180 arg10 g10 = k0_pay982 (lowRow F (_root_.Cert.Proof.K.run_even.sl.r arg10 g10)) (openBits F (_root_.Cert.Proof.K.run_even.sl.r arg10 g10)) := rfl
  rw [er] at e9 e1 e2
  rw [e9, e1, e2]
  iapply (wp_call_spec 𝒱₀ (c : Thread nD τ) none Set.univ (spec (F := F) c arg9 (arg9.view.writes (Elt F) g9 [⟨Rect.unit (s := S4096x256) (k0_off5 i) S256x256.size (k0_off5_inb i hc), k0_pay981⟩]) (KK i (arg3.view.read (Elt F) X3) (arg4.view.read (Elt F) X4) (arg5.view.read (Elt F) X5))) n (fun u hu => nomatch hu) hcall)
  rw [spec_apply]
  isplitl [H9]; · iexact H9
  iintro %o %ho H9
  obtain ⟨o0, o1, o2⟩ := o
  sl_exec
  iapply (enter7 (F := F) c i arg2 harg2 arg3 harg3 arg4 harg4 arg5 harg5 arg6 harg6 arg7 harg7 arg8 harg8 arg9 harg9 arg10 harg10 arg11 harg11 arg12 harg12 arg13 harg13 _ _ _ _ X2 X6 X7 (arg9.view.writes (Elt F) g9 [⟨Rect.unit (s := S4096x256) (k0_off5 i) S256x256.size (k0_off5_inb i hc), k0_pay981⟩]) _ _ _ _ _)
  isplitl [H2]; · iexact H2
  isplitl [H6]; · iexact H6
  isplitl [H7]; · iexact H7
  isplitl [H9]; · iexact H9
  isplitl [H11]; · iexact H11
  isplitl [H12]; · iexact H12
  isplitl [H13]; · iexact H13
  iintro %g11 %g12 %g13 %hs ⟨H2, H6, H7, H9, H11, H12, H13⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    exact final_read (F := F) i arg2 arg3 arg4 arg5 arg6 arg7 arg8 arg9 arg12 arg13 _ _ _ _ _ _ _ _ _ _ o1 hk9 ho hs.tot hs.out
  isplitl [H9]; · iexists _; iexact H9
  isplitl [H10]; · iexists _; iexact H10
  isplitl [H11]; · iexists _; iexact H11
  isplitl [H12]; · iexists _; iexact H12
  iexists _; iexact H13

/-- The body at a point whose key tiles come in full pairs. -/
theorem run_odd (hF : MaxFact F) (hC : ClzFact F) (c : Dev nD) (i : grid0.Coords) (hc : ¬ k0_cond1 i = 1#1) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty)
    (f9 : BufTy.Contents (Elt F) arg9.view.ty) (f10 : BufTy.Contents (Elt F) arg10.view.ty) (f11 : BufTy.Contents (Elt F) arg11.view.ty) (f12 : BufTy.Contents (Elt F) arg12.view.ty)
    (f13 : BufTy.Contents (Elt F) arg13.view.ty) :
    iprop(held c arg2 X2 ∗ held c arg3 X3 ∗ held c arg4 X4 ∗ held c arg5 X5 ∗ held c arg6 X6 ∗ held c arg7 X7 ∗ held c arg8 f8
      ∗ held c arg9 f9 ∗ held c arg10 f10 ∗ held c arg11 f11 ∗ held c arg12 f12 ∗ held c arg13 f13)
    ⊢ wp frame (wpE (defs₀ (F := F)) 𝒱₀ (c : Thread nD τ) none) Set.univ
        (cc0_dsa_prompt (F := F) i arg2 harg2 arg3 harg3 arg4 harg4 arg5 harg5 arg6 harg6 arg7 harg7 arg8 harg8 arg9 harg9 arg10 harg10 arg11 harg11 arg12 harg12 arg13 harg13)
        (fun _ => iprop(held c arg2 X2 ∗ held c arg3 X3 ∗ held c arg4 X4 ∗ held c arg5 X5 ∗ held c arg6 X6 ∗ held c arg7 X7
          ∗ (∃ g8, held c arg8 g8 ∗ ⌜arg8.view.read (Elt F) g8 = blockOut (i 1).val (arg2.view.read (Elt F) X2) (arg3.view.read (Elt F) X3)
              (arg4.view.read (Elt F) X4) (arg5.view.read (Elt F) X5) (arg6.view.read (Elt F) X6) (arg7.view.read (Elt F) X7)⌝)
          ∗ (∃ g9, held c arg9 g9) ∗ (∃ g10, held c arg10 g10) ∗ (∃ g11, held c arg11 g11) ∗ (∃ g12, held c arg12 g12) ∗ (∃ g13, held c arg13 g13))) := by
  simp only [cc0_dsa_prompt_eq_skeleton]
  unfold cc0_dsa_prompt_skel
  iintro ⟨H2, H3, H4, H5, H6, H7, H8, H9, H10, H11, H12, H13⟩
  sl_exec
  iapply (enter1 (F := F) c i arg2 harg2 arg3 harg3 arg4 harg4 arg5 harg5 arg6 harg6 arg7 harg7 arg8 harg8 arg9 harg9 arg10 harg10 arg11 harg11 arg12 harg12 arg13 harg13 _ _ X3 X5 f9 _ _ _ (word_base i))
  isplitl [H3]; · iexact H3
  isplitl [H5]; · iexact H5
  isplitl [H9]; · iexact H9
  isplitl [H10]; · iexact H10
  iintro %g9 %g10 %h1 ⟨H3, H5, H9, H10⟩
  have h4 : View.readAt (Elt F) arg4.view (Rect.unit (s := S256x128) ![0, 0] S256x128.size inb_S256x128_S256x128_0_0).toLoadRect X4 = arg4.view.read (Elt F) X4 :=
    (readAt_blk arg4.view X4 0 0 256 128 _).trans (blk_whole _)
  have h10 : View.readAt (Elt F) arg10.view (Rect.unit (s := S256x256) ![0, 0] S256x256.size inb_S256x256_S256x256_0_0).toLoadRect g10 = arg10.view.read (Elt F) g10 :=
    (readAt_blk arg10.view g10 0 0 256 256 _).trans (blk_whole _)
  obtain ⟨hk, hg⟩ := h1
  rw [h4] at hk hg
  have hodd := off5_odd i hc
  have hx : Keyed (KK i (arg3.view.read (Elt F) X3) (arg4.view.read (Elt F) X4) (arg5.view.read (Elt F) X5)) (512 * (((i 1).val + 2) / 2)) (arg9.view.read (Elt F) g9) :=
    fun p q hp => hk p q (by omega)
  have hk9 := hk
  sl_exec
  obtain ⟨n, hn, e, hA⟩ := at_start (F := F) hC i (KK i (arg3.view.read (Elt F) X3) (arg4.view.read (Elt F) X4) (arg5.view.read (Elt F) X5)) (arg10.view.read (Elt F) g10)
    (arg9.view.read (Elt F) g9) hg hx (KK_low i _ _ _)
  have hT : Scf.trips (k0_t3_loop i).lb (k0_t3_loop i).ub (k0_t3_loop i).st = ((i 1).val + 2) / 2 := trips3 i
  rw [hT]
  have hcall := fun Q => spec_le hF c Set.univ i arg9 harg9 g9 (KK i (arg3.view.read (Elt F) X3) (arg4.view.read (Elt F) X4) (arg5.view.read (Elt F) X5)) hx (fun q p hp => KK_low i _ _ _ q p (by omega)) n hn _ _ hA Q
  rw [show BitVec.ofNat 32 n - 1#32 = Scalar.subi (openBits F (arg10.view.read (Elt F) g10)) 1#32 by rw [e]; rfl] at hcall
  have er : _root_.Cert.Proof.K.run_odd.sl.r arg10 g10 = arg10.view.read (Elt F) g10 := rfl
  have e9 : _root_.Cert.Proof.K.run_odd.sl.v209 arg10 g10 = Scalar.subi (openBits F (_root_.Cert.Proof.K.run_odd.sl.r arg10 g10)) 1#32 := rfl
  have e1 : _root_.Cert.Proof.K.run_odd.sl.v163 arg10 g10 = k0_pay980 (lowRow F (_root_.Cert.Proof.K.run_odd.sl.r arg10 g10)) (openBits F (_root_.Cert.Proof.K.run_odd.sl.r arg10 g10)) := rfl
  have e2 : _root_.Cert.Proof.K.run_odd.sl.v180 arg10 g10 = k0_pay982 (lowRow F (_root_.Cert.Proof.K.run_odd.sl.r arg10 g10)) (openBits F (_root_.Cert.Proof.K.run_odd.sl.r arg10 g10)) := rfl
  rw [er] at e9 e1 e2
  rw [e9, e1, e2]
  iapply (wp_call_spec 𝒱₀ (c : Thread nD τ) none Set.univ (spec (F := F) c arg9 g9 (KK i (arg3.view.read (Elt F) X3) (arg4.view.read (Elt F) X4) (arg5.view.read (Elt F) X5))) n (fun u hu => nomatch hu) hcall)
  rw [spec_apply]
  isplitl [H9]; · iexact H9
  iintro %o %ho H9
  obtain ⟨o0, o1, o2⟩ := o
  sl_exec
  iapply (enter7 (F := F) c i arg2 harg2 arg3 harg3 arg4 harg4 arg5 harg5 arg6 harg6 arg7 harg7 arg8 harg8 arg9 harg9 arg10 harg10 arg11 harg11 arg12 harg12 arg13 harg13 _ _ _ _ X2 X6 X7 g9 _ _ _ _ _)
  isplitl [H2]; · iexact H2
  isplitl [H6]; · iexact H6
  isplitl [H7]; · iexact H7
  isplitl [H9]; · iexact H9
  isplitl [H11]; · iexact H11
  isplitl [H12]; · iexact H12
  isplitl [H13]; · iexact H13
  iintro %g11 %g12 %g13 %hs ⟨H2, H6, H7, H9, H11, H12, H13⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    exact final_read (F := F) i arg2 arg3 arg4 arg5 arg6 arg7 arg8 arg9 arg12 arg13 _ _ _ _ _ _ _ _ _ _ o1 hk9 ho hs.tot hs.out
  isplitl [H9]; · iexists _; iexact H9
  isplitl [H10]; · iexists _; iexact H10
  isplitl [H11]; · iexists _; iexact H11
  isplitl [H12]; · iexists _; iexact H12
  iexists _; iexact H13

/-- The body at any point. -/
theorem run (hF : MaxFact F) (hC : ClzFact F) (c : Dev nD) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole) (arg9 : Memref sig .tc .vmem S4096x256 .i32) (harg9 : arg9.IsWhole) (arg10 : Memref sig .tc .vmem S256x256 .i32) (harg10 : arg10.IsWhole) (arg11 : Memref sig .tc .vmem S64x256 .f32) (harg11 : arg11.IsWhole) (arg12 : Memref sig .tc .vmem S64x256 .f32) (harg12 : arg12.IsWhole) (arg13 : Memref sig .tc .vmem S1024x256 .f32) (harg13 : arg13.IsWhole)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (f8 : BufTy.Contents (Elt F) arg8.view.ty)
    (f9 : BufTy.Contents (Elt F) arg9.view.ty) (f10 : BufTy.Contents (Elt F) arg10.view.ty) (f11 : BufTy.Contents (Elt F) arg11.view.ty) (f12 : BufTy.Contents (Elt F) arg12.view.ty)
    (f13 : BufTy.Contents (Elt F) arg13.view.ty) :
    iprop(held c arg2 X2 ∗ held c arg3 X3 ∗ held c arg4 X4 ∗ held c arg5 X5 ∗ held c arg6 X6 ∗ held c arg7 X7 ∗ held c arg8 f8
      ∗ held c arg9 f9 ∗ held c arg10 f10 ∗ held c arg11 f11 ∗ held c arg12 f12 ∗ held c arg13 f13)
    ⊢ wp frame (wpE (defs₀ (F := F)) 𝒱₀ (c : Thread nD τ) none) Set.univ
        (cc0_dsa_prompt (F := F) i arg2 harg2 arg3 harg3 arg4 harg4 arg5 harg5 arg6 harg6 arg7 harg7 arg8 harg8 arg9 harg9 arg10 harg10 arg11 harg11 arg12 harg12 arg13 harg13)
        (fun _ => iprop(held c arg2 X2 ∗ held c arg3 X3 ∗ held c arg4 X4 ∗ held c arg5 X5 ∗ held c arg6 X6 ∗ held c arg7 X7
          ∗ (∃ g8, held c arg8 g8 ∗ ⌜arg8.view.read (Elt F) g8 = blockOut (i 1).val (arg2.view.read (Elt F) X2) (arg3.view.read (Elt F) X3)
              (arg4.view.read (Elt F) X4) (arg5.view.read (Elt F) X5) (arg6.view.read (Elt F) X6) (arg7.view.read (Elt F) X7)⌝)
          ∗ (∃ g9, held c arg9 g9) ∗ (∃ g10, held c arg10 g10) ∗ (∃ g11, held c arg11 g11) ∗ (∃ g12, held c arg12 g12) ∗ (∃ g13, held c arg13 g13))) := by
  by_cases hc : k0_cond1 i = 1#1
  · exact run_even hF hC c i hc arg2 harg2 arg3 harg3 arg4 harg4 arg5 harg5 arg6 harg6 arg7 harg7 arg8 harg8 arg9 harg9 arg10 harg10 arg11 harg11 arg12 harg12 arg13 harg13 X2 X3 X4 X5 X6 X7 f8 f9 f10 f11 f12 f13
  · exact run_odd hF hC c i hc arg2 harg2 arg3 harg3 arg4 harg4 arg5 harg5 arg6 harg6 arg7 harg7 arg8 harg8 arg9 harg9 arg10 harg10 arg11 harg11 arg12 harg12 arg13 harg13 X2 X3 X4 X5 X6 X7 f8 f9 f10 f11 f12 f13

end Cert.Proof.K
-- ==== Proof.K.Launch.lean ====
/-
  THE LAUNCH of the kernel: @main's host operations prepare the operands, the region runs the body at every grid point, and
  each output block ends at the attention of its input blocks.
-/
module

public import proofs.«01_k».proof.Proof.K.Body
public import proofs.«01_k».proof.Proof.Gen.Kernel.Launch
public import proofs.«01_k».proof.Proof.Gen.Kernel.Points
public import Idealize.ShloMosaic.Lib.Pipeline.FrameBody
public import Idealize.ShloMosaic.PureOps.BitExact

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [BitOps F]
variable (m : (ℓ : Loc nD τ sig) → Buf (Elt F) ℓ) (ρ : Dev nD → PrngReg)

/-- @main's three stretches of host operations. -/
abbrev hostOps : List (List (HloOp τ sig (Elt F))) := [hostOps0, hostOps0_1, hostOps0_2]

/-- The core's buffers when the region is entered. -/
abbrev V (c : Dev nD) (b : Ref sig .tc) : Buf (Elt F) ((c : Thread nD τ).loc b) := StableHlo.after (hostOps (F := F)).flatten (fun b => m (c, b)) b

theorem hostOps_fresh : (hostOps (F := F)).Forall fun ops => ops.Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps ⟨hostOps0_sub, hostOps0_1_sub, hostOps0_2_sub⟩ hostOps_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- What the body leaves in the output block at point `t`. -/
def outAt (c : Dev nD) (t : Fin (cfg0 (F := F)).N) : Vec F S256x1024 .bf16 :=
  blockOut (F := F) (grid0.coords t 1).val (iblk m c 0 t) (iblk m c 1 t) (iblk m c 2 t) (iblk m c 3 t) (iblk m c 4 t) (iblk m c 5 t)

/-- The proof data: the inputs stay at their blocks, the output block ends at `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := rfl
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = outAt m c t := by dsimp only [dats]; rfl
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; rfl) t d).trans
    (by unfold Dat.fetched Dat.blockOf iblk; rw [A_eq]; rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; rfl) t d).trans
    (by unfold Dat.fetched Dat.blockOf iblk; rw [A_eq]; rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; rfl) t d).trans
    (by unfold Dat.fetched Dat.blockOf iblk; rw [A_eq]; rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; rfl) t d).trans
    (by unfold Dat.fetched Dat.blockOf iblk; rw [A_eq]; rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; rfl) t d).trans
    (by unfold Dat.fetched Dat.blockOf iblk; rw [A_eq]; rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; rfl) t d).trans
    (by unfold Dat.fetched Dat.blockOf iblk; rw [A_eq]; rfl)

/-- The core's ownership of a memref reading `X`. -/
abbrev own (c : Dev nD) {sp : Space} {s : Shape} {e : EltTy} (r : Memref sig .tc sp s e) (X : s.Idx → Elt F e) : sProp (MT nD τ sig Unit (Elt F) ℕ (UR sig nD τ) ℕ) :=
  owns (c : Thread nD τ) r fullShare X

/-- A whole buffer is held as the memref of it is. -/
theorem held_whole (c : Dev nD) (b : Ref sig .tc) (f : Buf (Elt F) ((c : Thread nD τ).loc b)) :
    (((c : Thread nD τ).loc b) ↦{fullShare} f : sProp (MT nD τ sig Unit (Elt F) ℕ (UR sig nD τ) ℕ)) = held c (Memref.whole b) f := by
  exact congrArg (fun s => (((c : Thread nD τ).loc b) ↦[s]{fullShare} f : sProp (MT nD τ sig Unit (Elt F) ℕ (UR sig nD τ) ℕ))) (View.set_whole b).symm

/-- The body on any whole staging memrefs, the scratch buffers taken from the region's invariant and given back to it. -/
theorem sound_kernel (hF : MaxFact F) (hC : ClzFact F) (c : Dev nD) (i : grid0.Coords) (arg2 : Memref sig .tc .vmem S256x1024 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x1024 .bf16) (harg6 : arg6.IsWhole) (arg7 : Memref sig .tc .vmem S1x1024x4096 .bf16) (harg7 : arg7.IsWhole) (arg8 : Memref sig .tc .vmem S256x1024 .bf16) (harg8 : arg8.IsWhole)
    (X2 : Vec F S256x1024 .bf16) (X3 : Vec F S256x2048 .bf16) (X4 : Vec F S256x128 .f32) (X5 : Vec F S4096x128 .bf16) (X6 : Vec F S4096x1024 .bf16) (X7 : Vec F S1x1024x4096 .bf16) :
    iprop(Pipeline.ΦA spec0 c ∗ own c arg2 X2 ∗ own c arg3 X3 ∗ own c arg4 X4 ∗ own c arg5 X5 ∗ own c arg6 X6 ∗ own c arg7 X7 ∗ (∃ d, own c arg8 d))
    ⊢ wp frame (wpE (defs₀ (F := F)) 𝒱₀ (c : Thread nD τ) none) Set.univ
        (cc0_dsa_prompt (F := F) i arg2 harg2 arg3 harg3 arg4 harg4 arg5 harg5 arg6 harg6 arg7 harg7 arg8 harg8 (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _))
        (fun _ => iprop(Pipeline.ΦA spec0 c ∗ own c arg2 X2 ∗ own c arg3 X3 ∗ own c arg4 X4 ∗ own c arg5 X5 ∗ own c arg6 X6 ∗ own c arg7 X7
          ∗ own c arg8 (blockOut (i 1).val X2 X3 X4 X5 X6 X7))) := by
  unfold Pipeline.ΦA own owns
  rw [scopedRest0_eq]
  simp only [held_whole]
  iintro ⟨⟨⟨⟨%s0, S0⟩, ⟨%s1, S1⟩, ⟨%s2, S2⟩, ⟨%s3, S3⟩, ⟨%s4, S4⟩⟩, HP⟩, ⟨%f2, %h2, H2⟩, ⟨%f3, %h3, H3⟩, ⟨%f4, %h4, H4⟩, ⟨%f5, %h5, H5⟩, ⟨%f6, %h6, H6⟩, ⟨%f7, %h7, H7⟩, ⟨%d, %f8, -, H8⟩⟩
  subst h2 h3 h4 h5 h6 h7
  iapply (wp_wand_r frame (wpE (defs₀ (F := F)) 𝒱₀ (c : Thread nD τ) none) Set.univ)
  isplitr [HP]
  · iapply (run hF hC c i arg2 harg2 arg3 harg3 arg4 harg4 arg5 harg5 arg6 harg6 arg7 harg7 arg8 harg8 (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _) f2 f3 f4 f5 f6 f7 f8 s0 s1 s2 s3 s4)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    iexact S4
  iintro %_ ⟨H2, H3, H4, H5, H6, H7, ⟨%g8, H8, %h8⟩, S0, S1, S2, S3, S4⟩
  isplitl [HP S0 S1 S2 S3 S4]
  · isplitr [HP]
    · isplitl [S0]; · iexact S0
      isplitl [S1]; · iexact S1
      isplitl [S2]; · iexact S2
      isplitl [S3]; · iexact S3
      iexact S4
    iexact HP
  isplitl [H2]; · (iexists f2; isplitr; · (ipureintro; rfl)); iexact H2
  isplitl [H3]; · (iexists f3; isplitr; · (ipureintro; rfl)); iexact H3
  isplitl [H4]; · (iexists f4; isplitr; · (ipureintro; rfl)); iexact H4
  isplitl [H5]; · (iexists f5; isplitr; · (ipureintro; rfl)); iexact H5
  isplitl [H6]; · (iexists f6; isplitr; · (ipureintro; rfl)); iexact H6
  isplitl [H7]; · (iexists f7; isplitr; · (ipureintro; rfl)); iexact H7
  iexists g8; isplitr; · (ipureintro; exact h8)
  iexact H8

/-- The table's row at a point is the body as `bodyAt0` spells it. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (hF : MaxFact F) (hC : ClzFact F) (c : Dev nD) : BodyObligation (dats (F := F) m 0 c) (defs₀ (F := F)) 𝒱₀ () Set.univ := fun t => by
  rw [bigSep_W0, bigSep_W0, defs₀_row]
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) 𝒱₀ (c : Thread nD τ) none) Set.univ)
  isplitr [Ho]
  · iapply (sound_kernel hF hC c (grid0.coords t) _ _ _ _ _ _ _ _ _ _ _ _ _ _ (iblk m c 0 t) (iblk m c 1 t) (iblk m c 2 t) (iblk m c 3 t) (iblk m c 4 t) (iblk m c 5 t))
    isplitl [HΦ]; · iexact HΦ
    isplitl [H0]; · (rw [← before0_0 m c t d0]; iexact H0)
    isplitl [H1]; · (rw [← before0_1 m c t d1]; iexact H1)
    isplitl [H2]; · (rw [← before0_2 m c t d2]; iexact H2)
    isplitl [H3]; · (rw [← before0_3 m c t d3]; iexact H3)
    isplitl [H4]; · (rw [← before0_4 m c t d4]; iexact H4)
    isplitl [H5]; · (rw [← before0_5 m c t d5]; iexact H5)
    iexists _; iexact H6
  iintro %_ ⟨HΦ, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

-- the launch theorem's implicit arguments are found by unifying its conclusion with this one
set_option backward.isDefEq.respectTransparency.types false in
/-- Every execution of @main terminates; the arrays end at what the proof data says, and every counter at zero. -/
theorem run_main (hF : MaxFact F) (hC : ClzFact F) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m hF hC c).loose) (hshare := fun c => (dats m 0 c).share_full fun _ => rfl)
    (howed := fun _ _ => rfl) (V := V m) (hmain := hmain m 𝒱₀) (hA := fun _ _ => rfl) (hΦ := fun _ _ => rfl)

/-- The run read at the arguments, unchanged, and at the result: block by block, what the body leaves. -/
theorem run_all (hF : MaxFact F) (hC : ClzFact F) : θ_run defs (onTc (τ := τ) (main (F := F))) ⟨m, fun _ => 0, ρ⟩ (fun r => (∀ c : Dev nD,
      r.2.mem ((c.tc : Thread nD τ).loc main_v14) = (dats m 0 c).arrAt 6 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).2 main_arg0 (Pipeline.mem_restRefs_of main_arg0 (by decide) (show ∀ w : Fin 7, (spec0 w).arr.view.ref ≠ main_arg0 by decide))).trans (V_main_arg0 m c),
      ((h.1 c).2 main_arg1 (Pipeline.mem_restRefs_of main_arg1 (by decide) (show ∀ w : Fin 7, (spec0 w).arr.view.ref ≠ main_arg1 by decide))).trans (V_main_arg1 m c),
      ((h.1 c).2 main_arg2 (Pipeline.mem_restRefs_of main_arg2 (by decide) (show ∀ w : Fin 7, (spec0 w).arr.view.ref ≠ main_arg2 by decide))).trans (V_main_arg2 m c),
      ((h.1 c).2 main_arg3 (Pipeline.mem_restRefs_of main_arg3 (by decide) (show ∀ w : Fin 7, (spec0 w).arr.view.ref ≠ main_arg3 by decide))).trans (V_main_arg3 m c),
      ((h.1 c).2 main_arg4 (Pipeline.mem_restRefs_of main_arg4 (by decide) (show ∀ w : Fin 7, (spec0 w).arr.view.ref ≠ main_arg4 by decide))).trans (V_main_arg4 m c),
      ((h.1 c).2 main_arg5 (Pipeline.mem_restRefs_of main_arg5 (by decide) (show ∀ w : Fin 7, (spec0 w).arr.view.ref ≠ main_arg5 by decide))).trans (V_main_arg5 m c)⟩, h.2⟩) (run_main m ρ hF hC)

end Cert.Proof.K
-- ==== Proof.R.Common.lean ====
/-
  What the modules about the reference share: a whole memref's ownership, reading one sequence's block of a stacked array, and
  a counted loop run from its first trip to the end.
-/
module

public import proofs.«01_k».proof.Proof.Gen.Reference.Skeleton
public import proofs.«01_k».proof.Proof.Blocks
public import proofs.«01_k».proof.Proof.Words
public import Idealize.ShloMosaic.Lib.Exec
public import Idealize.ShloMosaic.Lib.Tactic
public import Idealize.ShloMosaic.Lib.LoopRemainder
public import Idealize.ShloMosaic.Lib.Pipeline.Kit
public import Idealize.ShloMosaic.Lib.Pipeline.Value

@[expose] public section

set_option maxRecDepth 8192
set_option maxHeartbeats 4000000

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- No recursion. -/
abbrev 𝒱₀ : Variants := Variants.none

/-- A whole memref held with contents `f` by core `c`. -/
abbrev held (c : Dev nD) {sp : Space} {s : Shape} {e : EltTy} (m : Memref sig .tc sp s e)
    (f : BufTy.Contents (Elt F) m.view.ty) : sProp (MT nD τ sig Unit (Elt F) ℕ (UR sig nD τ) ℕ) :=
  m.view.loc (c : Thread nD τ) ↦[m.view.set]{fullShare} f

/-- A counted loop as a whole: its invariant before the first trip is given, and the program after it has the invariant
    after the last. -/
theorem for_enter (c : Dev nD) {α β : Type} (L : Scf.Loop 32) (ok : L.OK) (init : α)
    (body : Fin L.trips → α → Prog (TpuEff nD τ sig (Elt F) Λ₀ .tc) α)
    (inv : ℕ → α → sProp (MT nD τ sig Unit (Elt F) ℕ (UR sig nD τ) ℕ))
    (step : ∀ (k : Fin L.trips) (acc : α), inv k.val acc
      ⊢ wp frame (wpE (defs₀ (F := F)) 𝒱₀ (c : Thread nD τ) none) Set.univ (body k acc) (inv (k.val + 1)))
    (kk : α → Prog (TpuEff nD τ sig (Elt F) Λ₀ .tc) β) (Q : β → sProp (MT nD τ sig Unit (Elt F) ℕ (UR sig nD τ) ℕ)) :
    iprop(inv 0 init ∗ (∀ r, inv L.trips r -∗ wp frame (wpE (defs₀ (F := F)) 𝒱₀ (c : Thread nD τ) none) Set.univ (kk r) Q))
    ⊢ wp frame (wpE (defs₀ (F := F)) 𝒱₀ (c : Thread nD τ) none) Set.univ (Scf.Loop.for L ok init body >>= kk) Q := by
  iintro ⟨H0, HK⟩
  rw [wp_bind]
  iapply (Scf.wp_for frame (wpE (defs₀ (F := F)) 𝒱₀ (c : Thread nD τ) none) Set.univ L.lb L.ub L.st ok init body inv step)
  isplitl [H0]; · iexact H0
  iexact HK

/-- Matrix `s` of a stack of them. -/
def slab3 {α : Type} {n a b : ℕ} [NeZero n] (x : (⟨3, ![n, a, b]⟩ : Shape).Idx → α) (s : ℕ) : (M a b).Idx → α :=
  fun j => x (ix3 (Fin.ofNat n s) (j 0) (j 1))

/-- A load at a rectangle of one matrix of a stack reads a block of it. -/
theorem readAt_slab3 {sig : RefSig} {κ : Kind} {sp : Space} {e : EltTy} {Val : EltTy → Type} {N R C : ℕ} [NeZero N] [NeZero R] [NeZero C]
    (v : View sig κ sp (⟨3, ![N, R, C]⟩ : Shape) e) (f : v.ty.Contents Val)
    (off : Fin 3 → ℕ) (s r c m n : ℕ) (inb : ∀ a : Fin 3, off a + (![1, m, n] : Fin 3 → ℕ) a ≤ (![N, R, C] : Fin 3 → ℕ) a)
    (h : off = ![s, r, c]) (hc : (⟨3, ![1, m, n]⟩ : Shape).ShapeCasts (M m n)) :
    shapeCast (M m n) (v.readAt Val (Rect.unit (s := (⟨3, ![N, R, C]⟩ : Shape)) off ![1, m, n] inb).toLoadRect f) hc
      = blk (slab3 (v.read Val f) s) r c m n := by
  subst h
  funext j
  obtain ⟨p, q, rfl⟩ : ∃ (p : Fin m) (q : Fin n), j = ix2 p q := ⟨j 0, j 1, ix2_eq j _ _ rfl rfl⟩
  have iz : s + 1 ≤ N := inb 0
  have i0 : r + m ≤ R := inb 1
  have i1 : c + n ≤ C := inb 2
  have hp := p.isLt
  have hq := q.isLt
  rw [blk_apply (slab3 (v.read Val f) s) r c m n (ix2 p q) ⟨r + p.val, by omega⟩ ⟨c + q.val, by omega⟩ rfl rfl]
  refine (shapeCast_1ab_ab_apply (a := m) (b := n) _ hc p q).trans ?_
  rw [View.readAt_apply]
  unfold slab3
  congr 1
  funext a
  match a with
  | ⟨0, _⟩ => exact Fin.ext (by show s + 1 * 0 = s % N; rw [Nat.mod_eq_of_lt (by omega)]; omega)
  | ⟨1, _⟩ => exact Fin.ext (by show r + 1 * p.val = r + p.val; omega)
  | ⟨2, _⟩ => exact Fin.ext (by show c + 1 * q.val = c + q.val; omega)

/-- A block of a block. -/
theorem blk_blk {α : Type} {R C m n : ℕ} [NeZero R] [NeZero C] [NeZero m] [NeZero n] (x : (M R C).Idx → α) (r c r' c' m' n' : ℕ)
    (h0 : r' + m' ≤ m) (h1 : c' + n' ≤ n) : blk (blk x r c m n) r' c' m' n' = blk x (r + r') (c + c') m' n' := by
  funext j
  have j0 : (j 0).val < m' := (j 0).isLt
  have j1 : (j 1).val < n' := (j 1).isLt
  rw [blk_apply (blk x r c m n) r' c' m' n' j ⟨r' + (j 0).val, by omega⟩ ⟨c' + (j 1).val, by omega⟩ rfl rfl]
  show x _ = x _
  refine congrArg x (congrArg₂ ix2 ?_ ?_)
  · exact congrArg (Fin.ofNat R) (Nat.add_assoc _ _ _).symm
  · exact congrArg (Fin.ofNat C) (Nat.add_assoc _ _ _).symm

end Cert.Proof.R
-- ==== Proof.R.Score.lean ====
/-
  The reference's selection scores: its loop over the heads, and its loop over the tiles of 128 keys.
-/
module

public import proofs.«01_k».proof.Proof.R.Common

@[expose] public section

set_option maxRecDepth 8192
set_option maxHeartbeats 4000000

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- Head `h` of the index queries of query block `t`. -/
def iqT (x3 : (M 8192 2048).Idx → F .bf16) (t h : ℕ) : FVec F (M 256 128) .bf16 := blk x3 (256 * t) (128 * h) 256 128

/-- The scaled weights of head `h`, as the scratch array holds them. -/
def wT (x7 : (M 16 256).Idx → F .f32) (h : ℕ) : FVec F (M 1 256) .f32 := blk x7 h 0 1 256

/-- The order keys of query block `t`. -/
abbrev KR (t : ℕ) (x4 : (⟨3, ![2, 4096, 128]⟩ : Shape).Idx → F .bf16) (x3 : (M 8192 2048).Idx → F .bf16)
    (x7 : (M 16 256).Idx → F .f32) : ℕ → Fin 256 → BitVec 32 :=
  keyAt (slab3 x4 (t / 16)) (iqT x3 t) (wT x7) (256 * (t % 16))

/-- One head's part of a trip is one summand of the scores. -/
theorem pay3_eq (v24 : Vec F S1x128x128 .bf16) (acc : FVec F S128x256 .f32) (a : FVec F S256x128 .bf16) (b : FVec F S1x256 .f32) :
    k0_pay3 v24 acc a b = addHead (shapeCast S128x128 v24 shapeCasts_S1x128x128_S128x128) a b acc := by
  unfold k0_pay3
  simp only [shapeCast_self]
  rfl

/-- Before head `k`: the sum of the first `k` heads' scores. -/
def inv3 (c : Dev nD) (arg3 : Memref sig .tc .vmem S8192x2048 .bf16) (arg7 : Memref sig .tc .vmem S16x256 .f32)
    (X3 : BufTy.Contents (Elt F) arg3.view.ty) (X7 : BufTy.Contents (Elt F) arg7.view.ty) (ik : FVec F (M 128 128) .bf16) (t : ℕ) (k : ℕ) (acc : FVec F S128x256 .f32) : sProp (MT nD τ sig Unit (Elt F) ℕ (UR sig nD τ) ℕ) :=
  iprop(held c arg3 X3 ∗ held c arg7 X7 ∗ ⌜acc = scores ik (iqT (arg3.view.read (Elt F) X3) t) (wT (arg7.view.read (Elt F) X7)) k⌝)

theorem step3 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (t : Fin k0_t1_loop.trips) (v24 : Vec F S1x128x128 .bf16)
    (X3 : BufTy.Contents (Elt F) arg3.view.ty) (X7 : BufTy.Contents (Elt F) arg7.view.ty) (k : Fin k0_t3_loop.trips) (acc : FVec F S128x256 .f32) :
    inv3 c arg3 arg7 X3 X7 (shapeCast S128x128 v24 shapeCasts_S1x128x128_S128x128) t.val k.val acc
    ⊢ wp frame (wpE (defs₀ (F := F)) 𝒱₀ (c : Thread nD τ) none) Set.univ (k0_t3_body (F := F) arg0 harg0 arg1 harg1 arg2 harg2 arg3 harg3 arg4 harg4 arg5 harg5 arg6 harg6 arg7 harg7 arg8 harg8 arg9 harg9 t v24 k acc)
      (inv3 c arg3 arg7 X3 X7 (shapeCast S128x128 v24 shapeCasts_S1x128x128_S128x128) t.val (k.val + 1)) := by
  unfold inv3
  iintro ⟨H3, H7, %h⟩
  unfold k0_t3_body
  sl_exec
  sl_step
  isplitl [H3]; · iexact H3
  isplitl [H7]; · iexact H7
  ipureintro
  rw [pay3_eq, h]
  refine congrArg₂ (fun a b => addHead _ a b _) ?_ ?_
  · exact readAt_blk' arg3.view X3 _ _ _ _ _ _ (k0_off3_eq t k)
  · exact readAt_blk' arg7.view X7 _ _ _ _ _ _ (k0_off4_eq k)

/-- Adding a row index or a column index by the vector unit's index array. -/
theorem tileVec (a b : BitVec 32) (s : FVec F S128x256 .f32) :
    select (cmpi .sle (addi (broadcast S128x256 a) (iota .tc S128x256 32 [0] iota_S128x256_d0_w32))
        (addi (broadcast S128x256 b) (iota .tc S128x256 32 [1] iota_S128x256_d1_w32)))
      (select (cmpi .sge (bitcastToInt s) (broadcast S128x256 0#32)) (bitcastToInt s)
        (xori (bitcastToInt s) (broadcast S128x256 2147483647#32)))
      (broadcast S128x256 2147483648#32) = tileKeys a b s := by
  funext j
  unfold tileKeys
  rw [← ordWord_eq', ← Nat.zero_add (j 0).val, ← Nat.zero_add (j 1).val]
  rfl

/-- The first key row of tile `k`, as a word. -/
abbrev wordTile (k : Fin k0_t2_loop.trips) : BitVec 32 := Scalar.muli (Scf.iv 0#32 1#32 k.val) 128#32

/-- The first query of block `t` within its sequence, as a word. -/
abbrev wordFirst (t : Fin k0_t1_loop.trips) : BitVec 32 :=
  Scalar.muli (Scalar.subi (Scalar.addi (Scalar.remsi (Scf.iv 0#32 1#32 t.val) 16#32) 1#32) 1#32) 256#32

theorem word_tile (k : Fin k0_t2_loop.trips) : wordTile k = BitVec.ofNat 32 (128 * k.val) := by
  revert k; decide

theorem word_first (t : Fin k0_t1_loop.trips) : wordFirst t = BitVec.ofNat 32 (256 * (t.val % 16)) := by
  revert t; decide

theorem pay4_eq (t : Fin k0_t1_loop.trips) (k : Fin k0_t2_loop.trips) (s : FVec F S128x256 .f32) :
    k0_pay4 t k s = tileKeys (wordTile k) (wordFirst t) s := by
  unfold k0_pay4
  simp only [shapeCast_self]
  exact tileVec _ _ s

/-- A tile's keys, stored, extend the keyed rows by the tile. -/
theorem keyed_tile (m : Memref sig .tc .vmem S4096x256 .i32) (f : BufTy.Contents (Elt F) m.view.ty) (K : ℕ → Fin 256 → BitVec 32)
    (k : ℕ) (hk : k < 32) {o : Fin 2 → ℕ}
    (i : ∀ a : Fin 2, o a + (![128, 256] : Fin 2 → ℕ) a ≤ (![4096, 256] : Fin 2 → ℕ) a)
    (e : o = ![128 * k, 0]) (w : IVec (M 128 256) 32)
    (hw : ∀ (x : Fin 128) (q : Fin 256), w (ix2 x q) = K (128 * k + x.val) q)
    (h : Keyed K (128 * k) (m.view.read (Elt F) f)) :
    Keyed K (128 * (k + 1)) (m.view.read (Elt F) (m.view.writes (Elt F) f
      [⟨Rect.unit (s := S4096x256) o S128x256.size i, w⟩])) := by
  intro p q hp
  by_cases c : 128 * k ≤ p.val
  · rw [read_writes_hit (R := 4096) (C := 256) m.view f i w _ (128 * k) 0 e p q
      ⟨p.val - 128 * k, by omega⟩ q (by simp; omega) (by simp), hw]
    congr 1; simp; omega
  · rw [read_writes_miss (R := 4096) (C := 256) m.view f i w _ (128 * k) 0 e p q (.inl (.inl (by omega)))]
    exact h p q (by omega)

/-- Before tile `k`: the keys of the first `k` tiles are stored. -/
def inv2 (c : Dev nD) (arg3 : Memref sig .tc .vmem S8192x2048 .bf16) (arg4 : Memref sig .tc .vmem S2x4096x128 .bf16)
    (arg7 : Memref sig .tc .vmem S16x256 .f32) (arg8 : Memref sig .tc .vmem S4096x256 .i32)
    (X3 : BufTy.Contents (Elt F) arg3.view.ty) (X4 : BufTy.Contents (Elt F) arg4.view.ty) (X7 : BufTy.Contents (Elt F) arg7.view.ty) (t : ℕ) (k : ℕ) (_u : Unit) : sProp (MT nD τ sig Unit (Elt F) ℕ (UR sig nD τ) ℕ) :=
  iprop(held c arg3 X3 ∗ held c arg4 X4 ∗ held c arg7 X7 ∗ (∃ f8, held c arg8 f8 ∗
    ⌜Keyed (KR t (arg4.view.read (Elt F) X4) (arg3.view.read (Elt F) X3) (arg7.view.read (Elt F) X7)) (128 * k) (arg8.view.read (Elt F) f8)⌝))

theorem step2 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (t : Fin k0_t1_loop.trips) (X3 : BufTy.Contents (Elt F) arg3.view.ty) (X4 : BufTy.Contents (Elt F) arg4.view.ty) (X7 : BufTy.Contents (Elt F) arg7.view.ty) (k : Fin k0_t2_loop.trips) (u : Unit) :
    inv2 c arg3 arg4 arg7 arg8 X3 X4 X7 t.val k.val u
    ⊢ wp frame (wpE (defs₀ (F := F)) 𝒱₀ (c : Thread nD τ) none) Set.univ (k0_t2_body (F := F) arg0 harg0 arg1 harg1 arg2 harg2 arg3 harg3 arg4 harg4 arg5 harg5 arg6 harg6 arg7 harg7 arg8 harg8 arg9 harg9 t k u) (inv2 c arg3 arg4 arg7 arg8 X3 X4 X7 t.val (k.val + 1)) := by
  unfold inv2
  iintro ⟨H3, H4, H7, ⟨%f8, H8, %h⟩⟩
  unfold k0_t2_body
  sl_exec
  iapply (for_enter (F := F) c k0_t3_loop k0_t3_ok _ _
    (inv3 c arg3 arg7 X3 X7 (shapeCast S128x128 (arg4.view.readAt (Elt F) (Rect.unit (s := S2x4096x128) (k0_off2 t k) S1x128x128.size
      (k0_off2_inb t k)).toLoadRect X4) shapeCasts_S1x128x128_S128x128) t.val)
    (step3 c arg0 harg0 arg1 harg1 arg2 harg2 arg3 harg3 arg4 harg4 arg5 harg5 arg6 harg6 arg7 harg7 arg8 harg8 arg9 harg9 t _ X3 X7))
  isplitl [H3 H7]
  · unfold inv3
    isplitl [H3]; · iexact H3
    isplitl [H7]; · iexact H7
    ipureintro
    rfl
  iintro %v28 HI
  unfold inv3
  icases HI with ⟨H3, H7, %hs⟩
  sl_exec
  sl_step
  isplitl [H3]; · iexact H3
  isplitl [H4]; · iexact H4
  isplitl [H7]; · iexact H7
  iexists _
  isplitl [H8]; · iexact H8
  ipureintro
  have ht : t.val < 32 := Nat.lt_of_lt_of_le t.isLt k0_t1_abs.2.1
  have hk : k.val < 32 := Nat.lt_of_lt_of_le k.isLt k0_t2_abs.2.1
  refine keyed_tile arg8 f8 _ k.val hk (k0_off5_inb k) (k0_off5_eq k) _ ?_ h
  intro x q
  rw [hs, pay4_eq]
  refine (congrArg (fun a => tileKeys _ _ (scores a _ _ k0_t3_loop.trips) (ix2 x q))
    (readAt_slab3 arg4.view X4 _ _ _ _ _ _ _ (k0_off2_eq t k) _)).trans ?_
  exact tileKeys_apply _ _ _ (256 * (t.val % 16)) k.val _ _ (word_tile k) (word_first t) hk (by omega) x q _ rfl

end Cert.Proof.R
-- ==== Proof.R.Pick.lean ====
/-
  The reference's choice of keys: for each key, a count of the keys above it, and the mask of the kept ones.
-/
module

public import proofs.«01_k».proof.Proof.R.Common

@[expose] public section

set_option maxRecDepth 8192
set_option maxHeartbeats 4000000

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- How many of the first `k` rows' keys are above `x`. -/
def aboveTo (K : ℕ → Fin 256 → BitVec 32) (q : Fin 256) (x : BitVec 32) (k : ℕ) : ℕ :=
  ((Finset.range k).filter fun r => x.slt (K r q) = true).card

theorem aboveTo_le (K : ℕ → Fin 256 → BitVec 32) (q : Fin 256) (x : BitVec 32) (k : ℕ) : aboveTo K q x k ≤ k := by
  unfold aboveTo
  exact (Finset.card_filter_le _ _).trans (by simp)

/-- One more row counts one if its key is above. -/
theorem aboveTo_succ (K : ℕ → Fin 256 → BitVec 32) (q : Fin 256) (x : BitVec 32) (k : ℕ) :
    aboveTo K q x (k + 1) = aboveTo K q x k + (if x.slt (K k q) = true then 1 else 0) := by
  unfold aboveTo
  rw [Finset.range_add_one, Finset.filter_insert]
  split
  · rw [Finset.card_insert_of_notMem (by simp)]
  · rfl

/-- Before row `k`: every key's count over the first `k` rows. -/
def inv5 (c : Dev nD) (arg8 : Memref sig .tc .vmem S4096x256 .i32) (X8 : BufTy.Contents (Elt F) arg8.view.ty)
    (K : ℕ → Fin 256 → BitVec 32) (v23 : Vec F S256x256 .i32) (k : ℕ) (acc : IVec S256x256 32) : sProp (MT nD τ sig Unit (Elt F) ℕ (UR sig nD τ) ℕ) :=
  iprop(held c arg8 X8 ∗ ⌜∀ x q : Fin 256, acc (ix2 x q) = BitVec.ofNat 32 (aboveTo K q (v23 (ix2 x q)) k)⌝)

/-- A row's key compared with a key, added to its count. -/
theorem pay6_apply (v23 acc : IVec S256x256 32) (r : IVec S1x256 32) (x q : Fin 256) :
    k0_pay6 (F := F) v23 acc r (ix2 x q) = acc (ix2 x q) + (if (v23 (ix2 x q)).slt (r (ix2 0 q)) = true then 1#32 else 0#32) := by
  unfold k0_pay6
  show acc (ix2 x q) + (if BitVec.ofBool ((v23 (ix2 x q)).slt (broadcastTo S256x256 r broadcasts_S1x256_S256x256 (ix2 x q))) = 1#1
    then 1#32 else 0#32) = _
  rw [show broadcastTo S256x256 r broadcasts_S1x256_S256x256 (ix2 x q) = r (ix2 0 q) from congrArg r (ix2_eq _ _ _ rfl rfl)]
  cases (v23 (ix2 x q)).slt (r (ix2 0 q)) <;> rfl

theorem step5 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X8 : BufTy.Contents (Elt F) arg8.view.ty) (K : ℕ → Fin 256 → BitVec 32) (hK : Keyed K 4096 (arg8.view.read (Elt F) X8))
    (v23 : Vec F S256x256 .i32) (k : Fin k0_t5_loop.trips) (acc : IVec S256x256 32) :
    inv5 c arg8 X8 K v23 k.val acc
    ⊢ wp frame (wpE (defs₀ (F := F)) 𝒱₀ (c : Thread nD τ) none) Set.univ (k0_t5_body (F := F) arg0 harg0 arg1 harg1 arg2 harg2 arg3 harg3 arg4 harg4 arg5 harg5 arg6 harg6 arg7 harg7 arg8 harg8 arg9 harg9 v23 k acc) (inv5 c arg8 X8 K v23 (k.val + 1)) := by
  unfold inv5
  iintro ⟨H8, %h⟩
  unfold k0_t5_body
  sl_exec
  sl_step
  isplitl [H8]; · iexact H8
  ipureintro
  intro x q
  have hk : k.val < 4096 := Nat.lt_of_lt_of_le k.isLt k0_t5_abs.2.1
  rw [pay6_apply, h x q, aboveTo_succ]
  have e := readAt_blk' (R := 4096) (C := 256) arg8.view X8 (k0_off7 k) k.val 0 1 256 (k0_off7_inb k) (k0_off7_eq k)
  have e' : arg8.view.readAt (Elt F) (Rect.unit (s := S4096x256) (k0_off7 k) S1x256.size (k0_off7_inb k)).toLoadRect X8 (ix2 0 q)
      = K k.val q := by
    refine (congrFun e (ix2 0 q)).trans ?_
    rw [blk_apply _ k.val 0 1 256 (ix2 0 q) ⟨k.val, hk⟩ q (by simp) (by simp)]
    exact hK ⟨k.val, hk⟩ q hk
  refine (congrArg (fun z => _ + (if (v23 (ix2 x q)).slt z = true then 1#32 else 0#32)) e').trans ?_
  split
  · rw [BitVec.ofNat_add]
  · simp

/-- Before chunk `k`: the mask of the first `k` chunks' kept keys is stored. -/
def inv4 (c : Dev nD) (arg8 arg9 : Memref sig .tc .vmem S4096x256 .i32) (X8 : BufTy.Contents (Elt F) arg8.view.ty) (K : ℕ → Fin 256 → BitVec 32)
    (k : ℕ) (_u : Unit) : sProp (MT nD τ sig Unit (Elt F) ℕ (UR sig nD τ) ℕ) :=
  iprop(held c arg8 X8 ∗ ∃ f9, held c arg9 f9 ∗
    ⌜∀ (p : Fin 4096) (q : Fin 256), p.val < 256 * k →
      arg9.view.read (Elt F) f9 (ix2 p q) = (if Kept K p.val q then 1#32 else 0#32)⌝)

/-- A key's bit from its count. -/
theorem pay7_apply (v23 cnt : IVec S256x256 32) (K : ℕ → Fin 256 → BitVec 32) (x q : Fin 256) (r : ℕ)
    (hv : v23 (ix2 x q) = K r q) (hc : cnt (ix2 x q) = BitVec.ofNat 32 (above K q (K r q))) :
    k0_pay7 (F := F) v23 cnt (ix2 x q) = (if Kept K r q then 1#32 else 0#32) := by
  unfold k0_pay7
  simp only [shapeCast_self]
  show (if BitVec.ofBool (lowest.slt (v23 (ix2 x q))) &&& BitVec.ofBool ((cnt (ix2 x q)).slt 256#32) = 1#1
    then 1#32 else 0#32) = _
  have hle : above K q (K r q) ≤ 4096 := aboveTo_le K q (K r q) 4096
  have hs : (BitVec.ofNat 32 (above K q (K r q))).slt 256#32 = decide (above K q (K r q) < 256) := by
    rw [BitVec.slt_eq_decide]
    have h1 : (BitVec.ofNat 32 (above K q (K r q))).toInt = above K q (K r q) := by
      rw [BitVec.toInt_eq_toNat_of_lt] <;> simp [BitVec.toNat_ofNat] <;> omega
    have h2 : (256#32 : BitVec 32).toInt = 256 := by decide
    rw [h1, h2]
    simp
  rw [hv, hc, hs]
  have hb : ∀ a b : Bool, (BitVec.ofBool a &&& BitVec.ofBool b = 1#1) ↔ (a = true ∧ b = true) := by decide
  exact if_congr ((hb _ _).trans (and_congr Iff.rfl decide_eq_true_iff)) rfl rfl

theorem step4 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X8 : BufTy.Contents (Elt F) arg8.view.ty) (K : ℕ → Fin 256 → BitVec 32) (hK : Keyed K 4096 (arg8.view.read (Elt F) X8))
    (k : Fin k0_t4_loop.trips) (u : Unit) :
    inv4 c arg8 arg9 X8 K k.val u
    ⊢ wp frame (wpE (defs₀ (F := F)) 𝒱₀ (c : Thread nD τ) none) Set.univ (k0_t4_body (F := F) arg0 harg0 arg1 harg1 arg2 harg2 arg3 harg3 arg4 harg4 arg5 harg5 arg6 harg6 arg7 harg7 arg8 harg8 arg9 harg9 k u) (inv4 c arg8 arg9 X8 K (k.val + 1)) := by
  unfold inv4
  iintro ⟨H8, ⟨%f9, H9, %h⟩⟩
  unfold k0_t4_body
  sl_exec
  iapply (for_enter (F := F) c k0_t5_loop k0_t5_ok _ _
    (inv5 c arg8 X8 K (arg8.view.readAt (Elt F) (Rect.unit (s := S4096x256) (k0_off6 k) S256x256.size (k0_off6_inb k)).toLoadRect X8))
    (step5 c arg0 harg0 arg1 harg1 arg2 harg2 arg3 harg3 arg4 harg4 arg5 harg5 arg6 harg6 arg7 harg7 arg8 harg8 arg9 harg9 X8 K hK _))
  isplitl [H8]
  · unfold inv5
    isplitl [H8]; · iexact H8
    ipureintro
    intro x q
    rfl
  iintro %v26 HI
  unfold inv5
  icases HI with ⟨H8, %hs⟩
  sl_exec
  sl_step
  isplitl [H8]; · iexact H8
  iexists _
  isplitl [H9]; · iexact H9
  ipureintro
  have hk : k.val < 16 := Nat.lt_of_lt_of_le k.isLt k0_t4_abs.2.1
  have e := readAt_blk' (R := 4096) (C := 256) arg8.view X8 (k0_off6 k) (256 * k.val) 0 256 256 (k0_off6_inb k) (k0_off6_eq k)
  intro p q hp
  by_cases hq : 256 * k.val ≤ p.val
  · have ev : arg8.view.readAt (Elt F) (Rect.unit (s := S4096x256) (k0_off6 k) S256x256.size (k0_off6_inb k)).toLoadRect X8
        (ix2 ⟨p.val - 256 * k.val, by omega⟩ q) = K p.val q := by
      refine (congrFun e _).trans ?_
      rw [blk_apply _ (256 * k.val) 0 256 256 _ p q (by simp; omega) (by simp)]
      exact hK p q p.isLt
    rw [read_writes_hit (R := 4096) (C := 256) arg9.view f9 (k0_off6_inb k) _ _ (256 * k.val) 0 (k0_off6_eq k) p q
      ⟨p.val - 256 * k.val, by omega⟩ q (by simp; omega) (by simp)]
    refine pay7_apply _ _ K _ q p.val ev ?_
    rw [hs, ev]
    rfl
  · rw [read_writes_miss (R := 4096) (C := 256) arg9.view f9 (k0_off6_inb k) _ _ (256 * k.val) 0 (k0_off6_eq k) p q
      (.inl (.inl (by omega)))]
    exact h p q (by omega)

end Cert.Proof.R
-- ==== Proof.R.Attend.lean ====
/-
  The reference's attention: its loop over the chunks of 256 keys, and its loop over the heads.
-/
module

public import proofs.«01_k».proof.Proof.R.Common

@[expose] public section

set_option maxRecDepth 8192
set_option maxHeartbeats 800000

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- A chunk's logits in the reference. -/
def lgR (t h : ℕ) (K : ℕ → Fin 256 → BitVec 32) (x0 : (M 8192 1024).Idx → F .bf16)
    (x1 : (⟨3, ![2, 4096, 1024]⟩ : Shape).Idx → F .bf16) (c : ℕ) : FVec F (M 256 256) .f32 :=
  logits (keptMask K c) (blk (slab3 x1 (t / 16)) (256 * c) (128 * h) 256 128) (blk x0 (256 * t) (128 * h) 256 128)

/-- A chunk's values in the reference. -/
def vtR (t h : ℕ) (x2 : (⟨3, ![2, 1024, 4096]⟩ : Shape).Idx → F .bf16) (c : ℕ) : FVec F (M 128 256) .bf16 :=
  blk (slab3 x2 (t / 16)) (128 * h) (256 * c) 128 256

/-- Before chunk `k`: the state of the online softmax after the first `k` chunks. -/
def inv7 (c : Dev nD) (arg0 : Memref sig .tc .vmem S8192x1024 .bf16) (arg1 : Memref sig .tc .vmem S2x4096x1024 .bf16)
    (arg2 : Memref sig .tc .vmem S2x1024x4096 .bf16) (arg9 : Memref sig .tc .vmem S4096x256 .i32)
    (X0 : BufTy.Contents (Elt F) arg0.view.ty) (X1 : BufTy.Contents (Elt F) arg1.view.ty) (X2 : BufTy.Contents (Elt F) arg2.view.ty) (X9 : BufTy.Contents (Elt F) arg9.view.ty) (K : ℕ → Fin 256 → BitVec 32) (t h : ℕ) (k : ℕ)
    (acc : FVec F S1x256 .f32 × FVec F S8x256 .f32 × FVec F S128x256 .f32) : sProp (MT nD τ sig Unit (Elt F) ℕ (UR sig nD τ) ℕ) :=
  iprop(held c arg0 X0 ∗ held c arg1 X1 ∗ held c arg2 X2 ∗ held c arg9 X9 ∗
    ⌜acc = ((states (lgR t h K (arg0.view.read (Elt F) X0) (arg1.view.read (Elt F) X1)) (vtR t h (arg2.view.read (Elt F) X2)) k).top, (states (lgR t h K (arg0.view.read (Elt F) X0) (arg1.view.read (Elt F) X1)) (vtR t h (arg2.view.read (Elt F) X2)) k).tot,
      (states (lgR t h K (arg0.view.read (Elt F) X0) (arg1.view.read (Elt F) X1)) (vtR t h (arg2.view.read (Elt F) X2)) k).out)⌝)

/-- One trip is one step of the online softmax. -/
theorem chunk_eq (a : FVec F S1x256 .f32) (b : FVec F S8x256 .f32) (o : FVec F S128x256 .f32)
    (v48 : Vec F S1x256x128 .bf16) (v52 : Vec F S256x128 .bf16) (v56 : Vec F S256x256 .i32) (v141 : Vec F S1x128x256 .bf16) :
    (k0_pay20 a (k0_pay14 v48 v52 v56) (k0_pay15 v48 v52 v56) (k0_pay16 v48 v52 v56) (k0_pay17 v48 v52 v56) (k0_pay18 v48 v52 v56) (k0_pay19 v48 v52 v56), k0_pay11 (k0_pay25 a b (k0_pay14 v48 v52 v56) (k0_pay15 v48 v52 v56) (k0_pay16 v48 v52 v56) (k0_pay17 v48 v52 v56) (k0_pay18 v48 v52 v56) (k0_pay19 v48 v52 v56)) (k0_pay28 (k0_pay23 a (k0_pay14 v48 v52 v56) (k0_pay15 v48 v52 v56) (k0_pay16 v48 v52 v56) (k0_pay17 v48 v52 v56) (k0_pay18 v48 v52 v56) (k0_pay19 v48 v52 v56)) (k0_pay26 a (k0_pay14 v48 v52 v56) (k0_pay15 v48 v52 v56) (k0_pay16 v48 v52 v56) (k0_pay17 v48 v52 v56) (k0_pay18 v48 v52 v56) (k0_pay19 v48 v52 v56)) (k0_pay27 a (k0_pay14 v48 v52 v56) (k0_pay15 v48 v52 v56) (k0_pay16 v48 v52 v56) (k0_pay17 v48 v52 v56) (k0_pay18 v48 v52 v56) (k0_pay19 v48 v52 v56))) (k0_pay29 (k0_pay23 a (k0_pay14 v48 v52 v56) (k0_pay15 v48 v52 v56) (k0_pay16 v48 v52 v56) (k0_pay17 v48 v52 v56) (k0_pay18 v48 v52 v56) (k0_pay19 v48 v52 v56))),
      k0_pay24 a o (k0_pay14 v48 v52 v56) (k0_pay15 v48 v52 v56) (k0_pay16 v48 v52 v56) (k0_pay17 v48 v52 v56) (k0_pay18 v48 v52 v56) (k0_pay19 v48 v52 v56) v141)
    = ((step (k0_pay14 v48 v52 v56) (shapeCast S128x256 v141 shapeCasts_S1x128x256_S128x256) ⟨a, b, o⟩).top,
      (step (k0_pay14 v48 v52 v56) (shapeCast S128x256 v141 shapeCasts_S1x128x256_S128x256) ⟨a, b, o⟩).tot,
      (step (k0_pay14 v48 v52 v56) (shapeCast S128x256 v141 shapeCasts_S1x128x256_S128x256) ⟨a, b, o⟩).out) := by
  refine Prod.ext ?_ (Prod.ext ?_ ?_)
  · rfl
  · rfl
  · rfl

/-- A chunk's logits from the arrays read. -/
theorem pay14_eq (v48 : Vec F S1x256x128 .bf16) (v52 : Vec F S256x128 .bf16) (v56 : Vec F S256x256 .i32) :
    k0_pay14 v48 v52 v56 = logits (cmpi .sgt v56 (broadcast S256x256 0#32))
      (shapeCast S256x128 v48 shapeCasts_S1x256x128_S256x128) v52 := by
  unfold k0_pay14
  simp only [shapeCast_self]
  rfl

/-- A stored bit is positive exactly if it is set. -/
theorem maskWord (P : Prop) [Decidable P] (w : BitVec 32) (h : w = if P then 1#32 else 0#32) :
    BitVec.ofBool ((0#32).slt w) = if P then 1#1 else 0#1 := by
  subst h
  by_cases hP : P
  · rw [if_pos hP, if_pos hP]; rfl
  · rw [if_neg hP, if_neg hP]; rfl

/-- The mask of a chunk, from the stored bits. -/
theorem maskOf (x : (M 4096 256).Idx → BitVec 32) (K : ℕ → Fin 256 → BitVec 32)
    (h9 : ∀ (p : Fin 4096) (q : Fin 256), x (ix2 p q) = (if Kept K p.val q then 1#32 else 0#32))
    (k : ℕ) (hk : k < 16) :
    cmpi .sgt (blk x (256 * k) 0 256 256) (broadcast S256x256 0#32) = keptMask K k := by
  funext j
  obtain ⟨p, q, rfl⟩ : ∃ (p : Fin 256) (q : Fin 256), j = ix2 p q := ⟨j 0, j 1, ix2_eq j _ _ rfl rfl⟩
  have hp := p.isLt
  refine maskWord (Kept K (256 * k + p.val) q) (blk x (256 * k) 0 256 256 (ix2 p q)) ?_
  rw [blk_apply x (256 * k) 0 256 256 (ix2 p q) ⟨256 * k + p.val, by omega⟩ q rfl (Nat.zero_add _).symm]
  exact h9 ⟨256 * k + p.val, by omega⟩ q

theorem step7 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X0 : BufTy.Contents (Elt F) arg0.view.ty) (X1 : BufTy.Contents (Elt F) arg1.view.ty) (X2 : BufTy.Contents (Elt F) arg2.view.ty) (X9 : BufTy.Contents (Elt F) arg9.view.ty) (K : ℕ → Fin 256 → BitVec 32)
    (h9 : ∀ (p : Fin 4096) (q : Fin 256), (arg9.view.read (Elt F) X9) (ix2 p q) = (if Kept K p.val q then 1#32 else 0#32))
    (t : Fin k0_t1_loop.trips) (v2 v3 : BitVec 32) (h : Fin k0_t6_loop.trips) (v21 : BitVec 32)
    (k : Fin (k0_t7_loop t).trips) (acc : FVec F S1x256 .f32 × FVec F S8x256 .f32 × FVec F S128x256 .f32) :
    inv7 c arg0 arg1 arg2 arg9 X0 X1 X2 X9 K t.val h.val k.val acc
    ⊢ wp frame (wpE (defs₀ (F := F)) 𝒱₀ (c : Thread nD τ) none) Set.univ (k0_t7_body (F := F) arg0 harg0 arg1 harg1 arg2 harg2 arg3 harg3 arg4 harg4 arg5 harg5 arg6 harg6 arg7 harg7 arg8 harg8 arg9 harg9 t v2 v3 h v21 k acc) (inv7 c arg0 arg1 arg2 arg9 X0 X1 X2 X9 K t.val h.val (k.val + 1)) := by
  unfold inv7
  iintro ⟨H0, H1, H2, H9, %hs⟩
  subst hs
  unfold k0_t7_body
  sl_exec
  sl_step
  isplitl [H0]; · iexact H0
  isplitl [H1]; · iexact H1
  isplitl [H2]; · iexact H2
  isplitl [H9]; · iexact H9
  ipureintro
  delta step7.sl.r step7.sl.r_1 step7.sl.r_2 step7.sl.r_3 step7.sl.r_4 step7.sl.r_5 step7.sl.r_6 step7.sl.r_7 step7.sl.r_8 step7.sl.r_9 step7.sl.r_10 step7.sl.r_11 step7.sl.r_12 step7.sl.r_13
  have ht : t.val < 32 := Nat.lt_of_lt_of_le t.isLt k0_t1_abs.2.1
  have hk : k.val < 16 := Nat.lt_of_lt_of_le k.isLt (k0_t7_abs t).2.1
  have hm := (congrArg (fun v : Vec F S256x256 .i32 => cmpi .sgt v (broadcast S256x256 0#32))
    (readAt_blk' (R := 4096) (C := 256) arg9.view X9 _ _ _ 256 256 (k0_off10_inb t k) (k0_off10_eq t k))).trans (maskOf (arg9.view.read (Elt F) X9) K h9 k.val hk)
  have e1 := readAt_slab3 arg1.view X1 _ _ _ _ 256 128 (k0_off8_inb t h k) (k0_off8_eq t h k) shapeCasts_S1x256x128_S256x128
  have e0 := readAt_blk' arg0.view X0 _ _ _ 256 128 (k0_off9_inb t h) (k0_off9_eq t h)
  have e2 := readAt_slab3 arg2.view X2 _ _ _ _ 128 256 (k0_off11_inb t h k) (k0_off11_eq t h k) shapeCasts_S1x128x256_S128x256
  refine (chunk_eq (F := F) _ _ _ _ _ _ _).trans ?_
  have el : k0_pay14 (F := F) (arg1.view.readAt (Elt F) (Rect.unit (s := S2x4096x1024) (k0_off8 t h k) S1x256x128.size (k0_off8_inb t h k)).toLoadRect X1)
      (arg0.view.readAt (Elt F) (Rect.unit (s := S8192x1024) (k0_off9 t h) S256x128.size (k0_off9_inb t h)).toLoadRect X0)
      (arg9.view.readAt (Elt F) (Rect.unit (s := S4096x256) (k0_off10 t k) S256x256.size (k0_off10_inb t k)).toLoadRect X9)
      = lgR t.val h.val K (arg0.view.read (Elt F) X0) (arg1.view.read (Elt F) X1) k.val := by
    refine (pay14_eq _ _ _).trans ?_
    unfold lgR
    exact congr (congr (congrArg logits hm) e1) e0
  exact congrArg (fun s : St F => (s.top, s.tot, s.out)) (congrArg₂ (fun a b => step a b _) el e2)

/-- A query block's attention of head `h`, in the reference. -/
def attR (t : ℕ) (K : ℕ → Fin 256 → BitVec 32) (x0 : (M 8192 1024).Idx → F .bf16)
    (x1 : (⟨3, ![2, 4096, 1024]⟩ : Shape).Idx → F .bf16) (x2 : (⟨3, ![2, 1024, 4096]⟩ : Shape).Idx → F .bf16) (h : ℕ) :
    FVec F (M 256 128) .bf16 :=
  result (states (lgR t h K x0 x1) (vtR t h x2) (t % 16 + 1))

/-- Row block `t` of the result, up to head `k`, on top of what was there. -/
def upto {α : Type} (t : ℕ) (att : ℕ → (M 256 128).Idx → α) (x : (M 8192 1024).Idx → α) (k : ℕ) (p : Fin 8192) (q : Fin 1024) : α :=
  if p.val / 256 = t ∧ q.val / 128 < k then att (q.val / 128) (ix2 (Fin.ofNat 256 p.val) (Fin.ofNat 128 q.val)) else x (ix2 p q)

/-- Before head `k`: the block's first `k` heads are stored, and the rest is as before. -/
def inv6 (c : Dev nD) (arg0 : Memref sig .tc .vmem S8192x1024 .bf16) (arg1 : Memref sig .tc .vmem S2x4096x1024 .bf16)
    (arg2 : Memref sig .tc .vmem S2x1024x4096 .bf16) (arg6 : Memref sig .tc .vmem S8192x1024 .bf16)
    (arg9 : Memref sig .tc .vmem S4096x256 .i32)
    (X0 : BufTy.Contents (Elt F) arg0.view.ty) (X1 : BufTy.Contents (Elt F) arg1.view.ty) (X2 : BufTy.Contents (Elt F) arg2.view.ty) (X6 : BufTy.Contents (Elt F) arg6.view.ty) (X9 : BufTy.Contents (Elt F) arg9.view.ty) (K : ℕ → Fin 256 → BitVec 32) (t : ℕ) (k : ℕ) (_u : Unit) : sProp (MT nD τ sig Unit (Elt F) ℕ (UR sig nD τ) ℕ) :=
  iprop(held c arg0 X0 ∗ held c arg1 X1 ∗ held c arg2 X2 ∗ held c arg9 X9 ∗ ∃ f6, held c arg6 f6 ∗
    ⌜∀ (p : Fin 8192) (q : Fin 1024), arg6.view.read (Elt F) f6 (ix2 p q) = upto t (attR t K (arg0.view.read (Elt F) X0) (arg1.view.read (Elt F) X1) (arg2.view.read (Elt F) X2)) (arg6.view.read (Elt F) X6) k p q⌝)

theorem trips7 (t : Fin k0_t1_loop.trips) : (k0_t7_loop t).trips = t.val % 16 + 1 := by
  revert t; decide

theorem pay13_eq (s : St F) : k0_pay13 s.tot s.out = result s := by
  rfl

theorem step6 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X0 : BufTy.Contents (Elt F) arg0.view.ty) (X1 : BufTy.Contents (Elt F) arg1.view.ty) (X2 : BufTy.Contents (Elt F) arg2.view.ty) (X6 : BufTy.Contents (Elt F) arg6.view.ty) (X9 : BufTy.Contents (Elt F) arg9.view.ty) (K : ℕ → Fin 256 → BitVec 32)
    (h9 : ∀ (p : Fin 4096) (q : Fin 256), (arg9.view.read (Elt F) X9) (ix2 p q) = (if Kept K p.val q then 1#32 else 0#32))
    (t : Fin k0_t1_loop.trips) (v2 v3 : BitVec 32) (k : Fin k0_t6_loop.trips) (u : Unit) :
    inv6 c arg0 arg1 arg2 arg6 arg9 X0 X1 X2 X6 X9 K t.val k.val u
    ⊢ wp frame (wpE (defs₀ (F := F)) 𝒱₀ (c : Thread nD τ) none) Set.univ (k0_t6_body (F := F) arg0 harg0 arg1 harg1 arg2 harg2 arg3 harg3 arg4 harg4 arg5 harg5 arg6 harg6 arg7 harg7 arg8 harg8 arg9 harg9 t v2 v3 (Scalar.addi (Scalar.remsi (Scf.iv 0#32 1#32 t.val) 16#32) 1#32) k u)
      (inv6 c arg0 arg1 arg2 arg6 arg9 X0 X1 X2 X6 X9 K t.val (k.val + 1)) := by
  unfold inv6
  iintro ⟨H0, H1, H2, H9, ⟨%f6, H6, %hs⟩⟩
  unfold k0_t6_body
  sl_exec
  iapply (for_enter (F := F) c (k0_t7_loop t) (k0_t7_ok t) _ _
    (inv7 c arg0 arg1 arg2 arg9 X0 X1 X2 X9 K t.val k.val) (step7 c arg0 harg0 arg1 harg1 arg2 harg2 arg3 harg3 arg4 harg4 arg5 harg5 arg6 harg6 arg7 harg7 arg8 harg8 arg9 harg9 X0 X1 X2 X9 K h9 t v2 v3 k _))
  isplitl [H0 H1 H2 H9]
  · unfold inv7
    isplitl [H0]; · iexact H0
    isplitl [H1]; · iexact H1
    isplitl [H2]; · iexact H2
    isplitl [H9]; · iexact H9
    ipureintro
    rfl
  iintro %acc HI
  unfold inv7
  icases HI with ⟨H0, H1, H2, H9, %ha⟩
  subst ha
  sl_exec
  sl_step
  isplitl [H0]; · iexact H0
  isplitl [H1]; · iexact H1
  isplitl [H2]; · iexact H2
  isplitl [H9]; · iexact H9
  iexists _
  isplitl [H6]; · iexact H6
  ipureintro
  have ht : t.val < 32 := Nat.lt_of_lt_of_le t.isLt k0_t1_abs.2.1
  have hk : k.val < 8 := Nat.lt_of_lt_of_le k.isLt k0_t6_abs.2.1
  intro p q
  have hp := p.isLt
  have hq := q.isLt
  by_cases hh : p.val / 256 = t.val ∧ q.val / 128 = k.val
  · refine (read_writes_hit (R := 8192) (C := 1024) arg6.view f6 (k0_off16_inb t k) _ _ (256 * t.val) (128 * k.val) (k0_off16_eq t k) p q
      (Fin.ofNat 256 p.val) (Fin.ofNat 128 q.val) (by simp [Fin.ofNat]; omega) (by simp [Fin.ofNat]; omega)).trans ?_
    unfold upto
    rw [if_pos ⟨hh.1, by omega⟩]
    refine congrFun ((pay13_eq _).trans ?_) _
    rw [trips7, hh.2]
    rfl
  · refine (read_writes_miss (R := 8192) (C := 1024) arg6.view f6 (k0_off16_inb t k) _ _ (256 * t.val) (128 * k.val) (k0_off16_eq t k) p q
      (by omega)).trans ((hs p q).trans ?_)
    unfold upto
    by_cases h2 : p.val / 256 = t.val ∧ q.val / 128 < k.val
    · rw [if_pos h2, if_pos ⟨h2.1, by omega⟩]
    · rw [if_neg h2, if_neg (by omega)]

end Cert.Proof.R
-- ==== Proof.R.Body.lean ====
/-
  The reference's loop over the query blocks, and its whole run: every block of the result is the attention of its rows.
-/
module

public import proofs.«01_k».proof.Proof.R.Score
public import proofs.«01_k».proof.Proof.R.Pick
public import proofs.«01_k».proof.Proof.R.Attend

@[expose] public section

set_option maxRecDepth 8192
set_option maxHeartbeats 800000

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [BitOps F]

/-- The index heads' weights of query block `t`. -/
def gT (x5 : (M 8192 16).Idx → F .f32) (t : ℕ) (q : Fin 256) (h : ℕ) : F .f32 :=
  x5 (ix2 (Fin.ofNat 8192 (256 * t + q.val)) (Fin.ofNat 16 h))

/-- The result of query block `t` and head `h`, from the whole arrays. -/
def refAtt (x0 : (M 8192 1024).Idx → F .bf16) (x1 : (⟨3, ![2, 4096, 1024]⟩ : Shape).Idx → F .bf16)
    (x2 : (⟨3, ![2, 1024, 4096]⟩ : Shape).Idx → F .bf16) (x3 : (M 8192 2048).Idx → F .bf16)
    (x4 : (⟨3, ![2, 4096, 128]⟩ : Shape).Idx → F .bf16) (x5 : (M 8192 16).Idx → F .f32) (t h : ℕ) : FVec F (M 256 128) .bf16 :=
  attention (t % 16) (slab3 x4 (t / 16)) (blk x3 (256 * t) 0 256 2048) (gT x5 t) (blk x0 (256 * t) 0 256 1024)
    (slab3 x1 (t / 16)) (slab3 x2 (t / 16)) h

/-- The result at row `p` and column `q`. -/
def refOut (x0 : (M 8192 1024).Idx → F .bf16) (x1 : (⟨3, ![2, 4096, 1024]⟩ : Shape).Idx → F .bf16)
    (x2 : (⟨3, ![2, 1024, 4096]⟩ : Shape).Idx → F .bf16) (x3 : (M 8192 2048).Idx → F .bf16)
    (x4 : (⟨3, ![2, 4096, 128]⟩ : Shape).Idx → F .bf16) (x5 : (M 8192 16).Idx → F .f32) (p : Fin 8192) (q : Fin 1024) : F .bf16 :=
  refAtt x0 x1 x2 x3 x4 x5 (p.val / 256) (q.val / 128) (ix2 (Fin.ofNat 256 p.val) (Fin.ofNat 128 q.val))

/-- The scores only read the heads summed over. -/
theorem scores_congr (ik : FVec F (M 128 128) .bf16) (iq iq' : ℕ → FVec F (M 256 128) .bf16) (w w' : ℕ → FVec F (M 1 256) .f32)
    (n : ℕ) (hi : ∀ h < n, iq h = iq' h) (hw : ∀ h < n, w h = w' h) : scores ik iq w n = scores ik iq' w' n := by
  induction n with
  | zero => rfl
  | succ n ih =>
    show addHead ik (iq n) (w n) _ = addHead ik (iq' n) (w' n) _
    rw [ih (fun h hh => hi h (by omega)) (fun h hh => hw h (by omega)), hi n (by omega), hw n (by omega)]

/-- So do the keys. -/
theorem keyAt_congr (ik : FVec F (M 4096 128) .bf16) (iq iq' : ℕ → FVec F (M 256 128) .bf16) (w w' : ℕ → FVec F (M 1 256) .f32)
    (first : ℕ) (hi : ∀ h < 16, iq h = iq' h) (hw : ∀ h < 16, w h = w' h) : keyAt ik iq w first = keyAt ik iq' w' first := by
  funext r q
  unfold keyAt
  rw [scores_congr _ iq iq' w w' 16 hi hw]

/-- The stored weights are the scaled weights of the block's rows. -/
theorem wT_pay1 (x5 : (M 8192 16).Idx → F .f32) (t h : ℕ) (ht : t < 32) (hh : h < 16) :
    wT (k0_pay1 (blk x5 (256 * t) 0 256 16)) h = wRow (gT x5 t) h := by
  funext j
  obtain ⟨p, q, rfl⟩ : ∃ (p : Fin 1) (q : Fin 256), j = ix2 p q := ⟨j 0, j 1, ix2_eq j _ _ rfl rfl⟩
  have hp := p.isLt
  have hq := q.isLt
  unfold wT
  rw [blk_apply _ h 0 1 256 (ix2 p q) ⟨h, hh⟩ q (by show h = h + p.val; omega) (by show q.val = 0 + q.val; omega)]
  unfold k0_pay1
  simp only [shapeCast_self]
  show FloatOps.mulf (transpose S16x256 [1, 0] (blk x5 (256 * t) 0 256 16) transposes_S256x16_p1_0_S16x256 (ix2 ⟨h, hh⟩ q)) _ = _
  unfold wRow gT
  refine congrArg (fun z => FloatOps.mulf z _) ?_
  rw [show transpose S16x256 [1, 0] (blk x5 (256 * t) 0 256 16) transposes_S256x16_p1_0_S16x256 (ix2 ⟨h, hh⟩ q)
      = blk x5 (256 * t) 0 256 16 (ix2 q ⟨h, hh⟩) from congrArg (blk x5 (256 * t) 0 256 16) (ix2_eq _ _ _ rfl rfl)]
  rw [blk_apply x5 (256 * t) 0 256 16 (ix2 q ⟨h, hh⟩) (Fin.ofNat 8192 (256 * t + q.val)) (Fin.ofNat 16 h)
    (by simp [Fin.ofNat]; omega) (by simp [Fin.ofNat]; try omega)]

/-- A trip's attention is the attention of the block. -/
theorem attR_eq (x0 : (M 8192 1024).Idx → F .bf16) (x1 : (⟨3, ![2, 4096, 1024]⟩ : Shape).Idx → F .bf16)
    (x2 : (⟨3, ![2, 1024, 4096]⟩ : Shape).Idx → F .bf16) (x3 : (M 8192 2048).Idx → F .bf16)
    (x4 : (⟨3, ![2, 4096, 128]⟩ : Shape).Idx → F .bf16) (x5 : (M 8192 16).Idx → F .f32) (x7 : (M 16 256).Idx → F .f32)
    (t h : ℕ) (ht : t < 32) (hh : h < 8) (h7 : x7 = k0_pay1 (blk x5 (256 * t) 0 256 16)) :
    attR t (KR t x4 x3 x7) x0 x1 x2 h = refAtt x0 x1 x2 x3 x4 x5 t h := by
  have hK : KR t x4 x3 x7 = keyAt (slab3 x4 (t / 16)) (fun h => blk (blk x3 (256 * t) 0 256 2048) 0 (128 * h) 256 128)
      (wRow (gT x5 t)) (256 * (t % 16)) := by
    refine keyAt_congr _ _ _ _ _ _ (fun h' hh' => ?_) (fun h' hh' => ?_)
    · rw [blk_blk x3 (256 * t) 0 0 (128 * h') 256 128 (by omega) (by omega), Nat.zero_add]; rfl
    · rw [h7, wT_pay1 x5 t h' ht hh']
  have hq : blk (blk x0 (256 * t) 0 256 1024) 0 (128 * h) 256 128 = blk x0 (256 * t) (128 * h) 256 128 := by
    rw [blk_blk x0 (256 * t) 0 0 (128 * h) 256 128 (by omega) (by omega), Nat.zero_add]; rfl
  unfold attR refAtt attention
  rw [hK, hq]
  rfl

/-- Before query block `k`: the result's first `k` row blocks are the attention of their rows. -/
def inv1 (c : Dev nD) (arg0 : Memref sig .tc .vmem S8192x1024 .bf16) (arg1 : Memref sig .tc .vmem S2x4096x1024 .bf16) (arg2 : Memref sig .tc .vmem S2x1024x4096 .bf16) (arg3 : Memref sig .tc .vmem S8192x2048 .bf16) (arg4 : Memref sig .tc .vmem S2x4096x128 .bf16) (arg5 : Memref sig .tc .vmem S8192x16 .f32) (arg6 : Memref sig .tc .vmem S8192x1024 .bf16) (arg7 : Memref sig .tc .vmem S16x256 .f32) (arg8 : Memref sig .tc .vmem S4096x256 .i32) (arg9 : Memref sig .tc .vmem S4096x256 .i32)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : ℕ) (_u : Unit) : sProp (MT nD τ sig Unit (Elt F) ℕ (UR sig nD τ) ℕ) :=
  iprop(held c arg0 X0 ∗ held c arg1 X1 ∗ held c arg2 X2 ∗ held c arg3 X3 ∗ held c arg4 X4 ∗ held c arg5 X5 ∗
    (∃ f6, held c arg6 f6 ∗ ⌜∀ (p : Fin 8192) (q : Fin 1024), p.val < 256 * k →
      arg6.view.read (Elt F) f6 (ix2 p q) = refOut (arg0.view.read (Elt F) X0) (arg1.view.read (Elt F) X1) (arg2.view.read (Elt F) X2) (arg3.view.read (Elt F) X3) (arg4.view.read (Elt F) X4) (arg5.view.read (Elt F) X5) p q⌝) ∗
    (∃ f7, held c arg7 f7) ∗ (∃ f8, held c arg8 f8) ∗ (∃ f9, held c arg9 f9))

theorem step1 (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (u : Unit) :
    inv1 c arg0 arg1 arg2 arg3 arg4 arg5 arg6 arg7 arg8 arg9 X0 X1 X2 X3 X4 X5 k.val u
    ⊢ wp frame (wpE (defs₀ (F := F)) 𝒱₀ (c : Thread nD τ) none) Set.univ (k0_t1_body (F := F) arg0 harg0 arg1 harg1 arg2 harg2 arg3 harg3 arg4 harg4 arg5 harg5 arg6 harg6 arg7 harg7 arg8 harg8 arg9 harg9 k u) (inv1 c arg0 arg1 arg2 arg3 arg4 arg5 arg6 arg7 arg8 arg9 X0 X1 X2 X3 X4 X5 (k.val + 1)) := by
  unfold inv1
  iintro ⟨H0, H1, H2, H3, H4, H5, ⟨%f6, H6, %h6⟩, ⟨%f7, H7⟩, ⟨%f8, H8⟩, ⟨%f9, H9⟩⟩
  have ht : k.val < 32 := Nat.lt_of_lt_of_le k.isLt k0_t1_abs.2.1
  unfold k0_t1_body
  sl_exec
  have h7 : arg7.view.read (Elt F) (arg7.view.writes (Elt F) arg7.view.junk (step1.sl.H7_1 arg5 X5 k))
      = k0_pay1 (blk (arg5.view.read (Elt F) X5) (256 * k.val) 0 256 16) := by
    delta step1.sl.H7_1
    refine (blk_whole _).symm.trans ((blk_hit (R := 16) (C := 256) arg7.view _ inb_S16x256_S16x256_0_0 _ [] 0 0 rfl).trans ?_)
    exact congrArg k0_pay1 (readAt_blk' (R := 8192) (C := 16) arg5.view X5 _ _ _ 256 16 (k0_off1_inb k) (k0_off1_eq k))
  generalize arg7.view.writes (Elt F) arg7.view.junk (step1.sl.H7_1 arg5 X5 k) = g7 at h7
  iapply (for_enter (F := F) c k0_t2_loop k0_t2_ok _ _
    (inv2 c arg3 arg4 arg7 arg8 X3 X4 g7 k.val) (step2 c arg0 harg0 arg1 harg1 arg2 harg2 arg3 harg3 arg4 harg4 arg5 harg5 arg6 harg6 arg7 harg7 arg8 harg8 arg9 harg9 k X3 X4 g7))
  isplitl [H3 H4 H7 H8]
  · unfold inv2
    isplitl [H3]; · iexact H3
    isplitl [H4]; · iexact H4
    isplitl [H7]; · iexact H7
    iexists f8
    isplitl [H8]; · iexact H8
    ipureintro
    intro p q hp
    omega
  iintro %_ HI
  unfold inv2
  icases HI with ⟨H3, H4, H7, ⟨%g8, H8, %h8⟩⟩
  have t2 : k0_t2_loop.trips = 32 := by decide
  have t4 : k0_t4_loop.trips = 16 := by decide
  have t6 : k0_t6_loop.trips = 8 := by decide
  have h8' : Keyed (KR k.val (arg4.view.read (Elt F) X4) (arg3.view.read (Elt F) X3) (arg7.view.read (Elt F) g7)) 4096 (arg8.view.read (Elt F) g8) :=
    fun p q hp => h8 p q (by rw [t2]; omega)
  iapply (for_enter (F := F) c k0_t4_loop k0_t4_ok _ _
    (inv4 c arg8 arg9 g8 (KR k.val (arg4.view.read (Elt F) X4) (arg3.view.read (Elt F) X3) (arg7.view.read (Elt F) g7))) (step4 c arg0 harg0 arg1 harg1 arg2 harg2 arg3 harg3 arg4 harg4 arg5 harg5 arg6 harg6 arg7 harg7 arg8 harg8 arg9 harg9 g8 _ h8'))
  isplitl [H8 H9]
  · unfold inv4
    isplitl [H8]; · iexact H8
    iexists f9
    isplitl [H9]; · iexact H9
    ipureintro
    intro p q hp
    omega
  iintro %_ HI
  unfold inv4
  icases HI with ⟨H8, ⟨%g9, H9, %h9⟩⟩
  rw [t4] at h9
  iapply (for_enter (F := F) c k0_t6_loop k0_t6_ok _ _
    (inv6 c arg0 arg1 arg2 arg6 arg9 X0 X1 X2 f6 g9 (KR k.val (arg4.view.read (Elt F) X4) (arg3.view.read (Elt F) X3) (arg7.view.read (Elt F) g7)) k.val)
    (step6 c arg0 harg0 arg1 harg1 arg2 harg2 arg3 harg3 arg4 harg4 arg5 harg5 arg6 harg6 arg7 harg7 arg8 harg8 arg9 harg9 X0 X1 X2 f6 g9 _ (fun p q => h9 p q (by have := p.isLt; omega)) k _ _))
  isplitl [H0 H1 H2 H6 H9]
  · unfold inv6
    isplitl [H0]; · iexact H0
    isplitl [H1]; · iexact H1
    isplitl [H2]; · iexact H2
    isplitl [H9]; · iexact H9
    iexists f6
    isplitl [H6]; · iexact H6
    ipureintro
    intro p q
    unfold upto
    rw [if_neg (by omega)]
  iintro %_ HI
  unfold inv6
  icases HI with ⟨H0, H1, H2, H9, ⟨%g6, H6, %hg⟩⟩
  rw [t6] at hg
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]
  · iexists g6
    isplitl [H6]; · iexact H6
    ipureintro
    intro p q hp
    have hq := q.isLt
    rw [hg p q]
    unfold upto
    by_cases h : p.val / 256 = k.val
    · rw [if_pos ⟨h, by omega⟩, attR_eq (arg0.view.read (Elt F) X0) (arg1.view.read (Elt F) X1) (arg2.view.read (Elt F) X2) (arg3.view.read (Elt F) X3) (arg4.view.read (Elt F) X4) (arg5.view.read (Elt F) X5) _ k.val (q.val / 128) ht (by omega) h7]
      unfold refOut
      rw [h]
    · rw [if_neg (fun hc => h hc.1)]
      exact h6 p q (by omega)
  isplitl [H7]; · iexists g7; iexact H7
  isplitl [H8]; · iexists g8; iexact H8
  iexists g9; iexact H9

/-- The reference's whole run on its memrefs: the result is the attention, and every other array is as it was. -/
theorem run_ref (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole) (arg7 : Memref sig .tc .vmem S16x256 .f32) (harg7 : arg7.IsWhole) (arg8 : Memref sig .tc .vmem S4096x256 .i32) (harg8 : arg8.IsWhole) (arg9 : Memref sig .tc .vmem S4096x256 .i32) (harg9 : arg9.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    iprop(held c arg0 X0 ∗ held c arg1 X1 ∗ held c arg2 X2 ∗ held c arg3 X3 ∗ held c arg4 X4 ∗ held c arg5 X5 ∗
      held c arg6 X6 ∗ held c arg7 X7 ∗ held c arg8 X8 ∗ held c arg9 X9)
    ⊢ wp frame (wpE (defs₀ (F := F)) 𝒱₀ (c : Thread nD τ) none) Set.univ (cc0__plain_attention (F := F) arg0 harg0 arg1 harg1 arg2 harg2 arg3 harg3 arg4 harg4 arg5 harg5 arg6 harg6 arg7 harg7 arg8 harg8 arg9 harg9)
      (fun _ => iprop(held c arg0 X0 ∗ held c arg1 X1 ∗ held c arg2 X2 ∗ held c arg3 X3 ∗ held c arg4 X4 ∗ held c arg5 X5 ∗
        (∃ f6, held c arg6 f6 ∗ ⌜∀ (p : Fin 8192) (q : Fin 1024),
          arg6.view.read (Elt F) f6 (ix2 p q) = refOut (arg0.view.read (Elt F) X0) (arg1.view.read (Elt F) X1) (arg2.view.read (Elt F) X2) (arg3.view.read (Elt F) X3) (arg4.view.read (Elt F) X4) (arg5.view.read (Elt F) X5) p q⌝) ∗
        (∃ f7, held c arg7 f7) ∗ (∃ f8, held c arg8 f8) ∗ (∃ f9, held c arg9 f9))) := by
  iintro ⟨H0, H1, H2, H3, H4, H5, H6, H7, H8, H9⟩
  rw [cc0__plain_attention_eq_skeleton]
  unfold cc0__plain_attention_skel
  iapply (for_enter (F := F) c k0_t1_loop k0_t1_ok _ _
    (inv1 c arg0 arg1 arg2 arg3 arg4 arg5 arg6 arg7 arg8 arg9 X0 X1 X2 X3 X4 X5) (step1 c arg0 harg0 arg1 harg1 arg2 harg2 arg3 harg3 arg4 harg4 arg5 harg5 arg6 harg6 arg7 harg7 arg8 harg8 arg9 harg9 X0 X1 X2 X3 X4 X5))
  isplitl [H0 H1 H2 H3 H4 H5 H6 H7 H8 H9]
  · unfold inv1
    isplitl [H0]; · iexact H0
    isplitl [H1]; · iexact H1
    isplitl [H2]; · iexact H2
    isplitl [H3]; · iexact H3
    isplitl [H4]; · iexact H4
    isplitl [H5]; · iexact H5
    isplitl [H6]
    · iexists X6
      isplitl [H6]; · iexact H6
      ipureintro
      intro p q hp
      omega
    isplitl [H7]; · iexists X7; iexact H7
    isplitl [H8]; · iexists X8; iexact H8
    iexists X9; iexact H9
  iintro %_ HI
  unfold inv1
  icases HI with ⟨H0, H1, H2, H3, H4, H5, ⟨%g6, H6, %h6⟩, H7, H8, H9⟩
  have t1 : k0_t1_loop.trips = 32 := by decide
  rw [t1] at h6
  sl_step
  isplitl [H0]; · iexact H0
  isplitl [H1]; · iexact H1
  isplitl [H2]; · iexact H2
  isplitl [H3]; · iexact H3
  isplitl [H4]; · iexact H4
  isplitl [H5]; · iexact H5
  isplitl [H6]
  · iexists g6
    isplitl [H6]; · iexact H6
    ipureintro
    exact fun p q => h6 p q (by have := p.isLt; omega)
  isplitl [H7]; · iexact H7
  isplitl [H8]; · iexact H8
  iexact H9

end Cert.Proof.R
-- ==== Proof.R.Launch.lean ====
/-
  THE REFERENCE'S LAUNCH: @main's host operations prepare the operands, the region runs the body once, and the result ends
  at the attention of the operands.
-/
module

public import proofs.«01_k».proof.Proof.R.Body
public import proofs.«01_k».proof.Proof.Gen.Reference.Frame

@[expose] public section

set_option maxRecDepth 16384

noncomputable section

namespace Cert.Proof.R

open Cert.Reference Cert.Reference.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [BitOps F]
variable (m : (ℓ : Loc nD τ sig) → Buf (Elt F) ℓ) (ρ : Dev nD → PrngReg)

/-- The whole result from the operands. -/
def outBlock (X0 : Vec F S8192x1024 .bf16) (X1 : Vec F S2x4096x1024 .bf16) (X2 : Vec F S2x1024x4096 .bf16) (X3 : Vec F S8192x2048 .bf16) (X4 : Vec F S2x4096x128 .bf16) (X5 : Vec F S8192x16 .f32) : Vec F S8192x1024 .bf16 :=
  fun j => refOut X0 X1 X2 X3 X4 X5 (j 0) (j 1)

/-- What the body leaves in the output. -/
def outAt (c : Dev nD) (t : Fin cfg0.N) : Vec F S8192x1024 .bf16 :=
  outBlock (F := F) (iblk m c 0 t) (iblk m c 1 t) (iblk m c 2 t) (iblk m c 3 t) (iblk m c 4 t) (iblk m c 5 t)

/-- The proof data: the inputs stay as they are, the output ends at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The core's ownership of a memref reading `X`. -/
abbrev own (c : Dev nD) {sp : Space} {s : Shape} {e : EltTy} (r : Memref sig .tc sp s e) (X : s.Idx → Elt F e) : sProp (MT nD τ sig Unit (Elt F) ℕ (UR sig nD τ) ℕ) :=
  owns (c : Thread nD τ) r fullShare X

/-- A whole buffer is held as the memref of it is. -/
theorem held_whole (c : Dev nD) (b : Ref sig .tc) (f : Buf (Elt F) ((c : Thread nD τ).loc b)) :
    (((c : Thread nD τ).loc b) ↦{fullShare} f : sProp (MT nD τ sig Unit (Elt F) ℕ (UR sig nD τ) ℕ)) = held c (Memref.whole b) f := by
  exact congrArg (fun s => (((c : Thread nD τ).loc b) ↦[s]{fullShare} f : sProp (MT nD τ sig Unit (Elt F) ℕ (UR sig nD τ) ℕ))) (View.set_whole b).symm

/-- The body on any whole staging memrefs, the scratch buffers taken from the region's invariant and given back to it. -/
theorem sound_kernel (c : Dev nD) (arg0 : Memref sig .tc .vmem S8192x1024 .bf16) (harg0 : arg0.IsWhole) (arg1 : Memref sig .tc .vmem S2x4096x1024 .bf16) (harg1 : arg1.IsWhole) (arg2 : Memref sig .tc .vmem S2x1024x4096 .bf16) (harg2 : arg2.IsWhole) (arg3 : Memref sig .tc .vmem S8192x2048 .bf16) (harg3 : arg3.IsWhole) (arg4 : Memref sig .tc .vmem S2x4096x128 .bf16) (harg4 : arg4.IsWhole) (arg5 : Memref sig .tc .vmem S8192x16 .f32) (harg5 : arg5.IsWhole) (arg6 : Memref sig .tc .vmem S8192x1024 .bf16) (harg6 : arg6.IsWhole)
    (X0 : Vec F S8192x1024 .bf16) (X1 : Vec F S2x4096x1024 .bf16) (X2 : Vec F S2x1024x4096 .bf16) (X3 : Vec F S8192x2048 .bf16) (X4 : Vec F S2x4096x128 .bf16) (X5 : Vec F S8192x16 .f32) :
    iprop(Pipeline.ΦA spec0 c ∗ own c arg0 X0 ∗ own c arg1 X1 ∗ own c arg2 X2 ∗ own c arg3 X3 ∗ own c arg4 X4 ∗ own c arg5 X5 ∗ (∃ d, own c arg6 d))
    ⊢ wp frame (wpE (defs₀ (F := F)) 𝒱₀ (c : Thread nD τ) none) Set.univ
        (cc0__plain_attention (F := F) arg0 harg0 arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _))
        (fun _ => iprop(Pipeline.ΦA spec0 c ∗ own c arg0 X0 ∗ own c arg1 X1 ∗ own c arg2 X2 ∗ own c arg3 X3 ∗ own c arg4 X4 ∗ own c arg5 X5
          ∗ own c arg6 (outBlock X0 X1 X2 X3 X4 X5))) := by
  unfold Pipeline.ΦA own owns
  rw [scopedRest0_eq]
  simp only [held_whole]
  iintro ⟨⟨⟨⟨%s0, S0⟩, ⟨%s1, S1⟩, ⟨%s2, S2⟩⟩, HP⟩, ⟨%f0, %h0, H0⟩, ⟨%f1, %h1, H1⟩, ⟨%f2, %h2, H2⟩, ⟨%f3, %h3, H3⟩, ⟨%f4, %h4, H4⟩, ⟨%f5, %h5, H5⟩, ⟨%d, %f6, -, H6⟩⟩
  subst h0 h1 h2 h3 h4 h5
  iapply (wp_wand_r frame (wpE (defs₀ (F := F)) 𝒱₀ (c : Thread nD τ) none) Set.univ)
  isplitr [HP]
  · iapply (run_ref c arg0 harg0 arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) f0 f1 f2 f3 f4 f5 f6 s0 s1 s2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iexact S2
  iintro %_ ⟨H0, H1, H2, H3, H4, H5, ⟨%g6, H6, %h6⟩, S0, S1, S2⟩
  isplitl [HP S0 S1 S2]
  · isplitr [HP]
    · isplitl [S0]; · iexact S0
      isplitl [S1]; · iexact S1
      iexact S2
    iexact HP
  isplitl [H0]; · (iexists f0; isplitr; · (ipureintro; rfl)); iexact H0
  isplitl [H1]; · (iexists f1; isplitr; · (ipureintro; rfl)); iexact H1
  isplitl [H2]; · (iexists f2; isplitr; · (ipureintro; rfl)); iexact H2
  isplitl [H3]; · (iexists f3; isplitr; · (ipureintro; rfl)); iexact H3
  isplitl [H4]; · (iexists f4; isplitr; · (ipureintro; rfl)); iexact H4
  isplitl [H5]; · (iexists f5; isplitr; · (ipureintro; rfl)); iexact H5
  iexists g6
  isplitr
  · ipureintro
    funext j
    obtain ⟨p, q, rfl⟩ : ∃ (p : Fin 8192) (q : Fin 1024), j = ix2 p q := ⟨j 0, j 1, ix2_eq j _ _ rfl rfl⟩
    exact h6 p q
  iexact H6

/-- The table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) 𝒱₀ (c : Thread nD τ) none) Set.univ)
  isplitr [Ho]
  · iapply (sound_kernel c _ _ _ _ _ _ _ _ _ _ _ _ _ _ (iblk m c 0 t) (iblk m c 1 t) (iblk m c 2 t) (iblk m c 3 t) (iblk m c 4 t) (iblk m c 5 t))
    isplitl [HΦ]; · iexact HΦ
    isplitl [H0]; · (rw [← before0_0 m c t d0]; iexact H0)
    isplitl [H1]; · (rw [← before0_1 m c t d1]; iexact H1)
    isplitl [H2]; · (rw [← before0_2 m c t d2]; iexact H2)
    isplitl [H3]; · (rw [← before0_3 m c t d3]; iexact H3)
    isplitl [H4]; · (rw [← before0_4 m c t d4]; iexact H4)
    isplitl [H5]; · (rw [← before0_5 m c t d5]; iexact H5)
    iexists _; iexact H6
  iintro %_ ⟨HΦ, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

-- the launch theorem's implicit arguments are found by unifying its conclusion with this one
set_option backward.isDefEq.respectTransparency.types false in
/-- Every execution of @main terminates; the arrays end at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The run read at the arguments, unchanged, and at the result: what the body leaves. -/
theorem run_all : θ_run defs (onTc (τ := τ) (main (F := F))) ⟨m, fun _ => 0, ρ⟩ (fun r => (∀ c : Dev nD,
      r.2.mem ((c.tc : Thread nD τ).loc main_v11) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).2 main_arg0 (Pipeline.mem_restRefs_of main_arg0 (by decide) (show ∀ w : Fin 7, (spec0 w).arr.view.ref ≠ main_arg0 by decide))).trans (V_main_arg0 m c),
      ((h.1 c).2 main_arg1 (Pipeline.mem_restRefs_of main_arg1 (by decide) (show ∀ w : Fin 7, (spec0 w).arr.view.ref ≠ main_arg1 by decide))).trans (V_main_arg1 m c),
      ((h.1 c).2 main_arg2 (Pipeline.mem_restRefs_of main_arg2 (by decide) (show ∀ w : Fin 7, (spec0 w).arr.view.ref ≠ main_arg2 by decide))).trans (V_main_arg2 m c),
      ((h.1 c).2 main_arg3 (Pipeline.mem_restRefs_of main_arg3 (by decide) (show ∀ w : Fin 7, (spec0 w).arr.view.ref ≠ main_arg3 by decide))).trans (V_main_arg3 m c),
      ((h.1 c).2 main_arg4 (Pipeline.mem_restRefs_of main_arg4 (by decide) (show ∀ w : Fin 7, (spec0 w).arr.view.ref ≠ main_arg4 by decide))).trans (V_main_arg4 m c),
      ((h.1 c).2 main_arg5 (Pipeline.mem_restRefs_of main_arg5 (by decide) (show ∀ w : Fin 7, (spec0 w).arr.view.ref ≠ main_arg5 by decide))).trans (V_main_arg5 m c)⟩, h.2⟩) (run_main m ρ)

end Cert.Proof.R
-- ==== Proof.Operands.lean ====
/-
  THE TWO PREPARATIONS OF THE OPERANDS: the kernel's host operations lay the sequences out one below the other, the
  reference's keep them apart, and the kernel pads the weights; block by block they are the same values.
-/
module

public import proofs.«01_k».proof.Proof.R.Body
public import Idealize.ShloMosaic.Lib.Pipeline.Value
public import Idealize.ShloMosaic.Lib.KernelVsHost

@[expose] public section

set_option maxRecDepth 16384

noncomputable section

namespace Cert.Proof.Same

open Idealize.ShloMosaic Idealize.ShloMosaic.ValueIdx
open Cert.Proof.R

variable {F : FTy → Type} [BitOps F] {α : Type}

/-- Two reshapes of one array agree at indices with the same place in row-major order. -/
theorem shapeCast_both {s t u : Shape} (x : s.Idx → α) (h : s.ShapeCasts t) (h' : s.ShapeCasts u) (i : t.Idx) (j : u.Idx)
    (e : (t.rowMajor i).val = (u.rowMajor j).val) : shapeCast t x h i = shapeCast u x h' j :=
  shapeCast_apply x h i (Shape.reshapeEquiv h' j) ((Shape.rowMajor_reshapeEquiv h' j).trans e.symm)

/-- Row `4096 s + r` of the stacked matrix is row `r` of sequence `s`. -/
theorem place {C : ℕ} (s r c : ℕ) (hs : s < 2) (hr : r < 4096) (hc : c < C) :
    ((M 8192 C).rowMajor (ix2 (⟨4096 * s + r, by omega⟩ : Fin 8192) (⟨c, hc⟩ : Fin C))).val
      = ((⟨3, ![2, 4096, C]⟩ : Shape).rowMajor (ix3 (⟨s, hs⟩ : Fin 2) (⟨r, hr⟩ : Fin 4096) (⟨c, hc⟩ : Fin C))).val := by
  rw [Shape.rowMajor_val_two, Shape.rowMajor_val_three]
  show (4096 * s + r) * C + c = (s * 4096 + r) * C + c
  rw [Nat.mul_comm 4096 s]

/-- A sequence's rows, of the stacked matrix and of the stack. -/
theorem rows_eq {u : Shape} {C : ℕ} [NeZero C] (x : u.Idx → α) (h : u.ShapeCasts (M 8192 C)) (h' : u.ShapeCasts ⟨3, ![2, 4096, C]⟩)
    (s : ℕ) (hs : s < 2) : blk (shapeCast (M 8192 C) x h) (4096 * s) 0 4096 C = slab3 (shapeCast ⟨3, ![2, 4096, C]⟩ x h') s := by
  funext j
  have h0 : (j 0).val < 4096 := (j 0).isLt
  have h1 : (j 1).val < C := (j 1).isLt
  have e0 : (Fin.ofNat 8192 (4096 * s + (j 0).val)) = ⟨4096 * s + (j 0).val, by omega⟩ :=
    Fin.ext (show (4096 * s + (j 0).val) % 8192 = _ from Nat.mod_eq_of_lt (by omega))
  have e1 : (Fin.ofNat C (0 + (j 1).val)) = ⟨(j 1).val, h1⟩ :=
    Fin.ext (show (0 + (j 1).val) % C = _ by rw [Nat.zero_add]; exact Nat.mod_eq_of_lt h1)
  have e2 : (Fin.ofNat 2 s) = ⟨s, hs⟩ := Fin.ext (show s % 2 = s from Nat.mod_eq_of_lt hs)
  show shapeCast (M 8192 C) x h (ix2 (Fin.ofNat 8192 (4096 * s + (j 0).val)) (Fin.ofNat C (0 + (j 1).val)))
    = shapeCast ⟨3, ![2, 4096, C]⟩ x h' (ix3 (Fin.ofNat 2 s) (j 0) (j 1))
  rw [e0, e1, e2]
  exact shapeCast_both x h h' _ _ (place s (j 0).val (j 1).val hs h0 h1)

/-- The same, rounded. -/
theorem rounded_rows_eq {u : Shape} {C : ℕ} [NeZero C] (x : FVec F u .f32) (h : u.ShapeCasts (M 8192 C)) (h' : u.ShapeCasts ⟨3, ![2, 4096, C]⟩)
    (hb : FTy.bf16.bits < FTy.f32.bits) (s : ℕ) (hs : s < 2) :
    blk (truncf .bf16 (shapeCast (M 8192 C) x h) hb) (4096 * s) 0 4096 C = slab3 (truncf .bf16 (shapeCast ⟨3, ![2, 4096, C]⟩ x h') hb) s :=
  funext fun j => congrArg (FloatOps.truncf .bf16 hb) (congrFun (rows_eq x h h' s hs) j)

/-- The values, transposed: rounded in the stacked matrix or in the stack. -/
theorem values_eq {u : Shape} (x : FVec F u .f32) (h : u.ShapeCasts (M 8192 1024)) (h' : u.ShapeCasts ⟨3, ![2, 4096, 1024]⟩)
    (h2 : (M 8192 1024).ShapeCasts ⟨3, ![2, 4096, 1024]⟩) (hb : FTy.bf16.bits < FTy.f32.bits) :
    shapeCast ⟨3, ![2, 4096, 1024]⟩ (truncf .bf16 (shapeCast (M 8192 1024) x h) hb) h2
      = truncf .bf16 (shapeCast ⟨3, ![2, 4096, 1024]⟩ x h') hb := by
  funext j
  exact congrArg (FloatOps.truncf .bf16 hb)
    (shapeCast_both x h h' (Shape.reshapeEquiv h2 j) j (Shape.rowMajor_reshapeEquiv h2 j))

/-- The padded weights at a head are the weights. -/
theorem padded_eq {u : Shape} (x : (M 8192 16).Idx → α) (v : u.Idx → α) (h : (M 8192 16).Pads ![0, 0] ![0, 112] ![0, 0] (M 8192 128))
    (hu : 0 < u.numel) (t : ℕ) (ht : t < 32) (q : Fin 256) (k : ℕ) (hk : k < 16) :
    blk (pad (M 8192 128) ![0, 0] ![0, 112] ![0, 0] x v h hu) (256 * t) 0 256 128 (ix2 q (Fin.ofNat 128 k))
      = x (ix2 (Fin.ofNat 8192 (256 * t + q.val)) (Fin.ofNat 16 k)) := by
  have hq := q.isLt
  refine pad_apply_of_inside _ _ _ x v h hu _ _ fun a => ?_
  match a with
  | ⟨0, _⟩ =>
    show (256 * t + q.val) % 8192 = 0 + (256 * t + q.val) % 8192 * (0 + 1)
    omega
  | ⟨1, _⟩ =>
    show (0 + k % 128) % 128 = 0 + k % 16 * (0 + 1)
    omega

/-- The attention only reads the sixteen heads' weights. -/
theorem attention_congr (n : ℕ) (ik : FVec F (M 4096 128) .bf16) (iq : FVec F (M 256 2048) .bf16) (g g' : Fin 256 → ℕ → F .f32)
    (qs : FVec F (M 256 1024) .bf16) (ks : FVec F (M 4096 1024) .bf16) (vt : FVec F (M 1024 4096) .bf16) (h : ℕ)
    (hg : ∀ q, ∀ k < 16, g q k = g' q k) : attention n ik iq g qs ks vt h = attention n ik iq g' qs ks vt h := by
  unfold attention
  rw [keyAt_congr ik (fun h => blk iq 0 (128 * h) 256 128) (fun h => blk iq 0 (128 * h) 256 128) (wRow g) (wRow g') (256 * n)
    (fun _ _ => rfl) (fun k hk => funext fun j => by unfold wRow; rw [hg (j 1) k hk])]

end Cert.Proof.Same
-- ==== Proof.K.Value.lean ====
/-
  THE KERNEL'S RESULT, ENTRY BY ENTRY: the blocks written cover it, and each is the attention of the operands' blocks.
-/
module

public import proofs.«01_k».proof.Proof.K.Launch
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Proof.K

open Cert.Kernel Cert.Kernel.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [BitOps F]
variable (m : (ℓ : Loc nD τ sig) → Buf (Elt F) ℓ)

/-- The point's second coordinate is its block's number in the sequence. -/
theorem coord1 : ∀ t : Fin grid0.N, (grid0.coords t 1).val = t.val % 16 := by decide +kernel

theorem index0 (t : Fin (cfg0 (F := F)).N) : ((cfg0 (F := F)).win 0).index t = ![t.val, 0] :=
  (by decide +kernel : ∀ t : Fin grid0.N, win0_0.index t = ![t.val, 0]) t
theorem index1 (t : Fin (cfg0 (F := F)).N) : ((cfg0 (F := F)).win 1).index t = ![t.val, 0] :=
  (by decide +kernel : ∀ t : Fin grid0.N, win0_1.index t = ![t.val, 0]) t
theorem index2 (t : Fin (cfg0 (F := F)).N) : ((cfg0 (F := F)).win 2).index t = ![t.val, 0] :=
  (by decide +kernel : ∀ t : Fin grid0.N, win0_2.index t = ![t.val, 0]) t
theorem index3 (t : Fin (cfg0 (F := F)).N) : ((cfg0 (F := F)).win 3).index t = ![t.val / 16, 0] :=
  (by decide +kernel : ∀ t : Fin grid0.N, win0_3.index t = ![t.val / 16, 0]) t
theorem index4 (t : Fin (cfg0 (F := F)).N) : ((cfg0 (F := F)).win 4).index t = ![t.val / 16, 0] :=
  (by decide +kernel : ∀ t : Fin grid0.N, win0_4.index t = ![t.val / 16, 0]) t
theorem index6 (t : Fin (cfg0 (F := F)).N) : ((cfg0 (F := F)).win 6).index t = ![t.val, 0] :=
  (by decide +kernel : ∀ t : Fin grid0.N, win0_6.index t = ![t.val, 0]) t
theorem index5 (t : Fin (cfg0 (F := F)).N) : ((cfg0 (F := F)).win 5).index t = ![t.val / 16, 0, 0] :=
  (by decide +kernel : ∀ t : Fin grid0.N, win0_5.index t = ![t.val / 16, 0, 0]) t
theorem covers6 : win0_6.Covers := by decide +kernel

/-! ## The operands' blocks -/

theorem iblk0 (c : Dev nD) (t : Fin (cfg0 (F := F)).N) : iblk m c 0 t = blk (V m c main_v7) (256 * t.val) 0 256 1024 := by
  refine funext fun (j : (M 256 1024).Idx) => ?_
  unfold iblk blk
  have ht : t.val < 32 := t.isLt
  have h0 : (j 0).val < 256 := (j 0).isLt
  have h1 : (j 1).val < 1024 := (j 1).isLt
  blk_simp
  refine congrArg (V m c main_v7) (ix2_eq _ _ _ ?_ ?_)
  · blk_simp [index0]
    show t.val * 256 + (j 0).val = (256 * t.val + (j 0).val) % 8192
    omega
  · blk_simp [index0]
    show (j 1).val = (j 1).val % 1024
    omega

theorem iblk1 (c : Dev nD) (t : Fin (cfg0 (F := F)).N) : iblk m c 1 t = blk (V m c main_v9) (256 * t.val) 0 256 2048 := by
  refine funext fun (j : (M 256 2048).Idx) => ?_
  unfold iblk blk
  have ht : t.val < 32 := t.isLt
  have h0 : (j 0).val < 256 := (j 0).isLt
  have h1 : (j 1).val < 2048 := (j 1).isLt
  blk_simp
  refine congrArg (V m c main_v9) (ix2_eq _ _ _ ?_ ?_)
  · blk_simp [index1]
    show t.val * 256 + (j 0).val = (256 * t.val + (j 0).val) % 8192
    omega
  · blk_simp [index1]
    show (j 1).val = (j 1).val % 2048
    omega

theorem iblk2 (c : Dev nD) (t : Fin (cfg0 (F := F)).N) : iblk m c 2 t = blk (V m c main_v5) (256 * t.val) 0 256 128 := by
  refine funext fun (j : (M 256 128).Idx) => ?_
  unfold iblk blk
  have ht : t.val < 32 := t.isLt
  have h0 : (j 0).val < 256 := (j 0).isLt
  have h1 : (j 1).val < 128 := (j 1).isLt
  blk_simp
  refine congrArg (V m c main_v5) (ix2_eq _ _ _ ?_ ?_)
  · blk_simp [index2]
    show t.val * 256 + (j 0).val = (256 * t.val + (j 0).val) % 8192
    omega
  · blk_simp [index2]
    show (j 1).val = (j 1).val % 128
    omega

theorem iblk3 (c : Dev nD) (t : Fin (cfg0 (F := F)).N) : iblk m c 3 t = blk (V m c main_v11) (4096 * (t.val / 16)) 0 4096 128 := by
  refine funext fun (j : (M 4096 128).Idx) => ?_
  unfold iblk blk
  have ht : t.val < 32 := t.isLt
  have h0 : (j 0).val < 4096 := (j 0).isLt
  have h1 : (j 1).val < 128 := (j 1).isLt
  blk_simp
  refine congrArg (V m c main_v11) (ix2_eq _ _ _ ?_ ?_)
  · blk_simp [index3]
    show t.val / 16 * 4096 + (j 0).val = (4096 * (t.val / 16) + (j 0).val) % 8192
    omega
  · blk_simp [index3]
    show (j 1).val = (j 1).val % 128
    omega

theorem iblk4 (c : Dev nD) (t : Fin (cfg0 (F := F)).N) : iblk m c 4 t = blk (V m c main_v13) (4096 * (t.val / 16)) 0 4096 1024 := by
  refine funext fun (j : (M 4096 1024).Idx) => ?_
  unfold iblk blk
  have ht : t.val < 32 := t.isLt
  have h0 : (j 0).val < 4096 := (j 0).isLt
  have h1 : (j 1).val < 1024 := (j 1).isLt
  blk_simp
  refine congrArg (V m c main_v13) (ix2_eq _ _ _ ?_ ?_)
  · blk_simp [index4]
    show t.val / 16 * 4096 + (j 0).val = (4096 * (t.val / 16) + (j 0).val) % 8192
    omega
  · blk_simp [index4]
    show (j 1).val = (j 1).val % 1024
    omega

theorem iblk5 (c : Dev nD) (t : Fin (cfg0 (F := F)).N) (a : Fin 1024) (b : Fin 4096) :
    iblk m c 5 t (ix3 (0 : Fin 1) a b) = V m c main_v3 (ix3 (Fin.ofNat 2 (t.val / 16)) a b) := by
  unfold iblk
  have ht : t.val < 32 := t.isLt
  blk_simp
  refine congrArg (V m c main_v3) (funext fun k => Fin.ext ?_)
  fin_cases k <;> blk_simp [index5]
  · show t.val / 16 = t.val / 16 % 2
    omega

/-! ## The result -/

/-- The entry at row `p`, column `q`. -/
def entry (c : Dev nD) (p q : ℕ) : F .bf16 :=
  outAt m c (⟨p / 256 % 32, show p / 256 % 32 < 32 by omega⟩ : Fin (cfg0 (F := F)).N) (ix2 (Fin.ofNat 256 p) (Fin.ofNat 1024 q))

theorem result_eq (c : Dev nD) : (dats m 0 c).arrAt 6 (cfg0 (F := F)).N = fun (j : (M 8192 1024).Idx) => entry m c (j 0).val (j 1).val := by
  refine (dats m 0 c).arrAt_eq_of_covers 6 _ covers6 fun t hf (y : (M 256 1024).Idx) => ?_
  have ht : t.val < 32 := t.isLt
  have h0 : (y 0).val < 256 := (y 0).isLt
  have h1 : (y 1).val < 1024 := (y 1).isLt
  blk_simp [index6]
  rw [after0_6]
  have key : ∀ p q : ℕ, p = t.val * 256 + (y 0).val → q = (y 1).val → outAt m c t y = entry m c p q := fun p q e0 e1 => by
    subst e0 e1
    unfold entry
    have et : (⟨(t.val * 256 + (y 0).val) / 256 % 32, show _ % 32 < 32 by omega⟩ : Fin (cfg0 (F := F)).N) = t :=
      Fin.ext (by show (t.val * 256 + (y 0).val) / 256 % 32 = t.val; omega)
    rw [et]
    exact congrArg (outAt m c t) (ix2_eq y _ _ (by show (y 0).val = (t.val * 256 + (y 0).val) % 256; omega)
      (by show (y 1).val = (y 1).val % 1024; omega))
  exact key _ _ rfl rfl

/-! ## What @main's host operations leave in the operands -/

theorem host_v7 (c : Dev nD) : V m c main_v7 = truncf .bf16 (shapeCast S8192x1024 (m (c, Proc.tc.devRef main_arg0)) shapeCasts_S2x4096x8x128_S8192x1024) bitsLt_bf16_f32 := by
  unfold V hostOps hostOps0 hostOps0_1 hostOps0_2
  simp only [List.flatten_cons, List.flatten_nil, List.append_nil, List.cons_append, List.nil_append]
  entry_read
  rfl

theorem host_v9 (c : Dev nD) : V m c main_v9 = truncf .bf16 (shapeCast S8192x2048 (m (c, Proc.tc.devRef main_arg3)) shapeCasts_S2x4096x16x128_S8192x2048) bitsLt_bf16_f32 := by
  unfold V hostOps hostOps0 hostOps0_1 hostOps0_2
  simp only [List.flatten_cons, List.flatten_nil, List.append_nil, List.cons_append, List.nil_append]
  entry_read
  rfl

theorem host_v11 (c : Dev nD) : V m c main_v11 = truncf .bf16 (shapeCast S8192x128 (m (c, Proc.tc.devRef main_arg4)) shapeCasts_S2x4096x128_S8192x128) bitsLt_bf16_f32 := by
  unfold V hostOps hostOps0 hostOps0_1 hostOps0_2
  simp only [List.flatten_cons, List.flatten_nil, List.append_nil, List.cons_append, List.nil_append]
  entry_read
  rfl

theorem host_v13 (c : Dev nD) : V m c main_v13 = truncf .bf16 (shapeCast S8192x1024 (m (c, Proc.tc.devRef main_arg1)) shapeCasts_S2x4096x8x128_S8192x1024) bitsLt_bf16_f32 := by
  unfold V hostOps hostOps0 hostOps0_1 hostOps0_2
  simp only [List.flatten_cons, List.flatten_nil, List.append_nil, List.cons_append, List.nil_append]
  entry_read
  rfl

theorem host_v3 (c : Dev nD) : V m c main_v3 = transpose S2x1024x4096 [0, 2, 1] (shapeCast S2x4096x1024 (truncf (F := F) .bf16 (shapeCast S8192x1024 (m (c, Proc.tc.devRef main_arg2)) shapeCasts_S2x4096x8x128_S8192x1024) bitsLt_bf16_f32) shapeCasts_S8192x1024_S2x4096x1024) transposes_S2x4096x1024_S2x1024x4096_0_2_1 := by
  unfold V hostOps hostOps0 hostOps0_1 hostOps0_2
  simp only [List.flatten_cons, List.flatten_nil, List.append_nil, List.cons_append, List.nil_append]
  entry_read
  rfl

theorem host_v5 (c : Dev nD) : V m c main_v5 = pad S8192x128 ![0, 0] ![0, 112] ![0, 0] (shapeCast S8192x16 (m (c, Proc.tc.devRef main_arg5)) shapeCasts_S2x4096x16_S8192x16) (sitofp (F := F) .f32 (constantI S_ 32 0#32)) pads_S8192x16_S8192x128_000_01120 h_S_ := by
  unfold V hostOps hostOps0 hostOps0_1 hostOps0_2
  simp only [List.flatten_cons, List.flatten_nil, List.append_nil, List.cons_append, List.nil_append]
  entry_read
  rfl

end Cert.Proof.K
-- ==== Proof.R.Value.lean ====
/-
  THE REFERENCE'S RESULT, ENTRY BY ENTRY, from what its host operations leave in the operands.
-/
module

public import proofs.«01_k».proof.Proof.R.Launch
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Proof.R

open Cert.Reference Cert.Reference.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [BitOps F]
variable (m : (ℓ : Loc nD τ sig) → Buf (Elt F) ℓ)

theorem index0 : win0_0.index t0_0 = ![0, 0] := by decide +kernel
theorem iblk0 (c : Dev nD) : iblk m c 0 t0_0 = V m c main_v4 := by
  funext j
  unfold iblk
  blk_simp
  refine congrArg (V m c main_v4) (funext fun a => Fin.ext ?_)
  fin_cases a <;> blk_simp [index0]

theorem index1 : win0_1.index t0_0 = ![0, 0, 0] := by decide +kernel
theorem iblk1 (c : Dev nD) : iblk m c 1 t0_0 = V m c main_v6 := by
  funext j
  unfold iblk
  blk_simp
  refine congrArg (V m c main_v6) (funext fun a => Fin.ext ?_)
  fin_cases a <;> blk_simp [index1]

theorem index2 : win0_2.index t0_0 = ![0, 0, 0] := by decide +kernel
theorem iblk2 (c : Dev nD) : iblk m c 2 t0_0 = V m c main_v2 := by
  funext j
  unfold iblk
  blk_simp
  refine congrArg (V m c main_v2) (funext fun a => Fin.ext ?_)
  fin_cases a <;> blk_simp [index2]

theorem index3 : win0_3.index t0_0 = ![0, 0] := by decide +kernel
theorem iblk3 (c : Dev nD) : iblk m c 3 t0_0 = V m c main_v8 := by
  funext j
  unfold iblk
  blk_simp
  refine congrArg (V m c main_v8) (funext fun a => Fin.ext ?_)
  fin_cases a <;> blk_simp [index3]

theorem index4 : win0_4.index t0_0 = ![0, 0, 0] := by decide +kernel
theorem iblk4 (c : Dev nD) : iblk m c 4 t0_0 = V m c main_v9 := by
  funext j
  unfold iblk
  blk_simp
  refine congrArg (V m c main_v9) (funext fun a => Fin.ext ?_)
  fin_cases a <;> blk_simp [index4]

theorem index5 : win0_5.index t0_0 = ![0, 0] := by decide +kernel
theorem iblk5 (c : Dev nD) : iblk m c 5 t0_0 = V m c main_v10 := by
  funext j
  unfold iblk
  blk_simp
  refine congrArg (V m c main_v10) (funext fun a => Fin.ext ?_)
  fin_cases a <;> blk_simp [index5]

theorem whole6 : win0_6.WholeAt t0_0 := by decide +kernel

theorem result_eq (c : Dev nD) : (dats m 0 c).arrAt 6 cfg0.N = outBlock (V m c main_v4) (V m c main_v6) (V m c main_v2) (V m c main_v8) (V m c main_v9) (V m c main_v10) := by
  refine (dats m 0 c).arrAt_eq_of_after_last 6 t0_0 whole6 _ fun (j : (M 8192 1024).Idx) => ?_
  rw [after0_6]
  unfold outAt
  rw [iblk0, iblk1, iblk2, iblk3, iblk4, iblk5]
  rfl

theorem host_v4 (c : Dev nD) : V m c main_v4 = truncf .bf16 (shapeCast S8192x1024 (m (c, Proc.tc.devRef main_arg0)) shapeCasts_S2x4096x8x128_S8192x1024) bitsLt_bf16_f32 := by
  entry_read
  rfl

theorem host_v6 (c : Dev nD) : V m c main_v6 = truncf .bf16 (shapeCast S2x4096x1024 (m (c, Proc.tc.devRef main_arg1)) shapeCasts_S2x4096x8x128_S2x4096x1024) bitsLt_bf16_f32 := by
  entry_read
  rfl

theorem host_v2 (c : Dev nD) : V m c main_v2 = transpose S2x1024x4096 [0, 2, 1] (truncf (F := F) .bf16 (shapeCast S2x4096x1024 (m (c, Proc.tc.devRef main_arg2)) shapeCasts_S2x4096x8x128_S2x4096x1024) bitsLt_bf16_f32) transposes_S2x4096x1024_S2x1024x4096_0_2_1 := by
  entry_read
  rfl

theorem host_v8 (c : Dev nD) : V m c main_v8 = truncf .bf16 (shapeCast S8192x2048 (m (c, Proc.tc.devRef main_arg3)) shapeCasts_S2x4096x16x128_S8192x2048) bitsLt_bf16_f32 := by
  entry_read
  rfl

theorem host_v9 (c : Dev nD) : V m c main_v9 = truncf .bf16 (m (c, Proc.tc.devRef main_arg4)) bitsLt_bf16_f32 := by
  entry_read
  rfl

theorem host_v10 (c : Dev nD) : V m c main_v10 = shapeCast S8192x16 (m (c, Proc.tc.devRef main_arg5)) shapeCasts_S2x4096x16_S8192x16 := by
  entry_read
  rfl

end Cert.Proof.R
-- ==== Proof.Same.lean ====
/-
  THE TWO RESULTS ARE ONE: entry by entry, the kernel's blocks and the reference's array are the same attention.
-/
module

public import proofs.«01_k».proof.Proof.Operands
public import proofs.«01_k».proof.Proof.K.Value
public import proofs.«01_k».proof.Proof.R.Value

@[expose] public section

set_option maxRecDepth 16384

noncomputable section

namespace Cert.Proof.Same

open Idealize.ShloMosaic Idealize.ShloMosaic.TcCoe Idealize.ShloMosaic.ValueIdx

variable {F : FTy → Type} [BitOps F]
variable (m : (ℓ : Loc Cert.Kernel.nD Cert.Kernel.τ Cert.Kernel.sig) → Buf (Elt F) ℓ)
variable (m' : (ℓ : Loc Cert.Reference.nD Cert.Reference.τ Cert.Reference.sig) → Buf (Elt F) ℓ)

/-- Equal operands, equal attention. -/
theorem attention_args {n n' : ℕ} {ik ik' : FVec F (M 4096 128) .bf16} {iq iq' : FVec F (M 256 2048) .bf16} {g g' : Fin 256 → ℕ → F .f32}
    {qs qs' : FVec F (M 256 1024) .bf16} {ks ks' : FVec F (M 4096 1024) .bf16} {vt vt' : FVec F (M 1024 4096) .bf16} (h : ℕ)
    (hn : n = n') (h1 : ik = ik') (h2 : iq = iq') (h3 : g = g') (h4 : qs = qs') (h5 : ks = ks') (h6 : vt = vt') :
    attention n ik iq g qs ks vt h = attention n' ik' iq' g' qs' ks' vt' h := by
  subst hn h1 h2 h3 h4 h5 h6
  rfl

/-- The reference's block and the kernel's, from the same six arguments. -/
theorem operands_eq (a0 a1 a2 : FVec F (⟨4, ![2, 4096, 8, 128]⟩ : Shape) .f32) (a3 : FVec F (⟨4, ![2, 4096, 16, 128]⟩ : Shape) .f32)
    (a4 : FVec F (⟨3, ![2, 4096, 128]⟩ : Shape) .f32) (a5 : FVec F (⟨3, ![2, 4096, 16]⟩ : Shape) .f32) {u : Shape} (v : FVec F u .f32)
    (hb : FTy.bf16.bits < FTy.f32.bits) (c0 : (⟨4, ![2, 4096, 8, 128]⟩ : Shape).ShapeCasts (M 8192 1024))
    (c1 : (⟨4, ![2, 4096, 8, 128]⟩ : Shape).ShapeCasts ⟨3, ![2, 4096, 1024]⟩) (c2 : (M 8192 1024).ShapeCasts ⟨3, ![2, 4096, 1024]⟩)
    (c3 : (⟨4, ![2, 4096, 16, 128]⟩ : Shape).ShapeCasts (M 8192 2048)) (c4 : (⟨3, ![2, 4096, 128]⟩ : Shape).ShapeCasts (M 8192 128))
    (c5 : (⟨3, ![2, 4096, 16]⟩ : Shape).ShapeCasts (M 8192 16)) (ct : (⟨3, ![2, 4096, 1024]⟩ : Shape).Transposes [0, 2, 1] ⟨3, ![2, 1024, 4096]⟩)
    (cp : (M 8192 16).Pads ![0, 0] ![0, 112] ![0, 0] (M 8192 128)) (hu : 0 < u.numel) (t : ℕ) (ht : t < 32) (h : ℕ) :
    R.refAtt (truncf .bf16 (shapeCast (M 8192 1024) a0 c0) hb) (truncf .bf16 (shapeCast ⟨3, ![2, 4096, 1024]⟩ a1 c1) hb)
        (transpose ⟨3, ![2, 1024, 4096]⟩ [0, 2, 1] (truncf .bf16 (shapeCast ⟨3, ![2, 4096, 1024]⟩ a2 c1) hb) ct)
        (truncf .bf16 (shapeCast (M 8192 2048) a3 c3) hb) (truncf .bf16 a4 hb) (shapeCast (M 8192 16) a5 c5) t h
      = attention (t % 16) (blk (truncf .bf16 (shapeCast (M 8192 128) a4 c4) hb) (4096 * (t / 16)) 0 4096 128)
        (blk (truncf .bf16 (shapeCast (M 8192 2048) a3 c3) hb) (256 * t) 0 256 2048)
        (K.gOf (blk (pad (M 8192 128) ![0, 0] ![0, 112] ![0, 0] (shapeCast (M 8192 16) a5 c5) v cp hu) (256 * t) 0 256 128))
        (blk (truncf .bf16 (shapeCast (M 8192 1024) a0 c0) hb) (256 * t) 0 256 1024)
        (blk (truncf .bf16 (shapeCast (M 8192 1024) a1 c0) hb) (4096 * (t / 16)) 0 4096 1024)
        (R.slab3 (transpose ⟨3, ![2, 1024, 4096]⟩ [0, 2, 1] (shapeCast ⟨3, ![2, 4096, 1024]⟩ (truncf .bf16 (shapeCast (M 8192 1024) a2 c0) hb) c2) ct) (t / 16)) h := by
  have hs : t / 16 < 2 := by omega
  have e4 : shapeCast (⟨3, ![2, 4096, 128]⟩ : Shape) a4 rfl = a4 := shapeCast_self a4 _
  unfold R.refAtt
  refine (attention_congr _ _ _ _ _ _ _ _ h fun q k hk => ?_).trans
    (attention_args h rfl ?_ rfl rfl rfl (rounded_rows_eq a1 c0 c1 hb (t / 16) hs).symm ?_)
  · exact (padded_eq (shapeCast (M 8192 16) a5 c5) v cp hu t ht q k hk).symm
  · rw [rounded_rows_eq a4 c4 rfl hb (t / 16) hs, e4]
  · rw [values_eq a2 c0 c1 c2 hb]

/-- The kernel's block at a point, from the operands as its host operations leave them. -/
theorem kernel_block (c : Dev Cert.Kernel.nD) (t : Fin (Cert.Kernel.cfg0 (F := F)).N) (p : Fin 256) (q : Fin 1024) :
    K.outAt m c t (ix2 p q)
      = attention (t.val % 16) (blk (K.V m c Cert.Kernel.main_v11) (4096 * (t.val / 16)) 0 4096 128)
          (blk (K.V m c Cert.Kernel.main_v9) (256 * t.val) 0 256 2048)
          (K.gOf (blk (K.V m c Cert.Kernel.main_v5) (256 * t.val) 0 256 128))
          (blk (K.V m c Cert.Kernel.main_v7) (256 * t.val) 0 256 1024)
          (blk (K.V m c Cert.Kernel.main_v13) (4096 * (t.val / 16)) 0 4096 1024)
          (R.slab3 (K.V m c Cert.Kernel.main_v3) (t.val / 16)) (q.val / 128) (ix2 p (Fin.ofNat 128 q.val)) := by
  have hq := q.isLt
  unfold K.outAt K.blockOut
  rw [K.headsOf_apply _ p q (q.val / 128) (Fin.ofNat 128 q.val) rfl (by show q.val = 128 * (q.val / 128) + q.val % 128; omega)]
  have hs : slab (K.iblk m c 5 t) = R.slab3 (K.V m c Cert.Kernel.main_v3) (t.val / 16) := by
    funext j
    exact K.iblk5 m c t (j 0) (j 1)
  exact congrFun (attention_args (q.val / 128) (K.coord1 t) (K.iblk3 m c t) (K.iblk1 m c t) (congrArg K.gOf (K.iblk2 m c t)) (K.iblk0 m c t)
    (K.iblk4 m c t) hs) _

/-- The kernel's entry, from the operands as its host operations leave them. -/
theorem kernel_entry (c : Dev Cert.Kernel.nD) (p q : ℕ) (t : ℕ) (hp : p < 8192) (hq : q < 1024) (ht : p / 256 = t) :
    K.entry m c p q
      = attention (t % 16) (blk (K.V m c Cert.Kernel.main_v11) (4096 * (t / 16)) 0 4096 128)
          (blk (K.V m c Cert.Kernel.main_v9) (256 * t) 0 256 2048)
          (K.gOf (blk (K.V m c Cert.Kernel.main_v5) (256 * t) 0 256 128))
          (blk (K.V m c Cert.Kernel.main_v7) (256 * t) 0 256 1024)
          (blk (K.V m c Cert.Kernel.main_v13) (4096 * (t / 16)) 0 4096 1024)
          (R.slab3 (K.V m c Cert.Kernel.main_v3) (t / 16)) (q / 128) (ix2 (Fin.ofNat 256 p) (Fin.ofNat 128 q)) := by
  subst ht
  have hm : p / 256 % 32 = p / 256 := by omega
  have hq' : q % 1024 = q := by omega
  unfold K.entry
  refine (kernel_block m c _ _ _).trans ?_
  show attention ((p / 256 % 32) % 16) (blk (K.V m c Cert.Kernel.main_v11) (4096 * ((p / 256 % 32) / 16)) 0 4096 128)
          (blk (K.V m c Cert.Kernel.main_v9) (256 * (p / 256 % 32)) 0 256 2048)
          (K.gOf (blk (K.V m c Cert.Kernel.main_v5) (256 * (p / 256 % 32)) 0 256 128))
          (blk (K.V m c Cert.Kernel.main_v7) (256 * (p / 256 % 32)) 0 256 1024)
          (blk (K.V m c Cert.Kernel.main_v13) (4096 * ((p / 256 % 32) / 16)) 0 4096 1024)
          (R.slab3 (K.V m c Cert.Kernel.main_v3) ((p / 256 % 32) / 16)) (q % 1024 / 128) (ix2 (Fin.ofNat 256 p) (Fin.ofNat 128 (q % 1024))) = _
  rw [hm, hq']

/-- The reference's result is the kernel's, from the same arguments. -/
theorem results_eq (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4))
    (h5 : m' ((c.tc : Thread Cert.Reference.nD Cert.Reference.τ).loc Cert.Reference.main_arg5) = m ((c.tc : Thread Cert.Kernel.nD Cert.Kernel.τ).loc Cert.Kernel.main_arg5)) :
    (R.dats m' 0 c).arrAt 6 Cert.Reference.cfg0.N = (K.dats m 0 c).arrAt 6 (Cert.Kernel.cfg0 (F := F)).N := by
  refine (R.result_eq m' c).trans (Eq.trans ?_ (K.result_eq m c).symm)
  refine funext fun (j : (M 8192 1024).Idx) => ?_
  have hp : (j 0).val < 8192 := (j 0).isLt
  have hq : (j 1).val < 1024 := (j 1).isLt
  refine Eq.trans ?_ (kernel_entry m c (j 0).val (j 1).val ((j 0).val / 256) hp hq rfl).symm
  have ht : (j 0).val / 256 < 32 := by omega
  show R.refAtt _ _ _ _ _ _ ((j 0).val / 256) ((j 1).val / 128) (ix2 (Fin.ofNat 256 (j 0).val) (Fin.ofNat 128 (j 1).val)) = _
  refine congrFun ?_ _
  generalize (j 0).val / 256 = t at ht ⊢
  generalize (j 1).val / 128 = h
  rw [K.host_v3, K.host_v5, K.host_v7, K.host_v9, K.host_v11, K.host_v13, R.host_v2, R.host_v4, R.host_v6, R.host_v8, R.host_v9, R.host_v10]
  rw [show m' (c, Proc.tc.devRef Cert.Reference.main_arg0) = _ from h0, show m' (c, Proc.tc.devRef Cert.Reference.main_arg1) = _ from h1,
    show m' (c, Proc.tc.devRef Cert.Reference.main_arg2) = _ from h2, show m' (c, Proc.tc.devRef Cert.Reference.main_arg3) = _ from h3,
    show m' (c, Proc.tc.devRef Cert.Reference.main_arg4) = _ from h4, show m' (c, Proc.tc.devRef Cert.Reference.main_arg5) = _ from h5]
  exact operands_eq (m (c, Proc.tc.devRef Cert.Kernel.main_arg0)) (m (c, Proc.tc.devRef Cert.Kernel.main_arg1))
    (m (c, Proc.tc.devRef Cert.Kernel.main_arg2)) (m (c, Proc.tc.devRef Cert.Kernel.main_arg3)) (m (c, Proc.tc.devRef Cert.Kernel.main_arg4))
    (m (c, Proc.tc.devRef Cert.Kernel.main_arg5)) _ _ _ _ _ _ _ _ _ _ _ t ht h

end Cert.Proof.Same
-- ==== Proof.Ffn.Spec.lean ====
/-
  THE FEED-FORWARD'S ROW FUNCTIONS over the extended reals: what one row of the result is, as a function of that row of `x`
  and of the weights alone. `rms` is a row times the reciprocal root of its mean square and times a gain; `act` is the square
  of the positive part; `hidden` is one hidden column of a row; `ffnRow` the row after the residual.

  The sum over the 8192 hidden columns is written with `Finset.sum` over `Fin 8192`. The kernel adds 16 groups of 512 columns:
  `sum_groups` says that a sum over the first `512 * (n + 1)` numbers is the sum over the first `512 * n` and the next group.
-/
module

public import Idealize.ShloMosaic.Lib.Pointwise
public import Idealize.ShloMosaic.Lib.ValueIdx

@[expose] public section

noncomputable section

namespace Cert.Ffn

open Idealize.ShloMosaic

/-- The reciprocal root of a row's mean square, the mean shifted by the constant both programs print. -/
def scale (x : Fin 2048 → EReal) : EReal :=
  FloatOps.rsqrt (F := Ideal) (φ := .f32)
    (Ideal.div (∑ k : Fin 2048, x k * x k) (Scalar.ofBits (F := Ideal) .f32 0x45000000#32)
      + Scalar.ofBits (F := Ideal) .f32 0x358637BD#32 : EReal)

/-- A row, normalised and multiplied by a gain. -/
def rms (x g : Fin 2048 → EReal) (k : Fin 2048) : EReal := x k * scale x * g k

/-- The square of the positive part. -/
def act (s : EReal) : EReal := max s 0 * max s 0

/-- One hidden column of a normalised row `f`: `u` is the column of the first weight matrix. -/
def hidden (f u : Fin 2048 → EReal) : EReal := act (∑ k : Fin 2048, f k * u k)

/-- Hidden column `j`'s share of output column `n`. `U`, `D` are the two weight matrices. Outside the 8192 columns it is 0. -/
def share (f : Fin 2048 → EReal) (U : Fin 2048 → Fin 8192 → EReal) (D : Fin 8192 → Fin 2048 → EReal) (n : Fin 2048) (j : ℕ) :
    EReal :=
  if h : j < 8192 then hidden f (fun k => U k ⟨j, h⟩) * D ⟨j, h⟩ n else 0

/-- The second product: all hidden columns. -/
def down (f : Fin 2048 → EReal) (U : Fin 2048 → Fin 8192 → EReal) (D : Fin 8192 → Fin 2048 → EReal) (n : Fin 2048) : EReal :=
  ∑ j : Fin 8192, hidden f (fun k => U k j) * D j n

/-- A row of the result. -/
def ffnRow (x g : Fin 2048 → EReal) (U : Fin 2048 → Fin 8192 → EReal) (D : Fin 8192 → Fin 2048 → EReal) (g' : Fin 2048 → EReal)
    (n : Fin 2048) : EReal :=
  x n + rms (down (rms x g) U D) g' n

theorem sum_groups (T : ℕ → EReal) (n : ℕ) :
    ∑ j ∈ Finset.range (512 * (n + 1)), T j = ∑ j ∈ Finset.range (512 * n), T j + ∑ j : Fin 512, T (512 * n + j) := by
  rw [Nat.mul_add, Nat.mul_one, Finset.sum_range_add, Finset.sum_range (n := 512)]

theorem down_eq (f : Fin 2048 → EReal) (U : Fin 2048 → Fin 8192 → EReal) (D : Fin 8192 → Fin 2048 → EReal) (n : Fin 2048) :
    ∑ j ∈ Finset.range (512 * 16), share f U D n j = down f U D n := by
  rw [show 512 * 16 = 8192 from rfl, Finset.sum_range]
  exact Finset.sum_congr rfl fun j _ => dif_pos j.isLt

end Cert.Ffn

end
-- ==== Proof.Ffn.Pay.lean ====
/-
  THE KERNEL'S STORED VALUES, read at an index over the extended reals: the normalised rows, the accumulator after one group
  of hidden columns, and the finished rows.
-/
module

public import proofs.«01_k».proof.Proof.Ffn.Spec
public import proofs.«01_k».proof.Proof.Gen.Kernel2Ideal.Skeleton

@[expose] public section

noncomputable section

namespace Cert.Ffn

open Idealize.ShloMosaic Cert.Kernel2Ideal Cert.Kernel2Ideal.Gen

theorem pay1_apply (x : Vec Ideal S512x2048 .f32) (g : Vec Ideal S1x2048 .f32) (r : Fin 512) (n : Fin 2048) :
    k0_pay1 (F := Ideal) x g (ix2 r n) = rms (fun k => x (ix2 r k)) (fun k => g (ix2 0 k)) n := by
  pointwise [k0_pay1]
  rfl

theorem pay2_apply (r : Fin 512) (n : Fin 2048) : k0_pay2 (F := Ideal) (ix2 r n) = 0 := by
  pointwise [k0_pay2]

theorem pay3_apply (f : Vec Ideal S512x2048 .bf16) (u : Vec Ideal S1x2048x512 .bf16) (a : Vec Ideal S512x2048 .f32)
    (d : Vec Ideal S1x512x2048 .bf16) (r : Fin 512) (n : Fin 2048) :
    k0_pay3 (F := Ideal) f u a d (ix2 r n)
      = a (ix2 r n) + ∑ j : Fin 512, hidden (fun k => f (ix2 r k)) (fun k => u (ix3 0 k j)) * d (ix3 0 j n) := by
  pointwise [k0_pay3]
  rfl

theorem pay4_apply (x a : Vec Ideal S512x2048 .f32) (g : Vec Ideal S1x2048 .f32) (r : Fin 512) (n : Fin 2048) :
    k0_pay4 (F := Ideal) x a g (ix2 r n)
      = x (ix2 r n) + rms (fun k => a (ix2 r k)) (fun k => g (ix2 0 k)) n := by
  pointwise [k0_pay4]
  rfl

end Cert.Ffn

end
-- ==== Proof.Ffn.Ref.lean ====
/-
  THE REFERENCE, read at an index over the extended reals: its result at row `r`, column `n` is `ffnRow` of row `r` of the
  reshaped `x` and of layer 1 of the four weights. The reference's one composed term is cut in its three parts: a normalisation
  (used twice), the hidden columns, and the second product.
-/
module

public import proofs.«01_k».proof.Proof.Ffn.Pay
public import proofs.«01_k».proof.Proof.Gen.Reference2Ideal.Run

@[expose] public section

noncomputable section

namespace Cert.Ffn.Ref

open Idealize.ShloMosaic Idealize.ShloMosaic.TcCoe Cert.Reference2Ideal Cert.Reference2Ideal.Gen

/-- The reference's normalisation, by layer 1 of the gains. -/
def norm (x : FVec Ideal S8192x2048 .f32) (g : FVec Ideal S2x2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![1, 0] g slices_S2x2048_S1x2048_1_0) shapeCasts_S1x2048_S2048)))

/-- The reference's hidden columns before the square: the positive part of the first product. -/
def relu (f : FVec Ideal S8192x2048 .f32) (u : FVec Ideal S2x2048x8192 .f32) : FVec Ideal S8192x8192 .f32 :=
  maximumf (Host.dotGeneral dot_S8192x2048_S2048x8192_S8192x8192_1_0_0_1_n_n none f
      (shapeCast S2048x8192 (extractStridedSlice S1x2048x8192 ![1, 0, 0] u slices_S2x2048x8192_S1x2048x8192_1_0_0)
        shapeCasts_S1x2048x8192_S2048x8192))
    (broadcastInDim S8192x8192 ![] bcast_S_S8192x8192 (constant S_ .f32 0x00000000#32))

/-- The reference's second product. -/
def prod (h : FVec Ideal S8192x8192 .f32) (d : FVec Ideal S2x8192x2048 .f32) : FVec Ideal S8192x2048 .f32 :=
  Host.dotGeneral dot_S8192x8192_S8192x2048_S8192x2048_1_0_0_1_n_n none (mulf h h)
    (shapeCast S8192x2048 (extractStridedSlice S1x8192x2048 ![1, 0, 0] d slices_S2x8192x2048_S1x8192x2048_1_0_0)
      shapeCasts_S1x8192x2048_S8192x2048)

theorem norm_apply (x : FVec Ideal S8192x2048 .f32) (g : FVec Ideal S2x2048 .f32) (r : Fin 8192) (n : Fin 2048) :
    norm x g (ix2 r n) = rms (fun k => x (ix2 r k)) (fun k => g (ix2 1 k)) n := by
  pointwise [norm]
  rfl

theorem relu_apply (f : FVec Ideal S8192x2048 .f32) (u : FVec Ideal S2x2048x8192 .f32) (r j : Fin 8192) :
    relu f u (ix2 r j) = max (∑ k : Fin 2048, f (ix2 r k) * u (ix3 1 k j)) 0 := by
  pointwise [relu]

theorem prod_apply (h : FVec Ideal S8192x8192 .f32) (d : FVec Ideal S2x8192x2048 .f32) (r : Fin 8192) (n : Fin 2048) :
    prod h d (ix2 r n) = ∑ j : Fin 8192, h (ix2 r j) * h (ix2 r j) * d (ix3 1 j n) := by
  pointwise [prod]

/-- The rows of `x`, batch after batch. -/
abbrev rows (x : FVec Ideal S2x4096x2048 .f32) : FVec Ideal S8192x2048 .f32 := shapeCast S8192x2048 x shapeCasts_S2x4096x2048_S8192x2048

/-- The reference's result from its five arguments. -/
def whole (x : FVec Ideal S2x4096x2048 .f32) (u : FVec Ideal S2x2048x8192 .f32) (d : FVec Ideal S2x8192x2048 .f32)
    (g g' : FVec Ideal S2x2048 .f32) : FVec Ideal S8192x2048 .f32 :=
  addf (rows x) (norm (prod (relu (norm (rows x) g) u) d) g')

theorem whole_apply (x : FVec Ideal S2x4096x2048 .f32) (u : FVec Ideal S2x2048x8192 .f32) (d : FVec Ideal S2x8192x2048 .f32)
    (g g' : FVec Ideal S2x2048 .f32) (r : Fin 8192) (n : Fin 2048) :
    whole x u d g g' (ix2 r n)
      = ffnRow (fun k => rows x (ix2 r k)) (fun k => g (ix2 1 k)) (fun k j => u (ix3 1 k j)) (fun j n => d (ix3 1 j n))
          (fun k => g' (ix2 1 k)) n := by
  show rows x (ix2 r n) + norm (prod (relu (norm (rows x) g) u) d) g' (ix2 r n) = _
  rw [norm_apply]
  simp only [prod_apply, relu_apply, norm_apply]
  rfl

theorem res_eq (m : (ℓ : Loc nD τ sig) → Buf (Elt Ideal) ℓ) (c : Dev nD) :
    Cert.Reference2Ideal.Value.res_main_v39 (F := Ideal) m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.Reference2Ideal.Value.res_main_v39 whole norm prod relu
  rfl

end Cert.Ffn.Ref

end
-- ==== Proof.Ffn.Cases.lean ====
/-
  WHAT EACH KIND OF GRID POINT LEAVES BEHIND, as the kernel's stored values of the blocks it reads. The first point of a row
  block (case A) stores the normalised rows and starts the accumulator from zero; every point adds its group of hidden columns;
  the last point of a row block (case C) stores the finished rows.
-/
module

public import proofs.«01_k».proof.Proof.Gen.Kernel2Ideal.Frame
public import Idealize.ShloMosaic.Lib.Pipeline.Value
public import Idealize.ShloMosaic.Lib.Tactic

@[expose] public section

noncomputable section

namespace Cert.Ffn

open Idealize.ShloMosaic Idealize.ShloMosaic.TcCoe Cert.Kernel2Ideal Cert.Kernel2Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout0_A_0_eq (c : Dev nD) (i : grid0.Coords) (a2 : Memref sig .tc .vmem S512x2048 .f32) (h2 : a2.IsWhole)
    (a3 : Memref sig .tc .vmem S1x2048 .f32) (h3 : a3.IsWhole) (a4 : Memref sig .tc .vmem S1x2048x512 .bf16) (h4 : a4.IsWhole)
    (a5 : Memref sig .tc .vmem S1x512x2048 .bf16) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S512x2048 .f32) (h9 : a9.IsWhole)
    (hc0 : cond0_0 i) (hc1 : ¬cond0_1 i) (x0 : Vec F S512x2048 .f32) (x1 : Vec F S1x2048 .f32) (x2 : Vec F S1x2048x512 .bf16)
    (x3 : Vec F S1x512x2048 .bf16) (x4 : Vec F S1x2048 .f32) :
    sout0_A_0 (F := F) c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h8.read_unread,
    h9.read_unread, View.ld_unit_zero (S := S512x2048) hz2, View.ld_unit_zero (S := S1x2048) hz2,
    View.ld_unit_zero (S := S1x2048x512) hz3, View.ld_unit_zero (S := S1x512x2048) hz3]

theorem sout0_A_1_eq (c : Dev nD) (i : grid0.Coords) (a2 : Memref sig .tc .vmem S512x2048 .f32) (h2 : a2.IsWhole)
    (a3 : Memref sig .tc .vmem S1x2048 .f32) (h3 : a3.IsWhole) (a4 : Memref sig .tc .vmem S1x2048x512 .bf16) (h4 : a4.IsWhole)
    (a5 : Memref sig .tc .vmem S1x512x2048 .bf16) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S512x2048 .f32) (h9 : a9.IsWhole)
    (hc0 : cond0_0 i) (hc1 : ¬cond0_1 i) (x0 : Vec F S512x2048 .f32) (x1 : Vec F S1x2048 .f32) (x2 : Vec F S1x2048x512 .bf16)
    (x3 : Vec F S1x512x2048 .bf16) (x4 : Vec F S1x2048 .f32) :
    sout0_A_1 (F := F) c i a2 h2 a3 h3 a4 h4 a5 h5 a6 h6 a7 h7 a8 h8 a9 h9 hc0 hc1 x0 x1 x2 x3 x4 = k0_pay3 (k0_pay1 x0 x1) x2 k0_pay2 x3 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x2048) hz2, View.readCov_unit_zero (S := S512x2048) _ hz2, View.readCov_unit_zero (S := S512x2048) _ hz2]
  simp only [View.readAt_eq_ld, h2.read_unread, h3.read_unread, h4.read_unread, h5.read_unread, h6.read_unread, h8.read_unread,
    h9.read_unread, View.ld_unit_zero (S := S512x2048) hz2, View.ld_unit_zero (S := S1x2048) hz2,
    View.ld_unit_zero (S := S1x2048x512) hz3, View.ld_unit_zero (S := S1x512x2048) hz3]

theorem sout0_B_1_eq (c : Dev nD) (i : grid0.Coords) (a2 : Memref sig .tc .vmem S512x2048 .f32) (h2 : a2.IsWhole)
    (a3 : Memref sig .tc .vmem S1x2048 .f32) (h3 : a3.IsWhole) (a4 : Memref sig .tc .vmem S1x2048x512 .bf16) (h4 : a4.IsWhole)
    (a5 : Memref sig .tc .vmem S1x512x2048 .bf16) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S512x2048 .f32) (h9 : a9.IsWhole)
    (hc0 : ¬cond0_0 i) (hc1 : ¬cond0_1 i) (x0 : Vec F S512x2048 .f32) (x1 : Vec F S1x2048 .f32) (x2 : Vec F S1x2048x512 .bf16)
    (x3 : Vec F S1x512x2048 .bf16) (x4 : Vec F S1x2048 .f32) (s0 : Vec F S512x2048 .bf16) (s1 : Vec F S512x2048 .f32) :
    sout0_B_1 (F := F) c i a2 h2 a3 h3 a4 h4 a5 h5 a6 h6 a7 h7 a8 h8 a9 h9 hc0 hc1 x0 x1 x2 x3 x4 s0 s1 = k0_pay3 s0 x2 s1 x3 := by
  unfold sout0_B_1
  rw [View.read_writes_eq_canon _ _ _ (scover0_B_1 c i a2 h2 a3 h3 a4 h4 a5 h5 a6 h6 a7 h7 a8 h8 a9 h9 hc0 hc1 x0 x1 x2 x3 x4 s0 s1)]
  unfold kernelRun0_B
  dsimp only
  rw [View.canon_unit_zero hz2]
  simp only [View.readAt_eq_ld, h2.read_unread, h3.read_unread, h4.read_unread, h5.read_unread, h6.read_unread, h8.read_unread,
    h9.read_unread, View.ld_unit_zero (S := S512x2048) hz2, View.ld_unit_zero (S := S1x2048) hz2,
    View.ld_unit_zero (S := S1x2048x512) hz3, View.ld_unit_zero (S := S1x512x2048) hz3]

theorem sout0_C_1_eq (c : Dev nD) (i : grid0.Coords) (a2 : Memref sig .tc .vmem S512x2048 .f32) (h2 : a2.IsWhole)
    (a3 : Memref sig .tc .vmem S1x2048 .f32) (h3 : a3.IsWhole) (a4 : Memref sig .tc .vmem S1x2048x512 .bf16) (h4 : a4.IsWhole)
    (a5 : Memref sig .tc .vmem S1x512x2048 .bf16) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S512x2048 .f32) (h9 : a9.IsWhole)
    (hc0 : ¬cond0_0 i) (hc1 : cond0_1 i) (x0 : Vec F S512x2048 .f32) (x1 : Vec F S1x2048 .f32) (x2 : Vec F S1x2048x512 .bf16)
    (x3 : Vec F S1x512x2048 .bf16) (x4 : Vec F S1x2048 .f32) (s0 : Vec F S512x2048 .bf16) (s1 : Vec F S512x2048 .f32) :
    sout0_C_1 (F := F) c i a2 h2 a3 h3 a4 h4 a5 h5 a6 h6 a7 h7 a8 h8 a9 h9 hc0 hc1 x0 x1 x2 x3 x4 s0 s1 = k0_pay3 s0 x2 s1 x3 := by
  unfold sout0_C_1
  rw [View.read_writes_eq_canon _ _ _ (scover0_C_1 c i a2 h2 a3 h3 a4 h4 a5 h5 a6 h6 a7 h7 a8 h8 a9 h9 hc0 hc1 x0 x1 x2 x3 x4 s0 s1)]
  unfold kernelRun0_C
  dsimp only
  sl_unfold_words
  rw [View.canon_unit_zero hz2]
  simp only [View.readAt_eq_ld, h2.read_unread, h3.read_unread, h4.read_unread, h5.read_unread, h6.read_unread, h8.read_unread,
    h9.read_unread, View.ld_unit_zero (S := S512x2048) hz2, View.ld_unit_zero (S := S1x2048) hz2,
    View.ld_unit_zero (S := S1x2048x512) hz3, View.ld_unit_zero (S := S1x512x2048) hz3]

theorem out0_C_5_eq (c : Dev nD) (i : grid0.Coords) (a2 : Memref sig .tc .vmem S512x2048 .f32) (h2 : a2.IsWhole)
    (a3 : Memref sig .tc .vmem S1x2048 .f32) (h3 : a3.IsWhole) (a4 : Memref sig .tc .vmem S1x2048x512 .bf16) (h4 : a4.IsWhole)
    (a5 : Memref sig .tc .vmem S1x512x2048 .bf16) (h5 : a5.IsWhole) (a6 : Memref sig .tc .vmem S1x2048 .f32) (h6 : a6.IsWhole)
    (a7 : Memref sig .tc .vmem S512x2048 .f32) (h7 : a7.IsWhole) (a8 : Memref sig .tc .vmem S512x2048 .bf16) (h8 : a8.IsWhole)
    (a9 : Memref sig .tc .vmem S512x2048 .f32) (h9 : a9.IsWhole)
    (hc0 : ¬cond0_0 i) (hc1 : cond0_1 i) (x0 : Vec F S512x2048 .f32) (x1 : Vec F S1x2048 .f32) (x2 : Vec F S1x2048x512 .bf16)
    (x3 : Vec F S1x512x2048 .bf16) (x4 : Vec F S1x2048 .f32) (s0 : Vec F S512x2048 .bf16) (s1 : Vec F S512x2048 .f32) :
    out0_C_5 (F := F) c i a2 h2 a3 h3 a4 h4 a5 h5 a6 h6 a7 h7 a8 h8 a9 h9 hc0 hc1 x0 x1 x2 x3 x4 s0 s1 = k0_pay4 x0 (k0_pay3 s0 x2 s1 x3) x4 := by
  unfold out0_C_5
  rw [View.read_writes_eq_canon _ _ _ (cover0_C_5 c i a2 h2 a3 h3 a4 h4 a5 h5 a6 h6 a7 h7 a8 h8 a9 h9 hc0 hc1 x0 x1 x2 x3 x4 s0 s1)]
  unfold kernelRun0_C
  dsimp only
  sl_unfold_words
  rw [View.canon_unit_zero hz2, View.readCov_unit_zero (S := S512x2048) _ hz2]
  simp only [View.readAt_eq_ld, h2.read_unread, h3.read_unread, h4.read_unread, h5.read_unread, h6.read_unread, h8.read_unread,
    h9.read_unread, View.ld_unit_zero (S := S512x2048) hz2, View.ld_unit_zero (S := S1x2048) hz2,
    View.ld_unit_zero (S := S1x2048x512) hz3, View.ld_unit_zero (S := S1x512x2048) hz3]

end Cert.Ffn

end
-- ==== Proof.Ffn.Arrays.lean ====
/-
  THE ARRAYS THE KERNEL READS, as its host operations leave them over the extended reals: the rows of `x`, the two weight
  matrices unchanged (the conversion to bf16 is the identity there), and layer 1 of the two gains.
-/
module

public import proofs.«01_k».proof.Proof.Ffn.Ref
public import proofs.«01_k».proof.Proof.Ffn.Cases

@[expose] public section

noncomputable section

namespace Cert.Ffn

open Idealize.ShloMosaic Idealize.ShloMosaic.TcCoe Cert.Kernel2Ideal Cert.Kernel2Ideal.Gen

variable (m : (ℓ : Loc nD τ sig) → Buf (Elt Ideal) ℓ) (c : Dev nD)

/-- The kernel's five arguments. -/
abbrev ax : FVec Ideal S2x4096x2048 .f32 := m ((c : Thread nD τ).loc main_arg0)
abbrev au : FVec Ideal S2x2048x8192 .f32 := m ((c : Thread nD τ).loc main_arg1)
abbrev ad : FVec Ideal S2x8192x2048 .f32 := m ((c : Thread nD τ).loc main_arg2)
abbrev ag : FVec Ideal S2x2048 .f32 := m ((c : Thread nD τ).loc main_arg3)
abbrev ag' : FVec Ideal S2x2048 .f32 := m ((c : Thread nD τ).loc main_arg4)

theorem V_x (r : Fin 8192) (k : Fin 2048) : (V m c main_v0 : FVec Ideal S8192x2048 .f32) (ix2 r k) = Ref.rows (ax m c) (ix2 r k) := by
  have e : (V m c main_v0 : FVec Ideal S8192x2048 .f32) = shapeCast S8192x2048 (ax m c) shapeCasts_S2x4096x2048_S8192x2048 := by
    show StableHlo.after hostOps0 (fun b => m (c, b)) (main_v0 : DevRef τ sig) = _
    after_results
    rfl
  rw [e]

theorem V_u (k : Fin 2048) (j : Fin 8192) : (V m c main_v3 : FVec Ideal S2x2048x8192 .bf16) (ix3 1 k j) = au m c (ix3 1 k j) := by
  have e : (V m c main_v3 : FVec Ideal S2x2048x8192 .bf16) = truncf .bf16 (au m c) bitsLt_bf16_f32 := by
    show StableHlo.after hostOps0 (fun b => m (c, b)) (main_v3 : DevRef τ sig) = _
    after_results
  rw [e]; rfl

theorem V_d (j : Fin 8192) (n : Fin 2048) : (V m c main_v4 : FVec Ideal S2x8192x2048 .bf16) (ix3 1 j n) = ad m c (ix3 1 j n) := by
  have e : (V m c main_v4 : FVec Ideal S2x8192x2048 .bf16) = truncf .bf16 (ad m c) bitsLt_bf16_f32 := by
    show StableHlo.after hostOps0 (fun b => m (c, b)) (main_v4 : DevRef τ sig) = _
    after_results
  rw [e]; rfl

theorem V_g (k : Fin 2048) : (V m c main_v7 : FVec Ideal S1x2048 .f32) (ix2 0 k) = ag m c (ix2 1 k) := by
  have e : (V m c main_v7 : FVec Ideal S1x2048 .f32)
      = shapeCast S1x2048 (shapeCast S2048 (extractStridedSlice S1x2048 ![1, 0] (ag m c) slices_S2x2048_S1x2048_1_0)
          shapeCasts_S1x2048_S2048) shapeCasts_S2048_S1x2048 := by
    show StableHlo.after hostOps0 (fun b => m (c, b)) (main_v7 : DevRef τ sig) = _
    after_results
    rfl
  rw [e]
  pointwise

theorem V_g' (k : Fin 2048) : (V m c main_v8 : FVec Ideal S1x2048 .f32) (ix2 0 k) = ag' m c (ix2 1 k) := by
  have e : (V m c main_v8 : FVec Ideal S1x2048 .f32)
      = shapeCast S1x2048 (shapeCast S2048 (extractStridedSlice S1x2048 ![1, 0] (ag' m c) slices_S2x2048_S1x2048_1_0)
          shapeCasts_S1x2048_S2048) shapeCasts_S2048_S1x2048 := by
    show StableHlo.after hostOps0 (fun b => m (c, b)) (main_v8 : DevRef τ sig) = _
    after_results
    rfl
  rw [e]
  pointwise

end Cert.Ffn

end
-- ==== Proof.Ffn.Fold.lean ====
/-
  THE KERNEL'S RESULT, read at an index over the extended reals. Point `t` of the grid works on row block `t / 16` with group
  `t % 16` of the hidden columns. `state` is the induction over the points: after point `t` the first carried scratch holds the
  normalised rows of the block, and the second the sum of the hidden columns' shares over the groups up to `t % 16`. At the last
  group that is the whole second product (`down_eq`), and the point stores `ffnRow`.
-/
module

public import proofs.«01_k».proof.Proof.Ffn.Arrays
public import proofs.«01_k».proof.Proof.Gen.Kernel2Ideal.Value
public import Idealize.ShloMosaic.Lib.Pipeline.ValueKit.Geometry

@[expose] public section

noncomputable section

namespace Cert.Ffn

open Idealize.ShloMosaic Idealize.ShloMosaic.TcCoe Cert.Kernel2Ideal Cert.Kernel2Ideal.Gen

variable (m : (ℓ : Loc nD τ sig) → Buf (Elt Ideal) ℓ) (c : Dev nD)

/-! ## The windows' blocks -/

theorem index0 : ∀ t : Fin grid0.N, win0_0.index t = ![t.val / 16, 0] := by decide +kernel
theorem index1 : ∀ t : Fin grid0.N, win0_1.index t = ![0, 0] := by decide +kernel
theorem index2 : ∀ t : Fin grid0.N, win0_2.index t = ![1, 0, t.val % 16] := by decide +kernel
theorem index3 : ∀ t : Fin grid0.N, win0_3.index t = ![1, t.val % 16, 0] := by decide +kernel
theorem index4 : ∀ t : Fin grid0.N, win0_4.index t = ![0, 0] := by decide +kernel

theorem lt256 (t : Fin cfg0.N) : t.val < 256 := lt_of_lt_of_eq t.isLt N_0

/-- Row `r` of point `n`'s block, as a row of the whole array. -/
def row (n : ℕ) (hn : n < 256) (r : Fin 512) : Fin 8192 := ⟨512 * (n / 16) + r.val, by have := r.isLt; omega⟩

/-- Column `j` of point `n`'s group, as a hidden column. -/
def col (n : ℕ) (j : Fin 512) : Fin 8192 := ⟨512 * (n % 16) + j.val, by have := j.isLt; omega⟩

theorem blk0 (t : Fin cfg0.N) (r : Fin 512) (k : Fin 2048) :
    (iblk m c 0 t : Vec Ideal S512x2048 .f32) (ix2 r k) = Ref.rows (ax m c) (ix2 (row t.val (lt256 t) r) k) := by
  rw [← V_x]
  unfold iblk
  rw [View.read_apply]
  refine congrArg (V m c main_v0 : FVec Ideal S8192x2048 .f32) (funext fun a => Fin.ext ?_)
  match a with
  | ⟨0, _⟩ => show win0_0.index t 0 * 512 + 1 * r.val = 512 * (t.val / 16) + r.val; rw [index0 t]; show t.val / 16 * 512 + _ = _; omega
  | ⟨1, _⟩ => show win0_0.index t 1 * 2048 + 1 * k.val = k.val; rw [index0 t]; show 0 * 2048 + _ = _; omega

theorem blk1 (t : Fin cfg0.N) (k : Fin 2048) :
    (iblk m c 1 t : Vec Ideal S1x2048 .f32) (ix2 0 k) = ag m c (ix2 1 k) := by
  rw [← V_g]
  unfold iblk
  rw [View.read_apply]
  refine congrArg (V m c main_v7 : FVec Ideal S1x2048 .f32) (funext fun a => Fin.ext ?_)
  match a with
  | ⟨0, _⟩ => show win0_1.index t 0 * 1 + 1 * 0 = 0; rw [index1 t]; rfl
  | ⟨1, _⟩ => show win0_1.index t 1 * 2048 + 1 * k.val = k.val; rw [index1 t]; show 0 * 2048 + _ = _; omega

theorem blk2 (t : Fin cfg0.N) (k : Fin 2048) (j : Fin 512) :
    (iblk m c 2 t : Vec Ideal S1x2048x512 .bf16) (ix3 0 k j) = au m c (ix3 1 k (col t.val j)) := by
  rw [← V_u]
  unfold iblk
  rw [View.read_apply]
  refine congrArg (V m c main_v3 : FVec Ideal S2x2048x8192 .bf16) (funext fun a => Fin.ext ?_)
  match a with
  | ⟨0, _⟩ => show win0_2.index t 0 * 1 + 1 * 0 = 1; rw [index2 t]; rfl
  | ⟨1, _⟩ => show win0_2.index t 1 * 2048 + 1 * k.val = k.val; rw [index2 t]; show 0 * 2048 + _ = _; omega
  | ⟨2, _⟩ => show win0_2.index t 2 * 512 + 1 * j.val = 512 * (t.val % 16) + j.val; rw [index2 t]; show t.val % 16 * 512 + _ = _; omega

theorem blk3 (t : Fin cfg0.N) (j : Fin 512) (n : Fin 2048) :
    (iblk m c 3 t : Vec Ideal S1x512x2048 .bf16) (ix3 0 j n) = ad m c (ix3 1 (col t.val j) n) := by
  rw [← V_d]
  unfold iblk
  rw [View.read_apply]
  refine congrArg (V m c main_v4 : FVec Ideal S2x8192x2048 .bf16) (funext fun a => Fin.ext ?_)
  match a with
  | ⟨0, _⟩ => show win0_3.index t 0 * 1 + 1 * 0 = 1; rw [index3 t]; rfl
  | ⟨1, _⟩ => show win0_3.index t 1 * 512 + 1 * j.val = 512 * (t.val % 16) + j.val; rw [index3 t]; show t.val % 16 * 512 + _ = _; omega
  | ⟨2, _⟩ => show win0_3.index t 2 * 2048 + 1 * n.val = n.val; rw [index3 t]; show 0 * 2048 + _ = _; omega

theorem blk4 (t : Fin cfg0.N) (k : Fin 2048) :
    (iblk m c 4 t : Vec Ideal S1x2048 .f32) (ix2 0 k) = ag' m c (ix2 1 k) := by
  rw [← V_g']
  unfold iblk
  rw [View.read_apply]
  refine congrArg (V m c main_v8 : FVec Ideal S1x2048 .f32) (funext fun a => Fin.ext ?_)
  match a with
  | ⟨0, _⟩ => show win0_4.index t 0 * 1 + 1 * 0 = 0; rw [index4 t]; rfl
  | ⟨1, _⟩ => show win0_4.index t 1 * 2048 + 1 * k.val = k.val; rw [index4 t]; show 0 * 2048 + _ = _; omega

/-! ## One point -/

/-- A row of `x`, the gains, the weights: what the specification's row takes. -/
def X (R : Fin 8192) (k : Fin 2048) : EReal := Ref.rows (ax m c) (ix2 R k)
def G (k : Fin 2048) : EReal := ag m c (ix2 1 k)
def U (k : Fin 2048) (j : Fin 8192) : EReal := au m c (ix3 1 k j)
def D (j : Fin 8192) (n : Fin 2048) : EReal := ad m c (ix3 1 j n)
def G' (k : Fin 2048) : EReal := ag' m c (ix2 1 k)

/-- A normalised row. -/
def nrow (R : Fin 8192) : Fin 2048 → EReal := rms (X m c R) (G m c)

theorem normed (t : Fin cfg0.N) (r : Fin 512) (k : Fin 2048) :
    k0_pay1 (F := Ideal) (iblk m c 0 t) (iblk m c 1 t) (ix2 r k) = nrow m c (row t.val (lt256 t) r) k := by
  rw [pay1_apply]
  simp only [blk0, blk1]
  rfl

/-- The accumulator after a point: its value before and the shares of the point's group. -/
theorem added (t : Fin cfg0.N) (f : Vec Ideal S512x2048 .bf16) (a : Vec Ideal S512x2048 .f32) (r : Fin 512) (n : Fin 2048)
    (hf : ∀ k, f (ix2 r k) = nrow m c (row t.val (lt256 t) r) k) :
    k0_pay3 (F := Ideal) f (iblk m c 2 t) a (iblk m c 3 t) (ix2 r n)
      = a (ix2 r n) + ∑ j : Fin 512, share (nrow m c (row t.val (lt256 t) r)) (U m c) (D m c) n (512 * (t.val % 16) + j.val) := by
  rw [pay3_apply]
  simp only [blk2, blk3, hf]
  refine congrArg (a (ix2 r n) + ·) (Finset.sum_congr rfl fun j _ => ?_)
  unfold share
  rw [dif_pos (show 512 * (t.val % 16) + j.val < 8192 from (col t.val j).isLt)]
  rfl

/-! ## The induction over the points -/

/-- What the two scratches hold after point `n`. -/
def State (n : ℕ) (hn : n < 256) (f : Vec Ideal S512x2048 .bf16) (a : Vec Ideal S512x2048 .f32) : Prop :=
  ∀ r k, f (ix2 r k) = nrow m c (row n hn r) k
    ∧ a (ix2 r k) = ∑ j ∈ Finset.range (512 * (n % 16 + 1)), share (nrow m c (row n hn r)) (U m c) (D m c) k j

theorem state_first (t : Fin cfg0.N) (h : t.val % 16 = 0) :
    State m c t.val (lt256 t) (k0_pay1 (F := Ideal) (iblk m c 0 t) (iblk m c 1 t))
      (k0_pay3 (F := Ideal) (k0_pay1 (F := Ideal) (iblk m c 0 t) (iblk m c 1 t)) (iblk m c 2 t) (k0_pay2 (F := Ideal)) (iblk m c 3 t)) := by
  refine fun r k => ⟨normed m c t r k, ?_⟩
  rw [added m c t _ _ r k (normed m c t r), pay2_apply, h, sum_groups]
  simp

theorem state_next (t : Fin cfg0.N) (h : ¬t.val % 16 = 0) (f : Vec Ideal S512x2048 .bf16) (a : Vec Ideal S512x2048 .f32)
    (hs : State m c (t.val - 1) (by have := lt256 t; omega) f a) :
    State m c t.val (lt256 t) f (k0_pay3 (F := Ideal) f (iblk m c 2 t) a (iblk m c 3 t)) := by
  have e : ∀ r, row (t.val - 1) (by have := lt256 t; omega) r = row t.val (lt256 t) r := fun r =>
    Fin.ext (show 512 * ((t.val - 1) / 16) + r.val = 512 * (t.val / 16) + r.val by omega)
  have hf : ∀ r k, f (ix2 r k) = nrow m c (row t.val (lt256 t) r) k := fun r k => by rw [(hs r k).1, e]
  refine fun r k => ⟨hf r k, ?_⟩
  rw [added m c t f a r k (hf r), (hs r k).2, e, show (t.val - 1) % 16 + 1 = t.val % 16 by omega, sum_groups]

theorem state : ∀ (n : ℕ) (hn : n < cfg0.N),
    State m c n (lt256 ⟨n, hn⟩) (outsAt0 m c n hn).2.1 (outsAt0 m c n hn).2.2 := by
  intro n
  induction n using Nat.strong_induction_on with
  | _ n ih =>
    intro hn
    by_cases h0 : n % 16 = 0
    · rw [outsAt0_A m c ⟨n, hn⟩ h0 (by show ¬n % 16 = 15; omega)]
      dsimp only
      rw [sout0_A_0_eq, sout0_A_1_eq]
      exact state_first m c ⟨n, hn⟩ h0
    · have hp := ih (n - 1) (by omega) (Nat.lt_of_le_of_lt (Nat.sub_le _ _) hn)
      by_cases h1 : n % 16 = 15
      · rw [outsAt0_C m c ⟨n, hn⟩ h0 h1]
        dsimp only
        rw [sout0_C_1_eq]
        exact state_next m c ⟨n, hn⟩ h0 _ _ hp
      · rw [outsAt0_B m c ⟨n, hn⟩ h0 h1]
        dsimp only
        rw [sout0_B_1_eq]
        exact state_next m c ⟨n, hn⟩ h0 _ _ hp

/-- What the last point of a row block stores. -/
theorem stored (n : ℕ) (hn : n < cfg0.N) (h1 : n % 16 = 15) (r : Fin 512) (k : Fin 2048) :
    (outsAt0 m c n hn).1 (ix2 r k)
      = ffnRow (X m c (row n (lt256 ⟨n, hn⟩) r)) (G m c) (U m c) (D m c) (G' m c) k := by
  have h0 : ¬n % 16 = 0 := by omega
  have hs := state_next m c ⟨n, hn⟩ h0 _ _ (state m c (n - 1) (Nat.lt_of_le_of_lt (Nat.sub_le _ _) hn))
  rw [outsAt0_C m c ⟨n, hn⟩ h0 h1]
  dsimp only
  rw [out0_C_5_eq, pay4_apply]
  have ha := fun k => (hs r k).2.trans ((congrArg (fun q => ∑ j ∈ Finset.range (512 * (q + 1)),
    share (nrow m c (row n (lt256 ⟨n, hn⟩) r)) (U m c) (D m c) k j) h1).trans (down_eq _ _ _ k))
  simp only [blk0, blk4, ha]
  unfold ffnRow nrow X G'
  with_reducible rfl

theorem result_apply (R : Fin 8192) (k : Fin 2048) :
    (Cert.Kernel2Ideal.Value.G5 m c : FVec Ideal S8192x2048 .f32) (ix2 R k)
      = ffnRow (X m c R) (G m c) (U m c) (D m c) (G' m c) k := by
  have hR := R.isLt
  have hk := k.isLt
  have hp : Cert.Kernel2Ideal.Value.pt5Of (ix2 R k) = 16 * (R.val / 512) + 15 := by
    show 16 * (1 * (R.val / 512 - 0) + 1 * (k.val / 2048 - 0)) + 15 = _
    omega
  have hn : Cert.Kernel2Ideal.Value.pt5Of (ix2 R k) < cfg0.N := by
    rw [hp, show cfg0.N = 256 from N_0]; omega
  have hl : Cert.Kernel2Ideal.Value.loc5Of (ix2 R k) = ix2 (⟨R.val % 512, by omega⟩ : Fin 512) k := by
    refine funext fun a => Fin.ext ?_
    match a with
    | ⟨0, _⟩ => rfl
    | ⟨1, _⟩ => show k.val % 2048 = k.val; omega
  show (if h : Cert.Kernel2Ideal.Value.pt5Of (ix2 R k) < cfg0.N then _ else _) = _
  rw [dif_pos hn, ← Cert.Kernel2Ideal.Value.outsAt0_sweep m c _ hn, hl, stored m c _ hn (by rw [hp]; omega)]
  have er : row (Cert.Kernel2Ideal.Value.pt5Of (ix2 R k)) (lt256 ⟨_, hn⟩) ⟨R.val % 512, by omega⟩ = R :=
    Fin.ext (by show 512 * (Cert.Kernel2Ideal.Value.pt5Of (ix2 R k) / 16) + R.val % 512 = R.val; rw [hp]; omega)
  rw [er]

end Cert.Ffn

end
-- ==== Proof.Ffn.Equal.lean ====
/-
  THE FEED-FORWARD'S TWO RESULTS ARE ONE: from arguments that agree, the kernel's result array and the reference's composed term
  are the same function, each read at every row and column as `ffnRow`.
-/
module

public import proofs.«01_k».proof.Proof.Ffn.Fold

@[expose] public section

noncomputable section

namespace Cert.Ffn

open Idealize.ShloMosaic Idealize.ShloMosaic.TcCoe

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

theorem results_eq (c : Dev Cert.Kernel2Ideal.nD)
    (h0 : m' ((c.tc : Thread Cert.Reference2Ideal.nD Cert.Reference2Ideal.τ).loc Cert.Reference2Ideal.main_arg0) = ax m c)
    (h1 : m' ((c.tc : Thread Cert.Reference2Ideal.nD Cert.Reference2Ideal.τ).loc Cert.Reference2Ideal.main_arg1) = au m c)
    (h2 : m' ((c.tc : Thread Cert.Reference2Ideal.nD Cert.Reference2Ideal.τ).loc Cert.Reference2Ideal.main_arg2) = ad m c)
    (h3 : m' ((c.tc : Thread Cert.Reference2Ideal.nD Cert.Reference2Ideal.τ).loc Cert.Reference2Ideal.main_arg3) = ag m c)
    (h4 : m' ((c.tc : Thread Cert.Reference2Ideal.nD Cert.Reference2Ideal.τ).loc Cert.Reference2Ideal.main_arg4) = ag' m c) :
    (Cert.Reference2Ideal.Value.res_main_v39 (F := Ideal) m' c : FVec Ideal Cert.Reference2Ideal.S8192x2048 .f32)
      = Cert.Kernel2Ideal.Value.G5 (F := Ideal) m c := by
  rw [Ref.res_eq, h0, h1, h2, h3, h4]
  funext i
  obtain ⟨R, k, rfl⟩ : ∃ (R : Fin 8192) (k : Fin 2048), i = ix2 R k :=
    ⟨i 0, i 1, funext fun a => by match a with | ⟨0, _⟩ => rfl | ⟨1, _⟩ => rfl⟩
  exact (Ref.whole_apply _ _ _ _ _ R k).trans (result_apply m c R k).symm

end Cert.Ffn

end
-- ==== Proof.Merge.Spec.lean ====
/-
  THE MERGE'S ROW FUNCTION over the extended reals: one row of the result, as a function of that row of the attention's output,
  of the convolution's output, of the gates and of `x`, and of the weights. `mixed` is the gated sum of the two products,
  `mergeRow` the row after the output product, the norm and the residual.
-/
module

public import proofs.«01_k».proof.Proof.Ffn.Spec

@[expose] public section

noncomputable section

namespace Cert.Merge

open Idealize.ShloMosaic Cert.Ffn

/-- A gate: the logistic function. -/
def gate (s : EReal) : EReal := Ideal.div 1 (1 + Ideal.exp (-s))

/-- Column `k` of the gated sum: `p` is a row of the attention's output, `q` of the convolution's; `s`, `t` are the row's gates. -/
def mixed (p q : Fin 1024 → EReal) (s t : Fin 2048 → EReal) (A C : Fin 1024 → Fin 2048 → EReal) (k : Fin 2048) : EReal :=
  gate (s k) * (∑ j : Fin 1024, p j * A j k) + gate (t k) * ∑ j : Fin 1024, q j * C j k

/-- A row of the result. -/
def mergeRow (x : Fin 2048 → EReal) (p q : Fin 1024 → EReal) (s t : Fin 2048 → EReal) (A C : Fin 1024 → Fin 2048 → EReal)
    (O : Fin 2048 → Fin 2048 → EReal) (g : Fin 2048 → EReal) (n : Fin 2048) : EReal :=
  x n + rms (fun k => ∑ j : Fin 2048, mixed p q s t A C j * O j k) g n

/-- A column of the first half of the gates. -/
abbrev lo (k : Fin 2048) : Fin 4096 := ⟨k.val, by omega⟩

/-- A column of the second half of the gates. -/
abbrev hi (k : Fin 2048) : Fin 4096 := ⟨2048 + k.val, by omega⟩

end Cert.Merge

end
-- ==== Proof.Merge.Pay.lean ====
/-
  THE KERNEL'S STORED VALUE, read at an index over the extended reals: `mergeRow` of the rows of its blocks.
-/
module

public import proofs.«01_k».proof.Proof.Merge.Spec
public import proofs.«01_k».proof.Proof.Gen.Kernel3Ideal.Skeleton

@[expose] public section

noncomputable section

namespace Cert.Merge

open Idealize.ShloMosaic Cert.Kernel3Ideal Cert.Kernel3Ideal.Gen Cert.Ffn

variable (p : Vec Ideal S256x1024 .bf16) (A : Vec Ideal S1x1024x2048 .bf16) (q : Vec Ideal S256x1024 .bf16)
  (C : Vec Ideal S1x1024x2048 .bf16) (s t : Vec Ideal S256x2048 .bf16) (O : Vec Ideal S1x2048x2048 .bf16)

theorem pay2_apply (r : Fin 256) (n : Fin 2048) :
    k0_pay2 (F := Ideal) p A q C s t O (ix2 r n)
      = ∑ j : Fin 2048, mixed (fun k => p (ix2 r k)) (fun k => q (ix2 r k)) (fun k => s (ix2 r k)) (fun k => t (ix2 r k))
          (fun j k => A (ix3 0 j k)) (fun j k => C (ix3 0 j k)) j * O (ix3 0 j n) := by
  pointwise [k0_pay2]
  rfl

/-- The norm and the residual, after any product `o`. -/
theorem pay1_apply (o x : FVec Ideal S256x2048 .f32) (g : FVec Ideal S1x2048 .f32) (r : Fin 256) (n : Fin 2048) :
    k0_pay1 (F := Ideal) o x g (shapeCast S256x1 (multiReduction .add [1] S256 (mulf o o) 0x00000000#32 reduces_S256x2048_S256 (.inl rfl) rfl) shapeCasts_S256_S256x1) (k0_pay6 (F := Ideal)) (ix2 r n)
      = x (ix2 r n) + rms (fun k => o (ix2 r k)) (fun k => g (ix2 0 k)) n := by
  pointwise [k0_pay1, k0_pay6]
  rfl

theorem pay_apply (x : Vec Ideal S256x2048 .f32) (g : Vec Ideal S1x2048 .f32) (r : Fin 256) (n : Fin 2048) :
    k0_pay1 (F := Ideal) (k0_pay2 p A q C s t O) (k0_pay3 x) (k0_pay4 g) (k0_pay5 p A q C s t O) k0_pay6 (ix2 r n)
      = mergeRow (fun k => x (ix2 r k)) (fun k => p (ix2 r k)) (fun k => q (ix2 r k)) (fun k => s (ix2 r k))
          (fun k => t (ix2 r k)) (fun j k => A (ix3 0 j k)) (fun j k => C (ix3 0 j k)) (fun j k => O (ix3 0 j k))
          (fun k => g (ix2 0 k)) n := by
  have hx : k0_pay3 (F := Ideal) x = x := by
    funext i
    obtain ⟨r, k, rfl⟩ : ∃ (r : Fin 256) (k : Fin 2048), i = ix2 r k :=
      ⟨i 0, i 1, funext fun a => by match a with | ⟨0, _⟩ => rfl | ⟨1, _⟩ => rfl⟩
    pointwise [k0_pay3]
  have hg : ∀ k, k0_pay4 (F := Ideal) g (ix2 0 k) = g (ix2 0 k) := fun k => by pointwise [k0_pay4]
  refine (pay1_apply (k0_pay2 p A q C s t O) (k0_pay3 x) (k0_pay4 g) r n).trans ?_
  rw [hx]
  simp only [hg, pay2_apply]
  rfl

end Cert.Merge

end
-- ==== Proof.Merge.Ref.lean ====
/-
  THE REFERENCE, read at an index over the extended reals: its result at row `r`, column `n` is `mergeRow` of row `r` of the four
  reshaped arrays and of layer 1 of the weights. The reference's one composed term is cut in parts: a gate, the two
  products before the gates, the gated sum, the output product, the norm.
-/
module

public import proofs.«01_k».proof.Proof.Merge.Spec
public import proofs.«01_k».proof.Proof.Gen.Reference3Ideal.Run

@[expose] public section

noncomputable section

namespace Cert.Merge.Ref

open Idealize.ShloMosaic Idealize.ShloMosaic.TcCoe Cert.Reference3Ideal Cert.Reference3Ideal.Gen Cert.Ffn

/-- The reference's gates. -/
def gates (s : FVec Ideal S8192x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf s)))

/-- The product with layer 1 of an array of weights, before the gates. -/
def up (p : FVec Ideal S8192x1024 .f32) (w : FVec Ideal S2x1024x2048 .f32) : FVec Ideal S8192x2048 .f32 :=
  Host.dotGeneral dot_S8192x1024_S1024x2048_S8192x2048_1_0_0_1_n_n none p
    (shapeCast S1024x2048 (extractStridedSlice S1x1024x2048 ![1, 0, 0] w slices_S2x1024x2048_S1x1024x2048_1_0_0)
      shapeCasts_S1x1024x2048_S1024x2048)

/-- The gated sum. -/
def mix (p q : FVec Ideal S8192x1024 .f32) (s : FVec Ideal S8192x4096 .f32) (wa wc : FVec Ideal S2x1024x2048 .f32) :
    FVec Ideal S8192x2048 .f32 :=
  addf (mulf (extractStridedSlice S8192x2048 ![0, 0] (gates s) slices_S8192x4096_S8192x2048_0_0) (up p wa))
    (mulf (extractStridedSlice S8192x2048 ![0, 2048] (gates s) slices_S8192x4096_S8192x2048_0_2048) (up q wc))

/-- The output product. -/
def out (a : FVec Ideal S8192x2048 .f32) (w : FVec Ideal S2x2048x2048 .f32) : FVec Ideal S8192x2048 .f32 :=
  Host.dotGeneral dot_S8192x2048_S2048x2048_S8192x2048_1_0_0_1_n_n none a
    (shapeCast S2048x2048 (extractStridedSlice S1x2048x2048 ![1, 0, 0] w slices_S2x2048x2048_S1x2048x2048_1_0_0)
      shapeCasts_S1x2048x2048_S2048x2048)

/-- The reference's normalisation, by layer 1 of the gains. -/
def norm (x : FVec Ideal S8192x2048 .f32) (g : FVec Ideal S2x2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![1, 0] g slices_S2x2048_S1x2048_1_0) shapeCasts_S1x2048_S2048)))

theorem gates_apply (s : FVec Ideal S8192x4096 .f32) (r : Fin 8192) (k : Fin 4096) : gates s (ix2 r k) = gate (s (ix2 r k)) := by
  pointwise [gates]
  rfl

theorem up_apply (p : FVec Ideal S8192x1024 .f32) (w : FVec Ideal S2x1024x2048 .f32) (r : Fin 8192) (k : Fin 2048) :
    up p w (ix2 r k) = ∑ j : Fin 1024, p (ix2 r j) * w (ix3 1 j k) := by
  pointwise [up]

theorem mix_apply (p q : FVec Ideal S8192x1024 .f32) (s : FVec Ideal S8192x4096 .f32) (wa wc : FVec Ideal S2x1024x2048 .f32)
    (r : Fin 8192) (k : Fin 2048) :
    mix p q s wa wc (ix2 r k)
      = mixed (fun k => p (ix2 r k)) (fun k => q (ix2 r k)) (fun k => s (ix2 r (lo k))) (fun k => s (ix2 r (hi k)))
          (fun j k => wa (ix3 1 j k)) (fun j k => wc (ix3 1 j k)) k := by
  have e0 : extractStridedSlice S8192x2048 ![0, 0] (gates s) slices_S8192x4096_S8192x2048_0_0 (ix2 r k) = gate (s (ix2 r (lo k))) := by
    rw [← gates_apply]
    refine congrArg (gates s) (funext fun a => Fin.ext ?_)
    match a with
    | ⟨0, _⟩ => show 0 + r.val = r.val; omega
    | ⟨1, _⟩ => show 0 + k.val = k.val; omega
  have e1 : extractStridedSlice S8192x2048 ![0, 2048] (gates s) slices_S8192x4096_S8192x2048_0_2048 (ix2 r k) = gate (s (ix2 r (hi k))) := by
    rw [← gates_apply]
    refine congrArg (gates s) (funext fun a => Fin.ext ?_)
    match a with
    | ⟨0, _⟩ => show 0 + r.val = r.val; omega
    | ⟨1, _⟩ => show 2048 + k.val = 2048 + k.val; rfl
  show extractStridedSlice S8192x2048 ![0, 0] (gates s) slices_S8192x4096_S8192x2048_0_0 (ix2 r k) * up p wa (ix2 r k)
      + extractStridedSlice S8192x2048 ![0, 2048] (gates s) slices_S8192x4096_S8192x2048_0_2048 (ix2 r k) * up q wc (ix2 r k) = _
  rw [e0, e1, up_apply, up_apply]
  rfl

theorem out_apply (a : FVec Ideal S8192x2048 .f32) (w : FVec Ideal S2x2048x2048 .f32) (r : Fin 8192) (n : Fin 2048) :
    out a w (ix2 r n) = ∑ j : Fin 2048, a (ix2 r j) * w (ix3 1 j n) := by
  pointwise [out]

theorem norm_apply (x : FVec Ideal S8192x2048 .f32) (g : FVec Ideal S2x2048 .f32) (r : Fin 8192) (n : Fin 2048) :
    norm x g (ix2 r n) = rms (fun k => x (ix2 r k)) (fun k => g (ix2 1 k)) n := by
  pointwise [norm]
  rfl

/-- The rows of the four arrays that have one row for each token, batch after batch. -/
abbrev rows1024 (a : FVec Ideal S2x4096x1024 .f32) : FVec Ideal S8192x1024 .f32 := shapeCast S8192x1024 a shapeCasts_S2x4096x1024_S8192x1024
abbrev rows4096 (a : FVec Ideal S2x4096x4096 .f32) : FVec Ideal S8192x4096 .f32 := shapeCast S8192x4096 a shapeCasts_S2x4096x4096_S8192x4096
abbrev rows2048 (a : FVec Ideal S2x4096x2048 .f32) : FVec Ideal S8192x2048 .f32 := shapeCast S8192x2048 a shapeCasts_S2x4096x2048_S8192x2048

/-- The reference's result from its eight arguments. -/
def whole (p q : FVec Ideal S2x4096x1024 .f32) (s : FVec Ideal S2x4096x4096 .f32) (x : FVec Ideal S2x4096x2048 .f32)
    (wa wc : FVec Ideal S2x1024x2048 .f32) (wo : FVec Ideal S2x2048x2048 .f32) (g : FVec Ideal S2x2048 .f32) :
    FVec Ideal S8192x2048 .f32 :=
  addf (rows2048 x) (norm (out (mix (rows1024 p) (rows1024 q) (rows4096 s) wa wc) wo) g)

theorem whole_apply (p q : FVec Ideal S2x4096x1024 .f32) (s : FVec Ideal S2x4096x4096 .f32) (x : FVec Ideal S2x4096x2048 .f32)
    (wa wc : FVec Ideal S2x1024x2048 .f32) (wo : FVec Ideal S2x2048x2048 .f32) (g : FVec Ideal S2x2048 .f32)
    (r : Fin 8192) (n : Fin 2048) :
    whole p q s x wa wc wo g (ix2 r n)
      = mergeRow (fun k => rows2048 x (ix2 r k)) (fun k => rows1024 p (ix2 r k)) (fun k => rows1024 q (ix2 r k))
          (fun k => rows4096 s (ix2 r (lo k))) (fun k => rows4096 s (ix2 r (hi k))) (fun j k => wa (ix3 1 j k))
          (fun j k => wc (ix3 1 j k)) (fun j k => wo (ix3 1 j k)) (fun k => g (ix2 1 k)) n := by
  show rows2048 x (ix2 r n) + norm (out (mix (rows1024 p) (rows1024 q) (rows4096 s) wa wc) wo) g (ix2 r n) = _
  rw [norm_apply]
  simp only [out_apply, mix_apply]
  rfl

theorem res_eq (m : (ℓ : Loc nD τ sig) → Buf (Elt Ideal) ℓ) (c : Dev nD) :
    Cert.Reference3Ideal.Value.res_main_v39 (F := Ideal) m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.Reference3Ideal.Value.res_main_v39 whole norm out mix up gates
  rfl

end Cert.Merge.Ref

end
-- ==== Proof.Merge.Arrays.lean ====
/-
  THE ARRAYS THE KERNEL READS, as its host operations leave them over the extended reals (the rows of the four arrays with one row
  for each token, the three weight arrays unchanged, layer 1 of the gain; the conversion to bf16 is the identity there), and the
  blocks of them that grid point `t` works on: rows `256 * t` to `256 * t + 255`, and layer 1 of the weights.
-/
module

public import proofs.«01_k».proof.Proof.Merge.Pay
public import proofs.«01_k».proof.Proof.Merge.Ref
public import proofs.«01_k».proof.Proof.Gen.Kernel3Ideal.Value
public import Idealize.ShloMosaic.Lib.Pipeline.Value
public import Idealize.ShloMosaic.Lib.Tactic

@[expose] public section

noncomputable section

namespace Cert.Merge

open Idealize.ShloMosaic Idealize.ShloMosaic.TcCoe Cert.Kernel3Ideal Cert.Kernel3Ideal.Gen

variable (m : (ℓ : Loc nD τ sig) → Buf (Elt Ideal) ℓ) (c : Dev nD)

/-- The kernel's eight arguments. -/
abbrev ap : FVec Ideal S2x4096x1024 .f32 := m ((c : Thread nD τ).loc main_arg0)
abbrev aq : FVec Ideal S2x4096x1024 .f32 := m ((c : Thread nD τ).loc main_arg1)
abbrev agate : FVec Ideal S2x4096x4096 .f32 := m ((c : Thread nD τ).loc main_arg2)
abbrev ax : FVec Ideal S2x4096x2048 .f32 := m ((c : Thread nD τ).loc main_arg3)
abbrev aa : FVec Ideal S2x1024x2048 .f32 := m ((c : Thread nD τ).loc main_arg4)
abbrev ac : FVec Ideal S2x1024x2048 .f32 := m ((c : Thread nD τ).loc main_arg5)
abbrev ao : FVec Ideal S2x2048x2048 .f32 := m ((c : Thread nD τ).loc main_arg6)
abbrev ag : FVec Ideal S2x2048 .f32 := m ((c : Thread nD τ).loc main_arg7)

theorem V_p (r : Fin 8192) (k : Fin 1024) :
    (V m c main_v1 : FVec Ideal S8192x1024 .bf16) (ix2 r k) = Ref.rows1024 (ap m c) (ix2 r k) := by
  have e : (V m c main_v1 : FVec Ideal S8192x1024 .bf16) = truncf .bf16 (shapeCast S8192x1024 (ap m c) shapeCasts_S2x4096x1024_S8192x1024) bitsLt_bf16_f32 := by
    show StableHlo.after hostOps0 (fun b => m (c, b)) (main_v1 : DevRef τ sig) = _
    after_results
    rfl
  rw [e]; rfl

theorem V_q (r : Fin 8192) (k : Fin 1024) :
    (V m c main_v3 : FVec Ideal S8192x1024 .bf16) (ix2 r k) = Ref.rows1024 (aq m c) (ix2 r k) := by
  have e : (V m c main_v3 : FVec Ideal S8192x1024 .bf16) = truncf .bf16 (shapeCast S8192x1024 (aq m c) shapeCasts_S2x4096x1024_S8192x1024) bitsLt_bf16_f32 := by
    show StableHlo.after hostOps0 (fun b => m (c, b)) (main_v3 : DevRef τ sig) = _
    after_results
    rfl
  rw [e]; rfl

theorem V_s (r : Fin 8192) (k : Fin 4096) :
    (V m c main_v5 : FVec Ideal S8192x4096 .bf16) (ix2 r k) = Ref.rows4096 (agate m c) (ix2 r k) := by
  have e : (V m c main_v5 : FVec Ideal S8192x4096 .bf16) = truncf .bf16 (shapeCast S8192x4096 (agate m c) shapeCasts_S2x4096x4096_S8192x4096) bitsLt_bf16_f32 := by
    show StableHlo.after hostOps0 (fun b => m (c, b)) (main_v5 : DevRef τ sig) = _
    after_results
    rfl
  rw [e]; rfl

theorem V_x (r : Fin 8192) (k : Fin 2048) :
    (V m c main_v6 : FVec Ideal S8192x2048 .f32) (ix2 r k) = Ref.rows2048 (ax m c) (ix2 r k) := by
  have e : (V m c main_v6 : FVec Ideal S8192x2048 .f32) = shapeCast S8192x2048 (ax m c) shapeCasts_S2x4096x2048_S8192x2048 := by
    show StableHlo.after hostOps0 (fun b => m (c, b)) (main_v6 : DevRef τ sig) = _
    after_results
    rfl
  rw [e]

theorem V_a (j : Fin 1024) (k : Fin 2048) : (V m c main_v7 : FVec Ideal S2x1024x2048 .bf16) (ix3 1 j k) = aa m c (ix3 1 j k) := by
  have e : (V m c main_v7 : FVec Ideal S2x1024x2048 .bf16) = truncf .bf16 (aa m c) bitsLt_bf16_f32 := by
    show StableHlo.after hostOps0 (fun b => m (c, b)) (main_v7 : DevRef τ sig) = _
    after_results
  rw [e]; rfl

theorem V_c (j : Fin 1024) (k : Fin 2048) : (V m c main_v8 : FVec Ideal S2x1024x2048 .bf16) (ix3 1 j k) = ac m c (ix3 1 j k) := by
  have e : (V m c main_v8 : FVec Ideal S2x1024x2048 .bf16) = truncf .bf16 (ac m c) bitsLt_bf16_f32 := by
    show StableHlo.after hostOps0 (fun b => m (c, b)) (main_v8 : DevRef τ sig) = _
    after_results
  rw [e]; rfl

theorem V_o (j : Fin 2048) (k : Fin 2048) : (V m c main_v9 : FVec Ideal S2x2048x2048 .bf16) (ix3 1 j k) = ao m c (ix3 1 j k) := by
  have e : (V m c main_v9 : FVec Ideal S2x2048x2048 .bf16) = truncf .bf16 (ao m c) bitsLt_bf16_f32 := by
    show StableHlo.after hostOps0 (fun b => m (c, b)) (main_v9 : DevRef τ sig) = _
    after_results
  rw [e]; rfl

theorem V_g (k : Fin 2048) : (V m c main_v12 : FVec Ideal S1x2048 .f32) (ix2 0 k) = ag m c (ix2 1 k) := by
  have e : (V m c main_v12 : FVec Ideal S1x2048 .f32)
      = shapeCast S1x2048 (shapeCast S2048 (extractStridedSlice S1x2048 ![1, 0] (ag m c) slices_S2x2048_S1x2048_1_0)
          shapeCasts_S1x2048_S2048) shapeCasts_S2048_S1x2048 := by
    show StableHlo.after hostOps0 (fun b => m (c, b)) (main_v12 : DevRef τ sig) = _
    after_results
    rfl
  rw [e]
  pointwise

/-! ## The windows' blocks -/

theorem lt32 (t : Fin cfg0.N) : t.val < 32 := Nat.lt_of_lt_of_eq t.isLt N_0

/-- Row `r` of point `t`'s block. -/
def row (t : Fin cfg0.N) (r : Fin 256) : Fin 8192 := ⟨256 * t.val + r.val, by have := lt32 t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![1, 0, 0] := by decide +kernel
theorem index5 : ∀ t : Fin grid0.N, win0_5.index t = ![1, 0, 0] := by decide +kernel
theorem index6 : ∀ t : Fin grid0.N, win0_6.index t = ![1, 0, 0] := by decide +kernel
theorem index7 : ∀ t : Fin grid0.N, win0_7.index t = ![0, 0] := by decide +kernel
theorem index8 : ∀ t : Fin grid0.N, win0_8.index t = ![t.val, 0] := by decide +kernel

theorem blk0 (t : Fin cfg0.N) (r : Fin 256) (k : Fin 1024) :
    (iblk m c 0 t : Vec Ideal S256x1024 .bf16) (ix2 r k) = Ref.rows1024 (ap m c) (ix2 (row t r) k) := by
  rw [← V_p]
  unfold iblk
  rw [View.read_apply]
  refine congrArg (V m c main_v1 : FVec Ideal S8192x1024 .bf16) (funext fun a => Fin.ext ?_)
  match a with
  | ⟨0, _⟩ => show win0_0.index t 0 * 256 + 1 * r.val = 256 * t.val + r.val; rw [index0 t]; show t.val * 256 + _ = _; omega
  | ⟨1, _⟩ => show win0_0.index t 1 * 1024 + 1 * k.val = k.val; rw [index0 t]; show 0 * 1024 + _ = _; omega

theorem blk1 (t : Fin cfg0.N) (r : Fin 256) (k : Fin 1024) :
    (iblk m c 1 t : Vec Ideal S256x1024 .bf16) (ix2 r k) = Ref.rows1024 (aq m c) (ix2 (row t r) k) := by
  rw [← V_q]
  unfold iblk
  rw [View.read_apply]
  refine congrArg (V m c main_v3 : FVec Ideal S8192x1024 .bf16) (funext fun a => Fin.ext ?_)
  match a with
  | ⟨0, _⟩ => show win0_1.index t 0 * 256 + 1 * r.val = 256 * t.val + r.val; rw [index1 t]; show t.val * 256 + _ = _; omega
  | ⟨1, _⟩ => show win0_1.index t 1 * 1024 + 1 * k.val = k.val; rw [index1 t]; show 0 * 1024 + _ = _; omega

theorem blk2 (t : Fin cfg0.N) (r : Fin 256) (k : Fin 4096) :
    (iblk m c 2 t : Vec Ideal S256x4096 .bf16) (ix2 r k) = Ref.rows4096 (agate m c) (ix2 (row t r) k) := by
  rw [← V_s]
  unfold iblk
  rw [View.read_apply]
  refine congrArg (V m c main_v5 : FVec Ideal S8192x4096 .bf16) (funext fun a => Fin.ext ?_)
  match a with
  | ⟨0, _⟩ => show win0_2.index t 0 * 256 + 1 * r.val = 256 * t.val + r.val; rw [index2 t]; show t.val * 256 + _ = _; omega
  | ⟨1, _⟩ => show win0_2.index t 1 * 4096 + 1 * k.val = k.val; rw [index2 t]; show 0 * 4096 + _ = _; omega

theorem blk3 (t : Fin cfg0.N) (r : Fin 256) (k : Fin 2048) :
    (iblk m c 3 t : Vec Ideal S256x2048 .f32) (ix2 r k) = Ref.rows2048 (ax m c) (ix2 (row t r) k) := by
  rw [← V_x]
  unfold iblk
  rw [View.read_apply]
  refine congrArg (V m c main_v6 : FVec Ideal S8192x2048 .f32) (funext fun a => Fin.ext ?_)
  match a with
  | ⟨0, _⟩ => show win0_3.index t 0 * 256 + 1 * r.val = 256 * t.val + r.val; rw [index3 t]; show t.val * 256 + _ = _; omega
  | ⟨1, _⟩ => show win0_3.index t 1 * 2048 + 1 * k.val = k.val; rw [index3 t]; show 0 * 2048 + _ = _; omega

theorem blk4 (t : Fin cfg0.N) (j : Fin 1024) (k : Fin 2048) :
    (iblk m c 4 t : Vec Ideal S1x1024x2048 .bf16) (ix3 0 j k) = aa m c (ix3 1 j k) := by
  rw [← V_a]
  unfold iblk
  rw [View.read_apply]
  refine congrArg (V m c main_v7 : FVec Ideal S2x1024x2048 .bf16) (funext fun a => Fin.ext ?_)
  match a with
  | ⟨0, _⟩ => show win0_4.index t 0 * 1 + 1 * 0 = 1; rw [index4 t]; rfl
  | ⟨1, _⟩ => show win0_4.index t 1 * 1024 + 1 * j.val = j.val; rw [index4 t]; show 0 * 1024 + _ = _; omega
  | ⟨2, _⟩ => show win0_4.index t 2 * 2048 + 1 * k.val = k.val; rw [index4 t]; show 0 * 2048 + _ = _; omega

theorem blk5 (t : Fin cfg0.N) (j : Fin 1024) (k : Fin 2048) :
    (iblk m c 5 t : Vec Ideal S1x1024x2048 .bf16) (ix3 0 j k) = ac m c (ix3 1 j k) := by
  rw [← V_c]
  unfold iblk
  rw [View.read_apply]
  refine congrArg (V m c main_v8 : FVec Ideal S2x1024x2048 .bf16) (funext fun a => Fin.ext ?_)
  match a with
  | ⟨0, _⟩ => show win0_5.index t 0 * 1 + 1 * 0 = 1; rw [index5 t]; rfl
  | ⟨1, _⟩ => show win0_5.index t 1 * 1024 + 1 * j.val = j.val; rw [index5 t]; show 0 * 1024 + _ = _; omega
  | ⟨2, _⟩ => show win0_5.index t 2 * 2048 + 1 * k.val = k.val; rw [index5 t]; show 0 * 2048 + _ = _; omega

theorem blk6 (t : Fin cfg0.N) (j : Fin 2048) (k : Fin 2048) :
    (iblk m c 6 t : Vec Ideal S1x2048x2048 .bf16) (ix3 0 j k) = ao m c (ix3 1 j k) := by
  rw [← V_o]
  unfold iblk
  rw [View.read_apply]
  refine congrArg (V m c main_v9 : FVec Ideal S2x2048x2048 .bf16) (funext fun a => Fin.ext ?_)
  match a with
  | ⟨0, _⟩ => show win0_6.index t 0 * 1 + 1 * 0 = 1; rw [index6 t]; rfl
  | ⟨1, _⟩ => show win0_6.index t 1 * 2048 + 1 * j.val = j.val; rw [index6 t]; show 0 * 2048 + _ = _; omega
  | ⟨2, _⟩ => show win0_6.index t 2 * 2048 + 1 * k.val = k.val; rw [index6 t]; show 0 * 2048 + _ = _; omega

theorem blk7 (t : Fin cfg0.N) (k : Fin 2048) :
    (iblk m c 7 t : Vec Ideal S1x2048 .f32) (ix2 0 k) = ag m c (ix2 1 k) := by
  rw [← V_g]
  unfold iblk
  rw [View.read_apply]
  refine congrArg (V m c main_v12 : FVec Ideal S1x2048 .f32) (funext fun a => Fin.ext ?_)
  match a with
  | ⟨0, _⟩ => show win0_7.index t 0 * 1 + 1 * 0 = 0; rw [index7 t]; rfl
  | ⟨1, _⟩ => show win0_7.index t 1 * 2048 + 1 * k.val = k.val; rw [index7 t]; show 0 * 2048 + _ = _; omega

end Cert.Merge

end
-- ==== Proof.Merge.Equal.lean ====
/-
  THE MERGE'S TWO RESULTS ARE ONE. Grid point `t` stores `mergeRow` of its 256 rows (`stored`). The 32 points' blocks tile the
  result array, so the array ends as the reference's composed term of the same arguments (`final`), and from arguments that
  agree the two programs' results are the same function.
-/
module

public import proofs.«01_k».proof.Proof.Merge.Arrays

@[expose] public section

noncomputable section

namespace Cert.Merge

open Idealize.ShloMosaic Idealize.ShloMosaic.TcCoe Cert.Kernel3Ideal Cert.Kernel3Ideal.Gen Idealize.SL.Sem

variable (m : (ℓ : Loc nD τ sig) → Buf (Elt Ideal) ℓ) (c : Dev nD)

/-- The result array: the reference's term of the kernel's arguments. -/
def result : FVec Ideal S8192x2048 .f32 :=
  Ref.whole (ap m c) (aq m c) (agate m c) (ax m c) (aa m c) (ac m c) (ao m c) (ag m c)

theorem hz2 : (![0, 0] : Fin 2 → ℕ) = fun _ => 0 := by decide
theorem hz3 : (![0, 0, 0] : Fin 3 → ℕ) = fun _ => 0 := by decide

theorem ld_lo (s : Vec Ideal S256x4096 .bf16) (r : Fin 256) (k : Fin 2048) : View.ld s r0_2 (ix2 r k) = s (ix2 r (lo k)) := by
  refine congrArg s (funext fun a => Fin.ext ?_)
  match a with
  | ⟨0, _⟩ => show 0 + 1 * r.val = r.val; omega
  | ⟨1, _⟩ => show 0 + 1 * k.val = k.val; omega

theorem ld_hi (s : Vec Ideal S256x4096 .bf16) (r : Fin 256) (k : Fin 2048) : View.ld s r0_3 (ix2 r k) = s (ix2 r (hi k)) := by
  refine congrArg s (funext fun a => Fin.ext ?_)
  match a with
  | ⟨0, _⟩ => show 0 + 1 * r.val = r.val; omega
  | ⟨1, _⟩ => show 2048 + 1 * k.val = 2048 + k.val; omega

/-- What point `t` leaves in its block. -/
theorem stored (t : Fin cfg0.N) (r : Fin 256) (n : Fin 2048) :
    out0_8 (F := Ideal) (iblk m c 0 t) (iblk m c 1 t) (iblk m c 2 t) (iblk m c 3 t) (iblk m c 4 t) (iblk m c 5 t) (iblk m c 6 t)
        (iblk m c 7 t) (ix2 r n) = result m c (ix2 (row t r) n) := by
  unfold out0_8
  rw [View.canon_unit_zero hz2]
  simp only [View.ld_unit_zero (S := S256x1024) hz2, View.ld_unit_zero (S := S256x2048) hz2, View.ld_unit_zero (S := S1x2048) hz2,
    View.ld_unit_zero (S := S1x1024x2048) hz3, View.ld_unit_zero (S := S1x2048x2048) hz3]
  rw [pay_apply]
  simp only [blk0, blk1, blk3, blk4, blk5, blk6, blk7]
  unfold result
  rw [Ref.whole_apply]
  refine congrArg₂ (fun u v => mergeRow _ _ _ u v _ _ _ _ n) (funext fun k => ?_) (funext fun k => ?_)
  · exact (ld_lo (iblk m c 2 t) r k).trans (blk2 m c t r (lo k))
  · exact (ld_hi (iblk m c 2 t) r k).trans (blk2 m c t r (hi k))

theorem flushed (t : Fin cfg0.N) :
    (dats m 0 c).flushed 8 t = ((cfg0.win 8).blk t).view.read (Elt Ideal) (result m c) := by
  rw [Cert.Kernel3Ideal.Value.flushed8]
  funext y
  obtain ⟨r, k, rfl⟩ : ∃ (r : Fin 256) (k : Fin 2048), y = ix2 r k :=
    ⟨y 0, y 1, funext fun a => by match a with | ⟨0, _⟩ => rfl | ⟨1, _⟩ => rfl⟩
  refine (stored m c t r k).trans ?_
  rw [View.read_apply]
  refine congrArg (result m c) (funext fun a => Fin.ext ?_)
  match a with
  | ⟨0, _⟩ => show 256 * t.val + r.val = win0_8.index t 0 * 256 + 1 * r.val; rw [index8 t]; show _ = t.val * 256 + _; omega
  | ⟨1, _⟩ => show k.val = win0_8.index t 1 * 2048 + 1 * k.val; rw [index8 t]; show _ = 0 * 2048 + _; omega

theorem mem_blk (t : Fin cfg0.N) (i : S8192x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v13).slice (win0_8.rect t)).set ↔ _
  rw [View.set_slice_whole, Rect.mem_set_unit]
  exact Iff.rfl

theorem flush_all : ∀ t : Fin cfg0.N, (cfg0.win 8).flush t = true :=
  (by decide +kernel : ∀ t : Fin grid0.N, win0_8.flush t = true)

/-- Every index is in the block of the point of its row. -/
theorem covered (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  refine ⟨⟨(i 0).val / 256, by rw [show cfg0.N = 32 from N_0]; omega⟩, flush_all _, ?_⟩
  rw [mem_blk]
  intro a
  rw [index8]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

theorem final : (dats m 0 c).arrAt 8 cfg0.N = result m c :=
  (dats m 0 c).arrAt_eq_of_cover 8 _ (fun t _ => flushed m c t) (fun i => covered i)

variable (m' : (ℓ : Loc Cert.Reference3Ideal.nD Cert.Reference3Ideal.τ Cert.Reference3Ideal.sig) → Buf (Elt Ideal) ℓ)

theorem results_eq
    (h0 : m' ((c.tc : Thread Cert.Reference3Ideal.nD Cert.Reference3Ideal.τ).loc Cert.Reference3Ideal.main_arg0) = ap m c)
    (h1 : m' ((c.tc : Thread Cert.Reference3Ideal.nD Cert.Reference3Ideal.τ).loc Cert.Reference3Ideal.main_arg1) = aq m c)
    (h2 : m' ((c.tc : Thread Cert.Reference3Ideal.nD Cert.Reference3Ideal.τ).loc Cert.Reference3Ideal.main_arg2) = agate m c)
    (h3 : m' ((c.tc : Thread Cert.Reference3Ideal.nD Cert.Reference3Ideal.τ).loc Cert.Reference3Ideal.main_arg3) = ax m c)
    (h4 : m' ((c.tc : Thread Cert.Reference3Ideal.nD Cert.Reference3Ideal.τ).loc Cert.Reference3Ideal.main_arg4) = aa m c)
    (h5 : m' ((c.tc : Thread Cert.Reference3Ideal.nD Cert.Reference3Ideal.τ).loc Cert.Reference3Ideal.main_arg5) = ac m c)
    (h6 : m' ((c.tc : Thread Cert.Reference3Ideal.nD Cert.Reference3Ideal.τ).loc Cert.Reference3Ideal.main_arg6) = ao m c)
    (h7 : m' ((c.tc : Thread Cert.Reference3Ideal.nD Cert.Reference3Ideal.τ).loc Cert.Reference3Ideal.main_arg7) = ag m c) :
    (Cert.Reference3Ideal.Value.res_main_v39 (F := Ideal) m' c : FVec Ideal Cert.Reference3Ideal.S8192x2048 .f32)
      = (dats m 0 c).arrAt 8 cfg0.N := by
  rw [Ref.res_eq, h0, h1, h2, h3, h4, h5, h6, h7]
  exact (final m c).symm

end Cert.Merge

end
-- ==== Proof.Inproj.Conds.lean ====
/-
  ONE GRID POINT of the input projection. Whatever the point, the body leaves its operands as they are; the scratch holds the
  normalised row block (stored at a row block's first point, kept at the others), and an output block is stored exactly at the
  points of its own segment of columns, from the scratch and the weight block, and kept at the others.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer stored whole reads the stored value. -/
theorem read_store {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩)]
  exact View.canon_unit_zero h inb w

/-- The first point of a row block. -/
abbrev cond1 (i : grid0.Coords) : Prop := (Scalar.cmpi .ne (Scalar.extui (Scalar.cmpi .eq (BitVec.ofNat 32 (i 1).val) 0#32)) 0#32) = 1#1

/-- The condition of each conditional of the body is a segment of the column axis. -/
theorem hc1 : ∀ i : grid0.Coords, cond1 i ↔ (i 1).val = 0 := by
  intro i; have h : ∀ j : Fin 23, ((Scalar.cmpi .ne (Scalar.extui (Scalar.cmpi .eq (BitVec.ofNat 32 j.val) 0#32)) 0#32 : BitVec 1) = 1#1) ↔ j.val = 0 := by decide +kernel
  exact h (i 1)
theorem hc2 : ∀ i : grid0.Coords, k0_cond2 i = 1#1 ↔ 0 ≤ (i 1).val ∧ (i 1).val < 2 := by
  intro i; have h : ∀ (i0 : Fin 8) (j : Fin 23), k0_cond2 (fun | 0 => i0 | 1 => j) = 1#1 ↔ 0 ≤ j.val ∧ j.val < 2 := by decide +kernel
  have e : i = (fun | 0 => i 0 | 1 => i 1) := by funext a; fin_cases a <;> rfl
  rw [e]; exact h (i 0) (i 1)
theorem hc3 : ∀ i : grid0.Coords, k0_cond3 i = 1#1 ↔ 2 ≤ (i 1).val ∧ (i 1).val < 4 := by
  intro i; have h : ∀ (i0 : Fin 8) (j : Fin 23), k0_cond3 (fun | 0 => i0 | 1 => j) = 1#1 ↔ 2 ≤ j.val ∧ j.val < 4 := by decide +kernel
  have e : i = (fun | 0 => i 0 | 1 => i 1) := by funext a; fin_cases a <;> rfl
  rw [e]; exact h (i 0) (i 1)
theorem hc4 : ∀ i : grid0.Coords, k0_cond4 i = 1#1 ↔ 4 ≤ (i 1).val ∧ (i 1).val < 6 := by
  intro i; have h : ∀ (i0 : Fin 8) (j : Fin 23), k0_cond4 (fun | 0 => i0 | 1 => j) = 1#1 ↔ 4 ≤ j.val ∧ j.val < 6 := by decide +kernel
  have e : i = (fun | 0 => i 0 | 1 => i 1) := by funext a; fin_cases a <;> rfl
  rw [e]; exact h (i 0) (i 1)
theorem hc5 : ∀ i : grid0.Coords, k0_cond5 i = 1#1 ↔ 6 ≤ (i 1).val ∧ (i 1).val < 10 := by
  intro i; have h : ∀ (i0 : Fin 8) (j : Fin 23), k0_cond5 (fun | 0 => i0 | 1 => j) = 1#1 ↔ 6 ≤ j.val ∧ j.val < 10 := by decide +kernel
  have e : i = (fun | 0 => i 0 | 1 => i 1) := by funext a; fin_cases a <;> rfl
  rw [e]; exact h (i 0) (i 1)
theorem hc6 : ∀ i : grid0.Coords, k0_cond6 i = 1#1 ↔ 10 ≤ (i 1).val ∧ (i 1).val < 14 := by
  intro i; have h : ∀ (i0 : Fin 8) (j : Fin 23), k0_cond6 (fun | 0 => i0 | 1 => j) = 1#1 ↔ 10 ≤ j.val ∧ j.val < 14 := by decide +kernel
  have e : i = (fun | 0 => i 0 | 1 => i 1) := by funext a; fin_cases a <;> rfl
  rw [e]; exact h (i 0) (i 1)
theorem hc7 : ∀ i : grid0.Coords, k0_cond7 i = 1#1 ↔ 14 ≤ (i 1).val ∧ (i 1).val < 22 := by
  intro i; have h : ∀ (i0 : Fin 8) (j : Fin 23), k0_cond7 (fun | 0 => i0 | 1 => j) = 1#1 ↔ 14 ≤ j.val ∧ j.val < 22 := by decide +kernel
  have e : i = (fun | 0 => i 0 | 1 => i 1) := by funext a; fin_cases a <;> rfl
  rw [e]; exact h (i 0) (i 1)
theorem hc8 : ∀ i : grid0.Coords, k0_cond8 i = 1#1 ↔ 22 ≤ (i 1).val ∧ (i 1).val < 23 := by
  intro i; have h : ∀ (i0 : Fin 8) (j : Fin 23), k0_cond8 (fun | 0 => i0 | 1 => j) = 1#1 ↔ 22 ≤ j.val ∧ j.val < 23 := by decide +kernel
  have e : i = (fun | 0 => i 0 | 1 => i 1) := by funext a; fin_cases a <;> rfl
  rw [e]; exact h (i 0) (i 1)

/-- At every point exactly one segment's conditional is taken. -/
theorem cases8 (i : grid0.Coords) :
    (cond1 i ∧ k0_cond2 i = 1#1 ∧ ¬(k0_cond3 i = 1#1) ∧ ¬(k0_cond4 i = 1#1) ∧ ¬(k0_cond5 i = 1#1) ∧ ¬(k0_cond6 i = 1#1) ∧ ¬(k0_cond7 i = 1#1) ∧ ¬(k0_cond8 i = 1#1))
    ∨ (¬(cond1 i) ∧ k0_cond2 i = 1#1 ∧ ¬(k0_cond3 i = 1#1) ∧ ¬(k0_cond4 i = 1#1) ∧ ¬(k0_cond5 i = 1#1) ∧ ¬(k0_cond6 i = 1#1) ∧ ¬(k0_cond7 i = 1#1) ∧ ¬(k0_cond8 i = 1#1))
    ∨ (¬(cond1 i) ∧ ¬(k0_cond2 i = 1#1) ∧ k0_cond3 i = 1#1 ∧ ¬(k0_cond4 i = 1#1) ∧ ¬(k0_cond5 i = 1#1) ∧ ¬(k0_cond6 i = 1#1) ∧ ¬(k0_cond7 i = 1#1) ∧ ¬(k0_cond8 i = 1#1))
    ∨ (¬(cond1 i) ∧ ¬(k0_cond2 i = 1#1) ∧ ¬(k0_cond3 i = 1#1) ∧ k0_cond4 i = 1#1 ∧ ¬(k0_cond5 i = 1#1) ∧ ¬(k0_cond6 i = 1#1) ∧ ¬(k0_cond7 i = 1#1) ∧ ¬(k0_cond8 i = 1#1))
    ∨ (¬(cond1 i) ∧ ¬(k0_cond2 i = 1#1) ∧ ¬(k0_cond3 i = 1#1) ∧ ¬(k0_cond4 i = 1#1) ∧ k0_cond5 i = 1#1 ∧ ¬(k0_cond6 i = 1#1) ∧ ¬(k0_cond7 i = 1#1) ∧ ¬(k0_cond8 i = 1#1))
    ∨ (¬(cond1 i) ∧ ¬(k0_cond2 i = 1#1) ∧ ¬(k0_cond3 i = 1#1) ∧ ¬(k0_cond4 i = 1#1) ∧ ¬(k0_cond5 i = 1#1) ∧ k0_cond6 i = 1#1 ∧ ¬(k0_cond7 i = 1#1) ∧ ¬(k0_cond8 i = 1#1))
    ∨ (¬(cond1 i) ∧ ¬(k0_cond2 i = 1#1) ∧ ¬(k0_cond3 i = 1#1) ∧ ¬(k0_cond4 i = 1#1) ∧ ¬(k0_cond5 i = 1#1) ∧ ¬(k0_cond6 i = 1#1) ∧ k0_cond7 i = 1#1 ∧ ¬(k0_cond8 i = 1#1))
    ∨ (¬(cond1 i) ∧ ¬(k0_cond2 i = 1#1) ∧ ¬(k0_cond3 i = 1#1) ∧ ¬(k0_cond4 i = 1#1) ∧ ¬(k0_cond5 i = 1#1) ∧ ¬(k0_cond6 i = 1#1) ∧ ¬(k0_cond7 i = 1#1) ∧ k0_cond8 i = 1#1) := by
  have h : (i 1).val < 23 := (i 1).isLt
  simp only [hc1, hc2, hc3, hc4, hc5, hc6, hc7, hc8]
  omega

end Cert.Inproj

end
-- ==== Proof.Inproj.Data.lean ====
/-
  THE PROOF DATA of the input projection: what every buffer holds at every point of the grid.
-/
module

public import proofs.«01_k».proof.Proof.Inproj.Conds
public import Idealize.ShloMosaic.Lib.Pipeline.FrameBody
public import Idealize.ShloMosaic.Lib.Pipeline.TableIdle

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's three stretches of host operations. -/
abbrev hostOps : List (List (HloOp τ sig (Elt F))) := [hostOps0, hostOps0_1, hostOps0_2]

/-- The core's buffers when the region is entered. -/
abbrev V (c : Dev nD) (b : Ref sig .tc) : Buf (Elt F) ((c : Thread nD τ).loc b) := StableHlo.after (hostOps (F := F)).flatten (fun b => m (c, b)) b

theorem hostOps_fresh : (hostOps (F := F)).Forall fun ops => ops.Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps ⟨hostOps0_sub, hostOps0_1_sub, hostOps0_2_sub⟩ hostOps_fresh main_chain

/-- No host operation writes an argument. -/
theorem V_args (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5) := by
  refine ⟨?_, ?_, ?_, ?_, ?_, ?_⟩
  all_goals
    refine StableHlo.after_of_forall_not_mem _ _ (List.forall_iff_forall_mem.mp ?_)
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No block of window 2 is cut at a point of the grid. -/
theorem clip2 : ∀ (t : Fin cfg0.N) a, (cfg0.win 2).clip (cfg0.grid.coords t) a = none :=
  (by decide +kernel : ∀ (t : Fin grid0.N) a, win0_2.clip (grid0.coords t) a = none)

/-- Window 2's block at point `t`. -/
def wblk (c : Dev nD) (t : Fin cfg0.N) : Vec F S1x2048x512 .bf16 :=
  (cfg0.win 2).fill (cfg0.grid.coords t) (fun _ => Classical.arbitrary (Elt F (cfg0.win 2).elt)) (iblk m c 2 t)

/-- The first point of a point's row block. -/
def rowPt (t : Fin cfg0.N) : Fin cfg0.N := ⟨23 * (t.val / 23), lt_of_le_of_lt (by omega) t.isLt⟩

/-- The point of the row block whose column is the nearest of the segment `s … k`. -/
def segPt (s k : Fin 23) (t : Fin cfg0.N) : Fin cfg0.N :=
  ⟨23 * (t.val / 23) + max s.val (min (t.val % 23) k.val), by
    have h : t.val < 184 := lt_of_lt_of_eq t.isLt N_0
    exact lt_of_lt_of_eq (by omega : _ < 184) N_0.symm⟩

theorem rowPt_prev (t : Fin cfg0.N) (h : t.val % 23 ≠ 0) (h' : t.val - 1 < cfg0.N) : rowPt t = rowPt ⟨t.val - 1, h'⟩ :=
  Fin.ext (by unfold rowPt; dsimp only; omega)
theorem rowPt_first (t : Fin cfg0.N) (h : t.val % 23 = 0) : rowPt t = t := Fin.ext (by unfold rowPt; dsimp only; omega)
theorem segPt_prev (s k : Fin 23) (hs : s ≤ k) (t : Fin cfg0.N) (h : k.val < t.val % 23) (h' : t.val - 1 < cfg0.N) :
    segPt s k t = segPt s k ⟨t.val - 1, h'⟩ :=
  Fin.ext (by have : s.val ≤ k.val := hs; unfold segPt; dsimp only; omega)
theorem segPt_live (s k : Fin 23) (t : Fin cfg0.N) (h : s.val ≤ t.val % 23) (h' : t.val % 23 ≤ k.val) : segPt s k t = t :=
  Fin.ext (by unfold segPt; dsimp only; omega)

/-- A point's column. -/
theorem col (t : Fin cfg0.N) : (grid0.coords t 1).val = t.val % 23 :=
  (by decide +kernel : ∀ t : Fin grid0.N, (grid0.coords t 1).val = t.val % 23) t

/-- The normalized rows of a point's row block. -/
def H (c : Dev nD) (t : Fin cfg0.N) : Vec F S1024x2048 .bf16 := k0_pay6 (iblk m c 1 (rowPt t)) (iblk m c 0 (rowPt t))

/-- The scratch the body keeps the normalized rows in. -/
abbrev scM : Memref sig .tc .vmem S1024x2048 .bf16 := Memref.whole cc0_scratch0

/-- The region's invariant before position `n`: the scratch at anything before the first point, afterwards at the normalized
    rows of the point before. -/
def PhiS (c : Dev nD) : (n : ℕ) → n ≤ cfg0.N → sProp 𝕄
  | 0, _ => Pipeline.ΦA spec0 c
  | n + 1, hn => iprop(owns (c : Thread nD τ) scM fullShare (H m c ⟨n, hn⟩) ∗ (∃ r, prngReg c r))

theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- At any position the scratch holds something, after the first point the normalized rows of the point before. -/
theorem PhiS_open (c : Dev nD) (n : ℕ) (h : n ≤ cfg0.N) :
    PhiS m c n h ⊢ iprop(∃ xs, ⌜∀ h0 : n ≠ 0, xs = H m c ⟨n - 1, by omega⟩⌝ ∗ owns (c : Thread nD τ) scM fullShare xs ∗ (∃ r, prngReg c r)) := by
  cases n with
  | zero =>
    unfold PhiS; rw [PhiA0_eq]
    iintro ⟨⟨%d, Hs⟩, Hg⟩
    iexists d
    isplitr; · (ipureintro; exact fun h0 => absurd rfl h0)
    isplitl [Hs]; · iexact Hs
    iexact Hg
  | succ n =>
    unfold PhiS
    iintro ⟨Hs, Hg⟩
    iexists _
    isplitr
    swap
    · isplitl [Hs]; · iexact Hs
      iexact Hg
    ipureintro; exact fun _ => rfl

/-- The proof data: an input's buffer stays at its block; an output's ends at what the body stores at the nearest point of the
    output's segment in the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => iblk m c 3 t
    | ⟨4, _⟩ => iblk m c 4 t
    | ⟨5, _⟩ => iblk m c 5 t
    | ⟨6, _⟩ => k0_pay7 (H m c t) (wblk m c (segPt 0 1 t))
    | ⟨7, _⟩ => k0_pay9 (H m c t) (wblk m c (segPt 2 3 t))
    | ⟨8, _⟩ => k0_pay10 (H m c t) (wblk m c (segPt 2 3 t))
    | ⟨9, _⟩ => k0_pay12 (H m c t) (wblk m c (segPt 4 5 t))
    | ⟨10, _⟩ => k0_pay13 (H m c t) (wblk m c (segPt 4 5 t))
    | ⟨11, _⟩ => k0_pay14 (H m c t) (wblk m c (segPt 6 9 t))
    | ⟨12, _⟩ => k0_pay15 (H m c t) (iblk m c 4 (segPt 10 13 t))
    | ⟨13, _⟩ => k0_pay1 (H m c t) (iblk m c 4 (segPt 14 21 t))
    | ⟨14, _⟩ => k0_pay3 (H m c t) (iblk m c 3 (segPt 22 22 t))
    | ⟨15, _⟩ => k0_pay4 (H m c t) (iblk m c 3 (segPt 22 22 t))
    | ⟨16, _⟩ => k0_pay5 (H m c t) (iblk m c 5 (segPt 22 22 t))
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay7 (H m c t) (wblk m c (segPt 0 1 t)) := by dsimp only [dats]
theorem after0_7 (c : Dev nD) (t : Fin cfg0.N) : (dats m 0 c).after 7 t = k0_pay9 (H m c t) (wblk m c (segPt 2 3 t)) := by dsimp only [dats]
theorem after0_8 (c : Dev nD) (t : Fin cfg0.N) : (dats m 0 c).after 8 t = k0_pay10 (H m c t) (wblk m c (segPt 2 3 t)) := by dsimp only [dats]
theorem after0_9 (c : Dev nD) (t : Fin cfg0.N) : (dats m 0 c).after 9 t = k0_pay12 (H m c t) (wblk m c (segPt 4 5 t)) := by dsimp only [dats]
theorem after0_10 (c : Dev nD) (t : Fin cfg0.N) : (dats m 0 c).after 10 t = k0_pay13 (H m c t) (wblk m c (segPt 4 5 t)) := by dsimp only [dats]
theorem after0_11 (c : Dev nD) (t : Fin cfg0.N) : (dats m 0 c).after 11 t = k0_pay14 (H m c t) (wblk m c (segPt 6 9 t)) := by dsimp only [dats]
theorem after0_12 (c : Dev nD) (t : Fin cfg0.N) : (dats m 0 c).after 12 t = k0_pay15 (H m c t) (iblk m c 4 (segPt 10 13 t)) := by dsimp only [dats]
theorem after0_13 (c : Dev nD) (t : Fin cfg0.N) : (dats m 0 c).after 13 t = k0_pay1 (H m c t) (iblk m c 4 (segPt 14 21 t)) := by dsimp only [dats]
theorem after0_14 (c : Dev nD) (t : Fin cfg0.N) : (dats m 0 c).after 14 t = k0_pay3 (H m c t) (iblk m c 3 (segPt 22 22 t)) := by dsimp only [dats]
theorem after0_15 (c : Dev nD) (t : Fin cfg0.N) : (dats m 0 c).after 15 t = k0_pay4 (H m c t) (iblk m c 3 (segPt 22 22 t)) := by dsimp only [dats]
theorem after0_16 (c : Dev nD) (t : Fin cfg0.N) : (dats m 0 c).after 16 t = k0_pay5 (H m c t) (iblk m c 5 (segPt 22 22 t)) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = wblk m c t :=
  ((dats m 0 c).before_in_eq_fetched 2 rfl (fun _ => rfl) (fun t t' _ => funext fun a => (clip2 t a).trans (clip2 t' a).symm)
    (fun t => by rw [after0_2]; unfold wblk; rw [Pipeline.Window.cut_fill]; unfold Dat.blockOf iblk; rw [A_eq]) t d).trans
    (((dats m 0 c).fetched_of_clip_none 2 t (clip2 t) d (fun _ => Classical.arbitrary (Elt F (cfg0.win 2).elt))).trans
    (by unfold Dat.fetched Dat.blockOf wblk iblk; rw [A_eq]))
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

end Cert.Inproj

end
-- ==== Proof.Inproj.Outs.lean ====
/-
  WHAT THE OUTPUTS' BUFFERS HOLD: an output is stored at its segment's points and kept at the others.
-/
module

public import proofs.«01_k».proof.Proof.Inproj.Data

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem fresh_6 : ∀ n, n ≤ cfg0.N → cfg0.fresh 6 n = decide (n % 23 ≤ 1) :=
  cfg0.fresh_tab 6 (fun n => decide (n % 23 ≤ 1)) rfl
    (by decide +kernel : ∀ t : Fin grid0.N, decide ((t.val + 1) % 23 ≤ 1) = (win0_6.flush t || (!(k0_cond2 (grid0.coords t) == 1#1) && decide (t.val % 23 ≤ 1))))
theorem flush_6 : ∀ t : Fin cfg0.N, (cfg0.win 6).flush t = true → ¬(k0_cond2 (grid0.coords t) = 1#1) → 1 < t.val % 23 :=
  (by decide +kernel : ∀ t : Fin grid0.N, win0_6.flush t = true → ¬(k0_cond2 (grid0.coords t) = 1#1) → 1 < t.val % 23)
theorem carry_6 (c : Dev nD) (t : Fin cfg0.N) (h : 1 < t.val % 23) (h' : t.val - 1 < cfg0.N) :
    (dats m 0 c).after 6 t = (dats m 0 c).after 6 ⟨t.val - 1, h'⟩ := by
  rw [after0_6, after0_6]; unfold H
  rw [rowPt_prev t (by omega) h', segPt_prev 0 1 (by decide) t h h']
theorem before_6 (c : Dev nD) (t : Fin cfg0.N) (d) :
    (dats m 0 c).before 6 t d = if cfg0.fresh 6 t.val then d else (dats m 0 c).after 6 ⟨t.val - 1, by omega⟩ :=
  (dats m 0 c).before_out_traj 6 rfl (fun _ _ => rfl) (fun t _ _ hf => carry_6 m c t (by
    rw [fresh_6 _ (Nat.le_of_lt t.isLt)] at hf; simpa using hf) _) _ t rfl d
/-- What the body leaves in window 6's buffer is what the obligation asks for. -/
theorem out_6 (c : Dev nD) (t : Fin cfg0.N) (hs : Vec F S1024x2048 .bf16) (h : hs = H m c t) (d) :
    owns (c : Thread nD τ) ((cfg0.win 6).stage (cfg0.slots t 6)) fullShare
      (if k0_cond2 (grid0.coords t) = 1#1 then k0_pay7 hs (wblk m c t) else (dats m 0 c).before 6 t d)
    ⊢ (dats m 0 c).leavesExact 6 t := by
  subst h
  by_cases hc : k0_cond2 (grid0.coords t) = 1#1
  · rw [if_pos hc]
    have hi : cfg0.idle 6 (cfg0.grid.coords t) = false := by
      show (!(k0_cond2 (grid0.coords t) == 1#1)) = false
      rw [hc]; rfl
    have hj := (hc2 (grid0.coords t)).mp hc
    rw [col] at hj
    unfold Dat.leavesExact; rw [hi, after0_6, segPt_live 0 1 t (by have := hj.1; exact this) (Nat.le_of_lt_succ hj.2)]
  · rw [if_neg hc]
    have hi : cfg0.idle 6 (cfg0.grid.coords t) = true := by
      show (!(k0_cond2 (grid0.coords t) == 1#1)) = true
      simp only [beq_eq_false_iff_ne.mpr hc, Bool.not_false]
    cases hf : (cfg0.win 6).flush t with
    | false =>
      rw [Dat.leavesExact_idle _ _ _ hi hf]
      iintro H; iexists d; iexact H
    | true =>
      have hk := flush_6 t hf hc
      have hb : (dats m 0 c).before 6 t d = (dats m 0 c).after 6 t := by
        rw [before_6, fresh_6 _ (Nat.le_of_lt t.isLt), if_neg (by simpa using hk)]
        exact (carry_6 m c t hk _).symm
      rw [hb]; unfold Dat.leavesExact; rw [hi, hf]

theorem fresh_7 : ∀ n, n ≤ cfg0.N → cfg0.fresh 7 n = decide (n % 23 ≤ 3) :=
  cfg0.fresh_tab 7 (fun n => decide (n % 23 ≤ 3)) rfl
    (by decide +kernel : ∀ t : Fin grid0.N, decide ((t.val + 1) % 23 ≤ 3) = (win0_7.flush t || (!(k0_cond3 (grid0.coords t) == 1#1) && decide (t.val % 23 ≤ 3))))
theorem flush_7 : ∀ t : Fin cfg0.N, (cfg0.win 7).flush t = true → ¬(k0_cond3 (grid0.coords t) = 1#1) → 3 < t.val % 23 :=
  (by decide +kernel : ∀ t : Fin grid0.N, win0_7.flush t = true → ¬(k0_cond3 (grid0.coords t) = 1#1) → 3 < t.val % 23)
theorem carry_7 (c : Dev nD) (t : Fin cfg0.N) (h : 3 < t.val % 23) (h' : t.val - 1 < cfg0.N) :
    (dats m 0 c).after 7 t = (dats m 0 c).after 7 ⟨t.val - 1, h'⟩ := by
  rw [after0_7, after0_7]; unfold H
  rw [rowPt_prev t (by omega) h', segPt_prev 2 3 (by decide) t h h']
theorem before_7 (c : Dev nD) (t : Fin cfg0.N) (d) :
    (dats m 0 c).before 7 t d = if cfg0.fresh 7 t.val then d else (dats m 0 c).after 7 ⟨t.val - 1, by omega⟩ :=
  (dats m 0 c).before_out_traj 7 rfl (fun _ _ => rfl) (fun t _ _ hf => carry_7 m c t (by
    rw [fresh_7 _ (Nat.le_of_lt t.isLt)] at hf; simpa using hf) _) _ t rfl d
/-- What the body leaves in window 7's buffer is what the obligation asks for. -/
theorem out_7 (c : Dev nD) (t : Fin cfg0.N) (hs : Vec F S1024x2048 .bf16) (h : hs = H m c t) (d) :
    owns (c : Thread nD τ) ((cfg0.win 7).stage (cfg0.slots t 7)) fullShare
      (if k0_cond3 (grid0.coords t) = 1#1 then k0_pay9 hs (wblk m c t) else (dats m 0 c).before 7 t d)
    ⊢ (dats m 0 c).leavesExact 7 t := by
  subst h
  by_cases hc : k0_cond3 (grid0.coords t) = 1#1
  · rw [if_pos hc]
    have hi : cfg0.idle 7 (cfg0.grid.coords t) = false := by
      show (!(k0_cond3 (grid0.coords t) == 1#1)) = false
      rw [hc]; rfl
    have hj := (hc3 (grid0.coords t)).mp hc
    rw [col] at hj
    unfold Dat.leavesExact; rw [hi, after0_7, segPt_live 2 3 t (by have := hj.1; exact this) (Nat.le_of_lt_succ hj.2)]
  · rw [if_neg hc]
    have hi : cfg0.idle 7 (cfg0.grid.coords t) = true := by
      show (!(k0_cond3 (grid0.coords t) == 1#1)) = true
      simp only [beq_eq_false_iff_ne.mpr hc, Bool.not_false]
    cases hf : (cfg0.win 7).flush t with
    | false =>
      rw [Dat.leavesExact_idle _ _ _ hi hf]
      iintro H; iexists d; iexact H
    | true =>
      have hk := flush_7 t hf hc
      have hb : (dats m 0 c).before 7 t d = (dats m 0 c).after 7 t := by
        rw [before_7, fresh_7 _ (Nat.le_of_lt t.isLt), if_neg (by simpa using hk)]
        exact (carry_7 m c t hk _).symm
      rw [hb]; unfold Dat.leavesExact; rw [hi, hf]

theorem fresh_8 : ∀ n, n ≤ cfg0.N → cfg0.fresh 8 n = decide (n % 23 ≤ 3) :=
  cfg0.fresh_tab 8 (fun n => decide (n % 23 ≤ 3)) rfl
    (by decide +kernel : ∀ t : Fin grid0.N, decide ((t.val + 1) % 23 ≤ 3) = (win0_8.flush t || (!(k0_cond3 (grid0.coords t) == 1#1) && decide (t.val % 23 ≤ 3))))
theorem flush_8 : ∀ t : Fin cfg0.N, (cfg0.win 8).flush t = true → ¬(k0_cond3 (grid0.coords t) = 1#1) → 3 < t.val % 23 :=
  (by decide +kernel : ∀ t : Fin grid0.N, win0_8.flush t = true → ¬(k0_cond3 (grid0.coords t) = 1#1) → 3 < t.val % 23)
theorem carry_8 (c : Dev nD) (t : Fin cfg0.N) (h : 3 < t.val % 23) (h' : t.val - 1 < cfg0.N) :
    (dats m 0 c).after 8 t = (dats m 0 c).after 8 ⟨t.val - 1, h'⟩ := by
  rw [after0_8, after0_8]; unfold H
  rw [rowPt_prev t (by omega) h', segPt_prev 2 3 (by decide) t h h']
theorem before_8 (c : Dev nD) (t : Fin cfg0.N) (d) :
    (dats m 0 c).before 8 t d = if cfg0.fresh 8 t.val then d else (dats m 0 c).after 8 ⟨t.val - 1, by omega⟩ :=
  (dats m 0 c).before_out_traj 8 rfl (fun _ _ => rfl) (fun t _ _ hf => carry_8 m c t (by
    rw [fresh_8 _ (Nat.le_of_lt t.isLt)] at hf; simpa using hf) _) _ t rfl d
/-- What the body leaves in window 8's buffer is what the obligation asks for. -/
theorem out_8 (c : Dev nD) (t : Fin cfg0.N) (hs : Vec F S1024x2048 .bf16) (h : hs = H m c t) (d) :
    owns (c : Thread nD τ) ((cfg0.win 8).stage (cfg0.slots t 8)) fullShare
      (if k0_cond3 (grid0.coords t) = 1#1 then k0_pay10 hs (wblk m c t) else (dats m 0 c).before 8 t d)
    ⊢ (dats m 0 c).leavesExact 8 t := by
  subst h
  by_cases hc : k0_cond3 (grid0.coords t) = 1#1
  · rw [if_pos hc]
    have hi : cfg0.idle 8 (cfg0.grid.coords t) = false := by
      show (!(k0_cond3 (grid0.coords t) == 1#1)) = false
      rw [hc]; rfl
    have hj := (hc3 (grid0.coords t)).mp hc
    rw [col] at hj
    unfold Dat.leavesExact; rw [hi, after0_8, segPt_live 2 3 t (by have := hj.1; exact this) (Nat.le_of_lt_succ hj.2)]
  · rw [if_neg hc]
    have hi : cfg0.idle 8 (cfg0.grid.coords t) = true := by
      show (!(k0_cond3 (grid0.coords t) == 1#1)) = true
      simp only [beq_eq_false_iff_ne.mpr hc, Bool.not_false]
    cases hf : (cfg0.win 8).flush t with
    | false =>
      rw [Dat.leavesExact_idle _ _ _ hi hf]
      iintro H; iexists d; iexact H
    | true =>
      have hk := flush_8 t hf hc
      have hb : (dats m 0 c).before 8 t d = (dats m 0 c).after 8 t := by
        rw [before_8, fresh_8 _ (Nat.le_of_lt t.isLt), if_neg (by simpa using hk)]
        exact (carry_8 m c t hk _).symm
      rw [hb]; unfold Dat.leavesExact; rw [hi, hf]

theorem fresh_9 : ∀ n, n ≤ cfg0.N → cfg0.fresh 9 n = decide (n % 23 ≤ 5) :=
  cfg0.fresh_tab 9 (fun n => decide (n % 23 ≤ 5)) rfl
    (by decide +kernel : ∀ t : Fin grid0.N, decide ((t.val + 1) % 23 ≤ 5) = (win0_9.flush t || (!(k0_cond4 (grid0.coords t) == 1#1) && decide (t.val % 23 ≤ 5))))
theorem flush_9 : ∀ t : Fin cfg0.N, (cfg0.win 9).flush t = true → ¬(k0_cond4 (grid0.coords t) = 1#1) → 5 < t.val % 23 :=
  (by decide +kernel : ∀ t : Fin grid0.N, win0_9.flush t = true → ¬(k0_cond4 (grid0.coords t) = 1#1) → 5 < t.val % 23)
theorem carry_9 (c : Dev nD) (t : Fin cfg0.N) (h : 5 < t.val % 23) (h' : t.val - 1 < cfg0.N) :
    (dats m 0 c).after 9 t = (dats m 0 c).after 9 ⟨t.val - 1, h'⟩ := by
  rw [after0_9, after0_9]; unfold H
  rw [rowPt_prev t (by omega) h', segPt_prev 4 5 (by decide) t h h']
theorem before_9 (c : Dev nD) (t : Fin cfg0.N) (d) :
    (dats m 0 c).before 9 t d = if cfg0.fresh 9 t.val then d else (dats m 0 c).after 9 ⟨t.val - 1, by omega⟩ :=
  (dats m 0 c).before_out_traj 9 rfl (fun _ _ => rfl) (fun t _ _ hf => carry_9 m c t (by
    rw [fresh_9 _ (Nat.le_of_lt t.isLt)] at hf; simpa using hf) _) _ t rfl d
/-- What the body leaves in window 9's buffer is what the obligation asks for. -/
theorem out_9 (c : Dev nD) (t : Fin cfg0.N) (hs : Vec F S1024x2048 .bf16) (h : hs = H m c t) (d) :
    owns (c : Thread nD τ) ((cfg0.win 9).stage (cfg0.slots t 9)) fullShare
      (if k0_cond4 (grid0.coords t) = 1#1 then k0_pay12 hs (wblk m c t) else (dats m 0 c).before 9 t d)
    ⊢ (dats m 0 c).leavesExact 9 t := by
  subst h
  by_cases hc : k0_cond4 (grid0.coords t) = 1#1
  · rw [if_pos hc]
    have hi : cfg0.idle 9 (cfg0.grid.coords t) = false := by
      show (!(k0_cond4 (grid0.coords t) == 1#1)) = false
      rw [hc]; rfl
    have hj := (hc4 (grid0.coords t)).mp hc
    rw [col] at hj
    unfold Dat.leavesExact; rw [hi, after0_9, segPt_live 4 5 t (by have := hj.1; exact this) (Nat.le_of_lt_succ hj.2)]
  · rw [if_neg hc]
    have hi : cfg0.idle 9 (cfg0.grid.coords t) = true := by
      show (!(k0_cond4 (grid0.coords t) == 1#1)) = true
      simp only [beq_eq_false_iff_ne.mpr hc, Bool.not_false]
    cases hf : (cfg0.win 9).flush t with
    | false =>
      rw [Dat.leavesExact_idle _ _ _ hi hf]
      iintro H; iexists d; iexact H
    | true =>
      have hk := flush_9 t hf hc
      have hb : (dats m 0 c).before 9 t d = (dats m 0 c).after 9 t := by
        rw [before_9, fresh_9 _ (Nat.le_of_lt t.isLt), if_neg (by simpa using hk)]
        exact (carry_9 m c t hk _).symm
      rw [hb]; unfold Dat.leavesExact; rw [hi, hf]

theorem fresh_10 : ∀ n, n ≤ cfg0.N → cfg0.fresh 10 n = decide (n % 23 ≤ 5) :=
  cfg0.fresh_tab 10 (fun n => decide (n % 23 ≤ 5)) rfl
    (by decide +kernel : ∀ t : Fin grid0.N, decide ((t.val + 1) % 23 ≤ 5) = (win0_10.flush t || (!(k0_cond4 (grid0.coords t) == 1#1) && decide (t.val % 23 ≤ 5))))
theorem flush_10 : ∀ t : Fin cfg0.N, (cfg0.win 10).flush t = true → ¬(k0_cond4 (grid0.coords t) = 1#1) → 5 < t.val % 23 :=
  (by decide +kernel : ∀ t : Fin grid0.N, win0_10.flush t = true → ¬(k0_cond4 (grid0.coords t) = 1#1) → 5 < t.val % 23)
theorem carry_10 (c : Dev nD) (t : Fin cfg0.N) (h : 5 < t.val % 23) (h' : t.val - 1 < cfg0.N) :
    (dats m 0 c).after 10 t = (dats m 0 c).after 10 ⟨t.val - 1, h'⟩ := by
  rw [after0_10, after0_10]; unfold H
  rw [rowPt_prev t (by omega) h', segPt_prev 4 5 (by decide) t h h']
theorem before_10 (c : Dev nD) (t : Fin cfg0.N) (d) :
    (dats m 0 c).before 10 t d = if cfg0.fresh 10 t.val then d else (dats m 0 c).after 10 ⟨t.val - 1, by omega⟩ :=
  (dats m 0 c).before_out_traj 10 rfl (fun _ _ => rfl) (fun t _ _ hf => carry_10 m c t (by
    rw [fresh_10 _ (Nat.le_of_lt t.isLt)] at hf; simpa using hf) _) _ t rfl d
/-- What the body leaves in window 10's buffer is what the obligation asks for. -/
theorem out_10 (c : Dev nD) (t : Fin cfg0.N) (hs : Vec F S1024x2048 .bf16) (h : hs = H m c t) (d) :
    owns (c : Thread nD τ) ((cfg0.win 10).stage (cfg0.slots t 10)) fullShare
      (if k0_cond4 (grid0.coords t) = 1#1 then k0_pay13 hs (wblk m c t) else (dats m 0 c).before 10 t d)
    ⊢ (dats m 0 c).leavesExact 10 t := by
  subst h
  by_cases hc : k0_cond4 (grid0.coords t) = 1#1
  · rw [if_pos hc]
    have hi : cfg0.idle 10 (cfg0.grid.coords t) = false := by
      show (!(k0_cond4 (grid0.coords t) == 1#1)) = false
      rw [hc]; rfl
    have hj := (hc4 (grid0.coords t)).mp hc
    rw [col] at hj
    unfold Dat.leavesExact; rw [hi, after0_10, segPt_live 4 5 t (by have := hj.1; exact this) (Nat.le_of_lt_succ hj.2)]
  · rw [if_neg hc]
    have hi : cfg0.idle 10 (cfg0.grid.coords t) = true := by
      show (!(k0_cond4 (grid0.coords t) == 1#1)) = true
      simp only [beq_eq_false_iff_ne.mpr hc, Bool.not_false]
    cases hf : (cfg0.win 10).flush t with
    | false =>
      rw [Dat.leavesExact_idle _ _ _ hi hf]
      iintro H; iexists d; iexact H
    | true =>
      have hk := flush_10 t hf hc
      have hb : (dats m 0 c).before 10 t d = (dats m 0 c).after 10 t := by
        rw [before_10, fresh_10 _ (Nat.le_of_lt t.isLt), if_neg (by simpa using hk)]
        exact (carry_10 m c t hk _).symm
      rw [hb]; unfold Dat.leavesExact; rw [hi, hf]

theorem fresh_11 : ∀ n, n ≤ cfg0.N → cfg0.fresh 11 n = decide (n % 23 ≤ 9) :=
  cfg0.fresh_tab 11 (fun n => decide (n % 23 ≤ 9)) rfl
    (by decide +kernel : ∀ t : Fin grid0.N, decide ((t.val + 1) % 23 ≤ 9) = (win0_11.flush t || (!(k0_cond5 (grid0.coords t) == 1#1) && decide (t.val % 23 ≤ 9))))
theorem flush_11 : ∀ t : Fin cfg0.N, (cfg0.win 11).flush t = true → ¬(k0_cond5 (grid0.coords t) = 1#1) → 9 < t.val % 23 :=
  (by decide +kernel : ∀ t : Fin grid0.N, win0_11.flush t = true → ¬(k0_cond5 (grid0.coords t) = 1#1) → 9 < t.val % 23)
theorem carry_11 (c : Dev nD) (t : Fin cfg0.N) (h : 9 < t.val % 23) (h' : t.val - 1 < cfg0.N) :
    (dats m 0 c).after 11 t = (dats m 0 c).after 11 ⟨t.val - 1, h'⟩ := by
  rw [after0_11, after0_11]; unfold H
  rw [rowPt_prev t (by omega) h', segPt_prev 6 9 (by decide) t h h']
theorem before_11 (c : Dev nD) (t : Fin cfg0.N) (d) :
    (dats m 0 c).before 11 t d = if cfg0.fresh 11 t.val then d else (dats m 0 c).after 11 ⟨t.val - 1, by omega⟩ :=
  (dats m 0 c).before_out_traj 11 rfl (fun _ _ => rfl) (fun t _ _ hf => carry_11 m c t (by
    rw [fresh_11 _ (Nat.le_of_lt t.isLt)] at hf; simpa using hf) _) _ t rfl d
/-- What the body leaves in window 11's buffer is what the obligation asks for. -/
theorem out_11 (c : Dev nD) (t : Fin cfg0.N) (hs : Vec F S1024x2048 .bf16) (h : hs = H m c t) (d) :
    owns (c : Thread nD τ) ((cfg0.win 11).stage (cfg0.slots t 11)) fullShare
      (if k0_cond5 (grid0.coords t) = 1#1 then k0_pay14 hs (wblk m c t) else (dats m 0 c).before 11 t d)
    ⊢ (dats m 0 c).leavesExact 11 t := by
  subst h
  by_cases hc : k0_cond5 (grid0.coords t) = 1#1
  · rw [if_pos hc]
    have hi : cfg0.idle 11 (cfg0.grid.coords t) = false := by
      show (!(k0_cond5 (grid0.coords t) == 1#1)) = false
      rw [hc]; rfl
    have hj := (hc5 (grid0.coords t)).mp hc
    rw [col] at hj
    unfold Dat.leavesExact; rw [hi, after0_11, segPt_live 6 9 t (by have := hj.1; exact this) (Nat.le_of_lt_succ hj.2)]
  · rw [if_neg hc]
    have hi : cfg0.idle 11 (cfg0.grid.coords t) = true := by
      show (!(k0_cond5 (grid0.coords t) == 1#1)) = true
      simp only [beq_eq_false_iff_ne.mpr hc, Bool.not_false]
    cases hf : (cfg0.win 11).flush t with
    | false =>
      rw [Dat.leavesExact_idle _ _ _ hi hf]
      iintro H; iexists d; iexact H
    | true =>
      have hk := flush_11 t hf hc
      have hb : (dats m 0 c).before 11 t d = (dats m 0 c).after 11 t := by
        rw [before_11, fresh_11 _ (Nat.le_of_lt t.isLt), if_neg (by simpa using hk)]
        exact (carry_11 m c t hk _).symm
      rw [hb]; unfold Dat.leavesExact; rw [hi, hf]

theorem fresh_12 : ∀ n, n ≤ cfg0.N → cfg0.fresh 12 n = decide (n % 23 ≤ 13) :=
  cfg0.fresh_tab 12 (fun n => decide (n % 23 ≤ 13)) rfl
    (by decide +kernel : ∀ t : Fin grid0.N, decide ((t.val + 1) % 23 ≤ 13) = (win0_12.flush t || (!(k0_cond6 (grid0.coords t) == 1#1) && decide (t.val % 23 ≤ 13))))
theorem flush_12 : ∀ t : Fin cfg0.N, (cfg0.win 12).flush t = true → ¬(k0_cond6 (grid0.coords t) = 1#1) → 13 < t.val % 23 :=
  (by decide +kernel : ∀ t : Fin grid0.N, win0_12.flush t = true → ¬(k0_cond6 (grid0.coords t) = 1#1) → 13 < t.val % 23)
theorem carry_12 (c : Dev nD) (t : Fin cfg0.N) (h : 13 < t.val % 23) (h' : t.val - 1 < cfg0.N) :
    (dats m 0 c).after 12 t = (dats m 0 c).after 12 ⟨t.val - 1, h'⟩ := by
  rw [after0_12, after0_12]; unfold H
  rw [rowPt_prev t (by omega) h', segPt_prev 10 13 (by decide) t h h']
theorem before_12 (c : Dev nD) (t : Fin cfg0.N) (d) :
    (dats m 0 c).before 12 t d = if cfg0.fresh 12 t.val then d else (dats m 0 c).after 12 ⟨t.val - 1, by omega⟩ :=
  (dats m 0 c).before_out_traj 12 rfl (fun _ _ => rfl) (fun t _ _ hf => carry_12 m c t (by
    rw [fresh_12 _ (Nat.le_of_lt t.isLt)] at hf; simpa using hf) _) _ t rfl d
/-- What the body leaves in window 12's buffer is what the obligation asks for. -/
theorem out_12 (c : Dev nD) (t : Fin cfg0.N) (hs : Vec F S1024x2048 .bf16) (h : hs = H m c t) (d) :
    owns (c : Thread nD τ) ((cfg0.win 12).stage (cfg0.slots t 12)) fullShare
      (if k0_cond6 (grid0.coords t) = 1#1 then k0_pay15 hs (iblk m c 4 t) else (dats m 0 c).before 12 t d)
    ⊢ (dats m 0 c).leavesExact 12 t := by
  subst h
  by_cases hc : k0_cond6 (grid0.coords t) = 1#1
  · rw [if_pos hc]
    have hi : cfg0.idle 12 (cfg0.grid.coords t) = false := by
      show (!(k0_cond6 (grid0.coords t) == 1#1)) = false
      rw [hc]; rfl
    have hj := (hc6 (grid0.coords t)).mp hc
    rw [col] at hj
    unfold Dat.leavesExact; rw [hi, after0_12, segPt_live 10 13 t (by have := hj.1; exact this) (Nat.le_of_lt_succ hj.2)]
  · rw [if_neg hc]
    have hi : cfg0.idle 12 (cfg0.grid.coords t) = true := by
      show (!(k0_cond6 (grid0.coords t) == 1#1)) = true
      simp only [beq_eq_false_iff_ne.mpr hc, Bool.not_false]
    cases hf : (cfg0.win 12).flush t with
    | false =>
      rw [Dat.leavesExact_idle _ _ _ hi hf]
      iintro H; iexists d; iexact H
    | true =>
      have hk := flush_12 t hf hc
      have hb : (dats m 0 c).before 12 t d = (dats m 0 c).after 12 t := by
        rw [before_12, fresh_12 _ (Nat.le_of_lt t.isLt), if_neg (by simpa using hk)]
        exact (carry_12 m c t hk _).symm
      rw [hb]; unfold Dat.leavesExact; rw [hi, hf]

theorem fresh_13 : ∀ n, n ≤ cfg0.N → cfg0.fresh 13 n = decide (n % 23 ≤ 21) :=
  cfg0.fresh_tab 13 (fun n => decide (n % 23 ≤ 21)) rfl
    (by decide +kernel : ∀ t : Fin grid0.N, decide ((t.val + 1) % 23 ≤ 21) = (win0_13.flush t || (!(k0_cond7 (grid0.coords t) == 1#1) && decide (t.val % 23 ≤ 21))))
theorem flush_13 : ∀ t : Fin cfg0.N, (cfg0.win 13).flush t = true → ¬(k0_cond7 (grid0.coords t) = 1#1) → 21 < t.val % 23 :=
  (by decide +kernel : ∀ t : Fin grid0.N, win0_13.flush t = true → ¬(k0_cond7 (grid0.coords t) = 1#1) → 21 < t.val % 23)
theorem carry_13 (c : Dev nD) (t : Fin cfg0.N) (h : 21 < t.val % 23) (h' : t.val - 1 < cfg0.N) :
    (dats m 0 c).after 13 t = (dats m 0 c).after 13 ⟨t.val - 1, h'⟩ := by
  rw [after0_13, after0_13]; unfold H
  rw [rowPt_prev t (by omega) h', segPt_prev 14 21 (by decide) t h h']
theorem before_13 (c : Dev nD) (t : Fin cfg0.N) (d) :
    (dats m 0 c).before 13 t d = if cfg0.fresh 13 t.val then d else (dats m 0 c).after 13 ⟨t.val - 1, by omega⟩ :=
  (dats m 0 c).before_out_traj 13 rfl (fun _ _ => rfl) (fun t _ _ hf => carry_13 m c t (by
    rw [fresh_13 _ (Nat.le_of_lt t.isLt)] at hf; simpa using hf) _) _ t rfl d
/-- What the body leaves in window 13's buffer is what the obligation asks for. -/
theorem out_13 (c : Dev nD) (t : Fin cfg0.N) (hs : Vec F S1024x2048 .bf16) (h : hs = H m c t) (d) :
    owns (c : Thread nD τ) ((cfg0.win 13).stage (cfg0.slots t 13)) fullShare
      (if k0_cond7 (grid0.coords t) = 1#1 then k0_pay1 hs (iblk m c 4 t) else (dats m 0 c).before 13 t d)
    ⊢ (dats m 0 c).leavesExact 13 t := by
  subst h
  by_cases hc : k0_cond7 (grid0.coords t) = 1#1
  · rw [if_pos hc]
    have hi : cfg0.idle 13 (cfg0.grid.coords t) = false := by
      show (!(k0_cond7 (grid0.coords t) == 1#1)) = false
      rw [hc]; rfl
    have hj := (hc7 (grid0.coords t)).mp hc
    rw [col] at hj
    unfold Dat.leavesExact; rw [hi, after0_13, segPt_live 14 21 t (by have := hj.1; exact this) (Nat.le_of_lt_succ hj.2)]
  · rw [if_neg hc]
    have hi : cfg0.idle 13 (cfg0.grid.coords t) = true := by
      show (!(k0_cond7 (grid0.coords t) == 1#1)) = true
      simp only [beq_eq_false_iff_ne.mpr hc, Bool.not_false]
    cases hf : (cfg0.win 13).flush t with
    | false =>
      rw [Dat.leavesExact_idle _ _ _ hi hf]
      iintro H; iexists d; iexact H
    | true =>
      have hk := flush_13 t hf hc
      have hb : (dats m 0 c).before 13 t d = (dats m 0 c).after 13 t := by
        rw [before_13, fresh_13 _ (Nat.le_of_lt t.isLt), if_neg (by simpa using hk)]
        exact (carry_13 m c t hk _).symm
      rw [hb]; unfold Dat.leavesExact; rw [hi, hf]

theorem fresh_14 : ∀ n, n ≤ cfg0.N → cfg0.fresh 14 n = decide (n % 23 ≤ 22) :=
  cfg0.fresh_tab 14 (fun n => decide (n % 23 ≤ 22)) rfl
    (by decide +kernel : ∀ t : Fin grid0.N, decide ((t.val + 1) % 23 ≤ 22) = (win0_14.flush t || (!(k0_cond8 (grid0.coords t) == 1#1) && decide (t.val % 23 ≤ 22))))
theorem flush_14 : ∀ t : Fin cfg0.N, (cfg0.win 14).flush t = true → ¬(k0_cond8 (grid0.coords t) = 1#1) → 22 < t.val % 23 :=
  (by decide +kernel : ∀ t : Fin grid0.N, win0_14.flush t = true → ¬(k0_cond8 (grid0.coords t) = 1#1) → 22 < t.val % 23)
theorem carry_14 (c : Dev nD) (t : Fin cfg0.N) (h : 22 < t.val % 23) (h' : t.val - 1 < cfg0.N) :
    (dats m 0 c).after 14 t = (dats m 0 c).after 14 ⟨t.val - 1, h'⟩ := by
  rw [after0_14, after0_14]; unfold H
  rw [rowPt_prev t (by omega) h', segPt_prev 22 22 (by decide) t h h']
theorem before_14 (c : Dev nD) (t : Fin cfg0.N) (d) :
    (dats m 0 c).before 14 t d = if cfg0.fresh 14 t.val then d else (dats m 0 c).after 14 ⟨t.val - 1, by omega⟩ :=
  (dats m 0 c).before_out_traj 14 rfl (fun _ _ => rfl) (fun t _ _ hf => carry_14 m c t (by
    rw [fresh_14 _ (Nat.le_of_lt t.isLt)] at hf; simpa using hf) _) _ t rfl d
/-- What the body leaves in window 14's buffer is what the obligation asks for. -/
theorem out_14 (c : Dev nD) (t : Fin cfg0.N) (hs : Vec F S1024x2048 .bf16) (h : hs = H m c t) (d) :
    owns (c : Thread nD τ) ((cfg0.win 14).stage (cfg0.slots t 14)) fullShare
      (if k0_cond8 (grid0.coords t) = 1#1 then k0_pay3 hs (iblk m c 3 t) else (dats m 0 c).before 14 t d)
    ⊢ (dats m 0 c).leavesExact 14 t := by
  subst h
  by_cases hc : k0_cond8 (grid0.coords t) = 1#1
  · rw [if_pos hc]
    have hi : cfg0.idle 14 (cfg0.grid.coords t) = false := by
      show (!(k0_cond8 (grid0.coords t) == 1#1)) = false
      rw [hc]; rfl
    have hj := (hc8 (grid0.coords t)).mp hc
    rw [col] at hj
    unfold Dat.leavesExact; rw [hi, after0_14, segPt_live 22 22 t (by have := hj.1; exact this) (Nat.le_of_lt_succ hj.2)]
  · rw [if_neg hc]
    have hi : cfg0.idle 14 (cfg0.grid.coords t) = true := by
      show (!(k0_cond8 (grid0.coords t) == 1#1)) = true
      simp only [beq_eq_false_iff_ne.mpr hc, Bool.not_false]
    cases hf : (cfg0.win 14).flush t with
    | false =>
      rw [Dat.leavesExact_idle _ _ _ hi hf]
      iintro H; iexists d; iexact H
    | true =>
      have hk := flush_14 t hf hc
      have hb : (dats m 0 c).before 14 t d = (dats m 0 c).after 14 t := by
        rw [before_14, fresh_14 _ (Nat.le_of_lt t.isLt), if_neg (by simpa using hk)]
        exact (carry_14 m c t hk _).symm
      rw [hb]; unfold Dat.leavesExact; rw [hi, hf]

theorem fresh_15 : ∀ n, n ≤ cfg0.N → cfg0.fresh 15 n = decide (n % 23 ≤ 22) :=
  cfg0.fresh_tab 15 (fun n => decide (n % 23 ≤ 22)) rfl
    (by decide +kernel : ∀ t : Fin grid0.N, decide ((t.val + 1) % 23 ≤ 22) = (win0_15.flush t || (!(k0_cond8 (grid0.coords t) == 1#1) && decide (t.val % 23 ≤ 22))))
theorem flush_15 : ∀ t : Fin cfg0.N, (cfg0.win 15).flush t = true → ¬(k0_cond8 (grid0.coords t) = 1#1) → 22 < t.val % 23 :=
  (by decide +kernel : ∀ t : Fin grid0.N, win0_15.flush t = true → ¬(k0_cond8 (grid0.coords t) = 1#1) → 22 < t.val % 23)
theorem carry_15 (c : Dev nD) (t : Fin cfg0.N) (h : 22 < t.val % 23) (h' : t.val - 1 < cfg0.N) :
    (dats m 0 c).after 15 t = (dats m 0 c).after 15 ⟨t.val - 1, h'⟩ := by
  rw [after0_15, after0_15]; unfold H
  rw [rowPt_prev t (by omega) h', segPt_prev 22 22 (by decide) t h h']
theorem before_15 (c : Dev nD) (t : Fin cfg0.N) (d) :
    (dats m 0 c).before 15 t d = if cfg0.fresh 15 t.val then d else (dats m 0 c).after 15 ⟨t.val - 1, by omega⟩ :=
  (dats m 0 c).before_out_traj 15 rfl (fun _ _ => rfl) (fun t _ _ hf => carry_15 m c t (by
    rw [fresh_15 _ (Nat.le_of_lt t.isLt)] at hf; simpa using hf) _) _ t rfl d
/-- What the body leaves in window 15's buffer is what the obligation asks for. -/
theorem out_15 (c : Dev nD) (t : Fin cfg0.N) (hs : Vec F S1024x2048 .bf16) (h : hs = H m c t) (d) :
    owns (c : Thread nD τ) ((cfg0.win 15).stage (cfg0.slots t 15)) fullShare
      (if k0_cond8 (grid0.coords t) = 1#1 then k0_pay4 hs (iblk m c 3 t) else (dats m 0 c).before 15 t d)
    ⊢ (dats m 0 c).leavesExact 15 t := by
  subst h
  by_cases hc : k0_cond8 (grid0.coords t) = 1#1
  · rw [if_pos hc]
    have hi : cfg0.idle 15 (cfg0.grid.coords t) = false := by
      show (!(k0_cond8 (grid0.coords t) == 1#1)) = false
      rw [hc]; rfl
    have hj := (hc8 (grid0.coords t)).mp hc
    rw [col] at hj
    unfold Dat.leavesExact; rw [hi, after0_15, segPt_live 22 22 t (by have := hj.1; exact this) (Nat.le_of_lt_succ hj.2)]
  · rw [if_neg hc]
    have hi : cfg0.idle 15 (cfg0.grid.coords t) = true := by
      show (!(k0_cond8 (grid0.coords t) == 1#1)) = true
      simp only [beq_eq_false_iff_ne.mpr hc, Bool.not_false]
    cases hf : (cfg0.win 15).flush t with
    | false =>
      rw [Dat.leavesExact_idle _ _ _ hi hf]
      iintro H; iexists d; iexact H
    | true =>
      have hk := flush_15 t hf hc
      have hb : (dats m 0 c).before 15 t d = (dats m 0 c).after 15 t := by
        rw [before_15, fresh_15 _ (Nat.le_of_lt t.isLt), if_neg (by simpa using hk)]
        exact (carry_15 m c t hk _).symm
      rw [hb]; unfold Dat.leavesExact; rw [hi, hf]

theorem fresh_16 : ∀ n, n ≤ cfg0.N → cfg0.fresh 16 n = decide (n % 23 ≤ 22) :=
  cfg0.fresh_tab 16 (fun n => decide (n % 23 ≤ 22)) rfl
    (by decide +kernel : ∀ t : Fin grid0.N, decide ((t.val + 1) % 23 ≤ 22) = (win0_16.flush t || (!(k0_cond8 (grid0.coords t) == 1#1) && decide (t.val % 23 ≤ 22))))
theorem flush_16 : ∀ t : Fin cfg0.N, (cfg0.win 16).flush t = true → ¬(k0_cond8 (grid0.coords t) = 1#1) → 22 < t.val % 23 :=
  (by decide +kernel : ∀ t : Fin grid0.N, win0_16.flush t = true → ¬(k0_cond8 (grid0.coords t) = 1#1) → 22 < t.val % 23)
theorem carry_16 (c : Dev nD) (t : Fin cfg0.N) (h : 22 < t.val % 23) (h' : t.val - 1 < cfg0.N) :
    (dats m 0 c).after 16 t = (dats m 0 c).after 16 ⟨t.val - 1, h'⟩ := by
  rw [after0_16, after0_16]; unfold H
  rw [rowPt_prev t (by omega) h', segPt_prev 22 22 (by decide) t h h']
theorem before_16 (c : Dev nD) (t : Fin cfg0.N) (d) :
    (dats m 0 c).before 16 t d = if cfg0.fresh 16 t.val then d else (dats m 0 c).after 16 ⟨t.val - 1, by omega⟩ :=
  (dats m 0 c).before_out_traj 16 rfl (fun _ _ => rfl) (fun t _ _ hf => carry_16 m c t (by
    rw [fresh_16 _ (Nat.le_of_lt t.isLt)] at hf; simpa using hf) _) _ t rfl d
/-- What the body leaves in window 16's buffer is what the obligation asks for. -/
theorem out_16 (c : Dev nD) (t : Fin cfg0.N) (hs : Vec F S1024x2048 .bf16) (h : hs = H m c t) (d) :
    owns (c : Thread nD τ) ((cfg0.win 16).stage (cfg0.slots t 16)) fullShare
      (if k0_cond8 (grid0.coords t) = 1#1 then k0_pay5 hs (iblk m c 5 t) else (dats m 0 c).before 16 t d)
    ⊢ (dats m 0 c).leavesExact 16 t := by
  subst h
  by_cases hc : k0_cond8 (grid0.coords t) = 1#1
  · rw [if_pos hc]
    have hi : cfg0.idle 16 (cfg0.grid.coords t) = false := by
      show (!(k0_cond8 (grid0.coords t) == 1#1)) = false
      rw [hc]; rfl
    have hj := (hc8 (grid0.coords t)).mp hc
    rw [col] at hj
    unfold Dat.leavesExact; rw [hi, after0_16, segPt_live 22 22 t (by have := hj.1; exact this) (Nat.le_of_lt_succ hj.2)]
  · rw [if_neg hc]
    have hi : cfg0.idle 16 (cfg0.grid.coords t) = true := by
      show (!(k0_cond8 (grid0.coords t) == 1#1)) = true
      simp only [beq_eq_false_iff_ne.mpr hc, Bool.not_false]
    cases hf : (cfg0.win 16).flush t with
    | false =>
      rw [Dat.leavesExact_idle _ _ _ hi hf]
      iintro H; iexists d; iexact H
    | true =>
      have hk := flush_16 t hf hc
      have hb : (dats m 0 c).before 16 t d = (dats m 0 c).after 16 t := by
        rw [before_16, fresh_16 _ (Nat.le_of_lt t.isLt), if_neg (by simpa using hk)]
        exact (carry_16 m c t hk _).symm
      rw [hb]; unfold Dat.leavesExact; rw [hi, hf]

end Cert.Inproj

end
-- ==== Proof.Inproj.Run0.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run0 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : cond1 i) (h2 : k0_cond2 i = 1#1) (h3 : ¬(k0_cond3 i = 1#1)) (h4 : ¬(k0_cond4 i = 1#1)) (h5 : ¬(k0_cond5 i = 1#1)) (h6 : ¬(k0_cond6 i = 1#1)) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare (k0_pay7 (k0_pay6 x3 x2) x4)
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ owns (c : Thread nD τ) arg17 fullShare d17
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare (k0_pay6 x3 x2)) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    sl_unfold_words
    try simp only [View.readCov_unit_zero (S := S1024x2048) _ hz2]
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  sl_unfold_words
  try simp only [View.readCov_unit_zero (S := S1024x2048) _ hz2]
  refine (read_store _ _ hz2 _ _).trans ?_
  simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
end Cert.Inproj

end
-- ==== Proof.Inproj.Run1.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run1 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : k0_cond2 i = 1#1) (h3 : ¬(k0_cond3 i = 1#1)) (h4 : ¬(k0_cond4 i = 1#1)) (h5 : ¬(k0_cond5 i = 1#1)) (h6 : ¬(k0_cond6 i = 1#1)) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare (k0_pay7 xs x4)
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ owns (c : Thread nD τ) arg17 fullShare d17
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run2.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run2 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : k0_cond3 i = 1#1) (h4 : ¬(k0_cond4 i = 1#1)) (h5 : ¬(k0_cond5 i = 1#1)) (h6 : ¬(k0_cond6 i = 1#1)) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare (k0_pay9 xs x4)
        ∗ owns (c : Thread nD τ) arg13 fullShare (k0_pay10 xs x4)
        ∗ owns (c : Thread nD τ) arg14 fullShare d14
        ∗ owns (c : Thread nD τ) arg15 fullShare d15
        ∗ owns (c : Thread nD τ) arg16 fullShare d16
        ∗ owns (c : Thread nD τ) arg17 fullShare d17
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    sl_unfold_words
    refine (read_store _ _ hz3 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H13]
  · iexists _; isplitr
    swap
    · iexact H13
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run3.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run3 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : ¬(k0_cond3 i = 1#1)) (h4 : k0_cond4 i = 1#1) (h5 : ¬(k0_cond5 i = 1#1)) (h6 : ¬(k0_cond6 i = 1#1)) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare d12
        ∗ owns (c : Thread nD τ) arg13 fullShare d13
        ∗ owns (c : Thread nD τ) arg14 fullShare (k0_pay12 xs x4)
        ∗ owns (c : Thread nD τ) arg15 fullShare (k0_pay13 xs x4)
        ∗ owns (c : Thread nD τ) arg16 fullShare d16
        ∗ owns (c : Thread nD τ) arg17 fullShare d17
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    sl_unfold_words
    refine (read_store _ _ hz3 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H15]
  · iexists _; isplitr
    swap
    · iexact H15
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run4.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run4 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : ¬(k0_cond3 i = 1#1)) (h4 : ¬(k0_cond4 i = 1#1)) (h5 : k0_cond5 i = 1#1) (h6 : ¬(k0_cond6 i = 1#1)) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare (k0_pay14 xs x4)
        ∗ owns (c : Thread nD τ) arg17 fullShare d17
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run5.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run5 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : ¬(k0_cond3 i = 1#1)) (h4 : ¬(k0_cond4 i = 1#1)) (h5 : ¬(k0_cond5 i = 1#1)) (h6 : k0_cond6 i = 1#1) (h7 : ¬(k0_cond7 i = 1#1)) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ owns (c : Thread nD τ) arg17 fullShare (k0_pay15 xs x6)
        ∗ owns (c : Thread nD τ) arg18 fullShare d18
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H18]
  · iexists _; isplitr
    swap
    · iexact H18
    ipureintro
    exact harg18.read_unread _
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run6.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run6 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : ¬(k0_cond3 i = 1#1)) (h4 : ¬(k0_cond4 i = 1#1)) (h5 : ¬(k0_cond5 i = 1#1)) (h6 : ¬(k0_cond6 i = 1#1)) (h7 : k0_cond7 i = 1#1) (h8 : ¬(k0_cond8 i = 1#1))
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ owns (c : Thread nD τ) arg17 fullShare d17
        ∗ owns (c : Thread nD τ) arg18 fullShare (k0_pay1 xs x6)
        ∗ owns (c : Thread nD τ) arg19 fullShare d19
        ∗ owns (c : Thread nD τ) arg20 fullShare d20
        ∗ owns (c : Thread nD τ) arg21 fullShare d21
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H19]
  · iexists _; isplitr
    swap
    · iexact H19
    ipureintro
    exact harg19.read_unread _
  isplitl [H20]
  · iexists _; isplitr
    swap
    · iexact H20
    ipureintro
    exact harg20.read_unread _
  isplitl [H21]
  · iexists _; isplitr
    swap
    · iexact H21
    ipureintro
    exact harg21.read_unread _
  iexists _; isplitr
  swap
  · iexact H22
  ipureintro
  exact harg22.read_unread _
end Cert.Inproj

end
-- ==== Proof.Inproj.Run7.lean ====
/-
  THE BODY AT THE POINTS OF ONE SEGMENT of the input projection: what it stores, everything else kept.
-/
module

public import proofs.«01_k».proof.Proof.Inproj.Conds

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
theorem run7 (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (h1 : ¬(cond1 i)) (h2 : ¬(k0_cond2 i = 1#1)) (h3 : ¬(k0_cond3 i = 1#1)) (h4 : ¬(k0_cond4 i = 1#1)) (h5 : ¬(k0_cond5 i = 1#1)) (h6 : ¬(k0_cond6 i = 1#1)) (h7 : ¬(k0_cond7 i = 1#1)) (h8 : k0_cond8 i = 1#1)
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare d11
        ∗ owns (c : Thread nD τ) arg12 fullShare d12
        ∗ owns (c : Thread nD τ) arg13 fullShare d13
        ∗ owns (c : Thread nD τ) arg14 fullShare d14
        ∗ owns (c : Thread nD τ) arg15 fullShare d15
        ∗ owns (c : Thread nD τ) arg16 fullShare d16
        ∗ owns (c : Thread nD τ) arg17 fullShare d17
        ∗ owns (c : Thread nD τ) arg18 fullShare d18
        ∗ owns (c : Thread nD τ) arg19 fullShare (k0_pay3 xs x5)
        ∗ owns (c : Thread nD τ) arg20 fullShare (k0_pay4 xs x5)
        ∗ owns (c : Thread nD τ) arg21 fullShare (k0_pay5 xs x7)
        ∗ owns (c : Thread nD τ) arg22 fullShare xs) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_projection_eq_skeleton]; unfold cc0_in_projection_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact h1 | sl_exact h2 | sl_exact h3 | sl_exact h4 | sl_exact h5 | sl_exact h6 | sl_exact h7 | sl_exact h8)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H11]
  · iexists _; isplitr
    swap
    · iexact H11
    ipureintro
    exact harg11.read_unread _
  isplitl [H12]
  · iexists _; isplitr
    swap
    · iexact H12
    ipureintro
    exact harg12.read_unread _
  isplitl [H13]
  · iexists _; isplitr
    swap
    · iexact H13
    ipureintro
    exact harg13.read_unread _
  isplitl [H14]
  · iexists _; isplitr
    swap
    · iexact H14
    ipureintro
    exact harg14.read_unread _
  isplitl [H15]
  · iexists _; isplitr
    swap
    · iexact H15
    ipureintro
    exact harg15.read_unread _
  isplitl [H16]
  · iexists _; isplitr
    swap
    · iexact H16
    ipureintro
    exact harg16.read_unread _
  isplitl [H17]
  · iexists _; isplitr
    swap
    · iexact H17
    ipureintro
    exact harg17.read_unread _
  isplitl [H18]
  · iexists _; isplitr
    swap
    · iexact H18
    ipureintro
    exact harg18.read_unread _
  isplitl [H19]
  · iexists _; isplitr
    swap
    · iexact H19
    ipureintro
    sl_unfold_words
    refine (read_store _ _ hz3 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H20]
  · iexists _; isplitr
    swap
    · iexact H20
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  isplitl [H21]
  · iexists _; isplitr
    swap
    · iexact H21
    ipureintro
    sl_unfold_words
    refine (read_store _ _ hz2 _ _).trans ?_
    simp only [View.readAt_eq_ld, harg2.read_unread, harg3.read_unread, harg4.read_unread, harg5.read_unread, harg6.read_unread, harg7.read_unread, harg22.read_unread, View.ld_unit_zero (S := S1024x2048) hz2, View.ld_unit_zero (S := S1x2048) hz2, View.ld_unit_zero (S := S1x2048x512) hz3, View.ld_unit_zero (S := S1x2048x128) hz3]
  iexists _; isplitr
  swap
  · iexact H22
  ipureintro
  exact harg22.read_unread _
end Cert.Inproj

end
-- ==== Proof.Inproj.Run.lean ====
/-
  THE BODY AT ANY POINT of the input projection, its eight segments together.
-/
module

public import proofs.«01_k».proof.Proof.Inproj.Run0
public import proofs.«01_k».proof.Proof.Inproj.Run1
public import proofs.«01_k».proof.Proof.Inproj.Run2
public import proofs.«01_k».proof.Proof.Inproj.Run3
public import proofs.«01_k».proof.Proof.Inproj.Run4
public import proofs.«01_k».proof.Proof.Inproj.Run5
public import proofs.«01_k».proof.Proof.Inproj.Run6
public import proofs.«01_k».proof.Proof.Inproj.Run7

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at any point: the outputs of the segment the point lies in are stored, all else is kept. -/
theorem run (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .hbm S2x8192x1024 .f32) (harg8 : arg8.IsWhole) (arg9 : Memref sig .tc .hbm S2x8192x1024 .f32) (harg9 : arg9.IsWhole) (arg10 : Memref sig .tc .hbm S2x8192x128 .f32) (harg10 : arg10.IsWhole) (arg11 : Memref sig .tc .vmem S1024x512 .bf16) (harg11 : arg11.IsWhole) (arg12 : Memref sig .tc .vmem S1x1024x512 .f32) (harg12 : arg12.IsWhole) (arg13 : Memref sig .tc .vmem S1024x512 .bf16) (harg13 : arg13.IsWhole) (arg14 : Memref sig .tc .vmem S1x1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1x1024x128 .f32) (harg19 : arg19.IsWhole) (arg20 : Memref sig .tc .vmem S1024x128 .bf16) (harg20 : arg20.IsWhole) (arg21 : Memref sig .tc .vmem S1024x128 .f32) (harg21 : arg21.IsWhole) (arg22 : Memref sig .tc .vmem S1024x2048 .bf16) (harg22 : arg22.IsWhole)
    (x2 : Vec F S1x2048 .f32) (x3 : Vec F S1024x2048 .f32) (x4 : Vec F S1x2048x512 .bf16) (x5 : Vec F S1x2048x128 .bf16) (x6 : Vec F S1x2048x512 .bf16) (x7 : Vec F S1x2048x128 .bf16) (d11 : Vec F S1024x512 .bf16) (d12 : Vec F S1x1024x512 .f32) (d13 : Vec F S1024x512 .bf16) (d14 : Vec F S1x1024x512 .f32) (d15 : Vec F S1024x512 .bf16) (d16 : Vec F S1024x512 .bf16) (d17 : Vec F S1024x512 .bf16) (d18 : Vec F S1024x512 .bf16) (d19 : Vec F S1x1024x128 .f32) (d20 : Vec F S1024x128 .bf16) (d21 : Vec F S1024x128 .f32) (xs : Vec F S1024x2048 .bf16) (E : Set ℕ) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg11 fullShare d11
      ∗ owns (c : Thread nD τ) arg12 fullShare d12
      ∗ owns (c : Thread nD τ) arg13 fullShare d13
      ∗ owns (c : Thread nD τ) arg14 fullShare d14
      ∗ owns (c : Thread nD τ) arg15 fullShare d15
      ∗ owns (c : Thread nD τ) arg16 fullShare d16
      ∗ owns (c : Thread nD τ) arg17 fullShare d17
      ∗ owns (c : Thread nD τ) arg18 fullShare d18
      ∗ owns (c : Thread nD τ) arg19 fullShare d19
      ∗ owns (c : Thread nD τ) arg20 fullShare d20
      ∗ owns (c : Thread nD τ) arg21 fullShare d21
      ∗ owns (c : Thread nD τ) arg22 fullShare xs
      ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg11 fullShare (if k0_cond2 i = 1#1 then k0_pay7 (if cond1 i then k0_pay6 x3 x2 else xs) x4 else d11)
        ∗ owns (c : Thread nD τ) arg12 fullShare (if k0_cond3 i = 1#1 then k0_pay9 (if cond1 i then k0_pay6 x3 x2 else xs) x4 else d12)
        ∗ owns (c : Thread nD τ) arg13 fullShare (if k0_cond3 i = 1#1 then k0_pay10 (if cond1 i then k0_pay6 x3 x2 else xs) x4 else d13)
        ∗ owns (c : Thread nD τ) arg14 fullShare (if k0_cond4 i = 1#1 then k0_pay12 (if cond1 i then k0_pay6 x3 x2 else xs) x4 else d14)
        ∗ owns (c : Thread nD τ) arg15 fullShare (if k0_cond4 i = 1#1 then k0_pay13 (if cond1 i then k0_pay6 x3 x2 else xs) x4 else d15)
        ∗ owns (c : Thread nD τ) arg16 fullShare (if k0_cond5 i = 1#1 then k0_pay14 (if cond1 i then k0_pay6 x3 x2 else xs) x4 else d16)
        ∗ owns (c : Thread nD τ) arg17 fullShare (if k0_cond6 i = 1#1 then k0_pay15 (if cond1 i then k0_pay6 x3 x2 else xs) x6 else d17)
        ∗ owns (c : Thread nD τ) arg18 fullShare (if k0_cond7 i = 1#1 then k0_pay1 (if cond1 i then k0_pay6 x3 x2 else xs) x6 else d18)
        ∗ owns (c : Thread nD τ) arg19 fullShare (if k0_cond8 i = 1#1 then k0_pay3 (if cond1 i then k0_pay6 x3 x2 else xs) x5 else d19)
        ∗ owns (c : Thread nD τ) arg20 fullShare (if k0_cond8 i = 1#1 then k0_pay4 (if cond1 i then k0_pay6 x3 x2 else xs) x5 else d20)
        ∗ owns (c : Thread nD τ) arg21 fullShare (if k0_cond8 i = 1#1 then k0_pay5 (if cond1 i then k0_pay6 x3 x2 else xs) x7 else d21)
        ∗ owns (c : Thread nD τ) arg22 fullShare (if cond1 i then k0_pay6 x3 x2 else xs)) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  rcases cases8 i with ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩ | ⟨h1, h2, h3, h4, h5, h6, h7, h8⟩
  · simp only [if_pos h1, if_pos h2, if_neg h3, if_neg h4, if_neg h5, if_neg h6, if_neg h7, if_neg h8]
    exact run0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_pos h2, if_neg h3, if_neg h4, if_neg h5, if_neg h6, if_neg h7, if_neg h8]
    exact run1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_pos h3, if_neg h4, if_neg h5, if_neg h6, if_neg h7, if_neg h8]
    exact run2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_neg h3, if_pos h4, if_neg h5, if_neg h6, if_neg h7, if_neg h8]
    exact run3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_neg h3, if_neg h4, if_pos h5, if_neg h6, if_neg h7, if_neg h8]
    exact run4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_neg h3, if_neg h4, if_neg h5, if_pos h6, if_neg h7, if_neg h8]
    exact run5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_neg h3, if_neg h4, if_neg h5, if_neg h6, if_pos h7, if_neg h8]
    exact run6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K
  · simp only [if_neg h1, if_neg h2, if_neg h3, if_neg h4, if_neg h5, if_neg h6, if_neg h7, if_pos h8]
    exact run7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 h2 h3 h4 h5 h6 h7 h8 x2 x3 x4 x5 x6 x7 d11 d12 d13 d14 d15 d16 d17 d18 d19 d20 d21 xs E K

end Cert.Inproj

end
-- ==== Proof.Inproj.Frame.lean ====
/-
  THE LAUNCH of the input projection: the body at every point, the run of @main, the arguments unchanged.
-/
module

public import proofs.«01_k».proof.Proof.Inproj.Outs
public import proofs.«01_k».proof.Proof.Inproj.Run

@[expose] public section

set_option maxRecDepth 16384

noncomputable section

namespace Cert.Inproj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d))
    ∗ (∃ d, owns (c : Thread nD τ) ((cfg0.win 16).stage (cfg0.slots t 16)) fullShare ((dats m 0 c).before 16 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- The normalized rows at a point: computed at the row block's first, kept at the others. -/
theorem rows_eq (c : Dev nD) (t : Fin cfg0.N) (xs : Vec F S1024x2048 .bf16) (hx : ∀ h0 : t.val ≠ 0, xs = H m c ⟨t.val - 1, by omega⟩) :
    (if cond1 (grid0.coords t) then k0_pay6 (iblk m c 1 t) (iblk m c 0 t) else xs) = H m c t := by
  by_cases h : cond1 (grid0.coords t)
  · rw [if_pos h]
    have hj := (hc1 _).mp h
    rw [col] at hj
    unfold H; rw [rowPt_first t hj]
  · rw [if_neg h]
    have hj : t.val % 23 ≠ 0 := fun e => h ((hc1 _).mpr ((col t).trans e))
    have h0 : t.val ≠ 0 := by omega
    rw [hx h0]; unfold H; rw [rowPt_prev t hj (by omega)]

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, show (dats m 0 c).Φ t.succ = PhiS m c (t.val + 1) t.isLt from rfl, PhiS_castSucc m c t]
  rw [show (dats m 0 c).leavesExact 0 t = owns (c : Thread nD τ) ((cfg0.win 0).stage (cfg0.slots t 0)) fullShare (iblk m c 0 t) from by
    unfold Dat.leavesExact; rw [show cfg0.idle 0 (cfg0.grid.coords t) = false from rfl, after0_0]]
  rw [show (dats m 0 c).leavesExact 1 t = owns (c : Thread nD τ) ((cfg0.win 1).stage (cfg0.slots t 1)) fullShare (iblk m c 1 t) from by
    unfold Dat.leavesExact; rw [show cfg0.idle 1 (cfg0.grid.coords t) = false from rfl, after0_1]]
  rw [show (dats m 0 c).leavesExact 2 t = owns (c : Thread nD τ) ((cfg0.win 2).stage (cfg0.slots t 2)) fullShare (wblk m c t) from by
    unfold Dat.leavesExact; rw [show cfg0.idle 2 (cfg0.grid.coords t) = false from rfl, after0_2]]
  rw [show (dats m 0 c).leavesExact 3 t = owns (c : Thread nD τ) ((cfg0.win 3).stage (cfg0.slots t 3)) fullShare (iblk m c 3 t) from by
    unfold Dat.leavesExact; rw [show cfg0.idle 3 (cfg0.grid.coords t) = false from rfl, after0_3]]
  rw [show (dats m 0 c).leavesExact 4 t = owns (c : Thread nD τ) ((cfg0.win 4).stage (cfg0.slots t 4)) fullShare (iblk m c 4 t) from by
    unfold Dat.leavesExact; rw [show cfg0.idle 4 (cfg0.grid.coords t) = false from rfl, after0_4]]
  rw [show (dats m 0 c).leavesExact 5 t = owns (c : Thread nD τ) ((cfg0.win 5).stage (cfg0.slots t 5)) fullShare (iblk m c 5 t) from by
    unfold Dat.leavesExact; rw [show cfg0.idle 5 (cfg0.grid.coords t) = false from rfl, after0_5]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  ihave HΦ := (PhiS_open m c t.val (Nat.le_of_lt t.isLt)) $$ HΦ
  icases HΦ with ⟨%xs, %hx, Hs, Hg⟩
  have hr := rows_eq m c t xs hx
  iapply (run c (grid0.coords t) _ _ _ _ _ _ _ _ _ _ _ _ _ _ _ _ _ _ _ _ _ _ _ _ _ _ _ _ _ _ _ _ _ _ _ _ _ _ _ _ _ _ (iblk m c 0 t) (iblk m c 1 t) (wblk m c t) (iblk m c 3 t) (iblk m c 4 t) (iblk m c 5 t) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) ((dats m 0 c).before 16 t d16) xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hs]; · iexact Hs
  iintro ⟨H0, H1, H2, H3, H4, H5, H6, H7, H8, H9, H10, H11, H12, H13, H14, H15, H16, Hs⟩
  isplitl [Hs Hg]
  · unfold PhiS
    isplitl [Hs]
    · rw [← hr]; iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · (iapply (out_6 m c t _ hr d6); iexact H6)
  isplitl [H7]; · (iapply (out_7 m c t _ hr d7); iexact H7)
  isplitl [H8]; · (iapply (out_8 m c t _ hr d8); iexact H8)
  isplitl [H9]; · (iapply (out_9 m c t _ hr d9); iexact H9)
  isplitl [H10]; · (iapply (out_10 m c t _ hr d10); iexact H10)
  isplitl [H11]; · (iapply (out_11 m c t _ hr d11); iexact H11)
  isplitl [H12]; · (iapply (out_12 m c t _ hr d12); iexact H12)
  isplitl [H13]; · (iapply (out_13 m c t _ hr d13); iexact H13)
  isplitl [H14]; · (iapply (out_14 m c t _ hr d14); iexact H14)
  isplitl [H15]; · (iapply (out_15 m c t _ hr d15); iexact H15)
  iapply (out_16 m c t _ hr d16); iexact H16

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]; unfold PhiS
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  refine (PhiS_open m c _ _).trans ?_
  rw [PhiA0_eq]
  iintro ⟨%xs, -, Hs, Hg⟩
  isplitl [Hs]; · (iexists xs; iexact Hs)
  iexact Hg

set_option backward.isDefEq.respectTransparency.types false in
/-- Every execution of @main terminates; the arrays end at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end unchanged. -/
theorem args_kept (r) (h : Pipeline.FramePost cfgs (dats m) 0 (V m) r) (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (show ∀ w : Fin 17, (spec0 w).arr.view.ref ≠ main_arg0 by decide))).trans (V_args m c).1,
    ((h c).2 main_arg1 (Pipeline.mem_restRefs_of main_arg1 (by decide) (show ∀ w : Fin 17, (spec0 w).arr.view.ref ≠ main_arg1 by decide))).trans (V_args m c).2.1,
    ((h c).2 main_arg2 (Pipeline.mem_restRefs_of main_arg2 (by decide) (show ∀ w : Fin 17, (spec0 w).arr.view.ref ≠ main_arg2 by decide))).trans (V_args m c).2.2.1,
    ((h c).2 main_arg3 (Pipeline.mem_restRefs_of main_arg3 (by decide) (show ∀ w : Fin 17, (spec0 w).arr.view.ref ≠ main_arg3 by decide))).trans (V_args m c).2.2.2.1,
    ((h c).2 main_arg4 (Pipeline.mem_restRefs_of main_arg4 (by decide) (show ∀ w : Fin 17, (spec0 w).arr.view.ref ≠ main_arg4 by decide))).trans (V_args m c).2.2.2.2.1,
    ((h c).2 main_arg5 (Pipeline.mem_restRefs_of main_arg5 (by decide) (show ∀ w : Fin 17, (spec0 w).arr.view.ref ≠ main_arg5 by decide))).trans (V_args m c).2.2.2.2.2⟩

/-- The arguments end unchanged and every counter at zero. -/
theorem frame_in_projection : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept m _ h.1 c, h.2⟩) (run_main m ρ)

end Cert.Inproj

end
-- ==== Proof.Inproj.Words.lean ====
/-
  THE INPUT PROJECTION AS PRINTED and its form over any float values are the same program over bit patterns: the same body table, the
  same pipeline, the same host operations. So the one's arguments end unchanged as the other's do.
-/
module

public import proofs.«01_k».proof.Defs
public import proofs.«01_k».proof.Proof.Gen.Kernel4
public import proofs.«01_k».proof.Proof.Inproj.Frame

@[expose] public section

set_option maxRecDepth 16384

noncomputable section

namespace Cert.Inproj

open Idealize.ShloMosaic Idealize.SL.Sem

set_option maxHeartbeats 8000000 in
theorem defs₀_same : @Cert.Kernel4.defs₀ Bits _ _ = @Cert.Kernel4Ideal.defs₀ Bits _ _ := by
  unfold Cert.Kernel4.defs₀ Cert.Kernel4Ideal.defs₀
  refine congrArg Defs.onTc (funext fun l => ?_)
  first
  | (match l with
     | 0 => rfl)
  | rfl

set_option maxHeartbeats 4000000 in
theorem defs_same : @Cert.Kernel4.defs Bits _ _ = @Cert.Kernel4Ideal.defs Bits _ _ := by
  unfold Cert.Kernel4.defs Cert.Kernel4Ideal.defs
  exact congrArg (Pipeline.defs (Cert.Kernel4Ideal.pcfgs (F := Bits))) defs₀_same

set_option maxHeartbeats 8000000 in
theorem main_same : @Cert.Kernel4.main Bits _ _ = @Cert.Kernel4Ideal.main Bits _ _ := by
  unfold Cert.Kernel4.main Cert.Kernel4Ideal.main
  unfold Cert.Kernel4.fn_pad.body Cert.Kernel4Ideal.fn_pad.body
  rfl

theorem frame_words : quiescent_Kernel4 := by
  intro m g _
  rw [defs_same, main_same]
  exact frame_in_projection (F := Bits) m g

end Cert.Inproj

end
-- ==== Proof.Inproj.Ref.lean ====
/-
  THE REFERENCE'S RESULTS, read at an index over the extended reals: a column of the one product with layer 1 of the weights
  (`prod`), or for a stack's layer 0 the earlier layer's row, or for the padded lanes of the last result zero.
-/
module

public import proofs.«01_k».proof.Proof.Ffn.Spec
public import proofs.«01_k».proof.Proof.Gen.Reference4Ideal.Run
public import Idealize.ShloMosaic.Lib.Pipeline.Value

@[expose] public section

set_option maxRecDepth 16384

noncomputable section

namespace Cert.Inproj.Ref

open Idealize.ShloMosaic Idealize.ShloMosaic.TcCoe Cert.Reference4Ideal Cert.Reference4Ideal.Gen Cert.Ffn

/-- The reference's normalisation, by layer 1 of the gains. -/
def norm (x : FVec Ideal S8192x2048 .f32) (g : FVec Ideal S2x2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0
          (Host.reduceAdd (mulf x x) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast S2048 (extractStridedSlice S1x2048 ![1, 0] g slices_S2x2048_S1x2048_1_0) shapeCasts_S1x2048_S2048)))

/-- The rows of the states, batch after batch. -/
abbrev rows (a : FVec Ideal S2x4096x2048 .f32) : FVec Ideal S8192x2048 .f32 := shapeCast S8192x2048 a shapeCasts_S2x4096x2048_S8192x2048

/-- The product of the normalized rows with layer 1 of the weights. -/
def prod (x : FVec Ideal S2x4096x2048 .f32) (w : FVec Ideal S2x2048x11408 .f32) (g : FVec Ideal S2x2048 .f32) :
    FVec Ideal S8192x11408 .f32 :=
  Host.dotGeneral dot_S8192x2048_S2048x11408_S8192x11408_1_0_0_1_n_n none (norm (rows x) g)
    (shapeCast S2048x11408 (extractStridedSlice S1x2048x11408 ![1, 0, 0] w slices_S2x2048x11408_S1x2048x11408_1_0_0)
      shapeCasts_S1x2048x11408_S2048x11408)

theorem norm_apply (x : FVec Ideal S8192x2048 .f32) (g : FVec Ideal S2x2048 .f32) (r : Fin 8192) (n : Fin 2048) :
    norm x g (ix2 r n) = rms (fun k => x (ix2 r k)) (fun k => g (ix2 1 k)) n := by
  pointwise [norm]
  rfl

theorem dot_apply (a : FVec Ideal S8192x2048 .f32) (w : FVec Ideal S2x2048x11408 .f32) (r : Fin 8192) (n : Fin 11408) :
    Host.dotGeneral dot_S8192x2048_S2048x11408_S8192x11408_1_0_0_1_n_n none a
      (shapeCast S2048x11408 (extractStridedSlice S1x2048x11408 ![1, 0, 0] w slices_S2x2048x11408_S1x2048x11408_1_0_0)
        shapeCasts_S1x2048x11408_S2048x11408) (ix2 r n) = ∑ j : Fin 2048, a (ix2 r j) * w (ix3 1 j n) := by
  pointwise

variable (x : FVec Ideal S2x4096x2048 .f32) (w : FVec Ideal S2x2048x11408 .f32) (g : FVec Ideal S2x2048 .f32)

theorem prod_apply (r : Fin 8192) (n : Fin 11408) :
    prod x w g (ix2 r n) = ∑ j : Fin 2048, rms (fun k => rows x (ix2 r k)) (fun k => g (ix2 1 k)) j * w (ix3 1 j n) := by
  unfold prod
  rw [dot_apply]
  simp only [norm_apply]

/-- A result with the earlier layer stacked on it. -/
def stack1024 (a : FVec Ideal S2x8192x1024 .f32) (b : FVec Ideal S8192x1024 .f32) : FVec Ideal S2x8192x1024 .f32 :=
  concatenate S2x8192x1024 0 [⟨S1x8192x1024, broadcastInDim S1x8192x1024 ![1, 2] bcast_S8192x1024_S1x8192x1024_1_2
      (shapeCast S8192x1024 (extractStridedSlice S1x8192x1024 ![0, 0, 0] a slices_S2x8192x1024_S1x8192x1024_0_0_0) shapeCasts_S1x8192x1024_S8192x1024)⟩,
    ⟨S1x8192x1024, broadcastInDim S1x8192x1024 ![1, 2] bcast_S8192x1024_S1x8192x1024_1_2 b⟩] concatenates_S1x8192x1024_S1x8192x1024_S2x8192x1024_d0

/-- The same of 128 columns. -/
def stack128 (a : FVec Ideal S2x8192x128 .f32) (b : FVec Ideal S8192x128 .f32) : FVec Ideal S2x8192x128 .f32 :=
  concatenate S2x8192x128 0 [⟨S1x8192x128, broadcastInDim S1x8192x128 ![1, 2] bcast_S8192x128_S1x8192x128_1_2
      (shapeCast S8192x128 (extractStridedSlice S1x8192x128 ![0, 0, 0] a slices_S2x8192x128_S1x8192x128_0_0_0) shapeCasts_S1x8192x128_S8192x128)⟩,
    ⟨S1x8192x128, broadcastInDim S1x8192x128 ![1, 2] bcast_S8192x128_S1x8192x128_1_2 b⟩] concatenates_S1x8192x128_S1x8192x128_S2x8192x128_d0

theorem stack1024_0 (a : FVec Ideal S2x8192x1024 .f32) (b : FVec Ideal S8192x1024 .f32) (r : Fin 8192) (n : Fin 1024) :
    stack1024 a b (ix3 0 r n) = a (ix3 0 r n) := by
  pointwise [stack1024]

theorem stack1024_1 (a : FVec Ideal S2x8192x1024 .f32) (b : FVec Ideal S8192x1024 .f32) (r : Fin 8192) (n : Fin 1024) :
    stack1024 a b (ix3 1 r n) = b (ix2 r n) := by
  pointwise [stack1024]

theorem stack128_0 (a : FVec Ideal S2x8192x128 .f32) (b : FVec Ideal S8192x128 .f32) (r : Fin 8192) (n : Fin 128) :
    stack128 a b (ix3 0 r n) = a (ix3 0 r n) := by
  pointwise [stack128]

theorem stack128_1 (a : FVec Ideal S2x8192x128 .f32) (b : FVec Ideal S8192x128 .f32) (r : Fin 8192) (n : Fin 128) :
    stack128 a b (ix3 1 r n) = b (ix2 r n) := by
  pointwise [stack128]

/-- Result 0: columns 0 to 1023. -/
def res6 : FVec Ideal S8192x1024 .bf16 := truncf .bf16 (extractStridedSlice S8192x1024 ![0, 0] (prod x w g) slices_S8192x11408_S8192x1024_0_0) bitsLt_bf16_f32

theorem res6_apply (r : Fin 8192) (n : Fin 1024) : res6 x w g (ix2 r n) = prod x w g (ix2 r ⟨0 + n.val, by omega⟩) := by
  refine congrArg (prod x w g) (funext fun a => Fin.ext ?_)
  match a with
  | ⟨0, _⟩ => show 0 + r.val = r.val; omega
  | ⟨1, _⟩ => show 0 + n.val = 0 + n.val; rfl

/-- Result 1: columns 1024 to 2047, on the earlier layer. -/
def res7 (a : FVec Ideal S2x8192x1024 .f32) : FVec Ideal S2x8192x1024 .f32 :=
  stack1024 a (extractStridedSlice S8192x1024 ![0, 1024] (prod x w g) slices_S8192x11408_S8192x1024_0_1024)

theorem res7_0 (a : FVec Ideal S2x8192x1024 .f32) (r : Fin 8192) (n : Fin 1024) : res7 x w g a (ix3 0 r n) = a (ix3 0 r n) :=
  stack1024_0 a _ r n

theorem res7_1 (a : FVec Ideal S2x8192x1024 .f32) (r : Fin 8192) (n : Fin 1024) :
    res7 x w g a (ix3 1 r n) = prod x w g (ix2 r ⟨1024 + n.val, by omega⟩) := by
  refine (stack1024_1 a _ r n).trans (congrArg (prod x w g) (funext fun a => Fin.ext ?_))
  match a with
  | ⟨0, _⟩ => show 0 + r.val = r.val; omega
  | ⟨1, _⟩ => show 1024 + n.val = 1024 + n.val; rfl

/-- Result 2: columns 1024 to 2047. -/
def res8 : FVec Ideal S8192x1024 .bf16 := truncf .bf16 (extractStridedSlice S8192x1024 ![0, 1024] (prod x w g) slices_S8192x11408_S8192x1024_0_1024) bitsLt_bf16_f32

theorem res8_apply (r : Fin 8192) (n : Fin 1024) : res8 x w g (ix2 r n) = prod x w g (ix2 r ⟨1024 + n.val, by omega⟩) := by
  refine congrArg (prod x w g) (funext fun a => Fin.ext ?_)
  match a with
  | ⟨0, _⟩ => show 0 + r.val = r.val; omega
  | ⟨1, _⟩ => show 1024 + n.val = 1024 + n.val; rfl

/-- Result 3: columns 2048 to 3071, on the earlier layer. -/
def res9 (a : FVec Ideal S2x8192x1024 .f32) : FVec Ideal S2x8192x1024 .f32 :=
  stack1024 a (extractStridedSlice S8192x1024 ![0, 2048] (prod x w g) slices_S8192x11408_S8192x1024_0_2048)

theorem res9_0 (a : FVec Ideal S2x8192x1024 .f32) (r : Fin 8192) (n : Fin 1024) : res9 x w g a (ix3 0 r n) = a (ix3 0 r n) :=
  stack1024_0 a _ r n

theorem res9_1 (a : FVec Ideal S2x8192x1024 .f32) (r : Fin 8192) (n : Fin 1024) :
    res9 x w g a (ix3 1 r n) = prod x w g (ix2 r ⟨2048 + n.val, by omega⟩) := by
  refine (stack1024_1 a _ r n).trans (congrArg (prod x w g) (funext fun a => Fin.ext ?_))
  match a with
  | ⟨0, _⟩ => show 0 + r.val = r.val; omega
  | ⟨1, _⟩ => show 2048 + n.val = 2048 + n.val; rfl

/-- Result 4: columns 2048 to 3071. -/
def res10 : FVec Ideal S8192x1024 .bf16 := truncf .bf16 (extractStridedSlice S8192x1024 ![0, 2048] (prod x w g) slices_S8192x11408_S8192x1024_0_2048) bitsLt_bf16_f32

theorem res10_apply (r : Fin 8192) (n : Fin 1024) : res10 x w g (ix2 r n) = prod x w g (ix2 r ⟨2048 + n.val, by omega⟩) := by
  refine congrArg (prod x w g) (funext fun a => Fin.ext ?_)
  match a with
  | ⟨0, _⟩ => show 0 + r.val = r.val; omega
  | ⟨1, _⟩ => show 2048 + n.val = 2048 + n.val; rfl

/-- Result 5: columns 3072 to 5119. -/
def res11 : FVec Ideal S8192x2048 .bf16 := truncf .bf16 (extractStridedSlice S8192x2048 ![0, 3072] (prod x w g) slices_S8192x11408_S8192x2048_0_3072) bitsLt_bf16_f32

theorem res11_apply (r : Fin 8192) (n : Fin 2048) : res11 x w g (ix2 r n) = prod x w g (ix2 r ⟨3072 + n.val, by omega⟩) := by
  refine congrArg (prod x w g) (funext fun a => Fin.ext ?_)
  match a with
  | ⟨0, _⟩ => show 0 + r.val = r.val; omega
  | ⟨1, _⟩ => show 3072 + n.val = 3072 + n.val; rfl

/-- Result 6: columns 5264 to 7311. -/
def res12 : FVec Ideal S8192x2048 .bf16 := truncf .bf16 (extractStridedSlice S8192x2048 ![0, 5264] (prod x w g) slices_S8192x11408_S8192x2048_0_5264) bitsLt_bf16_f32

theorem res12_apply (r : Fin 8192) (n : Fin 2048) : res12 x w g (ix2 r n) = prod x w g (ix2 r ⟨5264 + n.val, by omega⟩) := by
  refine congrArg (prod x w g) (funext fun a => Fin.ext ?_)
  match a with
  | ⟨0, _⟩ => show 0 + r.val = r.val; omega
  | ⟨1, _⟩ => show 5264 + n.val = 5264 + n.val; rfl

/-- Result 7: columns 7312 to 11407. -/
def res13 : FVec Ideal S8192x4096 .bf16 := truncf .bf16 (extractStridedSlice S8192x4096 ![0, 7312] (prod x w g) slices_S8192x11408_S8192x4096_0_7312) bitsLt_bf16_f32

theorem res13_apply (r : Fin 8192) (n : Fin 4096) : res13 x w g (ix2 r n) = prod x w g (ix2 r ⟨7312 + n.val, by omega⟩) := by
  refine congrArg (prod x w g) (funext fun a => Fin.ext ?_)
  match a with
  | ⟨0, _⟩ => show 0 + r.val = r.val; omega
  | ⟨1, _⟩ => show 7312 + n.val = 7312 + n.val; rfl

/-- Result 8: columns 5120 to 5247, on the earlier layer. -/
def res14 (a : FVec Ideal S2x8192x128 .f32) : FVec Ideal S2x8192x128 .f32 :=
  stack128 a (extractStridedSlice S8192x128 ![0, 5120] (prod x w g) slices_S8192x11408_S8192x128_0_5120)

theorem res14_0 (a : FVec Ideal S2x8192x128 .f32) (r : Fin 8192) (n : Fin 128) : res14 x w g a (ix3 0 r n) = a (ix3 0 r n) :=
  stack128_0 a _ r n

theorem res14_1 (a : FVec Ideal S2x8192x128 .f32) (r : Fin 8192) (n : Fin 128) :
    res14 x w g a (ix3 1 r n) = prod x w g (ix2 r ⟨5120 + n.val, by omega⟩) := by
  refine (stack128_1 a _ r n).trans (congrArg (prod x w g) (funext fun a => Fin.ext ?_))
  match a with
  | ⟨0, _⟩ => show 0 + r.val = r.val; omega
  | ⟨1, _⟩ => show 5120 + n.val = 5120 + n.val; rfl

/-- Result 9: columns 5120 to 5247. -/
def res15 : FVec Ideal S8192x128 .bf16 := truncf .bf16 (extractStridedSlice S8192x128 ![0, 5120] (prod x w g) slices_S8192x11408_S8192x128_0_5120) bitsLt_bf16_f32

theorem res15_apply (r : Fin 8192) (n : Fin 128) : res15 x w g (ix2 r n) = prod x w g (ix2 r ⟨5120 + n.val, by omega⟩) := by
  refine congrArg (prod x w g) (funext fun a => Fin.ext ?_)
  match a with
  | ⟨0, _⟩ => show 0 + r.val = r.val; omega
  | ⟨1, _⟩ => show 5120 + n.val = 5120 + n.val; rfl

/-- Result 10: columns 5248 to 5263, and zeros up to 128 lanes. -/
def res16 : FVec Ideal S8192x128 .f32 :=
  pad S8192x128 ![0, 0] ![0, 112] ![0, 0] (extractStridedSlice S8192x16 ![0, 5248] (prod x w g) slices_S8192x11408_S8192x16_0_5248) (sitofp .f32 (constantI S_ 32 0#32)) pads_S8192x16_S8192x128_000_01120 h_S_

theorem res16_apply (r : Fin 8192) (n : Fin 128) :
    res16 x w g (ix2 r n) = if h : n.val < 16 then prod x w g (ix2 r ⟨5248 + n.val, by omega⟩) else 0 := by
  unfold res16
  by_cases h : n.val < 16
  · rw [dif_pos h]
    unfold pad
    rw [dif_pos (by
      intro a
      match a with
      | ⟨0, _⟩ => exact ⟨Nat.zero_le _, Nat.mod_one _, by show (r.val - 0) / (0 + 1) < 8192; omega⟩
      | ⟨1, _⟩ => exact ⟨Nat.zero_le _, Nat.mod_one _, by show (n.val - 0) / (0 + 1) < 16; omega⟩)]
    refine congrArg (prod x w g) (funext fun a => Fin.ext ?_)
    match a with
    | ⟨0, _⟩ => show 0 + (r.val - 0) / (0 + 1) = r.val; omega
    | ⟨1, _⟩ => show 5248 + (n.val - 0) / (0 + 1) = 5248 + n.val; omega
  · rw [dif_neg h]
    unfold pad
    rw [dif_neg (by
      intro hh
      have h1 := (hh 1).2.2
      have h2 : (n.val - 0) / (0 + 1) < 16 := h1
      omega)]
    show ((((0#32 : BitVec 32).toInt : ℤ) : ℝ) : EReal) = 0
    simp

end Cert.Inproj.Ref

end
-- ==== Proof.Inproj.Arrays.lean ====
/-
  THE ARRAYS THE KERNEL READS, as its host operations leave them over the extended reals, the blocks of them that a grid point
  works on, and the products the body stores.
-/
module

public import proofs.«01_k».proof.Proof.Inproj.Data
public import proofs.«01_k».proof.Proof.Inproj.Ref
public import Idealize.ShloMosaic.Lib.Pipeline.Value
public import Idealize.ShloMosaic.Lib.Tactic

@[expose] public section

set_option maxRecDepth 16384

noncomputable section

namespace Cert.Inproj

open Idealize.ShloMosaic Idealize.ShloMosaic.TcCoe Cert.Kernel4Ideal Cert.Kernel4Ideal.Gen Cert.Ffn

/-! ## The body's values -/

theorem pay7_apply (h : Vec Ideal S1024x2048 .bf16) (w : Vec Ideal S1x2048x512 .bf16) (r : Fin 1024) (n : Fin 512) :
    k0_pay7 (F := Ideal) h w (ix2 r n) = ∑ k : Fin 2048, h (ix2 r k) * w (ix3 0 k n) := by
  pointwise [k0_pay7]

theorem pay10_apply (h : Vec Ideal S1024x2048 .bf16) (w : Vec Ideal S1x2048x512 .bf16) (r : Fin 1024) (n : Fin 512) :
    k0_pay10 (F := Ideal) h w (ix2 r n) = ∑ k : Fin 2048, h (ix2 r k) * w (ix3 0 k n) := by
  pointwise [k0_pay10, k0_pay8]

theorem pay13_apply (h : Vec Ideal S1024x2048 .bf16) (w : Vec Ideal S1x2048x512 .bf16) (r : Fin 1024) (n : Fin 512) :
    k0_pay13 (F := Ideal) h w (ix2 r n) = ∑ k : Fin 2048, h (ix2 r k) * w (ix3 0 k n) := by
  pointwise [k0_pay13, k0_pay11]

theorem pay14_apply (h : Vec Ideal S1024x2048 .bf16) (w : Vec Ideal S1x2048x512 .bf16) (r : Fin 1024) (n : Fin 512) :
    k0_pay14 (F := Ideal) h w (ix2 r n) = ∑ k : Fin 2048, h (ix2 r k) * w (ix3 0 k n) := by
  pointwise [k0_pay14]

theorem pay15_apply (h : Vec Ideal S1024x2048 .bf16) (w : Vec Ideal S1x2048x512 .bf16) (r : Fin 1024) (n : Fin 512) :
    k0_pay15 (F := Ideal) h w (ix2 r n) = ∑ k : Fin 2048, h (ix2 r k) * w (ix3 0 k n) := by
  pointwise [k0_pay15]

theorem pay1_apply (h : Vec Ideal S1024x2048 .bf16) (w : Vec Ideal S1x2048x512 .bf16) (r : Fin 1024) (n : Fin 512) :
    k0_pay1 (F := Ideal) h w (ix2 r n) = ∑ k : Fin 2048, h (ix2 r k) * w (ix3 0 k n) := by
  pointwise [k0_pay1]

theorem pay9_apply (h : Vec Ideal S1024x2048 .bf16) (w : Vec Ideal S1x2048x512 .bf16) (r : Fin 1024) (n : Fin 512) :
    k0_pay9 (F := Ideal) h w (ix3 0 r n) = ∑ k : Fin 2048, h (ix2 r k) * w (ix3 0 k n) := by
  pointwise [k0_pay9, k0_pay8]

theorem pay12_apply (h : Vec Ideal S1024x2048 .bf16) (w : Vec Ideal S1x2048x512 .bf16) (r : Fin 1024) (n : Fin 512) :
    k0_pay12 (F := Ideal) h w (ix3 0 r n) = ∑ k : Fin 2048, h (ix2 r k) * w (ix3 0 k n) := by
  pointwise [k0_pay12, k0_pay11]

theorem pay3_apply (h : Vec Ideal S1024x2048 .bf16) (w : Vec Ideal S1x2048x128 .bf16) (r : Fin 1024) (n : Fin 128) :
    k0_pay3 (F := Ideal) h w (ix3 0 r n) = ∑ k : Fin 2048, h (ix2 r k) * w (ix3 0 k n) := by
  pointwise [k0_pay3, k0_pay2]

theorem pay4_apply (h : Vec Ideal S1024x2048 .bf16) (w : Vec Ideal S1x2048x128 .bf16) (r : Fin 1024) (n : Fin 128) :
    k0_pay4 (F := Ideal) h w (ix2 r n) = ∑ k : Fin 2048, h (ix2 r k) * w (ix3 0 k n) := by
  pointwise [k0_pay4, k0_pay2]

theorem pay5_apply (h : Vec Ideal S1024x2048 .bf16) (w : Vec Ideal S1x2048x128 .bf16) (r : Fin 1024) (n : Fin 128) :
    k0_pay5 (F := Ideal) h w (ix2 r n) = ∑ k : Fin 2048, h (ix2 r k) * w (ix3 0 k n) := by
  pointwise [k0_pay5]

theorem pay6_apply (x : Vec Ideal S1024x2048 .f32) (g : Vec Ideal S1x2048 .f32) (r : Fin 1024) (k : Fin 2048) :
    k0_pay6 (F := Ideal) x g (ix2 r k) = rms (fun k => x (ix2 r k)) (fun k => g (ix2 0 k)) k := by
  pointwise [k0_pay6]
  rfl

/-! ## The arrays -/

variable (m : (ℓ : Loc nD τ sig) → Buf (Elt Ideal) ℓ) (c : Dev nD)

/-- The kernel's arguments. -/
abbrev ax : FVec Ideal S2x4096x2048 .f32 := m ((c : Thread nD τ).loc main_arg0)
abbrev aw : FVec Ideal S2x2048x11408 .f32 := m ((c : Thread nD τ).loc main_arg1)
abbrev ag : FVec Ideal S2x2048 .f32 := m ((c : Thread nD τ).loc main_arg2)
abbrev ak : FVec Ideal S2x8192x1024 .f32 := m ((c : Thread nD τ).loc main_arg3)
abbrev av : FVec Ideal S2x8192x1024 .f32 := m ((c : Thread nD τ).loc main_arg4)
abbrev ai : FVec Ideal S2x8192x128 .f32 := m ((c : Thread nD τ).loc main_arg5)

theorem V_x : (V m c main_v0 : FVec Ideal S8192x2048 .f32) = Ref.rows (ax m c) := by
  have e : (V m c main_v0 : FVec Ideal S8192x2048 .f32) = shapeCast S8192x2048 (ax m c) shapeCasts_S2x4096x2048_S8192x2048 := by
    show StableHlo.after (hostOps (F := Ideal)).flatten (fun b => m (c, b)) (main_v0 : DevRef τ sig) = _
    simp only [hostOps, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results_simp <;> rfl
  exact e

theorem V_g (k : Fin 2048) : (V m c main_v10 : FVec Ideal S1x2048 .f32) (ix2 0 k) = ag m c (ix2 1 k) := by
  have e : (V m c main_v10 : FVec Ideal S1x2048 .f32)
      = shapeCast S1x2048 (shapeCast S2048 (extractStridedSlice S1x2048 ![1, 0] (ag m c) slices_S2x2048_S1x2048_1_0)
          shapeCasts_S1x2048_S2048) shapeCasts_S2048_S1x2048 := by
    show StableHlo.after (hostOps (F := Ideal)).flatten (fun b => m (c, b)) (main_v10 : DevRef τ sig) = _
    simp only [hostOps, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results_simp <;> rfl
  rw [e]
  pointwise

theorem V_head (k : Fin 2048) (n : Fin 5248) :
    (V m c main_v4 : FVec Ideal S2x2048x5248 .bf16) (ix3 1 k n) = aw m c (ix3 1 k ⟨n.val, by omega⟩) := by
  have e : (V m c main_v4 : FVec Ideal S2x2048x5248 .bf16)
      = truncf .bf16 (extractStridedSlice S2x2048x5248 ![0, 0, 0] (aw m c) slices_S2x2048x11408_S2x2048x5248_0_0_0) bitsLt_bf16_f32 := by
    show StableHlo.after (hostOps (F := Ideal)).flatten (fun b => m (c, b)) (main_v4 : DevRef τ sig) = _
    simp only [hostOps, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results_simp <;> rfl
  rw [e]
  refine congrArg (aw m c) (funext fun a => Fin.ext ?_)
  match a with
  | ⟨0, _⟩ => rfl
  | ⟨1, _⟩ => show 0 + k.val = k.val; omega
  | ⟨2, _⟩ => show 0 + n.val = n.val; omega

theorem V_tail (k : Fin 2048) (n : Fin 6144) :
    (V m c main_v6 : FVec Ideal S2x2048x6144 .bf16) (ix3 1 k n) = aw m c (ix3 1 k ⟨5264 + n.val, by omega⟩) := by
  have e : (V m c main_v6 : FVec Ideal S2x2048x6144 .bf16)
      = truncf .bf16 (extractStridedSlice S2x2048x6144 ![0, 0, 5264] (aw m c) slices_S2x2048x11408_S2x2048x6144_0_0_5264) bitsLt_bf16_f32 := by
    show StableHlo.after (hostOps (F := Ideal)).flatten (fun b => m (c, b)) (main_v6 : DevRef τ sig) = _
    simp only [hostOps, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results_simp <;> rfl
  rw [e]
  refine congrArg (aw m c) (funext fun a => Fin.ext ?_)
  match a with
  | ⟨0, _⟩ => rfl
  | ⟨1, _⟩ => show 0 + k.val = k.val; omega
  | ⟨2, _⟩ => show 5264 + n.val = 5264 + n.val; rfl

theorem V_iw (k : Fin 2048) (n : Fin 128) :
    (V m c main_v9 : FVec Ideal S2x2048x128 .bf16) (ix3 1 k n)
      = if h : n.val < 16 then aw m c (ix3 1 k ⟨5248 + n.val, by omega⟩) else 0 := by
  have e : (V m c main_v9 : FVec Ideal S2x2048x128 .bf16)
      = truncf .bf16 (pad S2x2048x128 ![0, 0, 0] ![0, 0, 112] ![0, 0, 0]
          (extractStridedSlice S2x2048x16 ![0, 0, 5248] (aw m c) slices_S2x2048x11408_S2x2048x16_0_0_5248)
          (sitofp .f32 (constantI S_ 32 0#32)) pads_S2x2048x16_S2x2048x128_000_000_01120 h_S_) bitsLt_bf16_f32 := by
    show StableHlo.after (hostOps (F := Ideal)).flatten (fun b => m (c, b)) (main_v9 : DevRef τ sig) = _
    simp only [hostOps, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results_simp <;> rfl
  rw [e]
  show pad S2x2048x128 ![0, 0, 0] ![0, 0, 112] ![0, 0, 0]
          (extractStridedSlice S2x2048x16 ![0, 0, 5248] (aw m c) slices_S2x2048x11408_S2x2048x16_0_0_5248)
          (sitofp .f32 (constantI S_ 32 0#32)) pads_S2x2048x16_S2x2048x128_000_000_01120 h_S_ (ix3 1 k n) = _
  by_cases h : n.val < 16
  · rw [dif_pos h]
    unfold pad
    rw [dif_pos (by
      intro a
      match a with
      | ⟨0, _⟩ => exact ⟨Nat.zero_le _, Nat.mod_one _, by show (1 - 0) / (0 + 1) < 2; omega⟩
      | ⟨1, _⟩ => exact ⟨Nat.zero_le _, Nat.mod_one _, by show (k.val - 0) / (0 + 1) < 2048; omega⟩
      | ⟨2, _⟩ => exact ⟨Nat.zero_le _, Nat.mod_one _, by show (n.val - 0) / (0 + 1) < 16; omega⟩)]
    refine congrArg (aw m c) (funext fun a => Fin.ext ?_)
    match a with
    | ⟨0, _⟩ => show 0 + (1 - 0) / (0 + 1) = 1; omega
    | ⟨1, _⟩ => show 0 + (k.val - 0) / (0 + 1) = k.val; omega
    | ⟨2, _⟩ => show 5248 + (n.val - 0) / (0 + 1) = 5248 + n.val; omega
  · rw [dif_neg h]
    unfold pad
    rw [dif_neg (by
      intro hh
      have h1 := (hh 2).2.2
      have h2 : (n.val - 0) / (0 + 1) < 16 := h1
      omega)]
    show ((((0#32 : BitVec 32).toInt : ℤ) : ℝ) : EReal) = 0
    simp

theorem V_ak : (V m c main_v11_1 : FVec Ideal S2x8192x1024 .f32) = ak m c := by
  show StableHlo.after (hostOps (F := Ideal)).flatten (fun b => m (c, b)) (main_v11_1 : DevRef τ sig) = _
  simp only [hostOps, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem V_av : (V m c main_v11_3 : FVec Ideal S2x8192x1024 .f32) = av m c := by
  show StableHlo.after (hostOps (F := Ideal)).flatten (fun b => m (c, b)) (main_v11_3 : DevRef τ sig) = _
  simp only [hostOps, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem V_ai : (V m c main_v11_8 : FVec Ideal S2x8192x128 .f32) = ai m c := by
  show StableHlo.after (hostOps (F := Ideal)).flatten (fun b => m (c, b)) (main_v11_8 : DevRef τ sig) = _
  simp only [hostOps, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-! ## The windows' blocks -/

theorem lt184 (t : Fin cfg0.N) : t.val < 184 := Nat.lt_of_lt_of_eq t.isLt N_0

/-- Row `r` of point `t`'s row block. -/
def row (t : Fin cfg0.N) (r : Fin 1024) : Fin 8192 := ⟨1024 * (t.val / 23) + r.val, by have := lt184 t; omega⟩

theorem row_rowPt (t : Fin cfg0.N) (r : Fin 1024) : row (rowPt t) r = row t r :=
  Fin.ext (by unfold row rowPt; dsimp only; omega)

theorem index0 : ∀ t : Fin grid0.N, win0_0.index t = ![0, 0] := by decide +kernel
theorem index1 : ∀ t : Fin grid0.N, win0_1.index t = ![t.val / 23, 0] := by decide +kernel
theorem index2 : ∀ t : Fin grid0.N, win0_2.index t = ![1, 0, min (t.val % 23) 9] := by decide +kernel
theorem index3 : ∀ t : Fin grid0.N, win0_3.index t = ![1, 0, 40] := by decide +kernel
theorem index4 : ∀ t : Fin grid0.N, win0_4.index t = ![1, 0, min (t.val % 23 - 10) 11] := by decide +kernel
theorem index5 : ∀ t : Fin grid0.N, win0_5.index t = ![1, 0, 0] := by decide +kernel

theorem blk0 (t : Fin cfg0.N) (k : Fin 2048) : (iblk m c 0 t : Vec Ideal S1x2048 .f32) (ix2 0 k) = ag m c (ix2 1 k) := by
  rw [← V_g]
  unfold iblk
  rw [View.read_apply]
  refine congrArg (V m c main_v10 : FVec Ideal S1x2048 .f32) (funext fun a => Fin.ext ?_)
  match a with
  | ⟨0, _⟩ => show win0_0.index t 0 * 1 + 1 * 0 = 0; rw [index0 t]; rfl
  | ⟨1, _⟩ => show win0_0.index t 1 * 2048 + 1 * k.val = k.val; rw [index0 t]; show 0 * 2048 + _ = _; omega

theorem blk1 (t : Fin cfg0.N) (r : Fin 1024) (k : Fin 2048) :
    (iblk m c 1 t : Vec Ideal S1024x2048 .f32) (ix2 r k) = Ref.rows (ax m c) (ix2 (row t r) k) := by
  rw [← V_x]
  unfold iblk
  rw [View.read_apply]
  refine congrArg (V m c main_v0 : FVec Ideal S8192x2048 .f32) (funext fun a => Fin.ext ?_)
  match a with
  | ⟨0, _⟩ => show win0_1.index t 0 * 1024 + 1 * r.val = 1024 * (t.val / 23) + r.val; rw [index1 t]; show t.val / 23 * 1024 + _ = _; omega
  | ⟨1, _⟩ => show win0_1.index t 1 * 2048 + 1 * k.val = k.val; rw [index1 t]; show 0 * 2048 + _ = _; omega

theorem blk2 (t : Fin cfg0.N) (k : Fin 2048) (n : Fin 512) :
    (wblk m c t : Vec Ideal S1x2048x512 .bf16) (ix3 0 k n)
      = aw m c (ix3 1 k ⟨512 * min (t.val % 23) 9 + n.val, by omega⟩) := by
  have hm : (cfg0.win 2).moved (cfg0.grid.coords t) (ix3 0 k n : S1x2048x512.Idx) = true :=
    ((cfg0.win 2).moved_iff _ _).mpr fun a => by
      have := ((ix3 0 k n : S1x2048x512.Idx) a).isLt
      unfold Pipeline.Window.xsize
      rw [clip2 t a]
      exact this
  unfold wblk Pipeline.Window.fill
  rw [dif_pos hm]
  refine Eq.trans ?_ (V_head m c k ⟨512 * min (t.val % 23) 9 + n.val, by omega⟩)
  unfold iblk
  rw [View.read_apply]
  refine congrArg (V m c main_v4 : FVec Ideal S2x2048x5248 .bf16) (funext fun a => Fin.ext ?_)
  match a with
  | ⟨0, _⟩ => show win0_2.index t 0 * 1 + 1 * 0 = 1; rw [index2 t]; rfl
  | ⟨1, _⟩ => show win0_2.index t 1 * 2048 + 1 * k.val = k.val; rw [index2 t]; show 0 * 2048 + _ = _; omega
  | ⟨2, _⟩ => show win0_2.index t 2 * 512 + 1 * n.val = 512 * min (t.val % 23) 9 + n.val; rw [index2 t]; show min (t.val % 23) 9 * 512 + _ = _; omega

theorem blk3 (t : Fin cfg0.N) (k : Fin 2048) (n : Fin 128) :
    (iblk m c 3 t : Vec Ideal S1x2048x128 .bf16) (ix3 0 k n) = aw m c (ix3 1 k ⟨5120 + n.val, by omega⟩) := by
  refine Eq.trans ?_ (V_head m c k ⟨5120 + n.val, by omega⟩)
  unfold iblk
  rw [View.read_apply]
  refine congrArg (V m c main_v4 : FVec Ideal S2x2048x5248 .bf16) (funext fun a => Fin.ext ?_)
  match a with
  | ⟨0, _⟩ => show win0_3.index t 0 * 1 + 1 * 0 = 1; rw [index3 t]; rfl
  | ⟨1, _⟩ => show win0_3.index t 1 * 2048 + 1 * k.val = k.val; rw [index3 t]; show 0 * 2048 + _ = _; omega
  | ⟨2, _⟩ => show win0_3.index t 2 * 128 + 1 * n.val = 5120 + n.val; rw [index3 t]; show 40 * 128 + _ = _; omega

theorem blk4 (t : Fin cfg0.N) (k : Fin 2048) (n : Fin 512) :
    (iblk m c 4 t : Vec Ideal S1x2048x512 .bf16) (ix3 0 k n)
      = aw m c (ix3 1 k ⟨5264 + (512 * min (t.val % 23 - 10) 11 + n.val), by omega⟩) := by
  refine Eq.trans ?_ (V_tail m c k ⟨512 * min (t.val % 23 - 10) 11 + n.val, by omega⟩)
  unfold iblk
  rw [View.read_apply]
  refine congrArg (V m c main_v6 : FVec Ideal S2x2048x6144 .bf16) (funext fun a => Fin.ext ?_)
  match a with
  | ⟨0, _⟩ => show win0_4.index t 0 * 1 + 1 * 0 = 1; rw [index4 t]; rfl
  | ⟨1, _⟩ => show win0_4.index t 1 * 2048 + 1 * k.val = k.val; rw [index4 t]; show 0 * 2048 + _ = _; omega
  | ⟨2, _⟩ => show win0_4.index t 2 * 512 + 1 * n.val = 512 * min (t.val % 23 - 10) 11 + n.val; rw [index4 t]; show min (t.val % 23 - 10) 11 * 512 + _ = _; omega

theorem blk5 (t : Fin cfg0.N) (k : Fin 2048) (n : Fin 128) :
    (iblk m c 5 t : Vec Ideal S1x2048x128 .bf16) (ix3 0 k n)
      = if h : n.val < 16 then aw m c (ix3 1 k ⟨5248 + n.val, by omega⟩) else 0 := by
  refine Eq.trans ?_ (V_iw m c k n)
  unfold iblk
  rw [View.read_apply]
  refine congrArg (V m c main_v9 : FVec Ideal S2x2048x128 .bf16) (funext fun a => Fin.ext ?_)
  match a with
  | ⟨0, _⟩ => show win0_5.index t 0 * 1 + 1 * 0 = 1; rw [index5 t]; rfl
  | ⟨1, _⟩ => show win0_5.index t 1 * 2048 + 1 * k.val = k.val; rw [index5 t]; show 0 * 2048 + _ = _; omega
  | ⟨2, _⟩ => show win0_5.index t 2 * 128 + 1 * n.val = n.val; rw [index5 t]; show 0 * 128 + _ = _; omega

theorem H_apply (t : Fin cfg0.N) (r : Fin 1024) (k : Fin 2048) :
    H m c t (ix2 r k) = rms (fun k => Ref.rows (ax m c) (ix2 (row t r) k)) (fun k => ag m c (ix2 1 k)) k := by
  unfold H
  refine (pay6_apply (iblk m c 1 (rowPt t)) (iblk m c 0 (rowPt t)) r k).trans ?_
  simp only [blk0, blk1, row_rowPt]

end Cert.Inproj

end
-- ==== Proof.Inproj.Equal0.lean ====
/-
  THE RESULTS of the first blocks of columns: each array the kernel writes ends as the reference's.
-/
module

public import proofs.«01_k».proof.Proof.Inproj.Arrays

@[expose] public section

set_option maxRecDepth 16384

noncomputable section

namespace Cert.Inproj

open Idealize.ShloMosaic Idealize.ShloMosaic.TcCoe Cert.Kernel4Ideal Cert.Kernel4Ideal.Gen Idealize.SL.Sem Cert.Ffn

variable (m : (ℓ : Loc nD τ sig) → Buf (Elt Ideal) ℓ) (c : Dev nD)

/-! ## Window 6 -/

/-- The reference's result 0 of the kernel's arguments. -/
def result6 : FVec Ideal S8192x1024 .bf16 := Ref.res6 (ax m c) (aw m c) (ag m c)

theorem index6 : ∀ t : Fin grid0.N, win0_6.index t = ![t.val / 23, max 0 (min (t.val % 23) 1) - 0] := by decide +kernel

theorem flushAt6 : ∀ t : Fin cfg0.N, (0 ≤ t.val % 23 ∧ t.val % 23 < 1) ∨ t.val % 23 = 22 → (cfg0.win 6).flush t = true :=
  (by decide +kernel : ∀ t : Fin grid0.N, (0 ≤ t.val % 23 ∧ t.val % 23 < 1) ∨ t.val % 23 = 22 → win0_6.flush t = true)

theorem stored6 (t : Fin cfg0.N) (r : Fin 1024) (n : Fin 512) :
    k0_pay7 (F := Ideal) (H m c t) (wblk m c (segPt 0 1 t)) (ix2 r n)
      = result6 m c (ix2 (row t r) ⟨512 * (max 0 (min (t.val % 23) 1) - 0) + n.val, by omega⟩) := by
  refine (pay7_apply (H m c t) (wblk m c (segPt 0 1 t)) r n).trans ?_
  unfold result6
  rw [Ref.res6_apply, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 0 (min (t.val % 23) 1)) % 23) 9 + n.val = 0 + (512 * (max 0 (min (t.val % 23) 1) - 0) + n.val)
  omega

theorem flushed6 (t : Fin cfg0.N) :
    (dats m 0 c).flushed 6 t = ((cfg0.win 6).blk t).view.read (Elt Ideal) (result6 m c) := by
  show (cfg0.win 6).cut (grid0.coords t) ((dats m 0 c).after 6 t) = _
  rw [after0_6]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored6 m c t r n).trans ?_
  rw [View.read_apply]
  refine congrArg (result6 m c) (funext fun a => Fin.ext ?_)
  match a with
  | ⟨0, _⟩ => show 1024 * (t.val / 23) + r.val = win0_6.index t 0 * 1024 + 1 * r.val; rw [index6 t]; show _ = t.val / 23 * 1024 + _; omega
  | ⟨1, _⟩ => show 512 * (max 0 (min (t.val % 23) 1) - 0) + n.val = win0_6.index t 1 * 512 + 1 * n.val; rw [index6 t]; show _ = (max 0 (min (t.val % 23) 1) - 0) * 512 + _; omega

theorem mem_blk6 (t : Fin cfg0.N) (i : S8192x1024.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v11_0).slice (win0_6.rect t)).set ↔ _
  rw [View.set_slice_whole, Rect.mem_set_unit]
  exact Iff.rfl

theorem covered6 (i : S8192x1024.Idx) :
    ∃ t : Fin cfg0.N, (cfg0.win 6).flush t = true ∧ i ∈ ((cfg0.win 6).blk t).view.set := by
  have hr : (i 0).val < 8192 := (i 0).isLt
  have hn : (i 1).val < 1024 := (i 1).isLt
  obtain ⟨j, hj, hf, hc⟩ : ∃ j : ℕ, j < 23 ∧ ((0 ≤ j ∧ j < 1) ∨ j = 22) ∧ max 0 (min j 1) - 0 = (i 1).val / 512 := by
    by_cases hb : 0 + (i 1).val / 512 < 1
    · exact ⟨0 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt6 _ (by dsimp only; rw [hm]; exact hf), ?_⟩
  rw [mem_blk6]
  intro a
  rw [index6]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final6 : (dats m 0 c).arrAt 6 cfg0.N = result6 m c :=
  (dats m 0 c).arrAt_eq_of_cover 6 _ (fun t _ => flushed6 m c t) (fun i => covered6 i)

/-! ## Window 8 -/

/-- The reference's result 2 of the kernel's arguments. -/
def result8 : FVec Ideal S8192x1024 .bf16 := Ref.res8 (ax m c) (aw m c) (ag m c)

theorem index8 : ∀ t : Fin grid0.N, win0_8.index t = ![t.val / 23, max 2 (min (t.val % 23) 3) - 2] := by decide +kernel

theorem flushAt8 : ∀ t : Fin cfg0.N, (2 ≤ t.val % 23 ∧ t.val % 23 < 3) ∨ t.val % 23 = 22 → (cfg0.win 8).flush t = true :=
  (by decide +kernel : ∀ t : Fin grid0.N, (2 ≤ t.val % 23 ∧ t.val % 23 < 3) ∨ t.val % 23 = 22 → win0_8.flush t = true)

theorem stored8 (t : Fin cfg0.N) (r : Fin 1024) (n : Fin 512) :
    k0_pay10 (F := Ideal) (H m c t) (wblk m c (segPt 2 3 t)) (ix2 r n)
      = result8 m c (ix2 (row t r) ⟨512 * (max 2 (min (t.val % 23) 3) - 2) + n.val, by omega⟩) := by
  refine (pay10_apply (H m c t) (wblk m c (segPt 2 3 t)) r n).trans ?_
  unfold result8
  rw [Ref.res8_apply, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 2 (min (t.val % 23) 3)) % 23) 9 + n.val = 1024 + (512 * (max 2 (min (t.val % 23) 3) - 2) + n.val)
  omega

theorem flushed8 (t : Fin cfg0.N) :
    (dats m 0 c).flushed 8 t = ((cfg0.win 8).blk t).view.read (Elt Ideal) (result8 m c) := by
  show (cfg0.win 8).cut (grid0.coords t) ((dats m 0 c).after 8 t) = _
  rw [after0_8]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored8 m c t r n).trans ?_
  rw [View.read_apply]
  refine congrArg (result8 m c) (funext fun a => Fin.ext ?_)
  match a with
  | ⟨0, _⟩ => show 1024 * (t.val / 23) + r.val = win0_8.index t 0 * 1024 + 1 * r.val; rw [index8 t]; show _ = t.val / 23 * 1024 + _; omega
  | ⟨1, _⟩ => show 512 * (max 2 (min (t.val % 23) 3) - 2) + n.val = win0_8.index t 1 * 512 + 1 * n.val; rw [index8 t]; show _ = (max 2 (min (t.val % 23) 3) - 2) * 512 + _; omega

theorem mem_blk8 (t : Fin cfg0.N) (i : S8192x1024.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v11_2).slice (win0_8.rect t)).set ↔ _
  rw [View.set_slice_whole, Rect.mem_set_unit]
  exact Iff.rfl

theorem covered8 (i : S8192x1024.Idx) :
    ∃ t : Fin cfg0.N, (cfg0.win 8).flush t = true ∧ i ∈ ((cfg0.win 8).blk t).view.set := by
  have hr : (i 0).val < 8192 := (i 0).isLt
  have hn : (i 1).val < 1024 := (i 1).isLt
  obtain ⟨j, hj, hf, hc⟩ : ∃ j : ℕ, j < 23 ∧ ((2 ≤ j ∧ j < 3) ∨ j = 22) ∧ max 2 (min j 3) - 2 = (i 1).val / 512 := by
    by_cases hb : 2 + (i 1).val / 512 < 3
    · exact ⟨2 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt8 _ (by dsimp only; rw [hm]; exact hf), ?_⟩
  rw [mem_blk8]
  intro a
  rw [index8]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final8 : (dats m 0 c).arrAt 8 cfg0.N = result8 m c :=
  (dats m 0 c).arrAt_eq_of_cover 8 _ (fun t _ => flushed8 m c t) (fun i => covered8 i)

/-! ## Window 10 -/

/-- The reference's result 4 of the kernel's arguments. -/
def result10 : FVec Ideal S8192x1024 .bf16 := Ref.res10 (ax m c) (aw m c) (ag m c)

theorem index10 : ∀ t : Fin grid0.N, win0_10.index t = ![t.val / 23, max 4 (min (t.val % 23) 5) - 4] := by decide +kernel

theorem flushAt10 : ∀ t : Fin cfg0.N, (4 ≤ t.val % 23 ∧ t.val % 23 < 5) ∨ t.val % 23 = 22 → (cfg0.win 10).flush t = true :=
  (by decide +kernel : ∀ t : Fin grid0.N, (4 ≤ t.val % 23 ∧ t.val % 23 < 5) ∨ t.val % 23 = 22 → win0_10.flush t = true)

theorem stored10 (t : Fin cfg0.N) (r : Fin 1024) (n : Fin 512) :
    k0_pay13 (F := Ideal) (H m c t) (wblk m c (segPt 4 5 t)) (ix2 r n)
      = result10 m c (ix2 (row t r) ⟨512 * (max 4 (min (t.val % 23) 5) - 4) + n.val, by omega⟩) := by
  refine (pay13_apply (H m c t) (wblk m c (segPt 4 5 t)) r n).trans ?_
  unfold result10
  rw [Ref.res10_apply, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 4 (min (t.val % 23) 5)) % 23) 9 + n.val = 2048 + (512 * (max 4 (min (t.val % 23) 5) - 4) + n.val)
  omega

theorem flushed10 (t : Fin cfg0.N) :
    (dats m 0 c).flushed 10 t = ((cfg0.win 10).blk t).view.read (Elt Ideal) (result10 m c) := by
  show (cfg0.win 10).cut (grid0.coords t) ((dats m 0 c).after 10 t) = _
  rw [after0_10]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored10 m c t r n).trans ?_
  rw [View.read_apply]
  refine congrArg (result10 m c) (funext fun a => Fin.ext ?_)
  match a with
  | ⟨0, _⟩ => show 1024 * (t.val / 23) + r.val = win0_10.index t 0 * 1024 + 1 * r.val; rw [index10 t]; show _ = t.val / 23 * 1024 + _; omega
  | ⟨1, _⟩ => show 512 * (max 4 (min (t.val % 23) 5) - 4) + n.val = win0_10.index t 1 * 512 + 1 * n.val; rw [index10 t]; show _ = (max 4 (min (t.val % 23) 5) - 4) * 512 + _; omega

theorem mem_blk10 (t : Fin cfg0.N) (i : S8192x1024.Idx) :
    i ∈ ((cfg0.win 10).blk t).view.set ↔ ∀ a : Fin 2, win0_10.index t a * S1024x512.size a ≤ (i a).val
      ∧ (i a).val < win0_10.index t a * S1024x512.size a + S1024x512.size a := by
  show i ∈ ((View.whole main_v11_4).slice (win0_10.rect t)).set ↔ _
  rw [View.set_slice_whole, Rect.mem_set_unit]
  exact Iff.rfl

theorem covered10 (i : S8192x1024.Idx) :
    ∃ t : Fin cfg0.N, (cfg0.win 10).flush t = true ∧ i ∈ ((cfg0.win 10).blk t).view.set := by
  have hr : (i 0).val < 8192 := (i 0).isLt
  have hn : (i 1).val < 1024 := (i 1).isLt
  obtain ⟨j, hj, hf, hc⟩ : ∃ j : ℕ, j < 23 ∧ ((4 ≤ j ∧ j < 5) ∨ j = 22) ∧ max 4 (min j 5) - 4 = (i 1).val / 512 := by
    by_cases hb : 4 + (i 1).val / 512 < 5
    · exact ⟨4 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt10 _ (by dsimp only; rw [hm]; exact hf), ?_⟩
  rw [mem_blk10]
  intro a
  rw [index10]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final10 : (dats m 0 c).arrAt 10 cfg0.N = result10 m c :=
  (dats m 0 c).arrAt_eq_of_cover 10 _ (fun t _ => flushed10 m c t) (fun i => covered10 i)

/-! ## Window 11 -/

/-- The reference's result 5 of the kernel's arguments. -/
def result11 : FVec Ideal S8192x2048 .bf16 := Ref.res11 (ax m c) (aw m c) (ag m c)

theorem index11 : ∀ t : Fin grid0.N, win0_11.index t = ![t.val / 23, max 6 (min (t.val % 23) 9) - 6] := by decide +kernel

theorem flushAt11 : ∀ t : Fin cfg0.N, (6 ≤ t.val % 23 ∧ t.val % 23 < 9) ∨ t.val % 23 = 22 → (cfg0.win 11).flush t = true :=
  (by decide +kernel : ∀ t : Fin grid0.N, (6 ≤ t.val % 23 ∧ t.val % 23 < 9) ∨ t.val % 23 = 22 → win0_11.flush t = true)

theorem stored11 (t : Fin cfg0.N) (r : Fin 1024) (n : Fin 512) :
    k0_pay14 (F := Ideal) (H m c t) (wblk m c (segPt 6 9 t)) (ix2 r n)
      = result11 m c (ix2 (row t r) ⟨512 * (max 6 (min (t.val % 23) 9) - 6) + n.val, by omega⟩) := by
  refine (pay14_apply (H m c t) (wblk m c (segPt 6 9 t)) r n).trans ?_
  unfold result11
  rw [Ref.res11_apply, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 6 (min (t.val % 23) 9)) % 23) 9 + n.val = 3072 + (512 * (max 6 (min (t.val % 23) 9) - 6) + n.val)
  omega

theorem flushed11 (t : Fin cfg0.N) :
    (dats m 0 c).flushed 11 t = ((cfg0.win 11).blk t).view.read (Elt Ideal) (result11 m c) := by
  show (cfg0.win 11).cut (grid0.coords t) ((dats m 0 c).after 11 t) = _
  rw [after0_11]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored11 m c t r n).trans ?_
  rw [View.read_apply]
  refine congrArg (result11 m c) (funext fun a => Fin.ext ?_)
  match a with
  | ⟨0, _⟩ => show 1024 * (t.val / 23) + r.val = win0_11.index t 0 * 1024 + 1 * r.val; rw [index11 t]; show _ = t.val / 23 * 1024 + _; omega
  | ⟨1, _⟩ => show 512 * (max 6 (min (t.val % 23) 9) - 6) + n.val = win0_11.index t 1 * 512 + 1 * n.val; rw [index11 t]; show _ = (max 6 (min (t.val % 23) 9) - 6) * 512 + _; omega

theorem mem_blk11 (t : Fin cfg0.N) (i : S8192x2048.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v11_5).slice (win0_11.rect t)).set ↔ _
  rw [View.set_slice_whole, Rect.mem_set_unit]
  exact Iff.rfl

theorem covered11 (i : S8192x2048.Idx) :
    ∃ t : Fin cfg0.N, (cfg0.win 11).flush t = true ∧ i ∈ ((cfg0.win 11).blk t).view.set := by
  have hr : (i 0).val < 8192 := (i 0).isLt
  have hn : (i 1).val < 2048 := (i 1).isLt
  obtain ⟨j, hj, hf, hc⟩ : ∃ j : ℕ, j < 23 ∧ ((6 ≤ j ∧ j < 9) ∨ j = 22) ∧ max 6 (min j 9) - 6 = (i 1).val / 512 := by
    by_cases hb : 6 + (i 1).val / 512 < 9
    · exact ⟨6 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt11 _ (by dsimp only; rw [hm]; exact hf), ?_⟩
  rw [mem_blk11]
  intro a
  rw [index11]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final11 : (dats m 0 c).arrAt 11 cfg0.N = result11 m c :=
  (dats m 0 c).arrAt_eq_of_cover 11 _ (fun t _ => flushed11 m c t) (fun i => covered11 i)

end Cert.Inproj

end
-- ==== Proof.Inproj.Equal1.lean ====
/-
  THE STACKS: layer 1 is written, block after block; layer 0 keeps the earlier layer the array was entered with.
-/
module

public import proofs.«01_k».proof.Proof.Inproj.Arrays

@[expose] public section

set_option maxRecDepth 16384

noncomputable section

namespace Cert.Inproj

open Idealize.ShloMosaic Idealize.ShloMosaic.TcCoe Cert.Kernel4Ideal Cert.Kernel4Ideal.Gen Idealize.SL.Sem Cert.Ffn

variable (m : (ℓ : Loc nD τ sig) → Buf (Elt Ideal) ℓ) (c : Dev nD)

/-! ## Window 7 -/

/-- The reference's result 1 of the kernel's arguments. -/
def result7 : FVec Ideal S2x8192x1024 .f32 := Ref.res7 (ax m c) (aw m c) (ag m c) (ak m c)

theorem index7 : ∀ t : Fin grid0.N, win0_7.index t = ![1, t.val / 23, max 2 (min (t.val % 23) 3) - 2] := by decide +kernel

theorem flushAt7 : ∀ t : Fin cfg0.N, (2 ≤ t.val % 23 ∧ t.val % 23 < 3) ∨ t.val % 23 = 22 → (cfg0.win 7).flush t = true :=
  (by decide +kernel : ∀ t : Fin grid0.N, (2 ≤ t.val % 23 ∧ t.val % 23 < 3) ∨ t.val % 23 = 22 → win0_7.flush t = true)

theorem stored7 (t : Fin cfg0.N) (r : Fin 1024) (n : Fin 512) :
    k0_pay9 (F := Ideal) (H m c t) (wblk m c (segPt 2 3 t)) (ix3 0 r n)
      = result7 m c (ix3 1 (row t r) ⟨512 * (max 2 (min (t.val % 23) 3) - 2) + n.val, by omega⟩) := by
  refine (pay9_apply (H m c t) (wblk m c (segPt 2 3 t)) r n).trans ?_
  unfold result7
  rw [Ref.res7_1, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 2 (min (t.val % 23) 3)) % 23) 9 + n.val = 1024 + (512 * (max 2 (min (t.val % 23) 3) - 2) + n.val)
  omega

theorem flushed7 (t : Fin cfg0.N) :
    (dats m 0 c).flushed 7 t = ((cfg0.win 7).blk t).view.read (Elt Ideal) (result7 m c) := by
  show (cfg0.win 7).cut (grid0.coords t) ((dats m 0 c).after 7 t) = _
  rw [after0_7]
  funext y
  obtain ⟨r, n, rfl⟩ : ∃ (r : Fin 1024) (n : Fin 512), y = ix3 0 r n :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  refine (stored7 m c t r n).trans ?_
  rw [View.read_apply]
  refine congrArg (result7 m c) (funext fun a => Fin.ext ?_)
  match a with
  | ⟨0, _⟩ => show 1 = win0_7.index t 0 * 1 + 1 * 0; rw [index7 t]; rfl
  | ⟨1, _⟩ => show 1024 * (t.val / 23) + r.val = win0_7.index t 1 * 1024 + 1 * r.val; rw [index7 t]; show _ = t.val / 23 * 1024 + _; omega
  | ⟨2, _⟩ => show 512 * (max 2 (min (t.val % 23) 3) - 2) + n.val = win0_7.index t 2 * 512 + 1 * n.val; rw [index7 t]; show _ = (max 2 (min (t.val % 23) 3) - 2) * 512 + _; omega

theorem mem_blk7 (t : Fin cfg0.N) (i : S2x8192x1024.Idx) :
    i ∈ ((cfg0.win 7).blk t).view.set ↔ ∀ a : Fin 3, win0_7.index t a * S1x1024x512.size a ≤ (i a).val
      ∧ (i a).val < win0_7.index t a * S1x1024x512.size a + S1x1024x512.size a := by
  show i ∈ ((View.whole main_v11_1).slice (win0_7.rect t)).set ↔ _
  rw [View.set_slice_whole, Rect.mem_set_unit]
  exact Iff.rfl

theorem covered7 (i : S2x8192x1024.Idx) (h1 : (i 0).val = 1) :
    ∃ t : Fin cfg0.N, (cfg0.win 7).flush t = true ∧ i ∈ ((cfg0.win 7).blk t).view.set := by
  have hr : (i 1).val < 8192 := (i 1).isLt
  have hn : (i 2).val < 1024 := (i 2).isLt
  obtain ⟨j, hj, hf, hc⟩ : ∃ j : ℕ, j < 23 ∧ ((2 ≤ j ∧ j < 3) ∨ j = 22) ∧ max 2 (min j 3) - 2 = (i 2).val / 512 := by
    by_cases hb : 2 + (i 2).val / 512 < 3
    · exact ⟨2 + (i 2).val / 512, by omega, Or.inl ⟨by omega, hb⟩, by omega⟩
    · exact ⟨22, by omega, Or.inr rfl, by omega⟩
  have hq : (23 * ((i 1).val / 1024) + j) / 23 = (i 1).val / 1024 := by omega
  have hm : (23 * ((i 1).val / 1024) + j) % 23 = j := by omega
  refine ⟨⟨23 * ((i 1).val / 1024) + j, by rw [show cfg0.N = 184 from N_0]; omega⟩, flushAt7 _ (by dsimp only; rw [hm]; exact hf), ?_⟩
  rw [mem_blk7]
  intro a
  rw [index7]
  dsimp only
  rw [hq, hm, hc]
  match a with
  | ⟨0, _⟩ => show 1 * 1 ≤ (i 0).val ∧ (i 0).val < 1 * 1 + 1; omega
  | ⟨1, _⟩ => show (i 1).val / 1024 * 1024 ≤ (i 1).val ∧ (i 1).val < (i 1).val / 1024 * 1024 + 1024; omega
  | ⟨2, _⟩ => show (i 2).val / 512 * 512 ≤ (i 2).val ∧ (i 2).val < (i 2).val / 512 * 512 + 512; omega

theorem final7 : (dats m 0 c).arrAt 7 cfg0.N = result7 m c := by
  funext i
  refine ((dats m 0 c).arrAt_eq_piecewise 7 (result7 m c) (fun t _ => flushed7 m c t) i).trans ?_
  have h2 : (i 0).val < 2 := (i 0).isLt
  by_cases h1 : (i 0).val = 1
  · rw [if_pos (covered7 i h1)]
  · rw [if_neg (by
      rintro ⟨t, _, hi⟩
      have h := ((mem_blk7 t i).mp hi 0).1
      rw [index7] at h
      have h' : 1 * 1 ≤ (i 0).val := h
      omega), A_eq]
    have e : i = ix3 0 (i 1) (i 2) := funext fun a => by
      match a with
      | ⟨0, _⟩ => exact Fin.ext (by show (i 0).val = 0; omega)
      | ⟨1, _⟩ => rfl
      | ⟨2, _⟩ => rfl
    refine (congrFun (V_ak m c) i).trans ?_
    unfold result7
    rw [e]
    exact (Ref.res7_0 (ax m c) (aw m c) (ag m c) (ak m c) (i 1) (i 2)).symm

/-! ## Window 9 -/

/-- The reference's result 3 of the kernel's arguments. -/
def result9 : FVec Ideal S2x8192x1024 .f32 := Ref.res9 (ax m c) (aw m c) (ag m c) (av m c)

theorem index9 : ∀ t : Fin grid0.N, win0_9.index t = ![1, t.val / 23, max 4 (min (t.val % 23) 5) - 4] := by decide +kernel

theorem flushAt9 : ∀ t : Fin cfg0.N, (4 ≤ t.val % 23 ∧ t.val % 23 < 5) ∨ t.val % 23 = 22 → (cfg0.win 9).flush t = true :=
  (by decide +kernel : ∀ t : Fin grid0.N, (4 ≤ t.val % 23 ∧ t.val % 23 < 5) ∨ t.val % 23 = 22 → win0_9.flush t = true)

theorem stored9 (t : Fin cfg0.N) (r : Fin 1024) (n : Fin 512) :
    k0_pay12 (F := Ideal) (H m c t) (wblk m c (segPt 4 5 t)) (ix3 0 r n)
      = result9 m c (ix3 1 (row t r) ⟨512 * (max 4 (min (t.val % 23) 5) - 4) + n.val, by omega⟩) := by
  refine (pay12_apply (H m c t) (wblk m c (segPt 4 5 t)) r n).trans ?_
  unfold result9
  rw [Ref.res9_1, Ref.prod_apply]
  refine Finset.sum_congr rfl fun j _ => ?_
  rw [H_apply, blk2]
  refine congrArg (HMul.hMul _) (congrArg (fun i => aw m c (ix3 1 j i)) (Fin.ext ?_))
  show 512 * min ((23 * (t.val / 23) + max 4 (min (t.val % 23) 5)) % 23) 9 + n.val = 2048 + (512 * (max 4 (min (t.val % 23) 5) - 4) + n.val)
  omega

theorem flushed9 (t : Fin cfg0.N) :
    (dats m 0 c).flushed 9 t = ((cfg0.win 9).blk t).view.read (Elt Ideal) (result9 m c) := by
  show (cfg0.win 9).cut (grid0.coords t) ((dats m 0 c).after 9 t) = _
  rw [after0_9]
  funext y
  obtain ⟨r, n, rfl⟩ : ∃ (r : Fin 1024) (n : Fin 512), y = ix3 0 r n :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  refine (stored9 m c t r n).trans ?_
  rw [View.read_apply]
  refine congrArg (result9 m c) (funext fun a => Fin.ext ?_)
  match a with
  | ⟨0, _⟩ => show 1 = win0_9.index t 0 * 1 + 1 * 0; rw [index9 t]; rfl
  | ⟨1, _⟩ => show 1024 * (t.val / 23) + r.val = win0_9.index t 1 * 1024 + 1 * r.val; rw [index9 t]; show _ = t.val / 23 * 1024 + _; omega
  | ⟨2, _⟩ => show 512 * (max 4 (min (t.val % 23) 5) - 4) + n.val = win0_9.index t 2 * 512 + 1 * n.val; rw [index9 t]; show _ = (max 4 (min (t.val % 23) 5) - 4) * 512 + _; omega

theorem mem_blk9 (t : Fin cfg0.N) (i : S2x8192x1024.Idx) :
    i ∈ ((cfg0.win 9).blk t).view.set ↔ ∀ a : Fin 3, win0_9.index t a * S1x1024x512.size a ≤ (i a).val
      ∧ (i a).val < win0_9.index t a * S1x1024x512.size a + S1x1024x512.size a := by
  show i ∈ ((View.whole main_v11_3).slice (win0_9.rect t)).set ↔ _
  rw [View.set_slice_whole, Rect.mem_set_unit]
  exact Iff.rfl

theorem covered9 (i : S2x8192x1024.Idx) (h1 : (i 0).val = 1) :
    ∃ t : Fin cfg0.N, (cfg0.win 9).flush t = true ∧ i ∈ ((cfg0.win 9).blk t).view.set := by
  have hr : (i 1).val < 8192 := (i 1).isLt
  have hn : (i 2).val < 1024 := (i 2).isLt
  obtain ⟨j, hj, hf, hc⟩ : ∃ j : ℕ, j < 23 ∧ ((4 ≤ j ∧ j < 5) ∨ j = 22) ∧ max 4 (min j 5) - 4 = (i 2).val / 512 := by
    by_cases hb : 4 + (i 2).val / 512 < 5
    · exact ⟨4 + (i 2).val / 512, by omega, Or.inl ⟨by omega, hb⟩, by omega⟩
    · exact ⟨22, by omega, Or.inr rfl, by omega⟩
  have hq : (23 * ((i 1).val / 1024) + j) / 23 = (i 1).val / 1024 := by omega
  have hm : (23 * ((i 1).val / 1024) + j) % 23 = j := by omega
  refine ⟨⟨23 * ((i 1).val / 1024) + j, by rw [show cfg0.N = 184 from N_0]; omega⟩, flushAt9 _ (by dsimp only; rw [hm]; exact hf), ?_⟩
  rw [mem_blk9]
  intro a
  rw [index9]
  dsimp only
  rw [hq, hm, hc]
  match a with
  | ⟨0, _⟩ => show 1 * 1 ≤ (i 0).val ∧ (i 0).val < 1 * 1 + 1; omega
  | ⟨1, _⟩ => show (i 1).val / 1024 * 1024 ≤ (i 1).val ∧ (i 1).val < (i 1).val / 1024 * 1024 + 1024; omega
  | ⟨2, _⟩ => show (i 2).val / 512 * 512 ≤ (i 2).val ∧ (i 2).val < (i 2).val / 512 * 512 + 512; omega

theorem final9 : (dats m 0 c).arrAt 9 cfg0.N = result9 m c := by
  funext i
  refine ((dats m 0 c).arrAt_eq_piecewise 9 (result9 m c) (fun t _ => flushed9 m c t) i).trans ?_
  have h2 : (i 0).val < 2 := (i 0).isLt
  by_cases h1 : (i 0).val = 1
  · rw [if_pos (covered9 i h1)]
  · rw [if_neg (by
      rintro ⟨t, _, hi⟩
      have h := ((mem_blk9 t i).mp hi 0).1
      rw [index9] at h
      have h' : 1 * 1 ≤ (i 0).val := h
      omega), A_eq]
    have e : i = ix3 0 (i 1) (i 2) := funext fun a => by
      match a with
      | ⟨0, _⟩ => exact Fin.ext (by show (i 0).val = 0; omega)
      | ⟨1, _⟩ => rfl
      | ⟨2, _⟩ => rfl
    refine (congrFun (V_av m c) i).trans ?_
    unfold result9
    rw [e]
    exact (Ref.res9_0 (ax m c) (aw m c) (ag m c) (av m c) (i 1) (i 2)).symm

/-! ## Window 14 -/

/-- The reference's result 8 of the kernel's arguments. -/
def result14 : FVec Ideal S2x8192x128 .f32 := Ref.res14 (ax m c) (aw m c) (ag m c) (ai m c)

theorem index14 : ∀ t : Fin grid0.N, win0_14.index t = ![1, t.val / 23, max 22 (min (t.val % 23) 22) - 22] := by decide +kernel

theorem flushAt14 : ∀ t : Fin cfg0.N, (22 ≤ t.val % 23 ∧ t.val % 23 < 22) ∨ t.val % 23 = 22 → (cfg0.win 14).flush t = true :=
  (by decide +kernel : ∀ t : Fin grid0.N, (22 ≤ t.val % 23 ∧ t.val % 23 < 22) ∨ t.val % 23 = 22 → win0_14.flush t = true)

theorem stored14 (t : Fin cfg0.N) (r : Fin 1024) (n : Fin 128) :
    k0_pay3 (F := Ideal) (H m c t) (iblk m c 3 (segPt 22 22 t)) (ix3 0 r n)
      = result14 m c (ix3 1 (row t r) ⟨128 * (max 22 (min (t.val % 23) 22) - 22) + n.val, by omega⟩) := by
  refine (pay3_apply (H m c t) (iblk m c 3 (segPt 22 22 t)) r n).trans ?_
  unfold result14
  rw [Ref.res14_1, Ref.prod_apply]
  refine Finset.sum_congr rfl fun j _ => ?_
  rw [H_apply, blk3]
  refine congrArg (HMul.hMul _) (congrArg (fun i => aw m c (ix3 1 j i)) (Fin.ext ?_))
  show 5120 + n.val = 5120 + (128 * (max 22 (min (t.val % 23) 22) - 22) + n.val)
  omega

theorem flushed14 (t : Fin cfg0.N) :
    (dats m 0 c).flushed 14 t = ((cfg0.win 14).blk t).view.read (Elt Ideal) (result14 m c) := by
  show (cfg0.win 14).cut (grid0.coords t) ((dats m 0 c).after 14 t) = _
  rw [after0_14]
  funext y
  obtain ⟨r, n, rfl⟩ : ∃ (r : Fin 1024) (n : Fin 128), y = ix3 0 r n :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  refine (stored14 m c t r n).trans ?_
  rw [View.read_apply]
  refine congrArg (result14 m c) (funext fun a => Fin.ext ?_)
  match a with
  | ⟨0, _⟩ => show 1 = win0_14.index t 0 * 1 + 1 * 0; rw [index14 t]; rfl
  | ⟨1, _⟩ => show 1024 * (t.val / 23) + r.val = win0_14.index t 1 * 1024 + 1 * r.val; rw [index14 t]; show _ = t.val / 23 * 1024 + _; omega
  | ⟨2, _⟩ => show 128 * (max 22 (min (t.val % 23) 22) - 22) + n.val = win0_14.index t 2 * 128 + 1 * n.val; rw [index14 t]; show _ = (max 22 (min (t.val % 23) 22) - 22) * 128 + _; omega

theorem mem_blk14 (t : Fin cfg0.N) (i : S2x8192x128.Idx) :
    i ∈ ((cfg0.win 14).blk t).view.set ↔ ∀ a : Fin 3, win0_14.index t a * S1x1024x128.size a ≤ (i a).val
      ∧ (i a).val < win0_14.index t a * S1x1024x128.size a + S1x1024x128.size a := by
  show i ∈ ((View.whole main_v11_8).slice (win0_14.rect t)).set ↔ _
  rw [View.set_slice_whole, Rect.mem_set_unit]
  exact Iff.rfl

theorem covered14 (i : S2x8192x128.Idx) (h1 : (i 0).val = 1) :
    ∃ t : Fin cfg0.N, (cfg0.win 14).flush t = true ∧ i ∈ ((cfg0.win 14).blk t).view.set := by
  have hr : (i 1).val < 8192 := (i 1).isLt
  have hn : (i 2).val < 128 := (i 2).isLt
  obtain ⟨j, hj, hf, hc⟩ : ∃ j : ℕ, j < 23 ∧ ((22 ≤ j ∧ j < 22) ∨ j = 22) ∧ max 22 (min j 22) - 22 = (i 2).val / 128 := by
    by_cases hb : 22 + (i 2).val / 128 < 22
    · exact ⟨22 + (i 2).val / 128, by omega, Or.inl ⟨by omega, hb⟩, by omega⟩
    · exact ⟨22, by omega, Or.inr rfl, by omega⟩
  have hq : (23 * ((i 1).val / 1024) + j) / 23 = (i 1).val / 1024 := by omega
  have hm : (23 * ((i 1).val / 1024) + j) % 23 = j := by omega
  refine ⟨⟨23 * ((i 1).val / 1024) + j, by rw [show cfg0.N = 184 from N_0]; omega⟩, flushAt14 _ (by dsimp only; rw [hm]; exact hf), ?_⟩
  rw [mem_blk14]
  intro a
  rw [index14]
  dsimp only
  rw [hq, hm, hc]
  match a with
  | ⟨0, _⟩ => show 1 * 1 ≤ (i 0).val ∧ (i 0).val < 1 * 1 + 1; omega
  | ⟨1, _⟩ => show (i 1).val / 1024 * 1024 ≤ (i 1).val ∧ (i 1).val < (i 1).val / 1024 * 1024 + 1024; omega
  | ⟨2, _⟩ => show (i 2).val / 128 * 128 ≤ (i 2).val ∧ (i 2).val < (i 2).val / 128 * 128 + 128; omega

theorem final14 : (dats m 0 c).arrAt 14 cfg0.N = result14 m c := by
  funext i
  refine ((dats m 0 c).arrAt_eq_piecewise 14 (result14 m c) (fun t _ => flushed14 m c t) i).trans ?_
  have h2 : (i 0).val < 2 := (i 0).isLt
  by_cases h1 : (i 0).val = 1
  · rw [if_pos (covered14 i h1)]
  · rw [if_neg (by
      rintro ⟨t, _, hi⟩
      have h := ((mem_blk14 t i).mp hi 0).1
      rw [index14] at h
      have h' : 1 * 1 ≤ (i 0).val := h
      omega), A_eq]
    have e : i = ix3 0 (i 1) (i 2) := funext fun a => by
      match a with
      | ⟨0, _⟩ => exact Fin.ext (by show (i 0).val = 0; omega)
      | ⟨1, _⟩ => rfl
      | ⟨2, _⟩ => rfl
    refine (congrFun (V_ai m c) i).trans ?_
    unfold result14
    rw [e]
    exact (Ref.res14_0 (ax m c) (aw m c) (ag m c) (ai m c) (i 1) (i 2)).symm

end Cert.Inproj

end
-- ==== Proof.Inproj.Equal2.lean ====
/-
  THE RESULTS of the last blocks of columns: each array the kernel writes ends as the reference's.
-/
module

public import proofs.«01_k».proof.Proof.Inproj.Arrays

@[expose] public section

set_option maxRecDepth 16384

noncomputable section

namespace Cert.Inproj

open Idealize.ShloMosaic Idealize.ShloMosaic.TcCoe Cert.Kernel4Ideal Cert.Kernel4Ideal.Gen Idealize.SL.Sem Cert.Ffn

variable (m : (ℓ : Loc nD τ sig) → Buf (Elt Ideal) ℓ) (c : Dev nD)

/-! ## Window 12 -/

/-- The reference's result 6 of the kernel's arguments. -/
def result12 : FVec Ideal S8192x2048 .bf16 := Ref.res12 (ax m c) (aw m c) (ag m c)

theorem index12 : ∀ t : Fin grid0.N, win0_12.index t = ![t.val / 23, max 10 (min (t.val % 23) 13) - 10] := by decide +kernel

theorem flushAt12 : ∀ t : Fin cfg0.N, (10 ≤ t.val % 23 ∧ t.val % 23 < 13) ∨ t.val % 23 = 22 → (cfg0.win 12).flush t = true :=
  (by decide +kernel : ∀ t : Fin grid0.N, (10 ≤ t.val % 23 ∧ t.val % 23 < 13) ∨ t.val % 23 = 22 → win0_12.flush t = true)

theorem stored12 (t : Fin cfg0.N) (r : Fin 1024) (n : Fin 512) :
    k0_pay15 (F := Ideal) (H m c t) (iblk m c 4 (segPt 10 13 t)) (ix2 r n)
      = result12 m c (ix2 (row t r) ⟨512 * (max 10 (min (t.val % 23) 13) - 10) + n.val, by omega⟩) := by
  refine (pay15_apply (H m c t) (iblk m c 4 (segPt 10 13 t)) r n).trans ?_
  unfold result12
  rw [Ref.res12_apply, Ref.prod_apply]
  refine Finset.sum_congr rfl fun j _ => ?_
  rw [H_apply, blk4]
  refine congrArg (HMul.hMul _) (congrArg (fun i => aw m c (ix3 1 j i)) (Fin.ext ?_))
  show 5264 + (512 * min (((23 * (t.val / 23) + max 10 (min (t.val % 23) 13)) % 23) - 10) 11 + n.val) = 5264 + (512 * (max 10 (min (t.val % 23) 13) - 10) + n.val)
  omega

theorem flushed12 (t : Fin cfg0.N) :
    (dats m 0 c).flushed 12 t = ((cfg0.win 12).blk t).view.read (Elt Ideal) (result12 m c) := by
  show (cfg0.win 12).cut (grid0.coords t) ((dats m 0 c).after 12 t) = _
  rw [after0_12]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored12 m c t r n).trans ?_
  rw [View.read_apply]
  refine congrArg (result12 m c) (funext fun a => Fin.ext ?_)
  match a with
  | ⟨0, _⟩ => show 1024 * (t.val / 23) + r.val = win0_12.index t 0 * 1024 + 1 * r.val; rw [index12 t]; show _ = t.val / 23 * 1024 + _; omega
  | ⟨1, _⟩ => show 512 * (max 10 (min (t.val % 23) 13) - 10) + n.val = win0_12.index t 1 * 512 + 1 * n.val; rw [index12 t]; show _ = (max 10 (min (t.val % 23) 13) - 10) * 512 + _; omega

theorem mem_blk12 (t : Fin cfg0.N) (i : S8192x2048.Idx) :
    i ∈ ((cfg0.win 12).blk t).view.set ↔ ∀ a : Fin 2, win0_12.index t a * S1024x512.size a ≤ (i a).val
      ∧ (i a).val < win0_12.index t a * S1024x512.size a + S1024x512.size a := by
  show i ∈ ((View.whole main_v11_6).slice (win0_12.rect t)).set ↔ _
  rw [View.set_slice_whole, Rect.mem_set_unit]
  exact Iff.rfl

theorem covered12 (i : S8192x2048.Idx) :
    ∃ t : Fin cfg0.N, (cfg0.win 12).flush t = true ∧ i ∈ ((cfg0.win 12).blk t).view.set := by
  have hr : (i 0).val < 8192 := (i 0).isLt
  have hn : (i 1).val < 2048 := (i 1).isLt
  obtain ⟨j, hj, hf, hc⟩ : ∃ j : ℕ, j < 23 ∧ ((10 ≤ j ∧ j < 13) ∨ j = 22) ∧ max 10 (min j 13) - 10 = (i 1).val / 512 := by
    by_cases hb : 10 + (i 1).val / 512 < 13
    · exact ⟨10 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt12 _ (by dsimp only; rw [hm]; exact hf), ?_⟩
  rw [mem_blk12]
  intro a
  rw [index12]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final12 : (dats m 0 c).arrAt 12 cfg0.N = result12 m c :=
  (dats m 0 c).arrAt_eq_of_cover 12 _ (fun t _ => flushed12 m c t) (fun i => covered12 i)

/-! ## Window 13 -/

/-- The reference's result 7 of the kernel's arguments. -/
def result13 : FVec Ideal S8192x4096 .bf16 := Ref.res13 (ax m c) (aw m c) (ag m c)

theorem index13 : ∀ t : Fin grid0.N, win0_13.index t = ![t.val / 23, max 14 (min (t.val % 23) 21) - 14] := by decide +kernel

theorem flushAt13 : ∀ t : Fin cfg0.N, (14 ≤ t.val % 23 ∧ t.val % 23 < 21) ∨ t.val % 23 = 22 → (cfg0.win 13).flush t = true :=
  (by decide +kernel : ∀ t : Fin grid0.N, (14 ≤ t.val % 23 ∧ t.val % 23 < 21) ∨ t.val % 23 = 22 → win0_13.flush t = true)

theorem stored13 (t : Fin cfg0.N) (r : Fin 1024) (n : Fin 512) :
    k0_pay1 (F := Ideal) (H m c t) (iblk m c 4 (segPt 14 21 t)) (ix2 r n)
      = result13 m c (ix2 (row t r) ⟨512 * (max 14 (min (t.val % 23) 21) - 14) + n.val, by omega⟩) := by
  refine (pay1_apply (H m c t) (iblk m c 4 (segPt 14 21 t)) r n).trans ?_
  unfold result13
  rw [Ref.res13_apply, Ref.prod_apply]
  refine Finset.sum_congr rfl fun j _ => ?_
  rw [H_apply, blk4]
  refine congrArg (HMul.hMul _) (congrArg (fun i => aw m c (ix3 1 j i)) (Fin.ext ?_))
  show 5264 + (512 * min (((23 * (t.val / 23) + max 14 (min (t.val % 23) 21)) % 23) - 10) 11 + n.val) = 7312 + (512 * (max 14 (min (t.val % 23) 21) - 14) + n.val)
  omega

theorem flushed13 (t : Fin cfg0.N) :
    (dats m 0 c).flushed 13 t = ((cfg0.win 13).blk t).view.read (Elt Ideal) (result13 m c) := by
  show (cfg0.win 13).cut (grid0.coords t) ((dats m 0 c).after 13 t) = _
  rw [after0_13]
  funext y
  obtain ⟨r, n, rfl⟩ : ∃ (r : Fin 1024) (n : Fin 512), y = ix2 r n :=
    ⟨y 0, y 1, funext fun a => by match a with | ⟨0, _⟩ => rfl | ⟨1, _⟩ => rfl⟩
  refine (stored13 m c t r n).trans ?_
  rw [View.read_apply]
  refine congrArg (result13 m c) (funext fun a => Fin.ext ?_)
  match a with
  | ⟨0, _⟩ => show 1024 * (t.val / 23) + r.val = win0_13.index t 0 * 1024 + 1 * r.val; rw [index13 t]; show _ = t.val / 23 * 1024 + _; omega
  | ⟨1, _⟩ => show 512 * (max 14 (min (t.val % 23) 21) - 14) + n.val = win0_13.index t 1 * 512 + 1 * n.val; rw [index13 t]; show _ = (max 14 (min (t.val % 23) 21) - 14) * 512 + _; omega

theorem mem_blk13 (t : Fin cfg0.N) (i : S8192x4096.Idx) :
    i ∈ ((cfg0.win 13).blk t).view.set ↔ ∀ a : Fin 2, win0_13.index t a * S1024x512.size a ≤ (i a).val
      ∧ (i a).val < win0_13.index t a * S1024x512.size a + S1024x512.size a := by
  show i ∈ ((View.whole main_v11_7).slice (win0_13.rect t)).set ↔ _
  rw [View.set_slice_whole, Rect.mem_set_unit]
  exact Iff.rfl

theorem covered13 (i : S8192x4096.Idx) :
    ∃ t : Fin cfg0.N, (cfg0.win 13).flush t = true ∧ i ∈ ((cfg0.win 13).blk t).view.set := by
  have hr : (i 0).val < 8192 := (i 0).isLt
  have hn : (i 1).val < 4096 := (i 1).isLt
  obtain ⟨j, hj, hf, hc⟩ : ∃ j : ℕ, j < 23 ∧ ((14 ≤ j ∧ j < 21) ∨ j = 22) ∧ max 14 (min j 21) - 14 = (i 1).val / 512 := by
    by_cases hb : 14 + (i 1).val / 512 < 21
    · exact ⟨14 + (i 1).val / 512, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt13 _ (by dsimp only; rw [hm]; exact hf), ?_⟩
  rw [mem_blk13]
  intro a
  rw [index13]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 512 * 512 ≤ (i 1).val ∧ (i 1).val < (i 1).val / 512 * 512 + 512; omega

theorem final13 : (dats m 0 c).arrAt 13 cfg0.N = result13 m c :=
  (dats m 0 c).arrAt_eq_of_cover 13 _ (fun t _ => flushed13 m c t) (fun i => covered13 i)

/-! ## Window 15 -/

/-- The reference's result 9 of the kernel's arguments. -/
def result15 : FVec Ideal S8192x128 .bf16 := Ref.res15 (ax m c) (aw m c) (ag m c)

theorem index15 : ∀ t : Fin grid0.N, win0_15.index t = ![t.val / 23, max 22 (min (t.val % 23) 22) - 22] := by decide +kernel

theorem flushAt15 : ∀ t : Fin cfg0.N, (22 ≤ t.val % 23 ∧ t.val % 23 < 22) ∨ t.val % 23 = 22 → (cfg0.win 15).flush t = true :=
  (by decide +kernel : ∀ t : Fin grid0.N, (22 ≤ t.val % 23 ∧ t.val % 23 < 22) ∨ t.val % 23 = 22 → win0_15.flush t = true)

theorem stored15 (t : Fin cfg0.N) (r : Fin 1024) (n : Fin 128) :
    k0_pay4 (F := Ideal) (H m c t) (iblk m c 3 (segPt 22 22 t)) (ix2 r n)
      = result15 m c (ix2 (row t r) ⟨128 * (max 22 (min (t.val % 23) 22) - 22) + n.val, by omega⟩) := by
  refine (pay4_apply (H m c t) (iblk m c 3 (segPt 22 22 t)) r n).trans ?_
  unfold result15
  rw [Ref.res15_apply, Ref.prod_apply]
  refine Finset.sum_congr rfl fun j _ => ?_
  rw [H_apply, blk3]
  refine congrArg (HMul.hMul _) (congrArg (fun i => aw m c (ix3 1 j i)) (Fin.ext ?_))
  show 5120 + n.val = 5120 + (128 * (max 22 (min (t.val % 23) 22) - 22) + n.val)
  omega

theorem flushed15 (t : Fin cfg0.N) :
    (dats m 0 c).flushed 15 t = ((cfg0.win 15).blk t).view.read (Elt Ideal) (result15 m c) := by
  show (cfg0.win 15).cut (grid0.coords t) ((dats m 0 c).after 15 t) = _
  rw [after0_15]
  funext y
  obtain ⟨r, n, rfl⟩ : ∃ (r : Fin 1024) (n : Fin 128), y = ix2 r n :=
    ⟨y 0, y 1, funext fun a => by match a with | ⟨0, _⟩ => rfl | ⟨1, _⟩ => rfl⟩
  refine (stored15 m c t r n).trans ?_
  rw [View.read_apply]
  refine congrArg (result15 m c) (funext fun a => Fin.ext ?_)
  match a with
  | ⟨0, _⟩ => show 1024 * (t.val / 23) + r.val = win0_15.index t 0 * 1024 + 1 * r.val; rw [index15 t]; show _ = t.val / 23 * 1024 + _; omega
  | ⟨1, _⟩ => show 128 * (max 22 (min (t.val % 23) 22) - 22) + n.val = win0_15.index t 1 * 128 + 1 * n.val; rw [index15 t]; show _ = (max 22 (min (t.val % 23) 22) - 22) * 128 + _; omega

theorem mem_blk15 (t : Fin cfg0.N) (i : S8192x128.Idx) :
    i ∈ ((cfg0.win 15).blk t).view.set ↔ ∀ a : Fin 2, win0_15.index t a * S1024x128.size a ≤ (i a).val
      ∧ (i a).val < win0_15.index t a * S1024x128.size a + S1024x128.size a := by
  show i ∈ ((View.whole main_v11_9).slice (win0_15.rect t)).set ↔ _
  rw [View.set_slice_whole, Rect.mem_set_unit]
  exact Iff.rfl

theorem covered15 (i : S8192x128.Idx) :
    ∃ t : Fin cfg0.N, (cfg0.win 15).flush t = true ∧ i ∈ ((cfg0.win 15).blk t).view.set := by
  have hr : (i 0).val < 8192 := (i 0).isLt
  have hn : (i 1).val < 128 := (i 1).isLt
  obtain ⟨j, hj, hf, hc⟩ : ∃ j : ℕ, j < 23 ∧ ((22 ≤ j ∧ j < 22) ∨ j = 22) ∧ max 22 (min j 22) - 22 = (i 1).val / 128 := by
    by_cases hb : 22 + (i 1).val / 128 < 22
    · exact ⟨22 + (i 1).val / 128, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt15 _ (by dsimp only; rw [hm]; exact hf), ?_⟩
  rw [mem_blk15]
  intro a
  rw [index15]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 128 * 128 ≤ (i 1).val ∧ (i 1).val < (i 1).val / 128 * 128 + 128; omega

theorem final15 : (dats m 0 c).arrAt 15 cfg0.N = result15 m c :=
  (dats m 0 c).arrAt_eq_of_cover 15 _ (fun t _ => flushed15 m c t) (fun i => covered15 i)

/-! ## Window 16 -/

/-- The reference's result 10 of the kernel's arguments. -/
def result16 : FVec Ideal S8192x128 .f32 := Ref.res16 (ax m c) (aw m c) (ag m c)

theorem index16 : ∀ t : Fin grid0.N, win0_16.index t = ![t.val / 23, max 22 (min (t.val % 23) 22) - 22] := by decide +kernel

theorem flushAt16 : ∀ t : Fin cfg0.N, (22 ≤ t.val % 23 ∧ t.val % 23 < 22) ∨ t.val % 23 = 22 → (cfg0.win 16).flush t = true :=
  (by decide +kernel : ∀ t : Fin grid0.N, (22 ≤ t.val % 23 ∧ t.val % 23 < 22) ∨ t.val % 23 = 22 → win0_16.flush t = true)

theorem stored16 (t : Fin cfg0.N) (r : Fin 1024) (n : Fin 128) :
    k0_pay5 (F := Ideal) (H m c t) (iblk m c 5 (segPt 22 22 t)) (ix2 r n)
      = result16 m c (ix2 (row t r) ⟨128 * (max 22 (min (t.val % 23) 22) - 22) + n.val, by omega⟩) := by
  refine (pay5_apply (H m c t) (iblk m c 5 (segPt 22 22 t)) r n).trans ?_
  unfold result16
  have hz : (⟨128 * (max 22 (min (t.val % 23) 22) - 22) + n.val, by omega⟩ : Fin 128) = n := Fin.ext (by show 128 * (max 22 (min (t.val % 23) 22) - 22) + n.val = n.val; omega)
  rw [hz, Ref.res16_apply]
  by_cases h : n.val < 16
  · rw [dif_pos h, Ref.prod_apply]
    refine Finset.sum_congr rfl fun j _ => ?_
    rw [H_apply, blk5, dif_pos h]
  · rw [dif_neg h]
    refine Finset.sum_eq_zero fun j _ => ?_
    rw [blk5, dif_neg h, mul_zero]

theorem flushed16 (t : Fin cfg0.N) :
    (dats m 0 c).flushed 16 t = ((cfg0.win 16).blk t).view.read (Elt Ideal) (result16 m c) := by
  show (cfg0.win 16).cut (grid0.coords t) ((dats m 0 c).after 16 t) = _
  rw [after0_16]
  funext y
  obtain ⟨r, n, rfl⟩ : ∃ (r : Fin 1024) (n : Fin 128), y = ix2 r n :=
    ⟨y 0, y 1, funext fun a => by match a with | ⟨0, _⟩ => rfl | ⟨1, _⟩ => rfl⟩
  refine (stored16 m c t r n).trans ?_
  rw [View.read_apply]
  refine congrArg (result16 m c) (funext fun a => Fin.ext ?_)
  match a with
  | ⟨0, _⟩ => show 1024 * (t.val / 23) + r.val = win0_16.index t 0 * 1024 + 1 * r.val; rw [index16 t]; show _ = t.val / 23 * 1024 + _; omega
  | ⟨1, _⟩ => show 128 * (max 22 (min (t.val % 23) 22) - 22) + n.val = win0_16.index t 1 * 128 + 1 * n.val; rw [index16 t]; show _ = (max 22 (min (t.val % 23) 22) - 22) * 128 + _; omega

theorem mem_blk16 (t : Fin cfg0.N) (i : S8192x128.Idx) :
    i ∈ ((cfg0.win 16).blk t).view.set ↔ ∀ a : Fin 2, win0_16.index t a * S1024x128.size a ≤ (i a).val
      ∧ (i a).val < win0_16.index t a * S1024x128.size a + S1024x128.size a := by
  show i ∈ ((View.whole main_v11_10).slice (win0_16.rect t)).set ↔ _
  rw [View.set_slice_whole, Rect.mem_set_unit]
  exact Iff.rfl

theorem covered16 (i : S8192x128.Idx) :
    ∃ t : Fin cfg0.N, (cfg0.win 16).flush t = true ∧ i ∈ ((cfg0.win 16).blk t).view.set := by
  have hr : (i 0).val < 8192 := (i 0).isLt
  have hn : (i 1).val < 128 := (i 1).isLt
  obtain ⟨j, hj, hf, hc⟩ : ∃ j : ℕ, j < 23 ∧ ((22 ≤ j ∧ j < 22) ∨ j = 22) ∧ max 22 (min j 22) - 22 = (i 1).val / 128 := by
    by_cases hb : 22 + (i 1).val / 128 < 22
    · exact ⟨22 + (i 1).val / 128, by omega, Or.inl ⟨by omega, hb⟩, by omega⟩
    · exact ⟨22, by omega, Or.inr rfl, by omega⟩
  have hq : (23 * ((i 0).val / 1024) + j) / 23 = (i 0).val / 1024 := by omega
  have hm : (23 * ((i 0).val / 1024) + j) % 23 = j := by omega
  refine ⟨⟨23 * ((i 0).val / 1024) + j, by rw [show cfg0.N = 184 from N_0]; omega⟩, flushAt16 _ (by dsimp only; rw [hm]; exact hf), ?_⟩
  rw [mem_blk16]
  intro a
  rw [index16]
  dsimp only
  rw [hq, hm, hc]
  match a with
  | ⟨0, _⟩ => show (i 0).val / 1024 * 1024 ≤ (i 0).val ∧ (i 0).val < (i 0).val / 1024 * 1024 + 1024; omega
  | ⟨1, _⟩ => show (i 1).val / 128 * 128 ≤ (i 1).val ∧ (i 1).val < (i 1).val / 128 * 128 + 128; omega

theorem final16 : (dats m 0 c).arrAt 16 cfg0.N = result16 m c :=
  (dats m 0 c).arrAt_eq_of_cover 16 _ (fun t _ => flushed16 m c t) (fun i => covered16 i)

end Cert.Inproj

end
-- ==== Proof.Inproj.Results.lean ====
/-
  THE INPUT PROJECTION'S RESULTS: the kernel ends with the eleven arrays that the reference's terms describe, from its own
  arguments, and from arguments that agree the reference ends with the same.
-/
module

public import proofs.«01_k».proof.Proof.Inproj.Frame
public import proofs.«01_k».proof.Proof.Inproj.Equal0
public import proofs.«01_k».proof.Proof.Inproj.Equal1
public import proofs.«01_k».proof.Proof.Inproj.Equal2

@[expose] public section

set_option maxRecDepth 16384

noncomputable section

namespace Cert.Inproj

open Idealize.ShloMosaic Idealize.ShloMosaic.TcCoe Idealize.SL.Sem

section Kernel

open Cert.Kernel4Ideal Cert.Kernel4Ideal.Gen

variable (m : (ℓ : Loc nD τ sig) → Buf (Elt Ideal) ℓ) (ρ : Dev nD → PrngReg)

/-- The kernel ends with the eleven results, its arguments unchanged. -/
theorem run_results : θ_run defs (onTc (τ := τ) (main (F := Ideal))) ⟨m, fun _ => 0, ρ⟩ fun r => ∀ c : Dev nD,
      r.2.mem ((c.tc : Thread nD τ).loc main_v11_0) = result6 m c
      ∧ r.2.mem ((c.tc : Thread nD τ).loc main_v11_1) = result7 m c
      ∧ r.2.mem ((c.tc : Thread nD τ).loc main_v11_2) = result8 m c
      ∧ r.2.mem ((c.tc : Thread nD τ).loc main_v11_3) = result9 m c
      ∧ r.2.mem ((c.tc : Thread nD τ).loc main_v11_4) = result10 m c
      ∧ r.2.mem ((c.tc : Thread nD τ).loc main_v11_5) = result11 m c
      ∧ r.2.mem ((c.tc : Thread nD τ).loc main_v11_6) = result12 m c
      ∧ r.2.mem ((c.tc : Thread nD τ).loc main_v11_7) = result13 m c
      ∧ r.2.mem ((c.tc : Thread nD τ).loc main_v11_8) = result14 m c
      ∧ r.2.mem ((c.tc : Thread nD τ).loc main_v11_9) = result15 m c
      ∧ r.2.mem ((c.tc : Thread nD τ).loc main_v11_10) = result16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 6).trans (final6 m c),
      ((h.1 c).1 7).trans (final7 m c),
      ((h.1 c).1 8).trans (final8 m c),
      ((h.1 c).1 9).trans (final9 m c),
      ((h.1 c).1 10).trans (final10 m c),
      ((h.1 c).1 11).trans (final11 m c),
      ((h.1 c).1 12).trans (final12 m c),
      ((h.1 c).1 13).trans (final13 m c),
      ((h.1 c).1 14).trans (final14 m c),
      ((h.1 c).1 15).trans (final15 m c),
      ((h.1 c).1 16).trans (final16 m c),
      args_kept m _ h.1 c⟩) (run_main m ρ)

end Kernel

section Reference

open Cert.Reference4Ideal Cert.Reference4Ideal.Gen

variable (m : (ℓ : Loc nD τ sig) → Buf (Elt Ideal) ℓ) (ρ : Dev nD → PrngReg)

/-- The reference ends with the results read in `Ref`, its arguments unchanged. -/
theorem run_reference : θ_run defs (onTc (τ := τ) (main (F := Ideal))) ⟨m, fun _ => 0, ρ⟩ fun r => ∀ c : Dev nD,
      r.2.mem ((c.tc : Thread nD τ).loc main_v27) = Ref.res6 (m ((c.tc : Thread nD τ).loc main_arg0)) (m ((c.tc : Thread nD τ).loc main_arg1)) (m ((c.tc : Thread nD τ).loc main_arg2))
      ∧ r.2.mem ((c.tc : Thread nD τ).loc main_v32) = Ref.res7 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = Ref.res8 (m ((c.tc : Thread nD τ).loc main_arg0)) (m ((c.tc : Thread nD τ).loc main_arg1)) (m ((c.tc : Thread nD τ).loc main_arg2))
      ∧ r.2.mem ((c.tc : Thread nD τ).loc main_v38) = Ref.res9 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v39) = Ref.res10 (m ((c.tc : Thread nD τ).loc main_arg0)) (m ((c.tc : Thread nD τ).loc main_arg1)) (m ((c.tc : Thread nD τ).loc main_arg2))
      ∧ r.2.mem ((c.tc : Thread nD τ).loc main_v40) = Ref.res11 (m ((c.tc : Thread nD τ).loc main_arg0)) (m ((c.tc : Thread nD τ).loc main_arg1)) (m ((c.tc : Thread nD τ).loc main_arg2))
      ∧ r.2.mem ((c.tc : Thread nD τ).loc main_v41) = Ref.res12 (m ((c.tc : Thread nD τ).loc main_arg0)) (m ((c.tc : Thread nD τ).loc main_arg1)) (m ((c.tc : Thread nD τ).loc main_arg2))
      ∧ r.2.mem ((c.tc : Thread nD τ).loc main_v42) = Ref.res13 (m ((c.tc : Thread nD τ).loc main_arg0)) (m ((c.tc : Thread nD τ).loc main_arg1)) (m ((c.tc : Thread nD τ).loc main_arg2))
      ∧ r.2.mem ((c.tc : Thread nD τ).loc main_v47) = Ref.res14 (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v48) = Ref.res15 (m ((c.tc : Thread nD τ).loc main_arg0)) (m ((c.tc : Thread nD τ).loc main_arg1)) (m ((c.tc : Thread nD τ).loc main_arg2))
      ∧ r.2.mem ((c.tc : Thread nD τ).loc main_v49) = Ref.res16 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Cert.Reference4Ideal.Value.run (F := Ideal) m ρ)
  obtain ⟨h6, h7, h8, h9, h10, h11, h12, h13, h14, h15, h16, ha⟩ := h c
  exact ⟨h6.trans (by unfold Ref.res6 Ref.prod Ref.norm; rfl),
    h7.trans (by unfold Ref.res7 Ref.stack1024 Ref.prod Ref.norm; rfl),
    h8.trans (by unfold Ref.res8 Ref.prod Ref.norm; rfl),
    h9.trans (by unfold Ref.res9 Ref.stack1024 Ref.prod Ref.norm; rfl),
    h10.trans (by unfold Ref.res10 Ref.prod Ref.norm; rfl),
    h11.trans (by unfold Ref.res11 Ref.prod Ref.norm; rfl),
    h12.trans (by unfold Ref.res12 Ref.prod Ref.norm; rfl),
    h13.trans (by unfold Ref.res13 Ref.prod Ref.norm; rfl),
    h14.trans (by unfold Ref.res14 Ref.stack128 Ref.prod Ref.norm; rfl),
    h15.trans (by unfold Ref.res15 Ref.prod Ref.norm; rfl),
    h16.trans (by unfold Ref.res16 Ref.prod Ref.norm; rfl), ha⟩

end Reference

end Cert.Inproj

end
-- ==== Proof.lean ====
module

public import proofs.«01_k».proof.Defs
public import proofs.«01_k».proof.Proof.Gen.Kernel
public import proofs.«01_k».proof.Proof.Gen.Reference
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Points
public import proofs.«01_k».proof.Proof.Gen.Kernel4Ideal.Launch
public import proofs.«01_k».proof.Proof.Gen.Kernel4Ideal.Skeleton
public import proofs.«01_k».proof.Proof.Gen.Reference4Ideal.Run
public import proofs.«01_k».proof.Proof.K.FloatFacts
public import proofs.«01_k».proof.Proof.K.Launch
public import proofs.«01_k».proof.Proof.R.Launch
public import proofs.«01_k».proof.Proof.Same
public import proofs.«01_k».proof.Proof.Ffn.Equal
public import proofs.«01_k».proof.Proof.Merge.Equal
public import proofs.«01_k».proof.Proof.Inproj.Words
public import proofs.«01_k».proof.Proof.Inproj.Results
public import Idealize.ShloMosaic.Lib.Quiescent

@[expose] public section

noncomputable section

namespace Cert.Proof

open Idealize.ShloMosaic Idealize.SL.Sem

/-- The kernel runs to the end, its arguments unchanged and every counter back at zero. -/
theorem kernel_quiescent : quiescent_Kernel := fun m g _ =>
  (θ_run _ _ _).mono (fun _ h => ⟨fun c => (h.1 c).2, h.2⟩) (K.run_all m g K.maxFact K.clzFact)

/-- So does the reference. -/
theorem reference_quiescent : quiescent_Reference := fun m g _ =>
  (θ_run _ _ _).mono (fun _ h => ⟨fun c => (h.1 c).2, h.2⟩) (R.run_all m g)

/-- The two end with the same result, bit for bit. -/
theorem kernel_bitexact : bitexact_Kernel_Reference := fun m g m' g' _ h => by
  refine ⟨fun c => (K.dats m 0 c).arrAt 6 (Cert.Kernel.cfg0 (F := Bits)).N, ?_, ?_⟩
  · exact (θ_run _ _ _).mono (fun _ h => h.1) (K.run_all m g K.maxFact K.clzFact)
  · refine (θ_run _ _ _).mono (fun _ hr c => ?_) (R.run_all m' g')
    obtain ⟨h0, h1, h2, h3, h4, h5⟩ := h c
    exact ⟨(hr.1 c).1.trans (Same.results_eq m m' c h0 h1 h2 h3 h4 h5), (hr.1 c).2⟩

/-- The feed-forward's reference runs to the end, its arguments unchanged. It declares no counter. -/
theorem reference2_quiescent : quiescent_Reference2Ideal := fun m g _ =>
  (θ_run _ _ _).mono (fun r h => ⟨fun c => (h c).2, sem_eq_zero_of_no_sems (by decide) r.2⟩)
    (Cert.Reference2Ideal.Value.run (F := Ideal) m g)

/-- The feed-forward kernel and its reference end with the same result over the extended reals. -/
theorem ffn_algebraic : algebraic_Kernel2Ideal_Reference2Ideal := fun m g m' g' _ h => by
  refine ⟨fun c => Cert.Kernel2Ideal.Value.G5 (F := Ideal) m c, Cert.Kernel2Ideal.Value.run (F := Ideal) m g, ?_⟩
  refine (θ_run _ _ _).mono (fun _ hr c => ?_) (Cert.Reference2Ideal.Value.run (F := Ideal) m' g')
  obtain ⟨h0, h1, h2, h3, h4⟩ := h c
  exact ⟨(hr c).1.trans (Ffn.results_eq m m' c h0 h1 h2 h3 h4), (hr c).2⟩

/-- So does the merge's reference. -/
theorem reference3_quiescent : quiescent_Reference3Ideal := fun m g _ =>
  (θ_run _ _ _).mono (fun r h => ⟨fun c => (h c).2, sem_eq_zero_of_no_sems (by decide) r.2⟩)
    (Cert.Reference3Ideal.Value.run (F := Ideal) m g)

/-- The merge kernel and its reference end with the same result over the extended reals. -/
theorem merge_algebraic : algebraic_Kernel3Ideal_Reference3Ideal := fun m g m' g' _ h => by
  refine ⟨fun c => (Cert.Kernel3Ideal.Gen.dats m 0 c).arrAt 8 Cert.Kernel3Ideal.cfg0.N,
    Cert.Kernel3Ideal.Value.run_blocks (F := Ideal) m g, ?_⟩
  refine (θ_run _ _ _).mono (fun _ hr c => ?_) (Cert.Reference3Ideal.Value.run (F := Ideal) m' g')
  obtain ⟨h0, h1, h2, h3, h4, h5, h6, h7⟩ := h c
  exact ⟨(hr c).1.trans (Merge.results_eq m c m' h0 h1 h2 h3 h4 h5 h6 h7), (hr c).2⟩

/-- The input projection's reference runs to the end, its arguments unchanged. -/
theorem reference4_quiescent : quiescent_Reference4Ideal := fun m g _ =>
  (θ_run _ _ _).mono (fun r h => ⟨fun c => (h c).2.2.2.2.2.2.2.2.2.2.2, sem_eq_zero_of_no_sems (by decide) r.2⟩)
    (Inproj.run_reference m g)

/-- The input projection and its reference end with the same eleven results over the extended reals. -/
theorem in_projection_algebraic : algebraic_Kernel4Ideal_Reference4Ideal := fun m g m' g' _ h => by
  refine ⟨fun c => Inproj.result6 m c, fun c => Inproj.result7 m c, fun c => Inproj.result8 m c, fun c => Inproj.result9 m c, fun c => Inproj.result10 m c, fun c => Inproj.result11 m c, fun c => Inproj.result12 m c, fun c => Inproj.result13 m c, fun c => Inproj.result14 m c, fun c => Inproj.result15 m c, fun c => Inproj.result16 m c,
    Inproj.run_results m g, ?_⟩
  refine (θ_run _ _ _).mono (fun _ hr c => ?_) (Inproj.run_reference m' g')
  obtain ⟨e0, e1, e2, e3, e4, e5⟩ := h c
  have h := hr c
  refine ⟨h.1.trans ?_, h.2.1.trans ?_, h.2.2.1.trans ?_, h.2.2.2.1.trans ?_, h.2.2.2.2.1.trans ?_, h.2.2.2.2.2.1.trans ?_,
    h.2.2.2.2.2.2.1.trans ?_, h.2.2.2.2.2.2.2.1.trans ?_, h.2.2.2.2.2.2.2.2.1.trans ?_, h.2.2.2.2.2.2.2.2.2.1.trans ?_,
    h.2.2.2.2.2.2.2.2.2.2.1.trans ?_, h.2.2.2.2.2.2.2.2.2.2.2⟩
  all_goals first | rw [e0, e1, e2, e3] | rw [e0, e1, e2, e4] | rw [e0, e1, e2, e5] | rw [e0, e1, e2]
  all_goals rfl

theorem claim : Cert.Claim :=
  ⟨Cert.Kernel.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    kernel_quiescent, reference_quiescent, fun m g _ => Cert.Kernel2.Gen.frame m g,
    fun m g _ => Cert.Kernel2Ideal.Gen.frame m g, reference2_quiescent, fun m g _ => Cert.Kernel3.Gen.frame m g,
    fun m g _ => Cert.Kernel3Ideal.Gen.frame m g, reference3_quiescent, Inproj.frame_words,
    fun m g _ => Inproj.frame_in_projection m g, reference4_quiescent, kernel_bitexact, trivial, ffn_algebraic, trivial,
    merge_algebraic, trivial, in_projection_algebraic⟩

end Cert.Proof

end
